-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_W2 (m : (ℓ : Loc Cert.W2.nD Cert.W2.τ Cert.W2.sig) → Buf (Elt Bits) ℓ) : Prop :=
  True

def Pre_W2Ideal (m : (ℓ : Loc Cert.W2Ideal.nD Cert.W2Ideal.τ Cert.W2Ideal.sig) → Buf (Elt Ideal) ℓ) : Prop :=
  True

def Pre_W2RefIdeal (m : (ℓ : Loc Cert.W2RefIdeal.nD Cert.W2RefIdeal.τ Cert.W2RefIdeal.sig) → Buf (Elt Ideal) ℓ) : Prop :=
  True

def Pre_W1 (m : (ℓ : Loc Cert.W1.nD Cert.W1.τ Cert.W1.sig) → Buf (Elt Bits) ℓ) : Prop :=
  True

def Pre_W1Ideal (m : (ℓ : Loc Cert.W1Ideal.nD Cert.W1Ideal.τ Cert.W1Ideal.sig) → Buf (Elt Ideal) ℓ) : Prop :=
  True

def Pre_W1RefIdeal (m : (ℓ : Loc Cert.W1RefIdeal.nD Cert.W1RefIdeal.τ Cert.W1RefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBRefIdeal (m : (ℓ : Loc Cert.OutBRefIdeal.nD Cert.OutBRefIdeal.τ Cert.OutBRefIdeal.sig) → Buf (Elt Ideal) ℓ) : Prop :=
  True

def Pre_OutG (m : (ℓ : Loc Cert.OutG.nD Cert.OutG.τ Cert.OutG.sig) → Buf (Elt Bits) ℓ) : Prop :=
  True

def Pre_OutGIdeal (m : (ℓ : Loc Cert.OutGIdeal.nD Cert.OutGIdeal.τ Cert.OutGIdeal.sig) → Buf (Elt Ideal) ℓ) : Prop :=
  True

def Pre_OutGRefIdeal (m : (ℓ : Loc Cert.OutGRefIdeal.nD Cert.OutGRefIdeal.τ Cert.OutGRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_UpB (m : (ℓ : Loc Cert.UpB.nD Cert.UpB.τ Cert.UpB.sig) → Buf (Elt Bits) ℓ) : Prop :=
  True

def Pre_UpBIdeal (m : (ℓ : Loc Cert.UpBIdeal.nD Cert.UpBIdeal.τ Cert.UpBIdeal.sig) → Buf (Elt Ideal) ℓ) : Prop :=
  True

def Pre_UpBRefIdeal (m : (ℓ : Loc Cert.UpBRefIdeal.nD Cert.UpBRefIdeal.τ Cert.UpBRefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_QkvB (m : (ℓ : Loc Cert.QkvB.nD Cert.QkvB.τ Cert.QkvB.sig) → Buf (Elt Bits) ℓ) : Prop :=
  True

def Pre_QkvBIdeal (m : (ℓ : Loc Cert.QkvBIdeal.nD Cert.QkvBIdeal.τ Cert.QkvBIdeal.sig) → Buf (Elt Ideal) ℓ) : Prop :=
  True

def Pre_QkvBRefIdeal (m : (ℓ : Loc Cert.QkvBRefIdeal.nD Cert.QkvBRefIdeal.τ Cert.QkvBRefIdeal.sig) → Buf (Elt Ideal) ℓ) : Prop :=
  True

def Pre_InG (m : (ℓ : Loc Cert.InG.nD Cert.InG.τ Cert.InG.sig) → Buf (Elt Bits) ℓ) : Prop :=
  True

def Pre_InGIdeal (m : (ℓ : Loc Cert.InGIdeal.nD Cert.InGIdeal.τ Cert.InGIdeal.sig) → Buf (Elt Ideal) ℓ) : Prop :=
  True

def Pre_InGRefIdeal (m : (ℓ : Loc Cert.InGRefIdeal.nD Cert.InGRefIdeal.τ Cert.InGRefIdeal.sig) → Buf (Elt Ideal) ℓ) : Prop :=
  True

def Pre_QkvG (m : (ℓ : Loc Cert.QkvG.nD Cert.QkvG.τ Cert.QkvG.sig) → Buf (Elt Bits) ℓ) : Prop :=
  True

def Pre_QkvGIdeal (m : (ℓ : Loc Cert.QkvGIdeal.nD Cert.QkvGIdeal.τ Cert.QkvGIdeal.sig) → Buf (Elt Ideal) ℓ) : Prop :=
  True

def Pre_QkvGRefIdeal (m : (ℓ : Loc Cert.QkvGRefIdeal.nD Cert.QkvGRefIdeal.τ Cert.QkvGRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_GluZ (m : (ℓ : Loc Cert.GluZ.nD Cert.GluZ.τ Cert.GluZ.sig) → Buf (Elt Bits) ℓ) : Prop :=
  True

def Pre_GluZIdeal (m : (ℓ : Loc Cert.GluZIdeal.nD Cert.GluZIdeal.τ Cert.GluZIdeal.sig) → Buf (Elt Ideal) ℓ) : Prop :=
  True

def Pre_GluZRefIdeal (m : (ℓ : Loc Cert.GluZRefIdeal.nD Cert.GluZRefIdeal.τ Cert.GluZRefIdeal.sig) → Buf (Elt Ideal) ℓ) : Prop :=
  True

def Pre_GluG (m : (ℓ : Loc Cert.GluG.nD Cert.GluG.τ Cert.GluG.sig) → Buf (Elt Bits) ℓ) : Prop :=
  True

def Pre_GluGIdeal (m : (ℓ : Loc Cert.GluGIdeal.nD Cert.GluGIdeal.τ Cert.GluGIdeal.sig) → Buf (Elt Ideal) ℓ) : Prop :=
  True

def Pre_GluGRefIdeal (m : (ℓ : Loc Cert.GluGRefIdeal.nD Cert.GluGRefIdeal.τ Cert.GluGRefIdeal.sig) → Buf (Elt Ideal) ℓ) : Prop :=
  True

def Pre_AdamS (m : (ℓ : Loc Cert.AdamS.nD Cert.AdamS.τ Cert.AdamS.sig) → Buf (Elt Bits) ℓ) : Prop :=
  True

def Pre_AdamSIdeal (m : (ℓ : Loc Cert.AdamSIdeal.nD Cert.AdamSIdeal.τ Cert.AdamSIdeal.sig) → Buf (Elt Ideal) ℓ) : Prop :=
  True

def Pre_AdamSRefIdeal (m : (ℓ : Loc Cert.AdamSRefIdeal.nD Cert.AdamSRefIdeal.τ Cert.AdamSRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamI (m : (ℓ : Loc Cert.AdamI.nD Cert.AdamI.τ Cert.AdamI.sig) → Buf (Elt Bits) ℓ) : Prop :=
  True

def Pre_AdamIIdeal (m : (ℓ : Loc Cert.AdamIIdeal.nD Cert.AdamIIdeal.τ Cert.AdamIIdeal.sig) → Buf (Elt Ideal) ℓ) : Prop :=
  True

def Pre_AdamIRefIdeal (m : (ℓ : Loc Cert.AdamIRefIdeal.nD Cert.AdamIRefIdeal.τ Cert.AdamIRefIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_AdamQRefIdeal (m : (ℓ : Loc Cert.AdamQRefIdeal.nD Cert.AdamQRefIdeal.τ Cert.AdamQRefIdeal.sig) → Buf (Elt Ideal) ℓ) : Prop :=
  True

def Pre_AdamG (m : (ℓ : Loc Cert.AdamG.nD Cert.AdamG.τ Cert.AdamG.sig) → Buf (Elt Bits) ℓ) : Prop :=
  True

def Pre_AdamGIdeal (m : (ℓ : Loc Cert.AdamGIdeal.nD Cert.AdamGIdeal.τ Cert.AdamGIdeal.sig) → Buf (Elt Ideal) ℓ) : Prop :=
  True

def Pre_AdamGRefIdeal (m : (ℓ : Loc Cert.AdamGRefIdeal.nD Cert.AdamGRefIdeal.τ Cert.AdamGRefIdeal.sig) → Buf (Elt Ideal) ℓ) : Prop :=
  True

def Pre_AdamU (m : (ℓ : Loc Cert.AdamU.nD Cert.AdamU.τ Cert.AdamU.sig) → Buf (Elt Bits) ℓ) : Prop :=
  True

def Pre_AdamUIdeal (m : (ℓ : Loc Cert.AdamUIdeal.nD Cert.AdamUIdeal.τ Cert.AdamUIdeal.sig) → Buf (Elt Ideal) ℓ) : Prop :=
  True

def Pre_AdamURefIdeal (m : (ℓ : Loc Cert.AdamURefIdeal.nD Cert.AdamURefIdeal.τ Cert.AdamURefIdeal.sig) → Buf (Elt Ideal) ℓ) : Prop :=
  True

def Pre_AdamD (m : (ℓ : Loc Cert.AdamD.nD Cert.AdamD.τ Cert.AdamD.sig) → Buf (Elt Bits) ℓ) : Prop :=
  True

def Pre_AdamDIdeal (m : (ℓ : Loc Cert.AdamDIdeal.nD Cert.AdamDIdeal.τ Cert.AdamDIdeal.sig) → Buf (Elt Ideal) ℓ) : Prop :=
  True

def Pre_AdamDRefIdeal (m : (ℓ : Loc Cert.AdamDRefIdeal.nD Cert.AdamDRefIdeal.τ Cert.AdamDRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2))
      ∧ r.2.sem = fun _ => 0)

def quiescent_W2 [hW2 : Cert.W2.Facts] : Prop :=
  ∀ (m : (ℓ : Loc Cert.W2.nD Cert.W2.τ Cert.W2.sig) → Buf (Elt Bits) ℓ) (g : Dev Cert.W2.nD → PrngReg), Pre_W2 m →
    θ_run (Cert.W2.defs (F := Bits)) (onTc (τ := Cert.W2.τ) (Cert.W2.main (F := Bits))) ⟨m, fun _ => 0, g⟩ (fun r => (∀ c : Dev Cert.W2.nD,
      r.2.mem ((c.tc : Thread Cert.W2.nD Cert.W2.τ).loc Cert.W2.main_arg0) = m ((c.tc : Thread Cert.W2.nD Cert.W2.τ).loc Cert.W2.main_arg0)
      ∧ r.2.mem ((c.tc : Thread Cert.W2.nD Cert.W2.τ).loc Cert.W2.main_arg1) = m ((c.tc : Thread Cert.W2.nD Cert.W2.τ).loc Cert.W2.main_arg1))
      ∧ r.2.sem = fun _ => 0)

def quiescent_W2Ideal [hW2Ideal : Cert.W2Ideal.Facts] : Prop :=
  ∀ (m : (ℓ : Loc Cert.W2Ideal.nD Cert.W2Ideal.τ Cert.W2Ideal.sig) → Buf (Elt Ideal) ℓ) (g : Dev Cert.W2Ideal.nD → PrngReg), Pre_W2Ideal m →
    θ_run (Cert.W2Ideal.defs (F := Ideal)) (onTc (τ := Cert.W2Ideal.τ) (Cert.W2Ideal.main (F := Ideal))) ⟨m, fun _ => 0, g⟩ (fun r => (∀ c : Dev Cert.W2Ideal.nD,
      r.2.mem ((c.tc : Thread Cert.W2Ideal.nD Cert.W2Ideal.τ).loc Cert.W2Ideal.main_arg0) = m ((c.tc : Thread Cert.W2Ideal.nD Cert.W2Ideal.τ).loc Cert.W2Ideal.main_arg0)
      ∧ r.2.mem ((c.tc : Thread Cert.W2Ideal.nD Cert.W2Ideal.τ).loc Cert.W2Ideal.main_arg1) = m ((c.tc : Thread Cert.W2Ideal.nD Cert.W2Ideal.τ).loc Cert.W2Ideal.main_arg1))
      ∧ r.2.sem = fun _ => 0)

def quiescent_W2RefIdeal [hW2RefIdeal : Cert.W2RefIdeal.Facts] : Prop :=
  ∀ (m : (ℓ : Loc Cert.W2RefIdeal.nD Cert.W2RefIdeal.τ Cert.W2RefIdeal.sig) → Buf (Elt Ideal) ℓ) (g : Dev Cert.W2RefIdeal.nD → PrngReg), Pre_W2RefIdeal m →
    θ_run (Cert.W2RefIdeal.defs (F := Ideal)) (onTc (τ := Cert.W2RefIdeal.τ) (Cert.W2RefIdeal.main (F := Ideal))) ⟨m, fun _ => 0, g⟩ (fun r => (∀ c : Dev Cert.W2RefIdeal.nD,
      r.2.mem ((c.tc : Thread Cert.W2RefIdeal.nD Cert.W2RefIdeal.τ).loc Cert.W2RefIdeal.main_arg0) = m ((c.tc : Thread Cert.W2RefIdeal.nD Cert.W2RefIdeal.τ).loc Cert.W2RefIdeal.main_arg0)
      ∧ r.2.mem ((c.tc : Thread Cert.W2RefIdeal.nD Cert.W2RefIdeal.τ).loc Cert.W2RefIdeal.main_arg1) = m ((c.tc : Thread Cert.W2RefIdeal.nD Cert.W2RefIdeal.τ).loc Cert.W2RefIdeal.main_arg1))
      ∧ r.2.sem = fun _ => 0)

def quiescent_W1 [hW1 : Cert.W1.Facts] : Prop :=
  ∀ (m : (ℓ : Loc Cert.W1.nD Cert.W1.τ Cert.W1.sig) → Buf (Elt Bits) ℓ) (g : Dev Cert.W1.nD → PrngReg), Pre_W1 m →
    θ_run (Cert.W1.defs (F := Bits)) (onTc (τ := Cert.W1.τ) (Cert.W1.main (F := Bits))) ⟨m, fun _ => 0, g⟩ (fun r => (∀ c : Dev Cert.W1.nD,
      r.2.mem ((c.tc : Thread Cert.W1.nD Cert.W1.τ).loc Cert.W1.main_arg0) = m ((c.tc : Thread Cert.W1.nD Cert.W1.τ).loc Cert.W1.main_arg0)
      ∧ r.2.mem ((c.tc : Thread Cert.W1.nD Cert.W1.τ).loc Cert.W1.main_arg1) = m ((c.tc : Thread Cert.W1.nD Cert.W1.τ).loc Cert.W1.main_arg1))
      ∧ r.2.sem = fun _ => 0)

def quiescent_W1Ideal [hW1Ideal : Cert.W1Ideal.Facts] : Prop :=
  ∀ (m : (ℓ : Loc Cert.W1Ideal.nD Cert.W1Ideal.τ Cert.W1Ideal.sig) → Buf (Elt Ideal) ℓ) (g : Dev Cert.W1Ideal.nD → PrngReg), Pre_W1Ideal m →
    θ_run (Cert.W1Ideal.defs (F := Ideal)) (onTc (τ := Cert.W1Ideal.τ) (Cert.W1Ideal.main (F := Ideal))) ⟨m, fun _ => 0, g⟩ (fun r => (∀ c : Dev Cert.W1Ideal.nD,
      r.2.mem ((c.tc : Thread Cert.W1Ideal.nD Cert.W1Ideal.τ).loc Cert.W1Ideal.main_arg0) = m ((c.tc : Thread Cert.W1Ideal.nD Cert.W1Ideal.τ).loc Cert.W1Ideal.main_arg0)
      ∧ r.2.mem ((c.tc : Thread Cert.W1Ideal.nD Cert.W1Ideal.τ).loc Cert.W1Ideal.main_arg1) = m ((c.tc : Thread Cert.W1Ideal.nD Cert.W1Ideal.τ).loc Cert.W1Ideal.main_arg1))
      ∧ r.2.sem = fun _ => 0)

def quiescent_W1RefIdeal [hW1RefIdeal : Cert.W1RefIdeal.Facts] : Prop :=
  ∀ (m : (ℓ : Loc Cert.W1RefIdeal.nD Cert.W1RefIdeal.τ Cert.W1RefIdeal.sig) → Buf (Elt Ideal) ℓ) (g : Dev Cert.W1RefIdeal.nD → PrngReg), Pre_W1RefIdeal m →
    θ_run (Cert.W1RefIdeal.defs (F := Ideal)) (onTc (τ := Cert.W1RefIdeal.τ) (Cert.W1RefIdeal.main (F := Ideal))) ⟨m, fun _ => 0, g⟩ (fun r => (∀ c : Dev Cert.W1RefIdeal.nD,
      r.2.mem ((c.tc : Thread Cert.W1RefIdeal.nD Cert.W1RefIdeal.τ).loc Cert.W1RefIdeal.main_arg0) = m ((c.tc : Thread Cert.W1RefIdeal.nD Cert.W1RefIdeal.τ).loc Cert.W1RefIdeal.main_arg0)
      ∧ r.2.mem ((c.tc : Thread Cert.W1RefIdeal.nD Cert.W1RefIdeal.τ).loc Cert.W1RefIdeal.main_arg1) = m ((c.tc : Thread Cert.W1RefIdeal.nD Cert.W1RefIdeal.τ).loc Cert.W1RefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1))
      ∧ r.2.sem = fun _ => 0)

def quiescent_OutBRefIdeal [hOutBRefIdeal : Cert.OutBRefIdeal.Facts] : Prop :=
  ∀ (m : (ℓ : Loc Cert.OutBRefIdeal.nD Cert.OutBRefIdeal.τ Cert.OutBRefIdeal.sig) → Buf (Elt Ideal) ℓ) (g : Dev Cert.OutBRefIdeal.nD → PrngReg), Pre_OutBRefIdeal m →
    θ_run (Cert.OutBRefIdeal.defs (F := Ideal)) (onTc (τ := Cert.OutBRefIdeal.τ) (Cert.OutBRefIdeal.main (F := Ideal))) ⟨m, fun _ => 0, g⟩ (fun r => (∀ c : Dev Cert.OutBRefIdeal.nD,
      r.2.mem ((c.tc : Thread Cert.OutBRefIdeal.nD Cert.OutBRefIdeal.τ).loc Cert.OutBRefIdeal.main_arg0) = m ((c.tc : Thread Cert.OutBRefIdeal.nD Cert.OutBRefIdeal.τ).loc Cert.OutBRefIdeal.main_arg0)
      ∧ r.2.mem ((c.tc : Thread Cert.OutBRefIdeal.nD Cert.OutBRefIdeal.τ).loc Cert.OutBRefIdeal.main_arg1) = m ((c.tc : Thread Cert.OutBRefIdeal.nD Cert.OutBRefIdeal.τ).loc Cert.OutBRefIdeal.main_arg1))
      ∧ r.2.sem = fun _ => 0)

def quiescent_OutG [hOutG : Cert.OutG.Facts] : Prop :=
  ∀ (m : (ℓ : Loc Cert.OutG.nD Cert.OutG.τ Cert.OutG.sig) → Buf (Elt Bits) ℓ) (g : Dev Cert.OutG.nD → PrngReg), Pre_OutG m →
    θ_run (Cert.OutG.defs (F := Bits)) (onTc (τ := Cert.OutG.τ) (Cert.OutG.main (F := Bits))) ⟨m, fun _ => 0, g⟩ (fun r => (∀ c : Dev Cert.OutG.nD,
      r.2.mem ((c.tc : Thread Cert.OutG.nD Cert.OutG.τ).loc Cert.OutG.main_arg0) = m ((c.tc : Thread Cert.OutG.nD Cert.OutG.τ).loc Cert.OutG.main_arg0)
      ∧ r.2.mem ((c.tc : Thread Cert.OutG.nD Cert.OutG.τ).loc Cert.OutG.main_arg1) = m ((c.tc : Thread Cert.OutG.nD Cert.OutG.τ).loc Cert.OutG.main_arg1))
      ∧ r.2.sem = fun _ => 0)

def quiescent_OutGIdeal [hOutGIdeal : Cert.OutGIdeal.Facts] : Prop :=
  ∀ (m : (ℓ : Loc Cert.OutGIdeal.nD Cert.OutGIdeal.τ Cert.OutGIdeal.sig) → Buf (Elt Ideal) ℓ) (g : Dev Cert.OutGIdeal.nD → PrngReg), Pre_OutGIdeal m →
    θ_run (Cert.OutGIdeal.defs (F := Ideal)) (onTc (τ := Cert.OutGIdeal.τ) (Cert.OutGIdeal.main (F := Ideal))) ⟨m, fun _ => 0, g⟩ (fun r => (∀ c : Dev Cert.OutGIdeal.nD,
      r.2.mem ((c.tc : Thread Cert.OutGIdeal.nD Cert.OutGIdeal.τ).loc Cert.OutGIdeal.main_arg0) = m ((c.tc : Thread Cert.OutGIdeal.nD Cert.OutGIdeal.τ).loc Cert.OutGIdeal.main_arg0)
      ∧ r.2.mem ((c.tc : Thread Cert.OutGIdeal.nD Cert.OutGIdeal.τ).loc Cert.OutGIdeal.main_arg1) = m ((c.tc : Thread Cert.OutGIdeal.nD Cert.OutGIdeal.τ).loc Cert.OutGIdeal.main_arg1))
      ∧ r.2.sem = fun _ => 0)

def quiescent_OutGRefIdeal [hOutGRefIdeal : Cert.OutGRefIdeal.Facts] : Prop :=
  ∀ (m : (ℓ : Loc Cert.OutGRefIdeal.nD Cert.OutGRefIdeal.τ Cert.OutGRefIdeal.sig) → Buf (Elt Ideal) ℓ) (g : Dev Cert.OutGRefIdeal.nD → PrngReg), Pre_OutGRefIdeal m →
    θ_run (Cert.OutGRefIdeal.defs (F := Ideal)) (onTc (τ := Cert.OutGRefIdeal.τ) (Cert.OutGRefIdeal.main (F := Ideal))) ⟨m, fun _ => 0, g⟩ (fun r => (∀ c : Dev Cert.OutGRefIdeal.nD,
      r.2.mem ((c.tc : Thread Cert.OutGRefIdeal.nD Cert.OutGRefIdeal.τ).loc Cert.OutGRefIdeal.main_arg0) = m ((c.tc : Thread Cert.OutGRefIdeal.nD Cert.OutGRefIdeal.τ).loc Cert.OutGRefIdeal.main_arg0)
      ∧ r.2.mem ((c.tc : Thread Cert.OutGRefIdeal.nD Cert.OutGRefIdeal.τ).loc Cert.OutGRefIdeal.main_arg1) = m ((c.tc : Thread Cert.OutGRefIdeal.nD Cert.OutGRefIdeal.τ).loc Cert.OutGRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_UpB [hUpB : Cert.UpB.Facts] : Prop :=
  ∀ (m : (ℓ : Loc Cert.UpB.nD Cert.UpB.τ Cert.UpB.sig) → Buf (Elt Bits) ℓ) (g : Dev Cert.UpB.nD → PrngReg), Pre_UpB m →
    θ_run (Cert.UpB.defs (F := Bits)) (onTc (τ := Cert.UpB.τ) (Cert.UpB.main (F := Bits))) ⟨m, fun _ => 0, g⟩ (fun r => (∀ c : Dev Cert.UpB.nD,
      r.2.mem ((c.tc : Thread Cert.UpB.nD Cert.UpB.τ).loc Cert.UpB.main_arg0) = m ((c.tc : Thread Cert.UpB.nD Cert.UpB.τ).loc Cert.UpB.main_arg0)
      ∧ r.2.mem ((c.tc : Thread Cert.UpB.nD Cert.UpB.τ).loc Cert.UpB.main_arg1) = m ((c.tc : Thread Cert.UpB.nD Cert.UpB.τ).loc Cert.UpB.main_arg1))
      ∧ r.2.sem = fun _ => 0)

def quiescent_UpBIdeal [hUpBIdeal : Cert.UpBIdeal.Facts] : Prop :=
  ∀ (m : (ℓ : Loc Cert.UpBIdeal.nD Cert.UpBIdeal.τ Cert.UpBIdeal.sig) → Buf (Elt Ideal) ℓ) (g : Dev Cert.UpBIdeal.nD → PrngReg), Pre_UpBIdeal m →
    θ_run (Cert.UpBIdeal.defs (F := Ideal)) (onTc (τ := Cert.UpBIdeal.τ) (Cert.UpBIdeal.main (F := Ideal))) ⟨m, fun _ => 0, g⟩ (fun r => (∀ c : Dev Cert.UpBIdeal.nD,
      r.2.mem ((c.tc : Thread Cert.UpBIdeal.nD Cert.UpBIdeal.τ).loc Cert.UpBIdeal.main_arg0) = m ((c.tc : Thread Cert.UpBIdeal.nD Cert.UpBIdeal.τ).loc Cert.UpBIdeal.main_arg0)
      ∧ r.2.mem ((c.tc : Thread Cert.UpBIdeal.nD Cert.UpBIdeal.τ).loc Cert.UpBIdeal.main_arg1) = m ((c.tc : Thread Cert.UpBIdeal.nD Cert.UpBIdeal.τ).loc Cert.UpBIdeal.main_arg1))
      ∧ r.2.sem = fun _ => 0)

def quiescent_UpBRefIdeal [hUpBRefIdeal : Cert.UpBRefIdeal.Facts] : Prop :=
  ∀ (m : (ℓ : Loc Cert.UpBRefIdeal.nD Cert.UpBRefIdeal.τ Cert.UpBRefIdeal.sig) → Buf (Elt Ideal) ℓ) (g : Dev Cert.UpBRefIdeal.nD → PrngReg), Pre_UpBRefIdeal m →
    θ_run (Cert.UpBRefIdeal.defs (F := Ideal)) (onTc (τ := Cert.UpBRefIdeal.τ) (Cert.UpBRefIdeal.main (F := Ideal))) ⟨m, fun _ => 0, g⟩ (fun r => (∀ c : Dev Cert.UpBRefIdeal.nD,
      r.2.mem ((c.tc : Thread Cert.UpBRefIdeal.nD Cert.UpBRefIdeal.τ).loc Cert.UpBRefIdeal.main_arg0) = m ((c.tc : Thread Cert.UpBRefIdeal.nD Cert.UpBRefIdeal.τ).loc Cert.UpBRefIdeal.main_arg0)
      ∧ r.2.mem ((c.tc : Thread Cert.UpBRefIdeal.nD Cert.UpBRefIdeal.τ).loc Cert.UpBRefIdeal.main_arg1) = m ((c.tc : Thread Cert.UpBRefIdeal.nD Cert.UpBRefIdeal.τ).loc Cert.UpBRefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_QkvB [hQkvB : Cert.QkvB.Facts] : Prop :=
  ∀ (m : (ℓ : Loc Cert.QkvB.nD Cert.QkvB.τ Cert.QkvB.sig) → Buf (Elt Bits) ℓ) (g : Dev Cert.QkvB.nD → PrngReg), Pre_QkvB m →
    θ_run (Cert.QkvB.defs (F := Bits)) (onTc (τ := Cert.QkvB.τ) (Cert.QkvB.main (F := Bits))) ⟨m, fun _ => 0, g⟩ (fun r => (∀ c : Dev Cert.QkvB.nD,
      r.2.mem ((c.tc : Thread Cert.QkvB.nD Cert.QkvB.τ).loc Cert.QkvB.main_arg0) = m ((c.tc : Thread Cert.QkvB.nD Cert.QkvB.τ).loc Cert.QkvB.main_arg0)
      ∧ r.2.mem ((c.tc : Thread Cert.QkvB.nD Cert.QkvB.τ).loc Cert.QkvB.main_arg1) = m ((c.tc : Thread Cert.QkvB.nD Cert.QkvB.τ).loc Cert.QkvB.main_arg1))
      ∧ r.2.sem = fun _ => 0)

def quiescent_QkvBIdeal [hQkvBIdeal : Cert.QkvBIdeal.Facts] : Prop :=
  ∀ (m : (ℓ : Loc Cert.QkvBIdeal.nD Cert.QkvBIdeal.τ Cert.QkvBIdeal.sig) → Buf (Elt Ideal) ℓ) (g : Dev Cert.QkvBIdeal.nD → PrngReg), Pre_QkvBIdeal m →
    θ_run (Cert.QkvBIdeal.defs (F := Ideal)) (onTc (τ := Cert.QkvBIdeal.τ) (Cert.QkvBIdeal.main (F := Ideal))) ⟨m, fun _ => 0, g⟩ (fun r => (∀ c : Dev Cert.QkvBIdeal.nD,
      r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
      ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ r.2.sem = fun _ => 0)

def quiescent_QkvBRefIdeal [hQkvBRefIdeal : Cert.QkvBRefIdeal.Facts] : Prop :=
  ∀ (m : (ℓ : Loc Cert.QkvBRefIdeal.nD Cert.QkvBRefIdeal.τ Cert.QkvBRefIdeal.sig) → Buf (Elt Ideal) ℓ) (g : Dev Cert.QkvBRefIdeal.nD → PrngReg), Pre_QkvBRefIdeal m →
    θ_run (Cert.QkvBRefIdeal.defs (F := Ideal)) (onTc (τ := Cert.QkvBRefIdeal.τ) (Cert.QkvBRefIdeal.main (F := Ideal))) ⟨m, fun _ => 0, g⟩ (fun r => (∀ c : Dev Cert.QkvBRefIdeal.nD,
      r.2.mem ((c.tc : Thread Cert.QkvBRefIdeal.nD Cert.QkvBRefIdeal.τ).loc Cert.QkvBRefIdeal.main_arg0) = m ((c.tc : Thread Cert.QkvBRefIdeal.nD Cert.QkvBRefIdeal.τ).loc Cert.QkvBRefIdeal.main_arg0)
      ∧ r.2.mem ((c.tc : Thread Cert.QkvBRefIdeal.nD Cert.QkvBRefIdeal.τ).loc Cert.QkvBRefIdeal.main_arg1) = m ((c.tc : Thread Cert.QkvBRefIdeal.nD Cert.QkvBRefIdeal.τ).loc Cert.QkvBRefIdeal.main_arg1))
      ∧ r.2.sem = fun _ => 0)

def quiescent_InG [hInG : Cert.InG.Facts] : Prop :=
  ∀ (m : (ℓ : Loc Cert.InG.nD Cert.InG.τ Cert.InG.sig) → Buf (Elt Bits) ℓ) (g : Dev Cert.InG.nD → PrngReg), Pre_InG m →
    θ_run (Cert.InG.defs (F := Bits)) (onTc (τ := Cert.InG.τ) (Cert.InG.main (F := Bits))) ⟨m, fun _ => 0, g⟩ (fun r => (∀ c : Dev Cert.InG.nD,
      r.2.mem ((c.tc : Thread Cert.InG.nD Cert.InG.τ).loc Cert.InG.main_arg0) = m ((c.tc : Thread Cert.InG.nD Cert.InG.τ).loc Cert.InG.main_arg0)
      ∧ r.2.mem ((c.tc : Thread Cert.InG.nD Cert.InG.τ).loc Cert.InG.main_arg1) = m ((c.tc : Thread Cert.InG.nD Cert.InG.τ).loc Cert.InG.main_arg1))
      ∧ r.2.sem = fun _ => 0)

def quiescent_InGIdeal [hInGIdeal : Cert.InGIdeal.Facts] : Prop :=
  ∀ (m : (ℓ : Loc Cert.InGIdeal.nD Cert.InGIdeal.τ Cert.InGIdeal.sig) → Buf (Elt Ideal) ℓ) (g : Dev Cert.InGIdeal.nD → PrngReg), Pre_InGIdeal m →
    θ_run (Cert.InGIdeal.defs (F := Ideal)) (onTc (τ := Cert.InGIdeal.τ) (Cert.InGIdeal.main (F := Ideal))) ⟨m, fun _ => 0, g⟩ (fun r => (∀ c : Dev Cert.InGIdeal.nD,
      r.2.mem ((c.tc : Thread Cert.InGIdeal.nD Cert.InGIdeal.τ).loc Cert.InGIdeal.main_arg0) = m ((c.tc : Thread Cert.InGIdeal.nD Cert.InGIdeal.τ).loc Cert.InGIdeal.main_arg0)
      ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ r.2.sem = fun _ => 0)

def quiescent_InGRefIdeal [hInGRefIdeal : Cert.InGRefIdeal.Facts] : Prop :=
  ∀ (m : (ℓ : Loc Cert.InGRefIdeal.nD Cert.InGRefIdeal.τ Cert.InGRefIdeal.sig) → Buf (Elt Ideal) ℓ) (g : Dev Cert.InGRefIdeal.nD → PrngReg), Pre_InGRefIdeal m →
    θ_run (Cert.InGRefIdeal.defs (F := Ideal)) (onTc (τ := Cert.InGRefIdeal.τ) (Cert.InGRefIdeal.main (F := Ideal))) ⟨m, fun _ => 0, g⟩ (fun r => (∀ c : Dev Cert.InGRefIdeal.nD,
      r.2.mem ((c.tc : Thread Cert.InGRefIdeal.nD Cert.InGRefIdeal.τ).loc Cert.InGRefIdeal.main_arg0) = m ((c.tc : Thread Cert.InGRefIdeal.nD Cert.InGRefIdeal.τ).loc Cert.InGRefIdeal.main_arg0)
      ∧ r.2.mem ((c.tc : Thread Cert.InGRefIdeal.nD Cert.InGRefIdeal.τ).loc Cert.InGRefIdeal.main_arg1) = m ((c.tc : Thread Cert.InGRefIdeal.nD Cert.InGRefIdeal.τ).loc Cert.InGRefIdeal.main_arg1))
      ∧ r.2.sem = fun _ => 0)

def quiescent_QkvG [hQkvG : Cert.QkvG.Facts] : Prop :=
  ∀ (m : (ℓ : Loc Cert.QkvG.nD Cert.QkvG.τ Cert.QkvG.sig) → Buf (Elt Bits) ℓ) (g : Dev Cert.QkvG.nD → PrngReg), Pre_QkvG m →
    θ_run (Cert.QkvG.defs (F := Bits)) (onTc (τ := Cert.QkvG.τ) (Cert.QkvG.main (F := Bits))) ⟨m, fun _ => 0, g⟩ (fun r => (∀ c : Dev Cert.QkvG.nD,
      r.2.mem ((c.tc : Thread Cert.QkvG.nD Cert.QkvG.τ).loc Cert.QkvG.main_arg0) = m ((c.tc : Thread Cert.QkvG.nD Cert.QkvG.τ).loc Cert.QkvG.main_arg0)
      ∧ r.2.mem ((c.tc : Thread Cert.QkvG.nD Cert.QkvG.τ).loc Cert.QkvG.main_arg1) = m ((c.tc : Thread Cert.QkvG.nD Cert.QkvG.τ).loc Cert.QkvG.main_arg1))
      ∧ r.2.sem = fun _ => 0)

def quiescent_QkvGIdeal [hQkvGIdeal : Cert.QkvGIdeal.Facts] : Prop :=
  ∀ (m : (ℓ : Loc Cert.QkvGIdeal.nD Cert.QkvGIdeal.τ Cert.QkvGIdeal.sig) → Buf (Elt Ideal) ℓ) (g : Dev Cert.QkvGIdeal.nD → PrngReg), Pre_QkvGIdeal m →
    θ_run (Cert.QkvGIdeal.defs (F := Ideal)) (onTc (τ := Cert.QkvGIdeal.τ) (Cert.QkvGIdeal.main (F := Ideal))) ⟨m, fun _ => 0, g⟩ (fun r => (∀ c : Dev Cert.QkvGIdeal.nD,
      r.2.mem ((c.tc : Thread Cert.QkvGIdeal.nD Cert.QkvGIdeal.τ).loc Cert.QkvGIdeal.main_arg0) = m ((c.tc : Thread Cert.QkvGIdeal.nD Cert.QkvGIdeal.τ).loc Cert.QkvGIdeal.main_arg0)
      ∧ r.2.mem ((c.tc : Thread Cert.QkvGIdeal.nD Cert.QkvGIdeal.τ).loc Cert.QkvGIdeal.main_arg1) = m ((c.tc : Thread Cert.QkvGIdeal.nD Cert.QkvGIdeal.τ).loc Cert.QkvGIdeal.main_arg1))
      ∧ r.2.sem = fun _ => 0)

def quiescent_QkvGRefIdeal [hQkvGRefIdeal : Cert.QkvGRefIdeal.Facts] : Prop :=
  ∀ (m : (ℓ : Loc Cert.QkvGRefIdeal.nD Cert.QkvGRefIdeal.τ Cert.QkvGRefIdeal.sig) → Buf (Elt Ideal) ℓ) (g : Dev Cert.QkvGRefIdeal.nD → PrngReg), Pre_QkvGRefIdeal m →
    θ_run (Cert.QkvGRefIdeal.defs (F := Ideal)) (onTc (τ := Cert.QkvGRefIdeal.τ) (Cert.QkvGRefIdeal.main (F := Ideal))) ⟨m, fun _ => 0, g⟩ (fun r => (∀ c : Dev Cert.QkvGRefIdeal.nD,
      r.2.mem ((c.tc : Thread Cert.QkvGRefIdeal.nD Cert.QkvGRefIdeal.τ).loc Cert.QkvGRefIdeal.main_arg0) = m ((c.tc : Thread Cert.QkvGRefIdeal.nD Cert.QkvGRefIdeal.τ).loc Cert.QkvGRefIdeal.main_arg0)
      ∧ r.2.mem ((c.tc : Thread Cert.QkvGRefIdeal.nD Cert.QkvGRefIdeal.τ).loc Cert.QkvGRefIdeal.main_arg1) = m ((c.tc : Thread Cert.QkvGRefIdeal.nD Cert.QkvGRefIdeal.τ).loc Cert.QkvGRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_GluZ [hGluZ : Cert.GluZ.Facts] : Prop :=
  ∀ (m : (ℓ : Loc Cert.GluZ.nD Cert.GluZ.τ Cert.GluZ.sig) → Buf (Elt Bits) ℓ) (g : Dev Cert.GluZ.nD → PrngReg), Pre_GluZ m →
    θ_run (Cert.GluZ.defs (F := Bits)) (onTc (τ := Cert.GluZ.τ) (Cert.GluZ.main (F := Bits))) ⟨m, fun _ => 0, g⟩ (fun r => (∀ c : Dev Cert.GluZ.nD,
      r.2.mem ((c.tc : Thread Cert.GluZ.nD Cert.GluZ.τ).loc Cert.GluZ.main_arg0) = m ((c.tc : Thread Cert.GluZ.nD Cert.GluZ.τ).loc Cert.GluZ.main_arg0)
      ∧ r.2.mem ((c.tc : Thread Cert.GluZ.nD Cert.GluZ.τ).loc Cert.GluZ.main_arg1) = m ((c.tc : Thread Cert.GluZ.nD Cert.GluZ.τ).loc Cert.GluZ.main_arg1)
      ∧ r.2.mem ((c.tc : Thread Cert.GluZ.nD Cert.GluZ.τ).loc Cert.GluZ.main_arg2) = m ((c.tc : Thread Cert.GluZ.nD Cert.GluZ.τ).loc Cert.GluZ.main_arg2))
      ∧ r.2.sem = fun _ => 0)

def quiescent_GluZIdeal [hGluZIdeal : Cert.GluZIdeal.Facts] : Prop :=
  ∀ (m : (ℓ : Loc Cert.GluZIdeal.nD Cert.GluZIdeal.τ Cert.GluZIdeal.sig) → Buf (Elt Ideal) ℓ) (g : Dev Cert.GluZIdeal.nD → PrngReg), Pre_GluZIdeal m →
    θ_run (Cert.GluZIdeal.defs (F := Ideal)) (onTc (τ := Cert.GluZIdeal.τ) (Cert.GluZIdeal.main (F := Ideal))) ⟨m, fun _ => 0, g⟩ (fun r => (∀ c : Dev Cert.GluZIdeal.nD,
      r.2.mem ((c.tc : Thread Cert.GluZIdeal.nD Cert.GluZIdeal.τ).loc Cert.GluZIdeal.main_arg0) = m ((c.tc : Thread Cert.GluZIdeal.nD Cert.GluZIdeal.τ).loc Cert.GluZIdeal.main_arg0)
      ∧ r.2.mem ((c.tc : Thread Cert.GluZIdeal.nD Cert.GluZIdeal.τ).loc Cert.GluZIdeal.main_arg1) = m ((c.tc : Thread Cert.GluZIdeal.nD Cert.GluZIdeal.τ).loc Cert.GluZIdeal.main_arg1)
      ∧ r.2.mem ((c.tc : Thread Cert.GluZIdeal.nD Cert.GluZIdeal.τ).loc Cert.GluZIdeal.main_arg2) = m ((c.tc : Thread Cert.GluZIdeal.nD Cert.GluZIdeal.τ).loc Cert.GluZIdeal.main_arg2))
      ∧ r.2.sem = fun _ => 0)

def quiescent_GluZRefIdeal [hGluZRefIdeal : Cert.GluZRefIdeal.Facts] : Prop :=
  ∀ (m : (ℓ : Loc Cert.GluZRefIdeal.nD Cert.GluZRefIdeal.τ Cert.GluZRefIdeal.sig) → Buf (Elt Ideal) ℓ) (g : Dev Cert.GluZRefIdeal.nD → PrngReg), Pre_GluZRefIdeal m →
    θ_run (Cert.GluZRefIdeal.defs (F := Ideal)) (onTc (τ := Cert.GluZRefIdeal.τ) (Cert.GluZRefIdeal.main (F := Ideal))) ⟨m, fun _ => 0, g⟩ (fun r => (∀ c : Dev Cert.GluZRefIdeal.nD,
      r.2.mem ((c.tc : Thread Cert.GluZRefIdeal.nD Cert.GluZRefIdeal.τ).loc Cert.GluZRefIdeal.main_arg0) = m ((c.tc : Thread Cert.GluZRefIdeal.nD Cert.GluZRefIdeal.τ).loc Cert.GluZRefIdeal.main_arg0)
      ∧ r.2.mem ((c.tc : Thread Cert.GluZRefIdeal.nD Cert.GluZRefIdeal.τ).loc Cert.GluZRefIdeal.main_arg1) = m ((c.tc : Thread Cert.GluZRefIdeal.nD Cert.GluZRefIdeal.τ).loc Cert.GluZRefIdeal.main_arg1)
      ∧ r.2.mem ((c.tc : Thread Cert.GluZRefIdeal.nD Cert.GluZRefIdeal.τ).loc Cert.GluZRefIdeal.main_arg2) = m ((c.tc : Thread Cert.GluZRefIdeal.nD Cert.GluZRefIdeal.τ).loc Cert.GluZRefIdeal.main_arg2))
      ∧ r.2.sem = fun _ => 0)

def quiescent_GluG [hGluG : Cert.GluG.Facts] : Prop :=
  ∀ (m : (ℓ : Loc Cert.GluG.nD Cert.GluG.τ Cert.GluG.sig) → Buf (Elt Bits) ℓ) (g : Dev Cert.GluG.nD → PrngReg), Pre_GluG m →
    θ_run (Cert.GluG.defs (F := Bits)) (onTc (τ := Cert.GluG.τ) (Cert.GluG.main (F := Bits))) ⟨m, fun _ => 0, g⟩ (fun r => (∀ c : Dev Cert.GluG.nD,
      r.2.mem ((c.tc : Thread Cert.GluG.nD Cert.GluG.τ).loc Cert.GluG.main_arg0) = m ((c.tc : Thread Cert.GluG.nD Cert.GluG.τ).loc Cert.GluG.main_arg0)
      ∧ r.2.mem ((c.tc : Thread Cert.GluG.nD Cert.GluG.τ).loc Cert.GluG.main_arg1) = m ((c.tc : Thread Cert.GluG.nD Cert.GluG.τ).loc Cert.GluG.main_arg1))
      ∧ r.2.sem = fun _ => 0)

def quiescent_GluGIdeal [hGluGIdeal : Cert.GluGIdeal.Facts] : Prop :=
  ∀ (m : (ℓ : Loc Cert.GluGIdeal.nD Cert.GluGIdeal.τ Cert.GluGIdeal.sig) → Buf (Elt Ideal) ℓ) (g : Dev Cert.GluGIdeal.nD → PrngReg), Pre_GluGIdeal m →
    θ_run (Cert.GluGIdeal.defs (F := Ideal)) (onTc (τ := Cert.GluGIdeal.τ) (Cert.GluGIdeal.main (F := Ideal))) ⟨m, fun _ => 0, g⟩ (fun r => (∀ c : Dev Cert.GluGIdeal.nD,
      r.2.mem ((c.tc : Thread Cert.GluGIdeal.nD Cert.GluGIdeal.τ).loc Cert.GluGIdeal.main_arg0) = m ((c.tc : Thread Cert.GluGIdeal.nD Cert.GluGIdeal.τ).loc Cert.GluGIdeal.main_arg0)
      ∧ r.2.mem ((c.tc : Thread Cert.GluGIdeal.nD Cert.GluGIdeal.τ).loc Cert.GluGIdeal.main_arg1) = m ((c.tc : Thread Cert.GluGIdeal.nD Cert.GluGIdeal.τ).loc Cert.GluGIdeal.main_arg1))
      ∧ r.2.sem = fun _ => 0)

def quiescent_GluGRefIdeal [hGluGRefIdeal : Cert.GluGRefIdeal.Facts] : Prop :=
  ∀ (m : (ℓ : Loc Cert.GluGRefIdeal.nD Cert.GluGRefIdeal.τ Cert.GluGRefIdeal.sig) → Buf (Elt Ideal) ℓ) (g : Dev Cert.GluGRefIdeal.nD → PrngReg), Pre_GluGRefIdeal m →
    θ_run (Cert.GluGRefIdeal.defs (F := Ideal)) (onTc (τ := Cert.GluGRefIdeal.τ) (Cert.GluGRefIdeal.main (F := Ideal))) ⟨m, fun _ => 0, g⟩ (fun r => (∀ c : Dev Cert.GluGRefIdeal.nD,
      r.2.mem ((c.tc : Thread Cert.GluGRefIdeal.nD Cert.GluGRefIdeal.τ).loc Cert.GluGRefIdeal.main_arg0) = m ((c.tc : Thread Cert.GluGRefIdeal.nD Cert.GluGRefIdeal.τ).loc Cert.GluGRefIdeal.main_arg0)
      ∧ r.2.mem ((c.tc : Thread Cert.GluGRefIdeal.nD Cert.GluGRefIdeal.τ).loc Cert.GluGRefIdeal.main_arg1) = m ((c.tc : Thread Cert.GluGRefIdeal.nD Cert.GluGRefIdeal.τ).loc Cert.GluGRefIdeal.main_arg1))
      ∧ r.2.sem = fun _ => 0)

def quiescent_AdamS [hAdamS : Cert.AdamS.Facts] : Prop :=
  ∀ (m : (ℓ : Loc Cert.AdamS.nD Cert.AdamS.τ Cert.AdamS.sig) → Buf (Elt Bits) ℓ) (g : Dev Cert.AdamS.nD → PrngReg), Pre_AdamS m →
    θ_run (Cert.AdamS.defs (F := Bits)) (onTc (τ := Cert.AdamS.τ) (Cert.AdamS.main (F := Bits))) ⟨m, fun _ => 0, g⟩ (fun r => (∀ c : Dev Cert.AdamS.nD,
      r.2.mem ((c.tc : Thread Cert.AdamS.nD Cert.AdamS.τ).loc Cert.AdamS.main_arg0) = m ((c.tc : Thread Cert.AdamS.nD Cert.AdamS.τ).loc Cert.AdamS.main_arg0)
      ∧ r.2.mem ((c.tc : Thread Cert.AdamS.nD Cert.AdamS.τ).loc Cert.AdamS.main_arg1) = m ((c.tc : Thread Cert.AdamS.nD Cert.AdamS.τ).loc Cert.AdamS.main_arg1)
      ∧ r.2.mem ((c.tc : Thread Cert.AdamS.nD Cert.AdamS.τ).loc Cert.AdamS.main_arg2) = m ((c.tc : Thread Cert.AdamS.nD Cert.AdamS.τ).loc Cert.AdamS.main_arg2)
      ∧ r.2.mem ((c.tc : Thread Cert.AdamS.nD Cert.AdamS.τ).loc Cert.AdamS.main_arg3) = m ((c.tc : Thread Cert.AdamS.nD Cert.AdamS.τ).loc Cert.AdamS.main_arg3))
      ∧ r.2.sem = fun _ => 0)

def quiescent_AdamSIdeal [hAdamSIdeal : Cert.AdamSIdeal.Facts] : Prop :=
  ∀ (m : (ℓ : Loc Cert.AdamSIdeal.nD Cert.AdamSIdeal.τ Cert.AdamSIdeal.sig) → Buf (Elt Ideal) ℓ) (g : Dev Cert.AdamSIdeal.nD → PrngReg), Pre_AdamSIdeal m →
    θ_run (Cert.AdamSIdeal.defs (F := Ideal)) (onTc (τ := Cert.AdamSIdeal.τ) (Cert.AdamSIdeal.main (F := Ideal))) ⟨m, fun _ => 0, g⟩ (fun r => (∀ c : Dev Cert.AdamSIdeal.nD,
      r.2.mem ((c.tc : Thread Cert.AdamSIdeal.nD Cert.AdamSIdeal.τ).loc Cert.AdamSIdeal.main_arg0) = m ((c.tc : Thread Cert.AdamSIdeal.nD Cert.AdamSIdeal.τ).loc Cert.AdamSIdeal.main_arg0)
      ∧ r.2.mem ((c.tc : Thread Cert.AdamSIdeal.nD Cert.AdamSIdeal.τ).loc Cert.AdamSIdeal.main_arg1) = m ((c.tc : Thread Cert.AdamSIdeal.nD Cert.AdamSIdeal.τ).loc Cert.AdamSIdeal.main_arg1)
      ∧ r.2.mem ((c.tc : Thread Cert.AdamSIdeal.nD Cert.AdamSIdeal.τ).loc Cert.AdamSIdeal.main_arg2) = m ((c.tc : Thread Cert.AdamSIdeal.nD Cert.AdamSIdeal.τ).loc Cert.AdamSIdeal.main_arg2)
      ∧ r.2.mem ((c.tc : Thread Cert.AdamSIdeal.nD Cert.AdamSIdeal.τ).loc Cert.AdamSIdeal.main_arg3) = m ((c.tc : Thread Cert.AdamSIdeal.nD Cert.AdamSIdeal.τ).loc Cert.AdamSIdeal.main_arg3))
      ∧ r.2.sem = fun _ => 0)

def quiescent_AdamSRefIdeal [hAdamSRefIdeal : Cert.AdamSRefIdeal.Facts] : Prop :=
  ∀ (m : (ℓ : Loc Cert.AdamSRefIdeal.nD Cert.AdamSRefIdeal.τ Cert.AdamSRefIdeal.sig) → Buf (Elt Ideal) ℓ) (g : Dev Cert.AdamSRefIdeal.nD → PrngReg), Pre_AdamSRefIdeal m →
    θ_run (Cert.AdamSRefIdeal.defs (F := Ideal)) (onTc (τ := Cert.AdamSRefIdeal.τ) (Cert.AdamSRefIdeal.main (F := Ideal))) ⟨m, fun _ => 0, g⟩ (fun r => (∀ c : Dev Cert.AdamSRefIdeal.nD,
      r.2.mem ((c.tc : Thread Cert.AdamSRefIdeal.nD Cert.AdamSRefIdeal.τ).loc Cert.AdamSRefIdeal.main_arg0) = m ((c.tc : Thread Cert.AdamSRefIdeal.nD Cert.AdamSRefIdeal.τ).loc Cert.AdamSRefIdeal.main_arg0)
      ∧ r.2.mem ((c.tc : Thread Cert.AdamSRefIdeal.nD Cert.AdamSRefIdeal.τ).loc Cert.AdamSRefIdeal.main_arg1) = m ((c.tc : Thread Cert.AdamSRefIdeal.nD Cert.AdamSRefIdeal.τ).loc Cert.AdamSRefIdeal.main_arg1)
      ∧ r.2.mem ((c.tc : Thread Cert.AdamSRefIdeal.nD Cert.AdamSRefIdeal.τ).loc Cert.AdamSRefIdeal.main_arg2) = m ((c.tc : Thread Cert.AdamSRefIdeal.nD Cert.AdamSRefIdeal.τ).loc Cert.AdamSRefIdeal.main_arg2)
      ∧ r.2.mem ((c.tc : Thread Cert.AdamSRefIdeal.nD Cert.AdamSRefIdeal.τ).loc Cert.AdamSRefIdeal.main_arg3) = m ((c.tc : Thread Cert.AdamSRefIdeal.nD Cert.AdamSRefIdeal.τ).loc Cert.AdamSRefIdeal.main_arg3))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3)
      ∧ r.2.mem ((c.tc : Thread Cert.AdamO.nD Cert.AdamO.τ).loc Cert.AdamO.main_arg4) = m ((c.tc : Thread Cert.AdamO.nD Cert.AdamO.τ).loc Cert.AdamO.main_arg4)
      ∧ r.2.mem ((c.tc : Thread Cert.AdamO.nD Cert.AdamO.τ).loc Cert.AdamO.main_arg5) = m ((c.tc : Thread Cert.AdamO.nD Cert.AdamO.τ).loc Cert.AdamO.main_arg5)
      ∧ r.2.mem ((c.tc : Thread Cert.AdamO.nD Cert.AdamO.τ).loc Cert.AdamO.main_arg6) = m ((c.tc : Thread Cert.AdamO.nD Cert.AdamO.τ).loc Cert.AdamO.main_arg6)
      ∧ r.2.mem ((c.tc : Thread Cert.AdamO.nD Cert.AdamO.τ).loc Cert.AdamO.main_arg7) = m ((c.tc : Thread Cert.AdamO.nD Cert.AdamO.τ).loc Cert.AdamO.main_arg7))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3)
      ∧ r.2.mem ((c.tc : Thread Cert.AdamOIdeal.nD Cert.AdamOIdeal.τ).loc Cert.AdamOIdeal.main_arg4) = m ((c.tc : Thread Cert.AdamOIdeal.nD Cert.AdamOIdeal.τ).loc Cert.AdamOIdeal.main_arg4)
      ∧ r.2.mem ((c.tc : Thread Cert.AdamOIdeal.nD Cert.AdamOIdeal.τ).loc Cert.AdamOIdeal.main_arg5) = m ((c.tc : Thread Cert.AdamOIdeal.nD Cert.AdamOIdeal.τ).loc Cert.AdamOIdeal.main_arg5)
      ∧ r.2.mem ((c.tc : Thread Cert.AdamOIdeal.nD Cert.AdamOIdeal.τ).loc Cert.AdamOIdeal.main_arg6) = m ((c.tc : Thread Cert.AdamOIdeal.nD Cert.AdamOIdeal.τ).loc Cert.AdamOIdeal.main_arg6)
      ∧ r.2.mem ((c.tc : Thread Cert.AdamOIdeal.nD Cert.AdamOIdeal.τ).loc Cert.AdamOIdeal.main_arg7) = m ((c.tc : Thread Cert.AdamOIdeal.nD Cert.AdamOIdeal.τ).loc Cert.AdamOIdeal.main_arg7))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3)
      ∧ r.2.mem ((c.tc : Thread Cert.AdamORefIdeal.nD Cert.AdamORefIdeal.τ).loc Cert.AdamORefIdeal.main_arg4) = m ((c.tc : Thread Cert.AdamORefIdeal.nD Cert.AdamORefIdeal.τ).loc Cert.AdamORefIdeal.main_arg4)
      ∧ r.2.mem ((c.tc : Thread Cert.AdamORefIdeal.nD Cert.AdamORefIdeal.τ).loc Cert.AdamORefIdeal.main_arg5) = m ((c.tc : Thread Cert.AdamORefIdeal.nD Cert.AdamORefIdeal.τ).loc Cert.AdamORefIdeal.main_arg5)
      ∧ r.2.mem ((c.tc : Thread Cert.AdamORefIdeal.nD Cert.AdamORefIdeal.τ).loc Cert.AdamORefIdeal.main_arg6) = m ((c.tc : Thread Cert.AdamORefIdeal.nD Cert.AdamORefIdeal.τ).loc Cert.AdamORefIdeal.main_arg6)
      ∧ r.2.mem ((c.tc : Thread Cert.AdamORefIdeal.nD Cert.AdamORefIdeal.τ).loc Cert.AdamORefIdeal.main_arg7) = m ((c.tc : Thread Cert.AdamORefIdeal.nD Cert.AdamORefIdeal.τ).loc Cert.AdamORefIdeal.main_arg7))
      ∧ r.2.sem = fun _ => 0)

def quiescent_AdamI [hAdamI : Cert.AdamI.Facts] : Prop :=
  ∀ (m : (ℓ : Loc Cert.AdamI.nD Cert.AdamI.τ Cert.AdamI.sig) → Buf (Elt Bits) ℓ) (g : Dev Cert.AdamI.nD → PrngReg), Pre_AdamI m →
    θ_run (Cert.AdamI.defs (F := Bits)) (onTc (τ := Cert.AdamI.τ) (Cert.AdamI.main (F := Bits))) ⟨m, fun _ => 0, g⟩ (fun r => (∀ c : Dev Cert.AdamI.nD,
      r.2.mem ((c.tc : Thread Cert.AdamI.nD Cert.AdamI.τ).loc Cert.AdamI.main_arg0) = m ((c.tc : Thread Cert.AdamI.nD Cert.AdamI.τ).loc Cert.AdamI.main_arg0)
      ∧ r.2.mem ((c.tc : Thread Cert.AdamI.nD Cert.AdamI.τ).loc Cert.AdamI.main_arg1) = m ((c.tc : Thread Cert.AdamI.nD Cert.AdamI.τ).loc Cert.AdamI.main_arg1)
      ∧ r.2.mem ((c.tc : Thread Cert.AdamI.nD Cert.AdamI.τ).loc Cert.AdamI.main_arg2) = m ((c.tc : Thread Cert.AdamI.nD Cert.AdamI.τ).loc Cert.AdamI.main_arg2)
      ∧ r.2.mem ((c.tc : Thread Cert.AdamI.nD Cert.AdamI.τ).loc Cert.AdamI.main_arg3) = m ((c.tc : Thread Cert.AdamI.nD Cert.AdamI.τ).loc Cert.AdamI.main_arg3)
      ∧ r.2.mem ((c.tc : Thread Cert.AdamI.nD Cert.AdamI.τ).loc Cert.AdamI.main_arg4) = m ((c.tc : Thread Cert.AdamI.nD Cert.AdamI.τ).loc Cert.AdamI.main_arg4)
      ∧ r.2.mem ((c.tc : Thread Cert.AdamI.nD Cert.AdamI.τ).loc Cert.AdamI.main_arg5) = m ((c.tc : Thread Cert.AdamI.nD Cert.AdamI.τ).loc Cert.AdamI.main_arg5)
      ∧ r.2.mem ((c.tc : Thread Cert.AdamI.nD Cert.AdamI.τ).loc Cert.AdamI.main_arg6) = m ((c.tc : Thread Cert.AdamI.nD Cert.AdamI.τ).loc Cert.AdamI.main_arg6)
      ∧ r.2.mem ((c.tc : Thread Cert.AdamI.nD Cert.AdamI.τ).loc Cert.AdamI.main_arg7) = m ((c.tc : Thread Cert.AdamI.nD Cert.AdamI.τ).loc Cert.AdamI.main_arg7))
      ∧ r.2.sem = fun _ => 0)

def quiescent_AdamIIdeal [hAdamIIdeal : Cert.AdamIIdeal.Facts] : Prop :=
  ∀ (m : (ℓ : Loc Cert.AdamIIdeal.nD Cert.AdamIIdeal.τ Cert.AdamIIdeal.sig) → Buf (Elt Ideal) ℓ) (g : Dev Cert.AdamIIdeal.nD → PrngReg), Pre_AdamIIdeal m →
    θ_run (Cert.AdamIIdeal.defs (F := Ideal)) (onTc (τ := Cert.AdamIIdeal.τ) (Cert.AdamIIdeal.main (F := Ideal))) ⟨m, fun _ => 0, g⟩ (fun r => (∀ c : Dev Cert.AdamIIdeal.nD,
      r.2.mem ((c.tc : Thread Cert.AdamIIdeal.nD Cert.AdamIIdeal.τ).loc Cert.AdamIIdeal.main_arg0) = m ((c.tc : Thread Cert.AdamIIdeal.nD Cert.AdamIIdeal.τ).loc Cert.AdamIIdeal.main_arg0)
      ∧ r.2.mem ((c.tc : Thread Cert.AdamIIdeal.nD Cert.AdamIIdeal.τ).loc Cert.AdamIIdeal.main_arg1) = m ((c.tc : Thread Cert.AdamIIdeal.nD Cert.AdamIIdeal.τ).loc Cert.AdamIIdeal.main_arg1)
      ∧ r.2.mem ((c.tc : Thread Cert.AdamIIdeal.nD Cert.AdamIIdeal.τ).loc Cert.AdamIIdeal.main_arg2) = m ((c.tc : Thread Cert.AdamIIdeal.nD Cert.AdamIIdeal.τ).loc Cert.AdamIIdeal.main_arg2)
      ∧ r.2.mem ((c.tc : Thread Cert.AdamIIdeal.nD Cert.AdamIIdeal.τ).loc Cert.AdamIIdeal.main_arg3) = m ((c.tc : Thread Cert.AdamIIdeal.nD Cert.AdamIIdeal.τ).loc Cert.AdamIIdeal.main_arg3)
      ∧ r.2.mem ((c.tc : Thread Cert.AdamIIdeal.nD Cert.AdamIIdeal.τ).loc Cert.AdamIIdeal.main_arg4) = m ((c.tc : Thread Cert.AdamIIdeal.nD Cert.AdamIIdeal.τ).loc Cert.AdamIIdeal.main_arg4)
      ∧ r.2.mem ((c.tc : Thread Cert.AdamIIdeal.nD Cert.AdamIIdeal.τ).loc Cert.AdamIIdeal.main_arg5) = m ((c.tc : Thread Cert.AdamIIdeal.nD Cert.AdamIIdeal.τ).loc Cert.AdamIIdeal.main_arg5)
      ∧ r.2.mem ((c.tc : Thread Cert.AdamIIdeal.nD Cert.AdamIIdeal.τ).loc Cert.AdamIIdeal.main_arg6) = m ((c.tc : Thread Cert.AdamIIdeal.nD Cert.AdamIIdeal.τ).loc Cert.AdamIIdeal.main_arg6)
      ∧ r.2.mem ((c.tc : Thread Cert.AdamIIdeal.nD Cert.AdamIIdeal.τ).loc Cert.AdamIIdeal.main_arg7) = m ((c.tc : Thread Cert.AdamIIdeal.nD Cert.AdamIIdeal.τ).loc Cert.AdamIIdeal.main_arg7))
      ∧ r.2.sem = fun _ => 0)

def quiescent_AdamIRefIdeal [hAdamIRefIdeal : Cert.AdamIRefIdeal.Facts] : Prop :=
  ∀ (m : (ℓ : Loc Cert.AdamIRefIdeal.nD Cert.AdamIRefIdeal.τ Cert.AdamIRefIdeal.sig) → Buf (Elt Ideal) ℓ) (g : Dev Cert.AdamIRefIdeal.nD → PrngReg), Pre_AdamIRefIdeal m →
    θ_run (Cert.AdamIRefIdeal.defs (F := Ideal)) (onTc (τ := Cert.AdamIRefIdeal.τ) (Cert.AdamIRefIdeal.main (F := Ideal))) ⟨m, fun _ => 0, g⟩ (fun r => (∀ c : Dev Cert.AdamIRefIdeal.nD,
      r.2.mem ((c.tc : Thread Cert.AdamIRefIdeal.nD Cert.AdamIRefIdeal.τ).loc Cert.AdamIRefIdeal.main_arg0) = m ((c.tc : Thread Cert.AdamIRefIdeal.nD Cert.AdamIRefIdeal.τ).loc Cert.AdamIRefIdeal.main_arg0)
      ∧ r.2.mem ((c.tc : Thread Cert.AdamIRefIdeal.nD Cert.AdamIRefIdeal.τ).loc Cert.AdamIRefIdeal.main_arg1) = m ((c.tc : Thread Cert.AdamIRefIdeal.nD Cert.AdamIRefIdeal.τ).loc Cert.AdamIRefIdeal.main_arg1)
      ∧ r.2.mem ((c.tc : Thread Cert.AdamIRefIdeal.nD Cert.AdamIRefIdeal.τ).loc Cert.AdamIRefIdeal.main_arg2) = m ((c.tc : Thread Cert.AdamIRefIdeal.nD Cert.AdamIRefIdeal.τ).loc Cert.AdamIRefIdeal.main_arg2)
      ∧ r.2.mem ((c.tc : Thread Cert.AdamIRefIdeal.nD Cert.AdamIRefIdeal.τ).loc Cert.AdamIRefIdeal.main_arg3) = m ((c.tc : Thread Cert.AdamIRefIdeal.nD Cert.AdamIRefIdeal.τ).loc Cert.AdamIRefIdeal.main_arg3)
      ∧ r.2.mem ((c.tc : Thread Cert.AdamIRefIdeal.nD Cert.AdamIRefIdeal.τ).loc Cert.AdamIRefIdeal.main_arg4) = m ((c.tc : Thread Cert.AdamIRefIdeal.nD Cert.AdamIRefIdeal.τ).loc Cert.AdamIRefIdeal.main_arg4)
      ∧ r.2.mem ((c.tc : Thread Cert.AdamIRefIdeal.nD Cert.AdamIRefIdeal.τ).loc Cert.AdamIRefIdeal.main_arg5) = m ((c.tc : Thread Cert.AdamIRefIdeal.nD Cert.AdamIRefIdeal.τ).loc Cert.AdamIRefIdeal.main_arg5)
      ∧ r.2.mem ((c.tc : Thread Cert.AdamIRefIdeal.nD Cert.AdamIRefIdeal.τ).loc Cert.AdamIRefIdeal.main_arg6) = m ((c.tc : Thread Cert.AdamIRefIdeal.nD Cert.AdamIRefIdeal.τ).loc Cert.AdamIRefIdeal.main_arg6)
      ∧ r.2.mem ((c.tc : Thread Cert.AdamIRefIdeal.nD Cert.AdamIRefIdeal.τ).loc Cert.AdamIRefIdeal.main_arg7) = m ((c.tc : Thread Cert.AdamIRefIdeal.nD Cert.AdamIRefIdeal.τ).loc Cert.AdamIRefIdeal.main_arg7))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3)
      ∧ r.2.mem ((c.tc : Thread Cert.AdamQ.nD Cert.AdamQ.τ).loc Cert.AdamQ.main_arg4) = m ((c.tc : Thread Cert.AdamQ.nD Cert.AdamQ.τ).loc Cert.AdamQ.main_arg4)
      ∧ r.2.mem ((c.tc : Thread Cert.AdamQ.nD Cert.AdamQ.τ).loc Cert.AdamQ.main_arg5) = m ((c.tc : Thread Cert.AdamQ.nD Cert.AdamQ.τ).loc Cert.AdamQ.main_arg5)
      ∧ r.2.mem ((c.tc : Thread Cert.AdamQ.nD Cert.AdamQ.τ).loc Cert.AdamQ.main_arg6) = m ((c.tc : Thread Cert.AdamQ.nD Cert.AdamQ.τ).loc Cert.AdamQ.main_arg6)
      ∧ r.2.mem ((c.tc : Thread Cert.AdamQ.nD Cert.AdamQ.τ).loc Cert.AdamQ.main_arg7) = m ((c.tc : Thread Cert.AdamQ.nD Cert.AdamQ.τ).loc Cert.AdamQ.main_arg7))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3)
      ∧ r.2.mem ((c.tc : Thread Cert.AdamQIdeal.nD Cert.AdamQIdeal.τ).loc Cert.AdamQIdeal.main_arg4) = m ((c.tc : Thread Cert.AdamQIdeal.nD Cert.AdamQIdeal.τ).loc Cert.AdamQIdeal.main_arg4)
      ∧ r.2.mem ((c.tc : Thread Cert.AdamQIdeal.nD Cert.AdamQIdeal.τ).loc Cert.AdamQIdeal.main_arg5) = m ((c.tc : Thread Cert.AdamQIdeal.nD Cert.AdamQIdeal.τ).loc Cert.AdamQIdeal.main_arg5)
      ∧ r.2.mem ((c.tc : Thread Cert.AdamQIdeal.nD Cert.AdamQIdeal.τ).loc Cert.AdamQIdeal.main_arg6) = m ((c.tc : Thread Cert.AdamQIdeal.nD Cert.AdamQIdeal.τ).loc Cert.AdamQIdeal.main_arg6)
      ∧ r.2.mem ((c.tc : Thread Cert.AdamQIdeal.nD Cert.AdamQIdeal.τ).loc Cert.AdamQIdeal.main_arg7) = m ((c.tc : Thread Cert.AdamQIdeal.nD Cert.AdamQIdeal.τ).loc Cert.AdamQIdeal.main_arg7))
      ∧ r.2.sem = fun _ => 0)

def quiescent_AdamQRefIdeal [hAdamQRefIdeal : Cert.AdamQRefIdeal.Facts] : Prop :=
  ∀ (m : (ℓ : Loc Cert.AdamQRefIdeal.nD Cert.AdamQRefIdeal.τ Cert.AdamQRefIdeal.sig) → Buf (Elt Ideal) ℓ) (g : Dev Cert.AdamQRefIdeal.nD → PrngReg), Pre_AdamQRefIdeal m →
    θ_run (Cert.AdamQRefIdeal.defs (F := Ideal)) (onTc (τ := Cert.AdamQRefIdeal.τ) (Cert.AdamQRefIdeal.main (F := Ideal))) ⟨m, fun _ => 0, g⟩ (fun r => (∀ c : Dev Cert.AdamQRefIdeal.nD,
      r.2.mem ((c.tc : Thread Cert.AdamQRefIdeal.nD Cert.AdamQRefIdeal.τ).loc Cert.AdamQRefIdeal.main_arg0) = m ((c.tc : Thread Cert.AdamQRefIdeal.nD Cert.AdamQRefIdeal.τ).loc Cert.AdamQRefIdeal.main_arg0)
      ∧ r.2.mem ((c.tc : Thread Cert.AdamQRefIdeal.nD Cert.AdamQRefIdeal.τ).loc Cert.AdamQRefIdeal.main_arg1) = m ((c.tc : Thread Cert.AdamQRefIdeal.nD Cert.AdamQRefIdeal.τ).loc Cert.AdamQRefIdeal.main_arg1)
      ∧ r.2.mem ((c.tc : Thread Cert.AdamQRefIdeal.nD Cert.AdamQRefIdeal.τ).loc Cert.AdamQRefIdeal.main_arg2) = m ((c.tc : Thread Cert.AdamQRefIdeal.nD Cert.AdamQRefIdeal.τ).loc Cert.AdamQRefIdeal.main_arg2)
      ∧ r.2.mem ((c.tc : Thread Cert.AdamQRefIdeal.nD Cert.AdamQRefIdeal.τ).loc Cert.AdamQRefIdeal.main_arg3) = m ((c.tc : Thread Cert.AdamQRefIdeal.nD Cert.AdamQRefIdeal.τ).loc Cert.AdamQRefIdeal.main_arg3)
      ∧ r.2.mem ((c.tc : Thread Cert.AdamQRefIdeal.nD Cert.AdamQRefIdeal.τ).loc Cert.AdamQRefIdeal.main_arg4) = m ((c.tc : Thread Cert.AdamQRefIdeal.nD Cert.AdamQRefIdeal.τ).loc Cert.AdamQRefIdeal.main_arg4)
      ∧ r.2.mem ((c.tc : Thread Cert.AdamQRefIdeal.nD Cert.AdamQRefIdeal.τ).loc Cert.AdamQRefIdeal.main_arg5) = m ((c.tc : Thread Cert.AdamQRefIdeal.nD Cert.AdamQRefIdeal.τ).loc Cert.AdamQRefIdeal.main_arg5)
      ∧ r.2.mem ((c.tc : Thread Cert.AdamQRefIdeal.nD Cert.AdamQRefIdeal.τ).loc Cert.AdamQRefIdeal.main_arg6) = m ((c.tc : Thread Cert.AdamQRefIdeal.nD Cert.AdamQRefIdeal.τ).loc Cert.AdamQRefIdeal.main_arg6)
      ∧ r.2.mem ((c.tc : Thread Cert.AdamQRefIdeal.nD Cert.AdamQRefIdeal.τ).loc Cert.AdamQRefIdeal.main_arg7) = m ((c.tc : Thread Cert.AdamQRefIdeal.nD Cert.AdamQRefIdeal.τ).loc Cert.AdamQRefIdeal.main_arg7))
      ∧ r.2.sem = fun _ => 0)

def quiescent_AdamG [hAdamG : Cert.AdamG.Facts] : Prop :=
  ∀ (m : (ℓ : Loc Cert.AdamG.nD Cert.AdamG.τ Cert.AdamG.sig) → Buf (Elt Bits) ℓ) (g : Dev Cert.AdamG.nD → PrngReg), Pre_AdamG m →
    θ_run (Cert.AdamG.defs (F := Bits)) (onTc (τ := Cert.AdamG.τ) (Cert.AdamG.main (F := Bits))) ⟨m, fun _ => 0, g⟩ (fun r => (∀ c : Dev Cert.AdamG.nD,
      r.2.mem ((c.tc : Thread Cert.AdamG.nD Cert.AdamG.τ).loc Cert.AdamG.main_arg0) = m ((c.tc : Thread Cert.AdamG.nD Cert.AdamG.τ).loc Cert.AdamG.main_arg0)
      ∧ r.2.mem ((c.tc : Thread Cert.AdamG.nD Cert.AdamG.τ).loc Cert.AdamG.main_arg1) = m ((c.tc : Thread Cert.AdamG.nD Cert.AdamG.τ).loc Cert.AdamG.main_arg1)
      ∧ r.2.mem ((c.tc : Thread Cert.AdamG.nD Cert.AdamG.τ).loc Cert.AdamG.main_arg2) = m ((c.tc : Thread Cert.AdamG.nD Cert.AdamG.τ).loc Cert.AdamG.main_arg2)
      ∧ r.2.mem ((c.tc : Thread Cert.AdamG.nD Cert.AdamG.τ).loc Cert.AdamG.main_arg3) = m ((c.tc : Thread Cert.AdamG.nD Cert.AdamG.τ).loc Cert.AdamG.main_arg3)
      ∧ r.2.mem ((c.tc : Thread Cert.AdamG.nD Cert.AdamG.τ).loc Cert.AdamG.main_arg4) = m ((c.tc : Thread Cert.AdamG.nD Cert.AdamG.τ).loc Cert.AdamG.main_arg4)
      ∧ r.2.mem ((c.tc : Thread Cert.AdamG.nD Cert.AdamG.τ).loc Cert.AdamG.main_arg5) = m ((c.tc : Thread Cert.AdamG.nD Cert.AdamG.τ).loc Cert.AdamG.main_arg5)
      ∧ r.2.mem ((c.tc : Thread Cert.AdamG.nD Cert.AdamG.τ).loc Cert.AdamG.main_arg6) = m ((c.tc : Thread Cert.AdamG.nD Cert.AdamG.τ).loc Cert.AdamG.main_arg6)
      ∧ r.2.mem ((c.tc : Thread Cert.AdamG.nD Cert.AdamG.τ).loc Cert.AdamG.main_arg7) = m ((c.tc : Thread Cert.AdamG.nD Cert.AdamG.τ).loc Cert.AdamG.main_arg7))
      ∧ r.2.sem = fun _ => 0)

def quiescent_AdamGIdeal [hAdamGIdeal : Cert.AdamGIdeal.Facts] : Prop :=
  ∀ (m : (ℓ : Loc Cert.AdamGIdeal.nD Cert.AdamGIdeal.τ Cert.AdamGIdeal.sig) → Buf (Elt Ideal) ℓ) (g : Dev Cert.AdamGIdeal.nD → PrngReg), Pre_AdamGIdeal m →
    θ_run (Cert.AdamGIdeal.defs (F := Ideal)) (onTc (τ := Cert.AdamGIdeal.τ) (Cert.AdamGIdeal.main (F := Ideal))) ⟨m, fun _ => 0, g⟩ (fun r => (∀ c : Dev Cert.AdamGIdeal.nD,
      r.2.mem ((c.tc : Thread Cert.AdamGIdeal.nD Cert.AdamGIdeal.τ).loc Cert.AdamGIdeal.main_arg0) = m ((c.tc : Thread Cert.AdamGIdeal.nD Cert.AdamGIdeal.τ).loc Cert.AdamGIdeal.main_arg0)
      ∧ r.2.mem ((c.tc : Thread Cert.AdamGIdeal.nD Cert.AdamGIdeal.τ).loc Cert.AdamGIdeal.main_arg1) = m ((c.tc : Thread Cert.AdamGIdeal.nD Cert.AdamGIdeal.τ).loc Cert.AdamGIdeal.main_arg1)
      ∧ r.2.mem ((c.tc : Thread Cert.AdamGIdeal.nD Cert.AdamGIdeal.τ).loc Cert.AdamGIdeal.main_arg2) = m ((c.tc : Thread Cert.AdamGIdeal.nD Cert.AdamGIdeal.τ).loc Cert.AdamGIdeal.main_arg2)
      ∧ r.2.mem ((c.tc : Thread Cert.AdamGIdeal.nD Cert.AdamGIdeal.τ).loc Cert.AdamGIdeal.main_arg3) = m ((c.tc : Thread Cert.AdamGIdeal.nD Cert.AdamGIdeal.τ).loc Cert.AdamGIdeal.main_arg3)
      ∧ r.2.mem ((c.tc : Thread Cert.AdamGIdeal.nD Cert.AdamGIdeal.τ).loc Cert.AdamGIdeal.main_arg4) = m ((c.tc : Thread Cert.AdamGIdeal.nD Cert.AdamGIdeal.τ).loc Cert.AdamGIdeal.main_arg4)
      ∧ r.2.mem ((c.tc : Thread Cert.AdamGIdeal.nD Cert.AdamGIdeal.τ).loc Cert.AdamGIdeal.main_arg5) = m ((c.tc : Thread Cert.AdamGIdeal.nD Cert.AdamGIdeal.τ).loc Cert.AdamGIdeal.main_arg5)
      ∧ r.2.mem ((c.tc : Thread Cert.AdamGIdeal.nD Cert.AdamGIdeal.τ).loc Cert.AdamGIdeal.main_arg6) = m ((c.tc : Thread Cert.AdamGIdeal.nD Cert.AdamGIdeal.τ).loc Cert.AdamGIdeal.main_arg6)
      ∧ r.2.mem ((c.tc : Thread Cert.AdamGIdeal.nD Cert.AdamGIdeal.τ).loc Cert.AdamGIdeal.main_arg7) = m ((c.tc : Thread Cert.AdamGIdeal.nD Cert.AdamGIdeal.τ).loc Cert.AdamGIdeal.main_arg7))
      ∧ r.2.sem = fun _ => 0)

def quiescent_AdamGRefIdeal [hAdamGRefIdeal : Cert.AdamGRefIdeal.Facts] : Prop :=
  ∀ (m : (ℓ : Loc Cert.AdamGRefIdeal.nD Cert.AdamGRefIdeal.τ Cert.AdamGRefIdeal.sig) → Buf (Elt Ideal) ℓ) (g : Dev Cert.AdamGRefIdeal.nD → PrngReg), Pre_AdamGRefIdeal m →
    θ_run (Cert.AdamGRefIdeal.defs (F := Ideal)) (onTc (τ := Cert.AdamGRefIdeal.τ) (Cert.AdamGRefIdeal.main (F := Ideal))) ⟨m, fun _ => 0, g⟩ (fun r => (∀ c : Dev Cert.AdamGRefIdeal.nD,
      r.2.mem ((c.tc : Thread Cert.AdamGRefIdeal.nD Cert.AdamGRefIdeal.τ).loc Cert.AdamGRefIdeal.main_arg0) = m ((c.tc : Thread Cert.AdamGRefIdeal.nD Cert.AdamGRefIdeal.τ).loc Cert.AdamGRefIdeal.main_arg0)
      ∧ r.2.mem ((c.tc : Thread Cert.AdamGRefIdeal.nD Cert.AdamGRefIdeal.τ).loc Cert.AdamGRefIdeal.main_arg1) = m ((c.tc : Thread Cert.AdamGRefIdeal.nD Cert.AdamGRefIdeal.τ).loc Cert.AdamGRefIdeal.main_arg1)
      ∧ r.2.mem ((c.tc : Thread Cert.AdamGRefIdeal.nD Cert.AdamGRefIdeal.τ).loc Cert.AdamGRefIdeal.main_arg2) = m ((c.tc : Thread Cert.AdamGRefIdeal.nD Cert.AdamGRefIdeal.τ).loc Cert.AdamGRefIdeal.main_arg2)
      ∧ r.2.mem ((c.tc : Thread Cert.AdamGRefIdeal.nD Cert.AdamGRefIdeal.τ).loc Cert.AdamGRefIdeal.main_arg3) = m ((c.tc : Thread Cert.AdamGRefIdeal.nD Cert.AdamGRefIdeal.τ).loc Cert.AdamGRefIdeal.main_arg3)
      ∧ r.2.mem ((c.tc : Thread Cert.AdamGRefIdeal.nD Cert.AdamGRefIdeal.τ).loc Cert.AdamGRefIdeal.main_arg4) = m ((c.tc : Thread Cert.AdamGRefIdeal.nD Cert.AdamGRefIdeal.τ).loc Cert.AdamGRefIdeal.main_arg4)
      ∧ r.2.mem ((c.tc : Thread Cert.AdamGRefIdeal.nD Cert.AdamGRefIdeal.τ).loc Cert.AdamGRefIdeal.main_arg5) = m ((c.tc : Thread Cert.AdamGRefIdeal.nD Cert.AdamGRefIdeal.τ).loc Cert.AdamGRefIdeal.main_arg5)
      ∧ r.2.mem ((c.tc : Thread Cert.AdamGRefIdeal.nD Cert.AdamGRefIdeal.τ).loc Cert.AdamGRefIdeal.main_arg6) = m ((c.tc : Thread Cert.AdamGRefIdeal.nD Cert.AdamGRefIdeal.τ).loc Cert.AdamGRefIdeal.main_arg6)
      ∧ r.2.mem ((c.tc : Thread Cert.AdamGRefIdeal.nD Cert.AdamGRefIdeal.τ).loc Cert.AdamGRefIdeal.main_arg7) = m ((c.tc : Thread Cert.AdamGRefIdeal.nD Cert.AdamGRefIdeal.τ).loc Cert.AdamGRefIdeal.main_arg7))
      ∧ r.2.sem = fun _ => 0)

def quiescent_AdamU [hAdamU : Cert.AdamU.Facts] : Prop :=
  ∀ (m : (ℓ : Loc Cert.AdamU.nD Cert.AdamU.τ Cert.AdamU.sig) → Buf (Elt Bits) ℓ) (g : Dev Cert.AdamU.nD → PrngReg), Pre_AdamU m →
    θ_run (Cert.AdamU.defs (F := Bits)) (onTc (τ := Cert.AdamU.τ) (Cert.AdamU.main (F := Bits))) ⟨m, fun _ => 0, g⟩ (fun r => (∀ c : Dev Cert.AdamU.nD,
      r.2.mem ((c.tc : Thread Cert.AdamU.nD Cert.AdamU.τ).loc Cert.AdamU.main_arg0) = m ((c.tc : Thread Cert.AdamU.nD Cert.AdamU.τ).loc Cert.AdamU.main_arg0)
      ∧ r.2.mem ((c.tc : Thread Cert.AdamU.nD Cert.AdamU.τ).loc Cert.AdamU.main_arg1) = m ((c.tc : Thread Cert.AdamU.nD Cert.AdamU.τ).loc Cert.AdamU.main_arg1)
      ∧ r.2.mem ((c.tc : Thread Cert.AdamU.nD Cert.AdamU.τ).loc Cert.AdamU.main_arg2) = m ((c.tc : Thread Cert.AdamU.nD Cert.AdamU.τ).loc Cert.AdamU.main_arg2)
      ∧ r.2.mem ((c.tc : Thread Cert.AdamU.nD Cert.AdamU.τ).loc Cert.AdamU.main_arg3) = m ((c.tc : Thread Cert.AdamU.nD Cert.AdamU.τ).loc Cert.AdamU.main_arg3)
      ∧ r.2.mem ((c.tc : Thread Cert.AdamU.nD Cert.AdamU.τ).loc Cert.AdamU.main_arg4) = m ((c.tc : Thread Cert.AdamU.nD Cert.AdamU.τ).loc Cert.AdamU.main_arg4)
      ∧ r.2.mem ((c.tc : Thread Cert.AdamU.nD Cert.AdamU.τ).loc Cert.AdamU.main_arg5) = m ((c.tc : Thread Cert.AdamU.nD Cert.AdamU.τ).loc Cert.AdamU.main_arg5)
      ∧ r.2.mem ((c.tc : Thread Cert.AdamU.nD Cert.AdamU.τ).loc Cert.AdamU.main_arg6) = m ((c.tc : Thread Cert.AdamU.nD Cert.AdamU.τ).loc Cert.AdamU.main_arg6)
      ∧ r.2.mem ((c.tc : Thread Cert.AdamU.nD Cert.AdamU.τ).loc Cert.AdamU.main_arg7) = m ((c.tc : Thread Cert.AdamU.nD Cert.AdamU.τ).loc Cert.AdamU.main_arg7))
      ∧ r.2.sem = fun _ => 0)

def quiescent_AdamUIdeal [hAdamUIdeal : Cert.AdamUIdeal.Facts] : Prop :=
  ∀ (m : (ℓ : Loc Cert.AdamUIdeal.nD Cert.AdamUIdeal.τ Cert.AdamUIdeal.sig) → Buf (Elt Ideal) ℓ) (g : Dev Cert.AdamUIdeal.nD → PrngReg), Pre_AdamUIdeal m →
    θ_run (Cert.AdamUIdeal.defs (F := Ideal)) (onTc (τ := Cert.AdamUIdeal.τ) (Cert.AdamUIdeal.main (F := Ideal))) ⟨m, fun _ => 0, g⟩ (fun r => (∀ c : Dev Cert.AdamUIdeal.nD,
      r.2.mem ((c.tc : Thread Cert.AdamUIdeal.nD Cert.AdamUIdeal.τ).loc Cert.AdamUIdeal.main_arg0) = m ((c.tc : Thread Cert.AdamUIdeal.nD Cert.AdamUIdeal.τ).loc Cert.AdamUIdeal.main_arg0)
      ∧ r.2.mem ((c.tc : Thread Cert.AdamUIdeal.nD Cert.AdamUIdeal.τ).loc Cert.AdamUIdeal.main_arg1) = m ((c.tc : Thread Cert.AdamUIdeal.nD Cert.AdamUIdeal.τ).loc Cert.AdamUIdeal.main_arg1)
      ∧ r.2.mem ((c.tc : Thread Cert.AdamUIdeal.nD Cert.AdamUIdeal.τ).loc Cert.AdamUIdeal.main_arg2) = m ((c.tc : Thread Cert.AdamUIdeal.nD Cert.AdamUIdeal.τ).loc Cert.AdamUIdeal.main_arg2)
      ∧ r.2.mem ((c.tc : Thread Cert.AdamUIdeal.nD Cert.AdamUIdeal.τ).loc Cert.AdamUIdeal.main_arg3) = m ((c.tc : Thread Cert.AdamUIdeal.nD Cert.AdamUIdeal.τ).loc Cert.AdamUIdeal.main_arg3)
      ∧ r.2.mem ((c.tc : Thread Cert.AdamUIdeal.nD Cert.AdamUIdeal.τ).loc Cert.AdamUIdeal.main_arg4) = m ((c.tc : Thread Cert.AdamUIdeal.nD Cert.AdamUIdeal.τ).loc Cert.AdamUIdeal.main_arg4)
      ∧ r.2.mem ((c.tc : Thread Cert.AdamUIdeal.nD Cert.AdamUIdeal.τ).loc Cert.AdamUIdeal.main_arg5) = m ((c.tc : Thread Cert.AdamUIdeal.nD Cert.AdamUIdeal.τ).loc Cert.AdamUIdeal.main_arg5)
      ∧ r.2.mem ((c.tc : Thread Cert.AdamUIdeal.nD Cert.AdamUIdeal.τ).loc Cert.AdamUIdeal.main_arg6) = m ((c.tc : Thread Cert.AdamUIdeal.nD Cert.AdamUIdeal.τ).loc Cert.AdamUIdeal.main_arg6)
      ∧ r.2.mem ((c.tc : Thread Cert.AdamUIdeal.nD Cert.AdamUIdeal.τ).loc Cert.AdamUIdeal.main_arg7) = m ((c.tc : Thread Cert.AdamUIdeal.nD Cert.AdamUIdeal.τ).loc Cert.AdamUIdeal.main_arg7))
      ∧ r.2.sem = fun _ => 0)

def quiescent_AdamURefIdeal [hAdamURefIdeal : Cert.AdamURefIdeal.Facts] : Prop :=
  ∀ (m : (ℓ : Loc Cert.AdamURefIdeal.nD Cert.AdamURefIdeal.τ Cert.AdamURefIdeal.sig) → Buf (Elt Ideal) ℓ) (g : Dev Cert.AdamURefIdeal.nD → PrngReg), Pre_AdamURefIdeal m →
    θ_run (Cert.AdamURefIdeal.defs (F := Ideal)) (onTc (τ := Cert.AdamURefIdeal.τ) (Cert.AdamURefIdeal.main (F := Ideal))) ⟨m, fun _ => 0, g⟩ (fun r => (∀ c : Dev Cert.AdamURefIdeal.nD,
      r.2.mem ((c.tc : Thread Cert.AdamURefIdeal.nD Cert.AdamURefIdeal.τ).loc Cert.AdamURefIdeal.main_arg0) = m ((c.tc : Thread Cert.AdamURefIdeal.nD Cert.AdamURefIdeal.τ).loc Cert.AdamURefIdeal.main_arg0)
      ∧ r.2.mem ((c.tc : Thread Cert.AdamURefIdeal.nD Cert.AdamURefIdeal.τ).loc Cert.AdamURefIdeal.main_arg1) = m ((c.tc : Thread Cert.AdamURefIdeal.nD Cert.AdamURefIdeal.τ).loc Cert.AdamURefIdeal.main_arg1)
      ∧ r.2.mem ((c.tc : Thread Cert.AdamURefIdeal.nD Cert.AdamURefIdeal.τ).loc Cert.AdamURefIdeal.main_arg2) = m ((c.tc : Thread Cert.AdamURefIdeal.nD Cert.AdamURefIdeal.τ).loc Cert.AdamURefIdeal.main_arg2)
      ∧ r.2.mem ((c.tc : Thread Cert.AdamURefIdeal.nD Cert.AdamURefIdeal.τ).loc Cert.AdamURefIdeal.main_arg3) = m ((c.tc : Thread Cert.AdamURefIdeal.nD Cert.AdamURefIdeal.τ).loc Cert.AdamURefIdeal.main_arg3)
      ∧ r.2.mem ((c.tc : Thread Cert.AdamURefIdeal.nD Cert.AdamURefIdeal.τ).loc Cert.AdamURefIdeal.main_arg4) = m ((c.tc : Thread Cert.AdamURefIdeal.nD Cert.AdamURefIdeal.τ).loc Cert.AdamURefIdeal.main_arg4)
      ∧ r.2.mem ((c.tc : Thread Cert.AdamURefIdeal.nD Cert.AdamURefIdeal.τ).loc Cert.AdamURefIdeal.main_arg5) = m ((c.tc : Thread Cert.AdamURefIdeal.nD Cert.AdamURefIdeal.τ).loc Cert.AdamURefIdeal.main_arg5)
      ∧ r.2.mem ((c.tc : Thread Cert.AdamURefIdeal.nD Cert.AdamURefIdeal.τ).loc Cert.AdamURefIdeal.main_arg6) = m ((c.tc : Thread Cert.AdamURefIdeal.nD Cert.AdamURefIdeal.τ).loc Cert.AdamURefIdeal.main_arg6)
      ∧ r.2.mem ((c.tc : Thread Cert.AdamURefIdeal.nD Cert.AdamURefIdeal.τ).loc Cert.AdamURefIdeal.main_arg7) = m ((c.tc : Thread Cert.AdamURefIdeal.nD Cert.AdamURefIdeal.τ).loc Cert.AdamURefIdeal.main_arg7))
      ∧ r.2.sem = fun _ => 0)

def quiescent_AdamD [hAdamD : Cert.AdamD.Facts] : Prop :=
  ∀ (m : (ℓ : Loc Cert.AdamD.nD Cert.AdamD.τ Cert.AdamD.sig) → Buf (Elt Bits) ℓ) (g : Dev Cert.AdamD.nD → PrngReg), Pre_AdamD m →
    θ_run (Cert.AdamD.defs (F := Bits)) (onTc (τ := Cert.AdamD.τ) (Cert.AdamD.main (F := Bits))) ⟨m, fun _ => 0, g⟩ (fun r => (∀ c : Dev Cert.AdamD.nD,
      r.2.mem ((c.tc : Thread Cert.AdamD.nD Cert.AdamD.τ).loc Cert.AdamD.main_arg0) = m ((c.tc : Thread Cert.AdamD.nD Cert.AdamD.τ).loc Cert.AdamD.main_arg0)
      ∧ r.2.mem ((c.tc : Thread Cert.AdamD.nD Cert.AdamD.τ).loc Cert.AdamD.main_arg1) = m ((c.tc : Thread Cert.AdamD.nD Cert.AdamD.τ).loc Cert.AdamD.main_arg1)
      ∧ r.2.mem ((c.tc : Thread Cert.AdamD.nD Cert.AdamD.τ).loc Cert.AdamD.main_arg2) = m ((c.tc : Thread Cert.AdamD.nD Cert.AdamD.τ).loc Cert.AdamD.main_arg2)
      ∧ r.2.mem ((c.tc : Thread Cert.AdamD.nD Cert.AdamD.τ).loc Cert.AdamD.main_arg3) = m ((c.tc : Thread Cert.AdamD.nD Cert.AdamD.τ).loc Cert.AdamD.main_arg3)
      ∧ r.2.mem ((c.tc : Thread Cert.AdamD.nD Cert.AdamD.τ).loc Cert.AdamD.main_arg4) = m ((c.tc : Thread Cert.AdamD.nD Cert.AdamD.τ).loc Cert.AdamD.main_arg4)
      ∧ r.2.mem ((c.tc : Thread Cert.AdamD.nD Cert.AdamD.τ).loc Cert.AdamD.main_arg5) = m ((c.tc : Thread Cert.AdamD.nD Cert.AdamD.τ).loc Cert.AdamD.main_arg5)
      ∧ r.2.mem ((c.tc : Thread Cert.AdamD.nD Cert.AdamD.τ).loc Cert.AdamD.main_arg6) = m ((c.tc : Thread Cert.AdamD.nD Cert.AdamD.τ).loc Cert.AdamD.main_arg6)
      ∧ r.2.mem ((c.tc : Thread Cert.AdamD.nD Cert.AdamD.τ).loc Cert.AdamD.main_arg7) = m ((c.tc : Thread Cert.AdamD.nD Cert.AdamD.τ).loc Cert.AdamD.main_arg7))
      ∧ r.2.sem = fun _ => 0)

def quiescent_AdamDIdeal [hAdamDIdeal : Cert.AdamDIdeal.Facts] : Prop :=
  ∀ (m : (ℓ : Loc Cert.AdamDIdeal.nD Cert.AdamDIdeal.τ Cert.AdamDIdeal.sig) → Buf (Elt Ideal) ℓ) (g : Dev Cert.AdamDIdeal.nD → PrngReg), Pre_AdamDIdeal m →
    θ_run (Cert.AdamDIdeal.defs (F := Ideal)) (onTc (τ := Cert.AdamDIdeal.τ) (Cert.AdamDIdeal.main (F := Ideal))) ⟨m, fun _ => 0, g⟩ (fun r => (∀ c : Dev Cert.AdamDIdeal.nD,
      r.2.mem ((c.tc : Thread Cert.AdamDIdeal.nD Cert.AdamDIdeal.τ).loc Cert.AdamDIdeal.main_arg0) = m ((c.tc : Thread Cert.AdamDIdeal.nD Cert.AdamDIdeal.τ).loc Cert.AdamDIdeal.main_arg0)
      ∧ r.2.mem ((c.tc : Thread Cert.AdamDIdeal.nD Cert.AdamDIdeal.τ).loc Cert.AdamDIdeal.main_arg1) = m ((c.tc : Thread Cert.AdamDIdeal.nD Cert.AdamDIdeal.τ).loc Cert.AdamDIdeal.main_arg1)
      ∧ r.2.mem ((c.tc : Thread Cert.AdamDIdeal.nD Cert.AdamDIdeal.τ).loc Cert.AdamDIdeal.main_arg2) = m ((c.tc : Thread Cert.AdamDIdeal.nD Cert.AdamDIdeal.τ).loc Cert.AdamDIdeal.main_arg2)
      ∧ r.2.mem ((c.tc : Thread Cert.AdamDIdeal.nD Cert.AdamDIdeal.τ).loc Cert.AdamDIdeal.main_arg3) = m ((c.tc : Thread Cert.AdamDIdeal.nD Cert.AdamDIdeal.τ).loc Cert.AdamDIdeal.main_arg3)
      ∧ r.2.mem ((c.tc : Thread Cert.AdamDIdeal.nD Cert.AdamDIdeal.τ).loc Cert.AdamDIdeal.main_arg4) = m ((c.tc : Thread Cert.AdamDIdeal.nD Cert.AdamDIdeal.τ).loc Cert.AdamDIdeal.main_arg4)
      ∧ r.2.mem ((c.tc : Thread Cert.AdamDIdeal.nD Cert.AdamDIdeal.τ).loc Cert.AdamDIdeal.main_arg5) = m ((c.tc : Thread Cert.AdamDIdeal.nD Cert.AdamDIdeal.τ).loc Cert.AdamDIdeal.main_arg5)
      ∧ r.2.mem ((c.tc : Thread Cert.AdamDIdeal.nD Cert.AdamDIdeal.τ).loc Cert.AdamDIdeal.main_arg6) = m ((c.tc : Thread Cert.AdamDIdeal.nD Cert.AdamDIdeal.τ).loc Cert.AdamDIdeal.main_arg6)
      ∧ r.2.mem ((c.tc : Thread Cert.AdamDIdeal.nD Cert.AdamDIdeal.τ).loc Cert.AdamDIdeal.main_arg7) = m ((c.tc : Thread Cert.AdamDIdeal.nD Cert.AdamDIdeal.τ).loc Cert.AdamDIdeal.main_arg7))
      ∧ r.2.sem = fun _ => 0)

def quiescent_AdamDRefIdeal [hAdamDRefIdeal : Cert.AdamDRefIdeal.Facts] : Prop :=
  ∀ (m : (ℓ : Loc Cert.AdamDRefIdeal.nD Cert.AdamDRefIdeal.τ Cert.AdamDRefIdeal.sig) → Buf (Elt Ideal) ℓ) (g : Dev Cert.AdamDRefIdeal.nD → PrngReg), Pre_AdamDRefIdeal m →
    θ_run (Cert.AdamDRefIdeal.defs (F := Ideal)) (onTc (τ := Cert.AdamDRefIdeal.τ) (Cert.AdamDRefIdeal.main (F := Ideal))) ⟨m, fun _ => 0, g⟩ (fun r => (∀ c : Dev Cert.AdamDRefIdeal.nD,
      r.2.mem ((c.tc : Thread Cert.AdamDRefIdeal.nD Cert.AdamDRefIdeal.τ).loc Cert.AdamDRefIdeal.main_arg0) = m ((c.tc : Thread Cert.AdamDRefIdeal.nD Cert.AdamDRefIdeal.τ).loc Cert.AdamDRefIdeal.main_arg0)
      ∧ r.2.mem ((c.tc : Thread Cert.AdamDRefIdeal.nD Cert.AdamDRefIdeal.τ).loc Cert.AdamDRefIdeal.main_arg1) = m ((c.tc : Thread Cert.AdamDRefIdeal.nD Cert.AdamDRefIdeal.τ).loc Cert.AdamDRefIdeal.main_arg1)
      ∧ r.2.mem ((c.tc : Thread Cert.AdamDRefIdeal.nD Cert.AdamDRefIdeal.τ).loc Cert.AdamDRefIdeal.main_arg2) = m ((c.tc : Thread Cert.AdamDRefIdeal.nD Cert.AdamDRefIdeal.τ).loc Cert.AdamDRefIdeal.main_arg2)
      ∧ r.2.mem ((c.tc : Thread Cert.AdamDRefIdeal.nD Cert.AdamDRefIdeal.τ).loc Cert.AdamDRefIdeal.main_arg3) = m ((c.tc : Thread Cert.AdamDRefIdeal.nD Cert.AdamDRefIdeal.τ).loc Cert.AdamDRefIdeal.main_arg3)
      ∧ r.2.mem ((c.tc : Thread Cert.AdamDRefIdeal.nD Cert.AdamDRefIdeal.τ).loc Cert.AdamDRefIdeal.main_arg4) = m ((c.tc : Thread Cert.AdamDRefIdeal.nD Cert.AdamDRefIdeal.τ).loc Cert.AdamDRefIdeal.main_arg4)
      ∧ r.2.mem ((c.tc : Thread Cert.AdamDRefIdeal.nD Cert.AdamDRefIdeal.τ).loc Cert.AdamDRefIdeal.main_arg5) = m ((c.tc : Thread Cert.AdamDRefIdeal.nD Cert.AdamDRefIdeal.τ).loc Cert.AdamDRefIdeal.main_arg5)
      ∧ r.2.mem ((c.tc : Thread Cert.AdamDRefIdeal.nD Cert.AdamDRefIdeal.τ).loc Cert.AdamDRefIdeal.main_arg6) = m ((c.tc : Thread Cert.AdamDRefIdeal.nD Cert.AdamDRefIdeal.τ).loc Cert.AdamDRefIdeal.main_arg6)
      ∧ r.2.mem ((c.tc : Thread Cert.AdamDRefIdeal.nD Cert.AdamDRefIdeal.τ).loc Cert.AdamDRefIdeal.main_arg7) = m ((c.tc : Thread Cert.AdamDRefIdeal.nD Cert.AdamDRefIdeal.τ).loc Cert.AdamDRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v94_0)) (v1 : (c : Dev Cert.KernelIdeal.nD) → Buf (Elt Ideal) ((c.tc : Thread Cert.KernelIdeal.nD Cert.KernelIdeal.τ).loc Cert.KernelIdeal.main_v94_1)) (v2 : (c : Dev Cert.KernelIdeal.nD) → Buf (Elt Ideal) ((c.tc : Thread Cert.KernelIdeal.nD Cert.KernelIdeal.τ).loc Cert.KernelIdeal.main_v94_2)) (v3 : (c : Dev Cert.KernelIdeal.nD) → Buf (Elt Ideal) ((c.tc : Thread Cert.KernelIdeal.nD Cert.KernelIdeal.τ).loc Cert.KernelIdeal.main_v94_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94_0) = v0 c
          ∧ r.2.mem ((c.tc : Thread Cert.KernelIdeal.nD Cert.KernelIdeal.τ).loc Cert.KernelIdeal.main_v94_1) = v1 c
          ∧ r.2.mem ((c.tc : Thread Cert.KernelIdeal.nD Cert.KernelIdeal.τ).loc Cert.KernelIdeal.main_v94_2) = v2 c
          ∧ r.2.mem ((c.tc : Thread Cert.KernelIdeal.nD Cert.KernelIdeal.τ).loc Cert.KernelIdeal.main_v94_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_v167) = v2 c
          ∧ r.2.mem ((c.tc : Thread Cert.ReferenceIdeal.nD Cert.ReferenceIdeal.τ).loc Cert.ReferenceIdeal.main_v146) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v17) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2))

def preserves_W2_W2Ideal : Prop :=
  True

def algebraic_W2Ideal_W2RefIdeal [hW2Ideal : Cert.W2Ideal.Facts] [hW2RefIdeal : Cert.W2RefIdeal.Facts] : Prop :=
  ∀ (m : (ℓ : Loc Cert.W2Ideal.nD Cert.W2Ideal.τ Cert.W2Ideal.sig) → Buf (Elt Ideal) ℓ) (g : Dev Cert.W2Ideal.nD → PrngReg)
    (m' : (ℓ : Loc Cert.W2RefIdeal.nD Cert.W2RefIdeal.τ Cert.W2RefIdeal.sig) → Buf (Elt Ideal) ℓ) (g' : Dev Cert.W2RefIdeal.nD → PrngReg), Pre_W2Ideal m →
    (∀ c : Dev Cert.W2Ideal.nD,
      m' ((c.tc : Thread Cert.W2RefIdeal.nD Cert.W2RefIdeal.τ).loc Cert.W2RefIdeal.main_arg0) = m ((c.tc : Thread Cert.W2Ideal.nD Cert.W2Ideal.τ).loc Cert.W2Ideal.main_arg0)
      ∧ m' ((c.tc : Thread Cert.W2RefIdeal.nD Cert.W2RefIdeal.τ).loc Cert.W2RefIdeal.main_arg1) = m ((c.tc : Thread Cert.W2Ideal.nD Cert.W2Ideal.τ).loc Cert.W2Ideal.main_arg1)) →
    ∃ (v0 : (c : Dev Cert.W2Ideal.nD) → Buf (Elt Ideal) ((c.tc : Thread Cert.W2Ideal.nD Cert.W2Ideal.τ).loc Cert.W2Ideal.main_v0)),
      θ_run (Cert.W2Ideal.defs (F := Ideal)) (onTc (τ := Cert.W2Ideal.τ) (Cert.W2Ideal.main (F := Ideal))) ⟨m, fun _ => 0, g⟩ (fun r => ∀ c : Dev Cert.W2Ideal.nD,
          r.2.mem ((c.tc : Thread Cert.W2Ideal.nD Cert.W2Ideal.τ).loc Cert.W2Ideal.main_v0) = v0 c
          ∧ r.2.mem ((c.tc : Thread Cert.W2Ideal.nD Cert.W2Ideal.τ).loc Cert.W2Ideal.main_arg0) = m ((c.tc : Thread Cert.W2Ideal.nD Cert.W2Ideal.τ).loc Cert.W2Ideal.main_arg0)
          ∧ r.2.mem ((c.tc : Thread Cert.W2Ideal.nD Cert.W2Ideal.τ).loc Cert.W2Ideal.main_arg1) = m ((c.tc : Thread Cert.W2Ideal.nD Cert.W2Ideal.τ).loc Cert.W2Ideal.main_arg1))
      ∧ θ_run (Cert.W2RefIdeal.defs (F := Ideal)) (onTc (τ := Cert.W2RefIdeal.τ) (Cert.W2RefIdeal.main (F := Ideal))) ⟨m', fun _ => 0, g'⟩ (fun r => ∀ c : Dev Cert.W2RefIdeal.nD,
          r.2.mem ((c.tc : Thread Cert.W2RefIdeal.nD Cert.W2RefIdeal.τ).loc Cert.W2RefIdeal.main_v6) = v0 c
          ∧ r.2.mem ((c.tc : Thread Cert.W2RefIdeal.nD Cert.W2RefIdeal.τ).loc Cert.W2RefIdeal.main_arg0) = m' ((c.tc : Thread Cert.W2RefIdeal.nD Cert.W2RefIdeal.τ).loc Cert.W2RefIdeal.main_arg0)
          ∧ r.2.mem ((c.tc : Thread Cert.W2RefIdeal.nD Cert.W2RefIdeal.τ).loc Cert.W2RefIdeal.main_arg1) = m' ((c.tc : Thread Cert.W2RefIdeal.nD Cert.W2RefIdeal.τ).loc Cert.W2RefIdeal.main_arg1))

def preserves_W1_W1Ideal : Prop :=
  True

def algebraic_W1Ideal_W1RefIdeal [hW1Ideal : Cert.W1Ideal.Facts] [hW1RefIdeal : Cert.W1RefIdeal.Facts] : Prop :=
  ∀ (m : (ℓ : Loc Cert.W1Ideal.nD Cert.W1Ideal.τ Cert.W1Ideal.sig) → Buf (Elt Ideal) ℓ) (g : Dev Cert.W1Ideal.nD → PrngReg)
    (m' : (ℓ : Loc Cert.W1RefIdeal.nD Cert.W1RefIdeal.τ Cert.W1RefIdeal.sig) → Buf (Elt Ideal) ℓ) (g' : Dev Cert.W1RefIdeal.nD → PrngReg), Pre_W1Ideal m →
    (∀ c : Dev Cert.W1Ideal.nD,
      m' ((c.tc : Thread Cert.W1RefIdeal.nD Cert.W1RefIdeal.τ).loc Cert.W1RefIdeal.main_arg0) = m ((c.tc : Thread Cert.W1Ideal.nD Cert.W1Ideal.τ).loc Cert.W1Ideal.main_arg0)
      ∧ m' ((c.tc : Thread Cert.W1RefIdeal.nD Cert.W1RefIdeal.τ).loc Cert.W1RefIdeal.main_arg1) = m ((c.tc : Thread Cert.W1Ideal.nD Cert.W1Ideal.τ).loc Cert.W1Ideal.main_arg1)) →
    ∃ (v0 : (c : Dev Cert.W1Ideal.nD) → Buf (Elt Ideal) ((c.tc : Thread Cert.W1Ideal.nD Cert.W1Ideal.τ).loc Cert.W1Ideal.main_v0)),
      θ_run (Cert.W1Ideal.defs (F := Ideal)) (onTc (τ := Cert.W1Ideal.τ) (Cert.W1Ideal.main (F := Ideal))) ⟨m, fun _ => 0, g⟩ (fun r => ∀ c : Dev Cert.W1Ideal.nD,
          r.2.mem ((c.tc : Thread Cert.W1Ideal.nD Cert.W1Ideal.τ).loc Cert.W1Ideal.main_v0) = v0 c
          ∧ r.2.mem ((c.tc : Thread Cert.W1Ideal.nD Cert.W1Ideal.τ).loc Cert.W1Ideal.main_arg0) = m ((c.tc : Thread Cert.W1Ideal.nD Cert.W1Ideal.τ).loc Cert.W1Ideal.main_arg0)
          ∧ r.2.mem ((c.tc : Thread Cert.W1Ideal.nD Cert.W1Ideal.τ).loc Cert.W1Ideal.main_arg1) = m ((c.tc : Thread Cert.W1Ideal.nD Cert.W1Ideal.τ).loc Cert.W1Ideal.main_arg1))
      ∧ θ_run (Cert.W1RefIdeal.defs (F := Ideal)) (onTc (τ := Cert.W1RefIdeal.τ) (Cert.W1RefIdeal.main (F := Ideal))) ⟨m', fun _ => 0, g'⟩ (fun r => ∀ c : Dev Cert.W1RefIdeal.nD,
          r.2.mem ((c.tc : Thread Cert.W1RefIdeal.nD Cert.W1RefIdeal.τ).loc Cert.W1RefIdeal.main_v7) = v0 c
          ∧ r.2.mem ((c.tc : Thread Cert.W1RefIdeal.nD Cert.W1RefIdeal.τ).loc Cert.W1RefIdeal.main_arg0) = m' ((c.tc : Thread Cert.W1RefIdeal.nD Cert.W1RefIdeal.τ).loc Cert.W1RefIdeal.main_arg0)
          ∧ r.2.mem ((c.tc : Thread Cert.W1RefIdeal.nD Cert.W1RefIdeal.τ).loc Cert.W1RefIdeal.main_arg1) = m' ((c.tc : Thread Cert.W1RefIdeal.nD Cert.W1RefIdeal.τ).loc Cert.W1RefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_OutB_OutBIdeal : Prop :=
  True

def algebraic_OutBIdeal_OutBRefIdeal [hOutBIdeal : Cert.OutBIdeal.Facts] [hOutBRefIdeal : Cert.OutBRefIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBRefIdeal.nD Cert.OutBRefIdeal.τ Cert.OutBRefIdeal.sig) → Buf (Elt Ideal) ℓ) (g' : Dev Cert.OutBRefIdeal.nD → PrngReg), Pre_OutBIdeal m →
    (∀ c : Dev Cert.OutBIdeal.nD,
      m' ((c.tc : Thread Cert.OutBRefIdeal.nD Cert.OutBRefIdeal.τ).loc Cert.OutBRefIdeal.main_arg0) = m ((c.tc : Thread Cert.OutBIdeal.nD Cert.OutBIdeal.τ).loc Cert.OutBIdeal.main_arg0)
      ∧ m' ((c.tc : Thread Cert.OutBRefIdeal.nD Cert.OutBRefIdeal.τ).loc Cert.OutBRefIdeal.main_arg1) = m ((c.tc : Thread Cert.OutBIdeal.nD Cert.OutBIdeal.τ).loc Cert.OutBIdeal.main_arg1)) →
    ∃ (v0 : (c : Dev Cert.OutBIdeal.nD) → Buf (Elt Ideal) ((c.tc : Thread Cert.OutBIdeal.nD Cert.OutBIdeal.τ).loc Cert.OutBIdeal.main_v0)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v0) = v0 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1))
      ∧ θ_run (Cert.OutBRefIdeal.defs (F := Ideal)) (onTc (τ := Cert.OutBRefIdeal.τ) (Cert.OutBRefIdeal.main (F := Ideal))) ⟨m', fun _ => 0, g'⟩ (fun r => ∀ c : Dev Cert.OutBRefIdeal.nD,
          r.2.mem ((c.tc : Thread Cert.OutBRefIdeal.nD Cert.OutBRefIdeal.τ).loc Cert.OutBRefIdeal.main_v4) = v0 c
          ∧ r.2.mem ((c.tc : Thread Cert.OutBRefIdeal.nD Cert.OutBRefIdeal.τ).loc Cert.OutBRefIdeal.main_arg0) = m' ((c.tc : Thread Cert.OutBRefIdeal.nD Cert.OutBRefIdeal.τ).loc Cert.OutBRefIdeal.main_arg0)
          ∧ r.2.mem ((c.tc : Thread Cert.OutBRefIdeal.nD Cert.OutBRefIdeal.τ).loc Cert.OutBRefIdeal.main_arg1) = m' ((c.tc : Thread Cert.OutBRefIdeal.nD Cert.OutBRefIdeal.τ).loc Cert.OutBRefIdeal.main_arg1))

def preserves_OutG_OutGIdeal : Prop :=
  True

def algebraic_OutGIdeal_OutGRefIdeal [hOutGIdeal : Cert.OutGIdeal.Facts] [hOutGRefIdeal : Cert.OutGRefIdeal.Facts] : Prop :=
  ∀ (m : (ℓ : Loc Cert.OutGIdeal.nD Cert.OutGIdeal.τ Cert.OutGIdeal.sig) → Buf (Elt Ideal) ℓ) (g : Dev Cert.OutGIdeal.nD → PrngReg)
    (m' : (ℓ : Loc Cert.OutGRefIdeal.nD Cert.OutGRefIdeal.τ Cert.OutGRefIdeal.sig) → Buf (Elt Ideal) ℓ) (g' : Dev Cert.OutGRefIdeal.nD → PrngReg), Pre_OutGIdeal m →
    (∀ c : Dev Cert.OutGIdeal.nD,
      m' ((c.tc : Thread Cert.OutGRefIdeal.nD Cert.OutGRefIdeal.τ).loc Cert.OutGRefIdeal.main_arg0) = m ((c.tc : Thread Cert.OutGIdeal.nD Cert.OutGIdeal.τ).loc Cert.OutGIdeal.main_arg0)
      ∧ m' ((c.tc : Thread Cert.OutGRefIdeal.nD Cert.OutGRefIdeal.τ).loc Cert.OutGRefIdeal.main_arg1) = m ((c.tc : Thread Cert.OutGIdeal.nD Cert.OutGIdeal.τ).loc Cert.OutGIdeal.main_arg1)) →
    ∃ (v0 : (c : Dev Cert.OutGIdeal.nD) → Buf (Elt Ideal) ((c.tc : Thread Cert.OutGIdeal.nD Cert.OutGIdeal.τ).loc Cert.OutGIdeal.main_v0)),
      θ_run (Cert.OutGIdeal.defs (F := Ideal)) (onTc (τ := Cert.OutGIdeal.τ) (Cert.OutGIdeal.main (F := Ideal))) ⟨m, fun _ => 0, g⟩ (fun r => ∀ c : Dev Cert.OutGIdeal.nD,
          r.2.mem ((c.tc : Thread Cert.OutGIdeal.nD Cert.OutGIdeal.τ).loc Cert.OutGIdeal.main_v0) = v0 c
          ∧ r.2.mem ((c.tc : Thread Cert.OutGIdeal.nD Cert.OutGIdeal.τ).loc Cert.OutGIdeal.main_arg0) = m ((c.tc : Thread Cert.OutGIdeal.nD Cert.OutGIdeal.τ).loc Cert.OutGIdeal.main_arg0)
          ∧ r.2.mem ((c.tc : Thread Cert.OutGIdeal.nD Cert.OutGIdeal.τ).loc Cert.OutGIdeal.main_arg1) = m ((c.tc : Thread Cert.OutGIdeal.nD Cert.OutGIdeal.τ).loc Cert.OutGIdeal.main_arg1))
      ∧ θ_run (Cert.OutGRefIdeal.defs (F := Ideal)) (onTc (τ := Cert.OutGRefIdeal.τ) (Cert.OutGRefIdeal.main (F := Ideal))) ⟨m', fun _ => 0, g'⟩ (fun r => ∀ c : Dev Cert.OutGRefIdeal.nD,
          r.2.mem ((c.tc : Thread Cert.OutGRefIdeal.nD Cert.OutGRefIdeal.τ).loc Cert.OutGRefIdeal.main_v4) = v0 c
          ∧ r.2.mem ((c.tc : Thread Cert.OutGRefIdeal.nD Cert.OutGRefIdeal.τ).loc Cert.OutGRefIdeal.main_arg0) = m' ((c.tc : Thread Cert.OutGRefIdeal.nD Cert.OutGRefIdeal.τ).loc Cert.OutGRefIdeal.main_arg0)
          ∧ r.2.mem ((c.tc : Thread Cert.OutGRefIdeal.nD Cert.OutGRefIdeal.τ).loc Cert.OutGRefIdeal.main_arg1) = m' ((c.tc : Thread Cert.OutGRefIdeal.nD Cert.OutGRefIdeal.τ).loc Cert.OutGRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v3) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v3) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_UpB_UpBIdeal : Prop :=
  True

def algebraic_UpBIdeal_UpBRefIdeal [hUpBIdeal : Cert.UpBIdeal.Facts] [hUpBRefIdeal : Cert.UpBRefIdeal.Facts] : Prop :=
  ∀ (m : (ℓ : Loc Cert.UpBIdeal.nD Cert.UpBIdeal.τ Cert.UpBIdeal.sig) → Buf (Elt Ideal) ℓ) (g : Dev Cert.UpBIdeal.nD → PrngReg)
    (m' : (ℓ : Loc Cert.UpBRefIdeal.nD Cert.UpBRefIdeal.τ Cert.UpBRefIdeal.sig) → Buf (Elt Ideal) ℓ) (g' : Dev Cert.UpBRefIdeal.nD → PrngReg), Pre_UpBIdeal m →
    (∀ c : Dev Cert.UpBIdeal.nD,
      m' ((c.tc : Thread Cert.UpBRefIdeal.nD Cert.UpBRefIdeal.τ).loc Cert.UpBRefIdeal.main_arg0) = m ((c.tc : Thread Cert.UpBIdeal.nD Cert.UpBIdeal.τ).loc Cert.UpBIdeal.main_arg0)
      ∧ m' ((c.tc : Thread Cert.UpBRefIdeal.nD Cert.UpBRefIdeal.τ).loc Cert.UpBRefIdeal.main_arg1) = m ((c.tc : Thread Cert.UpBIdeal.nD Cert.UpBIdeal.τ).loc Cert.UpBIdeal.main_arg1)) →
    ∃ (v0 : (c : Dev Cert.UpBIdeal.nD) → Buf (Elt Ideal) ((c.tc : Thread Cert.UpBIdeal.nD Cert.UpBIdeal.τ).loc Cert.UpBIdeal.main_v0)),
      θ_run (Cert.UpBIdeal.defs (F := Ideal)) (onTc (τ := Cert.UpBIdeal.τ) (Cert.UpBIdeal.main (F := Ideal))) ⟨m, fun _ => 0, g⟩ (fun r => ∀ c : Dev Cert.UpBIdeal.nD,
          r.2.mem ((c.tc : Thread Cert.UpBIdeal.nD Cert.UpBIdeal.τ).loc Cert.UpBIdeal.main_v0) = v0 c
          ∧ r.2.mem ((c.tc : Thread Cert.UpBIdeal.nD Cert.UpBIdeal.τ).loc Cert.UpBIdeal.main_arg0) = m ((c.tc : Thread Cert.UpBIdeal.nD Cert.UpBIdeal.τ).loc Cert.UpBIdeal.main_arg0)
          ∧ r.2.mem ((c.tc : Thread Cert.UpBIdeal.nD Cert.UpBIdeal.τ).loc Cert.UpBIdeal.main_arg1) = m ((c.tc : Thread Cert.UpBIdeal.nD Cert.UpBIdeal.τ).loc Cert.UpBIdeal.main_arg1))
      ∧ θ_run (Cert.UpBRefIdeal.defs (F := Ideal)) (onTc (τ := Cert.UpBRefIdeal.τ) (Cert.UpBRefIdeal.main (F := Ideal))) ⟨m', fun _ => 0, g'⟩ (fun r => ∀ c : Dev Cert.UpBRefIdeal.nD,
          r.2.mem ((c.tc : Thread Cert.UpBRefIdeal.nD Cert.UpBRefIdeal.τ).loc Cert.UpBRefIdeal.main_v5) = v0 c
          ∧ r.2.mem ((c.tc : Thread Cert.UpBRefIdeal.nD Cert.UpBRefIdeal.τ).loc Cert.UpBRefIdeal.main_arg0) = m' ((c.tc : Thread Cert.UpBRefIdeal.nD Cert.UpBRefIdeal.τ).loc Cert.UpBRefIdeal.main_arg0)
          ∧ r.2.mem ((c.tc : Thread Cert.UpBRefIdeal.nD Cert.UpBRefIdeal.τ).loc Cert.UpBRefIdeal.main_arg1) = m' ((c.tc : Thread Cert.UpBRefIdeal.nD Cert.UpBRefIdeal.τ).loc Cert.UpBRefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v0)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v5) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_QkvB_QkvBIdeal : Prop :=
  True

def algebraic_QkvBIdeal_QkvBRefIdeal [hQkvBIdeal : Cert.QkvBIdeal.Facts] [hQkvBRefIdeal : Cert.QkvBRefIdeal.Facts] : Prop :=
  ∀ (m : (ℓ : Loc Cert.QkvBIdeal.nD Cert.QkvBIdeal.τ Cert.QkvBIdeal.sig) → Buf (Elt Ideal) ℓ) (g : Dev Cert.QkvBIdeal.nD → PrngReg)
    (m' : (ℓ : Loc Cert.QkvBRefIdeal.nD Cert.QkvBRefIdeal.τ Cert.QkvBRefIdeal.sig) → Buf (Elt Ideal) ℓ) (g' : Dev Cert.QkvBRefIdeal.nD → PrngReg), Pre_QkvBIdeal m →
    (∀ c : Dev Cert.QkvBIdeal.nD,
      m' ((c.tc : Thread Cert.QkvBRefIdeal.nD Cert.QkvBRefIdeal.τ).loc Cert.QkvBRefIdeal.main_arg0) = m ((c.tc : Thread Cert.QkvBIdeal.nD Cert.QkvBIdeal.τ).loc Cert.QkvBIdeal.main_arg0)
      ∧ m' ((c.tc : Thread Cert.QkvBRefIdeal.nD Cert.QkvBRefIdeal.τ).loc Cert.QkvBRefIdeal.main_arg1) = m ((c.tc : Thread Cert.QkvBIdeal.nD Cert.QkvBIdeal.τ).loc Cert.QkvBIdeal.main_arg1)) →
    ∃ (v0 : (c : Dev Cert.QkvBIdeal.nD) → Buf (Elt Ideal) ((c.tc : Thread Cert.QkvBIdeal.nD Cert.QkvBIdeal.τ).loc Cert.QkvBIdeal.main_v0)),
      θ_run (Cert.QkvBIdeal.defs (F := Ideal)) (onTc (τ := Cert.QkvBIdeal.τ) (Cert.QkvBIdeal.main (F := Ideal))) ⟨m, fun _ => 0, g⟩ (fun r => ∀ c : Dev Cert.QkvBIdeal.nD,
          r.2.mem ((c.tc : Thread Cert.QkvBIdeal.nD Cert.QkvBIdeal.τ).loc Cert.QkvBIdeal.main_v0) = v0 c
          ∧ r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
          ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ θ_run (Cert.QkvBRefIdeal.defs (F := Ideal)) (onTc (τ := Cert.QkvBRefIdeal.τ) (Cert.QkvBRefIdeal.main (F := Ideal))) ⟨m', fun _ => 0, g'⟩ (fun r => ∀ c : Dev Cert.QkvBRefIdeal.nD,
          r.2.mem ((c.tc : Thread Cert.QkvBRefIdeal.nD Cert.QkvBRefIdeal.τ).loc Cert.QkvBRefIdeal.main_v5) = v0 c
          ∧ r.2.mem ((c.tc : Thread Cert.QkvBRefIdeal.nD Cert.QkvBRefIdeal.τ).loc Cert.QkvBRefIdeal.main_arg0) = m' ((c.tc : Thread Cert.QkvBRefIdeal.nD Cert.QkvBRefIdeal.τ).loc Cert.QkvBRefIdeal.main_arg0)
          ∧ r.2.mem ((c.tc : Thread Cert.QkvBRefIdeal.nD Cert.QkvBRefIdeal.τ).loc Cert.QkvBRefIdeal.main_arg1) = m' ((c.tc : Thread Cert.QkvBRefIdeal.nD Cert.QkvBRefIdeal.τ).loc Cert.QkvBRefIdeal.main_arg1))

def preserves_InG_InGIdeal : Prop :=
  True

def algebraic_InGIdeal_InGRefIdeal [hInGIdeal : Cert.InGIdeal.Facts] [hInGRefIdeal : Cert.InGRefIdeal.Facts] : Prop :=
  ∀ (m : (ℓ : Loc Cert.InGIdeal.nD Cert.InGIdeal.τ Cert.InGIdeal.sig) → Buf (Elt Ideal) ℓ) (g : Dev Cert.InGIdeal.nD → PrngReg)
    (m' : (ℓ : Loc Cert.InGRefIdeal.nD Cert.InGRefIdeal.τ Cert.InGRefIdeal.sig) → Buf (Elt Ideal) ℓ) (g' : Dev Cert.InGRefIdeal.nD → PrngReg), Pre_InGIdeal m →
    (∀ c : Dev Cert.InGIdeal.nD,
      m' ((c.tc : Thread Cert.InGRefIdeal.nD Cert.InGRefIdeal.τ).loc Cert.InGRefIdeal.main_arg0) = m ((c.tc : Thread Cert.InGIdeal.nD Cert.InGIdeal.τ).loc Cert.InGIdeal.main_arg0)
      ∧ m' ((c.tc : Thread Cert.InGRefIdeal.nD Cert.InGRefIdeal.τ).loc Cert.InGRefIdeal.main_arg1) = m ((c.tc : Thread Cert.InGIdeal.nD Cert.InGIdeal.τ).loc Cert.InGIdeal.main_arg1)) →
    ∃ (v0 : (c : Dev Cert.InGIdeal.nD) → Buf (Elt Ideal) ((c.tc : Thread Cert.InGIdeal.nD Cert.InGIdeal.τ).loc Cert.InGIdeal.main_v0)),
      θ_run (Cert.InGIdeal.defs (F := Ideal)) (onTc (τ := Cert.InGIdeal.τ) (Cert.InGIdeal.main (F := Ideal))) ⟨m, fun _ => 0, g⟩ (fun r => ∀ c : Dev Cert.InGIdeal.nD,
          r.2.mem ((c.tc : Thread Cert.InGIdeal.nD Cert.InGIdeal.τ).loc Cert.InGIdeal.main_v0) = v0 c
          ∧ r.2.mem ((c.tc : Thread Cert.InGIdeal.nD Cert.InGIdeal.τ).loc Cert.InGIdeal.main_arg0) = m ((c.tc : Thread Cert.InGIdeal.nD Cert.InGIdeal.τ).loc Cert.InGIdeal.main_arg0)
          ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ θ_run (Cert.InGRefIdeal.defs (F := Ideal)) (onTc (τ := Cert.InGRefIdeal.τ) (Cert.InGRefIdeal.main (F := Ideal))) ⟨m', fun _ => 0, g'⟩ (fun r => ∀ c : Dev Cert.InGRefIdeal.nD,
          r.2.mem ((c.tc : Thread Cert.InGRefIdeal.nD Cert.InGRefIdeal.τ).loc Cert.InGRefIdeal.main_v7) = v0 c
          ∧ r.2.mem ((c.tc : Thread Cert.InGRefIdeal.nD Cert.InGRefIdeal.τ).loc Cert.InGRefIdeal.main_arg0) = m' ((c.tc : Thread Cert.InGRefIdeal.nD Cert.InGRefIdeal.τ).loc Cert.InGRefIdeal.main_arg0)
          ∧ r.2.mem ((c.tc : Thread Cert.InGRefIdeal.nD Cert.InGRefIdeal.τ).loc Cert.InGRefIdeal.main_arg1) = m' ((c.tc : Thread Cert.InGRefIdeal.nD Cert.InGRefIdeal.τ).loc Cert.InGRefIdeal.main_arg1))

def preserves_QkvG_QkvGIdeal : Prop :=
  True

def algebraic_QkvGIdeal_QkvGRefIdeal [hQkvGIdeal : Cert.QkvGIdeal.Facts] [hQkvGRefIdeal : Cert.QkvGRefIdeal.Facts] : Prop :=
  ∀ (m : (ℓ : Loc Cert.QkvGIdeal.nD Cert.QkvGIdeal.τ Cert.QkvGIdeal.sig) → Buf (Elt Ideal) ℓ) (g : Dev Cert.QkvGIdeal.nD → PrngReg)
    (m' : (ℓ : Loc Cert.QkvGRefIdeal.nD Cert.QkvGRefIdeal.τ Cert.QkvGRefIdeal.sig) → Buf (Elt Ideal) ℓ) (g' : Dev Cert.QkvGRefIdeal.nD → PrngReg), Pre_QkvGIdeal m →
    (∀ c : Dev Cert.QkvGIdeal.nD,
      m' ((c.tc : Thread Cert.QkvGRefIdeal.nD Cert.QkvGRefIdeal.τ).loc Cert.QkvGRefIdeal.main_arg0) = m ((c.tc : Thread Cert.QkvGIdeal.nD Cert.QkvGIdeal.τ).loc Cert.QkvGIdeal.main_arg0)
      ∧ m' ((c.tc : Thread Cert.QkvGRefIdeal.nD Cert.QkvGRefIdeal.τ).loc Cert.QkvGRefIdeal.main_arg1) = m ((c.tc : Thread Cert.QkvGIdeal.nD Cert.QkvGIdeal.τ).loc Cert.QkvGIdeal.main_arg1)) →
    ∃ (v0 : (c : Dev Cert.QkvGIdeal.nD) → Buf (Elt Ideal) ((c.tc : Thread Cert.QkvGIdeal.nD Cert.QkvGIdeal.τ).loc Cert.QkvGIdeal.main_v0)),
      θ_run (Cert.QkvGIdeal.defs (F := Ideal)) (onTc (τ := Cert.QkvGIdeal.τ) (Cert.QkvGIdeal.main (F := Ideal))) ⟨m, fun _ => 0, g⟩ (fun r => ∀ c : Dev Cert.QkvGIdeal.nD,
          r.2.mem ((c.tc : Thread Cert.QkvGIdeal.nD Cert.QkvGIdeal.τ).loc Cert.QkvGIdeal.main_v0) = v0 c
          ∧ r.2.mem ((c.tc : Thread Cert.QkvGIdeal.nD Cert.QkvGIdeal.τ).loc Cert.QkvGIdeal.main_arg0) = m ((c.tc : Thread Cert.QkvGIdeal.nD Cert.QkvGIdeal.τ).loc Cert.QkvGIdeal.main_arg0)
          ∧ r.2.mem ((c.tc : Thread Cert.QkvGIdeal.nD Cert.QkvGIdeal.τ).loc Cert.QkvGIdeal.main_arg1) = m ((c.tc : Thread Cert.QkvGIdeal.nD Cert.QkvGIdeal.τ).loc Cert.QkvGIdeal.main_arg1))
      ∧ θ_run (Cert.QkvGRefIdeal.defs (F := Ideal)) (onTc (τ := Cert.QkvGRefIdeal.τ) (Cert.QkvGRefIdeal.main (F := Ideal))) ⟨m', fun _ => 0, g'⟩ (fun r => ∀ c : Dev Cert.QkvGRefIdeal.nD,
          r.2.mem ((c.tc : Thread Cert.QkvGRefIdeal.nD Cert.QkvGRefIdeal.τ).loc Cert.QkvGRefIdeal.main_v7) = v0 c
          ∧ r.2.mem ((c.tc : Thread Cert.QkvGRefIdeal.nD Cert.QkvGRefIdeal.τ).loc Cert.QkvGRefIdeal.main_arg0) = m' ((c.tc : Thread Cert.QkvGRefIdeal.nD Cert.QkvGRefIdeal.τ).loc Cert.QkvGRefIdeal.main_arg0)
          ∧ r.2.mem ((c.tc : Thread Cert.QkvGRefIdeal.nD Cert.QkvGRefIdeal.τ).loc Cert.QkvGRefIdeal.main_arg1) = m' ((c.tc : Thread Cert.QkvGRefIdeal.nD Cert.QkvGRefIdeal.τ).loc Cert.QkvGRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v22) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_GluZ_GluZIdeal : Prop :=
  True

def algebraic_GluZIdeal_GluZRefIdeal [hGluZIdeal : Cert.GluZIdeal.Facts] [hGluZRefIdeal : Cert.GluZRefIdeal.Facts] : Prop :=
  ∀ (m : (ℓ : Loc Cert.GluZIdeal.nD Cert.GluZIdeal.τ Cert.GluZIdeal.sig) → Buf (Elt Ideal) ℓ) (g : Dev Cert.GluZIdeal.nD → PrngReg)
    (m' : (ℓ : Loc Cert.GluZRefIdeal.nD Cert.GluZRefIdeal.τ Cert.GluZRefIdeal.sig) → Buf (Elt Ideal) ℓ) (g' : Dev Cert.GluZRefIdeal.nD → PrngReg), Pre_GluZIdeal m →
    (∀ c : Dev Cert.GluZIdeal.nD,
      m' ((c.tc : Thread Cert.GluZRefIdeal.nD Cert.GluZRefIdeal.τ).loc Cert.GluZRefIdeal.main_arg0) = m ((c.tc : Thread Cert.GluZIdeal.nD Cert.GluZIdeal.τ).loc Cert.GluZIdeal.main_arg0)
      ∧ m' ((c.tc : Thread Cert.GluZRefIdeal.nD Cert.GluZRefIdeal.τ).loc Cert.GluZRefIdeal.main_arg1) = m ((c.tc : Thread Cert.GluZIdeal.nD Cert.GluZIdeal.τ).loc Cert.GluZIdeal.main_arg1)
      ∧ m' ((c.tc : Thread Cert.GluZRefIdeal.nD Cert.GluZRefIdeal.τ).loc Cert.GluZRefIdeal.main_arg2) = m ((c.tc : Thread Cert.GluZIdeal.nD Cert.GluZIdeal.τ).loc Cert.GluZIdeal.main_arg2)) →
    ∃ (v0 : (c : Dev Cert.GluZIdeal.nD) → Buf (Elt Ideal) ((c.tc : Thread Cert.GluZIdeal.nD Cert.GluZIdeal.τ).loc Cert.GluZIdeal.main_v0_0)) (v1 : (c : Dev Cert.GluZIdeal.nD) → Buf (Elt Ideal) ((c.tc : Thread Cert.GluZIdeal.nD Cert.GluZIdeal.τ).loc Cert.GluZIdeal.main_v0_1)),
      θ_run (Cert.GluZIdeal.defs (F := Ideal)) (onTc (τ := Cert.GluZIdeal.τ) (Cert.GluZIdeal.main (F := Ideal))) ⟨m, fun _ => 0, g⟩ (fun r => ∀ c : Dev Cert.GluZIdeal.nD,
          r.2.mem ((c.tc : Thread Cert.GluZIdeal.nD Cert.GluZIdeal.τ).loc Cert.GluZIdeal.main_v0_0) = v0 c
          ∧ r.2.mem ((c.tc : Thread Cert.GluZIdeal.nD Cert.GluZIdeal.τ).loc Cert.GluZIdeal.main_v0_1) = v1 c
          ∧ r.2.mem ((c.tc : Thread Cert.GluZIdeal.nD Cert.GluZIdeal.τ).loc Cert.GluZIdeal.main_arg0) = m ((c.tc : Thread Cert.GluZIdeal.nD Cert.GluZIdeal.τ).loc Cert.GluZIdeal.main_arg0)
          ∧ r.2.mem ((c.tc : Thread Cert.GluZIdeal.nD Cert.GluZIdeal.τ).loc Cert.GluZIdeal.main_arg1) = m ((c.tc : Thread Cert.GluZIdeal.nD Cert.GluZIdeal.τ).loc Cert.GluZIdeal.main_arg1)
          ∧ r.2.mem ((c.tc : Thread Cert.GluZIdeal.nD Cert.GluZIdeal.τ).loc Cert.GluZIdeal.main_arg2) = m ((c.tc : Thread Cert.GluZIdeal.nD Cert.GluZIdeal.τ).loc Cert.GluZIdeal.main_arg2))
      ∧ θ_run (Cert.GluZRefIdeal.defs (F := Ideal)) (onTc (τ := Cert.GluZRefIdeal.τ) (Cert.GluZRefIdeal.main (F := Ideal))) ⟨m', fun _ => 0, g'⟩ (fun r => ∀ c : Dev Cert.GluZRefIdeal.nD,
          r.2.mem ((c.tc : Thread Cert.GluZRefIdeal.nD Cert.GluZRefIdeal.τ).loc Cert.GluZRefIdeal.main_v30) = v0 c
          ∧ r.2.mem ((c.tc : Thread Cert.GluZRefIdeal.nD Cert.GluZRefIdeal.τ).loc Cert.GluZRefIdeal.main_v28) = v1 c
          ∧ r.2.mem ((c.tc : Thread Cert.GluZRefIdeal.nD Cert.GluZRefIdeal.τ).loc Cert.GluZRefIdeal.main_arg0) = m' ((c.tc : Thread Cert.GluZRefIdeal.nD Cert.GluZRefIdeal.τ).loc Cert.GluZRefIdeal.main_arg0)
          ∧ r.2.mem ((c.tc : Thread Cert.GluZRefIdeal.nD Cert.GluZRefIdeal.τ).loc Cert.GluZRefIdeal.main_arg1) = m' ((c.tc : Thread Cert.GluZRefIdeal.nD Cert.GluZRefIdeal.τ).loc Cert.GluZRefIdeal.main_arg1)
          ∧ r.2.mem ((c.tc : Thread Cert.GluZRefIdeal.nD Cert.GluZRefIdeal.τ).loc Cert.GluZRefIdeal.main_arg2) = m' ((c.tc : Thread Cert.GluZRefIdeal.nD Cert.GluZRefIdeal.τ).loc Cert.GluZRefIdeal.main_arg2))

def preserves_GluG_GluGIdeal : Prop :=
  True

def algebraic_GluGIdeal_GluGRefIdeal [hGluGIdeal : Cert.GluGIdeal.Facts] [hGluGRefIdeal : Cert.GluGRefIdeal.Facts] : Prop :=
  ∀ (m : (ℓ : Loc Cert.GluGIdeal.nD Cert.GluGIdeal.τ Cert.GluGIdeal.sig) → Buf (Elt Ideal) ℓ) (g : Dev Cert.GluGIdeal.nD → PrngReg)
    (m' : (ℓ : Loc Cert.GluGRefIdeal.nD Cert.GluGRefIdeal.τ Cert.GluGRefIdeal.sig) → Buf (Elt Ideal) ℓ) (g' : Dev Cert.GluGRefIdeal.nD → PrngReg), Pre_GluGIdeal m →
    (∀ c : Dev Cert.GluGIdeal.nD,
      m' ((c.tc : Thread Cert.GluGRefIdeal.nD Cert.GluGRefIdeal.τ).loc Cert.GluGRefIdeal.main_arg0) = m ((c.tc : Thread Cert.GluGIdeal.nD Cert.GluGIdeal.τ).loc Cert.GluGIdeal.main_arg0)
      ∧ m' ((c.tc : Thread Cert.GluGRefIdeal.nD Cert.GluGRefIdeal.τ).loc Cert.GluGRefIdeal.main_arg1) = m ((c.tc : Thread Cert.GluGIdeal.nD Cert.GluGIdeal.τ).loc Cert.GluGIdeal.main_arg1)) →
    ∃ (v0 : (c : Dev Cert.GluGIdeal.nD) → Buf (Elt Ideal) ((c.tc : Thread Cert.GluGIdeal.nD Cert.GluGIdeal.τ).loc Cert.GluGIdeal.main_v0)),
      θ_run (Cert.GluGIdeal.defs (F := Ideal)) (onTc (τ := Cert.GluGIdeal.τ) (Cert.GluGIdeal.main (F := Ideal))) ⟨m, fun _ => 0, g⟩ (fun r => ∀ c : Dev Cert.GluGIdeal.nD,
          r.2.mem ((c.tc : Thread Cert.GluGIdeal.nD Cert.GluGIdeal.τ).loc Cert.GluGIdeal.main_v0) = v0 c
          ∧ r.2.mem ((c.tc : Thread Cert.GluGIdeal.nD Cert.GluGIdeal.τ).loc Cert.GluGIdeal.main_arg0) = m ((c.tc : Thread Cert.GluGIdeal.nD Cert.GluGIdeal.τ).loc Cert.GluGIdeal.main_arg0)
          ∧ r.2.mem ((c.tc : Thread Cert.GluGIdeal.nD Cert.GluGIdeal.τ).loc Cert.GluGIdeal.main_arg1) = m ((c.tc : Thread Cert.GluGIdeal.nD Cert.GluGIdeal.τ).loc Cert.GluGIdeal.main_arg1))
      ∧ θ_run (Cert.GluGRefIdeal.defs (F := Ideal)) (onTc (τ := Cert.GluGRefIdeal.τ) (Cert.GluGRefIdeal.main (F := Ideal))) ⟨m', fun _ => 0, g'⟩ (fun r => ∀ c : Dev Cert.GluGRefIdeal.nD,
          r.2.mem ((c.tc : Thread Cert.GluGRefIdeal.nD Cert.GluGRefIdeal.τ).loc Cert.GluGRefIdeal.main_v17) = v0 c
          ∧ r.2.mem ((c.tc : Thread Cert.GluGRefIdeal.nD Cert.GluGRefIdeal.τ).loc Cert.GluGRefIdeal.main_arg0) = m' ((c.tc : Thread Cert.GluGRefIdeal.nD Cert.GluGRefIdeal.τ).loc Cert.GluGRefIdeal.main_arg0)
          ∧ r.2.mem ((c.tc : Thread Cert.GluGRefIdeal.nD Cert.GluGRefIdeal.τ).loc Cert.GluGRefIdeal.main_arg1) = m' ((c.tc : Thread Cert.GluGRefIdeal.nD Cert.GluGRefIdeal.τ).loc Cert.GluGRefIdeal.main_arg1))

def preserves_AdamS_AdamSIdeal : Prop :=
  True

def algebraic_AdamSIdeal_AdamSRefIdeal [hAdamSIdeal : Cert.AdamSIdeal.Facts] [hAdamSRefIdeal : Cert.AdamSRefIdeal.Facts] : Prop :=
  ∀ (m : (ℓ : Loc Cert.AdamSIdeal.nD Cert.AdamSIdeal.τ Cert.AdamSIdeal.sig) → Buf (Elt Ideal) ℓ) (g : Dev Cert.AdamSIdeal.nD → PrngReg)
    (m' : (ℓ : Loc Cert.AdamSRefIdeal.nD Cert.AdamSRefIdeal.τ Cert.AdamSRefIdeal.sig) → Buf (Elt Ideal) ℓ) (g' : Dev Cert.AdamSRefIdeal.nD → PrngReg), Pre_AdamSIdeal m →
    (∀ c : Dev Cert.AdamSIdeal.nD,
      m' ((c.tc : Thread Cert.AdamSRefIdeal.nD Cert.AdamSRefIdeal.τ).loc Cert.AdamSRefIdeal.main_arg0) = m ((c.tc : Thread Cert.AdamSIdeal.nD Cert.AdamSIdeal.τ).loc Cert.AdamSIdeal.main_arg0)
      ∧ m' ((c.tc : Thread Cert.AdamSRefIdeal.nD Cert.AdamSRefIdeal.τ).loc Cert.AdamSRefIdeal.main_arg1) = m ((c.tc : Thread Cert.AdamSIdeal.nD Cert.AdamSIdeal.τ).loc Cert.AdamSIdeal.main_arg1)
      ∧ m' ((c.tc : Thread Cert.AdamSRefIdeal.nD Cert.AdamSRefIdeal.τ).loc Cert.AdamSRefIdeal.main_arg2) = m ((c.tc : Thread Cert.AdamSIdeal.nD Cert.AdamSIdeal.τ).loc Cert.AdamSIdeal.main_arg2)
      ∧ m' ((c.tc : Thread Cert.AdamSRefIdeal.nD Cert.AdamSRefIdeal.τ).loc Cert.AdamSRefIdeal.main_arg3) = m ((c.tc : Thread Cert.AdamSIdeal.nD Cert.AdamSIdeal.τ).loc Cert.AdamSIdeal.main_arg3)) →
    ∃ (v0 : (c : Dev Cert.AdamSIdeal.nD) → Buf (Elt Ideal) ((c.tc : Thread Cert.AdamSIdeal.nD Cert.AdamSIdeal.τ).loc Cert.AdamSIdeal.main_v0_0)) (v1 : (c : Dev Cert.AdamSIdeal.nD) → Buf (Elt Ideal) ((c.tc : Thread Cert.AdamSIdeal.nD Cert.AdamSIdeal.τ).loc Cert.AdamSIdeal.main_v0_1)) (v2 : (c : Dev Cert.AdamSIdeal.nD) → Buf (Elt Ideal) ((c.tc : Thread Cert.AdamSIdeal.nD Cert.AdamSIdeal.τ).loc Cert.AdamSIdeal.main_v0_2)) (v3 : (c : Dev Cert.AdamSIdeal.nD) → Buf (Elt Ideal) ((c.tc : Thread Cert.AdamSIdeal.nD Cert.AdamSIdeal.τ).loc Cert.AdamSIdeal.main_v0_3)),
      θ_run (Cert.AdamSIdeal.defs (F := Ideal)) (onTc (τ := Cert.AdamSIdeal.τ) (Cert.AdamSIdeal.main (F := Ideal))) ⟨m, fun _ => 0, g⟩ (fun r => ∀ c : Dev Cert.AdamSIdeal.nD,
          r.2.mem ((c.tc : Thread Cert.AdamSIdeal.nD Cert.AdamSIdeal.τ).loc Cert.AdamSIdeal.main_v0_0) = v0 c
          ∧ r.2.mem ((c.tc : Thread Cert.AdamSIdeal.nD Cert.AdamSIdeal.τ).loc Cert.AdamSIdeal.main_v0_1) = v1 c
          ∧ r.2.mem ((c.tc : Thread Cert.AdamSIdeal.nD Cert.AdamSIdeal.τ).loc Cert.AdamSIdeal.main_v0_2) = v2 c
          ∧ r.2.mem ((c.tc : Thread Cert.AdamSIdeal.nD Cert.AdamSIdeal.τ).loc Cert.AdamSIdeal.main_v0_3) = v3 c
          ∧ r.2.mem ((c.tc : Thread Cert.AdamSIdeal.nD Cert.AdamSIdeal.τ).loc Cert.AdamSIdeal.main_arg0) = m ((c.tc : Thread Cert.AdamSIdeal.nD Cert.AdamSIdeal.τ).loc Cert.AdamSIdeal.main_arg0)
          ∧ r.2.mem ((c.tc : Thread Cert.AdamSIdeal.nD Cert.AdamSIdeal.τ).loc Cert.AdamSIdeal.main_arg1) = m ((c.tc : Thread Cert.AdamSIdeal.nD Cert.AdamSIdeal.τ).loc Cert.AdamSIdeal.main_arg1)
          ∧ r.2.mem ((c.tc : Thread Cert.AdamSIdeal.nD Cert.AdamSIdeal.τ).loc Cert.AdamSIdeal.main_arg2) = m ((c.tc : Thread Cert.AdamSIdeal.nD Cert.AdamSIdeal.τ).loc Cert.AdamSIdeal.main_arg2)
          ∧ r.2.mem ((c.tc : Thread Cert.AdamSIdeal.nD Cert.AdamSIdeal.τ).loc Cert.AdamSIdeal.main_arg3) = m ((c.tc : Thread Cert.AdamSIdeal.nD Cert.AdamSIdeal.τ).loc Cert.AdamSIdeal.main_arg3))
      ∧ θ_run (Cert.AdamSRefIdeal.defs (F := Ideal)) (onTc (τ := Cert.AdamSRefIdeal.τ) (Cert.AdamSRefIdeal.main (F := Ideal))) ⟨m', fun _ => 0, g'⟩ (fun r => ∀ c : Dev Cert.AdamSRefIdeal.nD,
          r.2.mem ((c.tc : Thread Cert.AdamSRefIdeal.nD Cert.AdamSRefIdeal.τ).loc Cert.AdamSRefIdeal.main_v1) = v0 c
          ∧ r.2.mem ((c.tc : Thread Cert.AdamSRefIdeal.nD Cert.AdamSRefIdeal.τ).loc Cert.AdamSRefIdeal.main_v25) = v1 c
          ∧ r.2.mem ((c.tc : Thread Cert.AdamSRefIdeal.nD Cert.AdamSRefIdeal.τ).loc Cert.AdamSRefIdeal.main_v6) = v2 c
          ∧ r.2.mem ((c.tc : Thread Cert.AdamSRefIdeal.nD Cert.AdamSRefIdeal.τ).loc Cert.AdamSRefIdeal.main_v12) = v3 c
          ∧ r.2.mem ((c.tc : Thread Cert.AdamSRefIdeal.nD Cert.AdamSRefIdeal.τ).loc Cert.AdamSRefIdeal.main_arg0) = m' ((c.tc : Thread Cert.AdamSRefIdeal.nD Cert.AdamSRefIdeal.τ).loc Cert.AdamSRefIdeal.main_arg0)
          ∧ r.2.mem ((c.tc : Thread Cert.AdamSRefIdeal.nD Cert.AdamSRefIdeal.τ).loc Cert.AdamSRefIdeal.main_arg1) = m' ((c.tc : Thread Cert.AdamSRefIdeal.nD Cert.AdamSRefIdeal.τ).loc Cert.AdamSRefIdeal.main_arg1)
          ∧ r.2.mem ((c.tc : Thread Cert.AdamSRefIdeal.nD Cert.AdamSRefIdeal.τ).loc Cert.AdamSRefIdeal.main_arg2) = m' ((c.tc : Thread Cert.AdamSRefIdeal.nD Cert.AdamSRefIdeal.τ).loc Cert.AdamSRefIdeal.main_arg2)
          ∧ r.2.mem ((c.tc : Thread Cert.AdamSRefIdeal.nD Cert.AdamSRefIdeal.τ).loc Cert.AdamSRefIdeal.main_arg3) = m' ((c.tc : Thread Cert.AdamSRefIdeal.nD Cert.AdamSRefIdeal.τ).loc Cert.AdamSRefIdeal.main_arg3))

def preserves_AdamO_AdamOIdeal : Prop :=
  True

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)
      ∧ m' ((c.tc : Thread Cert.AdamORefIdeal.nD Cert.AdamORefIdeal.τ).loc Cert.AdamORefIdeal.main_arg4) = m ((c.tc : Thread Cert.AdamOIdeal.nD Cert.AdamOIdeal.τ).loc Cert.AdamOIdeal.main_arg4)
      ∧ m' ((c.tc : Thread Cert.AdamORefIdeal.nD Cert.AdamORefIdeal.τ).loc Cert.AdamORefIdeal.main_arg5) = m ((c.tc : Thread Cert.AdamOIdeal.nD Cert.AdamOIdeal.τ).loc Cert.AdamOIdeal.main_arg5)
      ∧ m' ((c.tc : Thread Cert.AdamORefIdeal.nD Cert.AdamORefIdeal.τ).loc Cert.AdamORefIdeal.main_arg6) = m ((c.tc : Thread Cert.AdamOIdeal.nD Cert.AdamOIdeal.τ).loc Cert.AdamOIdeal.main_arg6)
      ∧ m' ((c.tc : Thread Cert.AdamORefIdeal.nD Cert.AdamORefIdeal.τ).loc Cert.AdamORefIdeal.main_arg7) = m ((c.tc : Thread Cert.AdamOIdeal.nD Cert.AdamOIdeal.τ).loc Cert.AdamOIdeal.main_arg7)) →
    ∃ (v0 : (c : Dev Cert.AdamOIdeal.nD) → Buf (Elt Ideal) ((c.tc : Thread Cert.AdamOIdeal.nD Cert.AdamOIdeal.τ).loc Cert.AdamOIdeal.main_v0_0)) (v1 : (c : Dev Cert.AdamOIdeal.nD) → Buf (Elt Ideal) ((c.tc : Thread Cert.AdamOIdeal.nD Cert.AdamOIdeal.τ).loc Cert.AdamOIdeal.main_v0_1)) (v2 : (c : Dev Cert.AdamOIdeal.nD) → Buf (Elt Ideal) ((c.tc : Thread Cert.AdamOIdeal.nD Cert.AdamOIdeal.τ).loc Cert.AdamOIdeal.main_v0_2)) (v3 : (c : Dev Cert.AdamOIdeal.nD) → Buf (Elt Ideal) ((c.tc : Thread Cert.AdamOIdeal.nD Cert.AdamOIdeal.τ).loc Cert.AdamOIdeal.main_v0_3)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v0_0) = v0 c
          ∧ r.2.mem ((c.tc : Thread Cert.AdamOIdeal.nD Cert.AdamOIdeal.τ).loc Cert.AdamOIdeal.main_v0_1) = v1 c
          ∧ r.2.mem ((c.tc : Thread Cert.AdamOIdeal.nD Cert.AdamOIdeal.τ).loc Cert.AdamOIdeal.main_v0_2) = v2 c
          ∧ r.2.mem ((c.tc : Thread Cert.AdamOIdeal.nD Cert.AdamOIdeal.τ).loc Cert.AdamOIdeal.main_v0_3) = v3 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3)
          ∧ r.2.mem ((c.tc : Thread Cert.AdamOIdeal.nD Cert.AdamOIdeal.τ).loc Cert.AdamOIdeal.main_arg4) = m ((c.tc : Thread Cert.AdamOIdeal.nD Cert.AdamOIdeal.τ).loc Cert.AdamOIdeal.main_arg4)
          ∧ r.2.mem ((c.tc : Thread Cert.AdamOIdeal.nD Cert.AdamOIdeal.τ).loc Cert.AdamOIdeal.main_arg5) = m ((c.tc : Thread Cert.AdamOIdeal.nD Cert.AdamOIdeal.τ).loc Cert.AdamOIdeal.main_arg5)
          ∧ r.2.mem ((c.tc : Thread Cert.AdamOIdeal.nD Cert.AdamOIdeal.τ).loc Cert.AdamOIdeal.main_arg6) = m ((c.tc : Thread Cert.AdamOIdeal.nD Cert.AdamOIdeal.τ).loc Cert.AdamOIdeal.main_arg6)
          ∧ r.2.mem ((c.tc : Thread Cert.AdamOIdeal.nD Cert.AdamOIdeal.τ).loc Cert.AdamOIdeal.main_arg7) = m ((c.tc : Thread Cert.AdamOIdeal.nD Cert.AdamOIdeal.τ).loc Cert.AdamOIdeal.main_arg7))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v34) = v0 c
          ∧ r.2.mem ((c.tc : Thread Cert.AdamORefIdeal.nD Cert.AdamORefIdeal.τ).loc Cert.AdamORefIdeal.main_v37) = v1 c
          ∧ r.2.mem ((c.tc : Thread Cert.AdamORefIdeal.nD Cert.AdamORefIdeal.τ).loc Cert.AdamORefIdeal.main_v40) = v2 c
          ∧ r.2.mem ((c.tc : Thread Cert.AdamORefIdeal.nD Cert.AdamORefIdeal.τ).loc Cert.AdamORefIdeal.main_v43) = v3 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3)
          ∧ r.2.mem ((c.tc : Thread Cert.AdamORefIdeal.nD Cert.AdamORefIdeal.τ).loc Cert.AdamORefIdeal.main_arg4) = m' ((c.tc : Thread Cert.AdamORefIdeal.nD Cert.AdamORefIdeal.τ).loc Cert.AdamORefIdeal.main_arg4)
          ∧ r.2.mem ((c.tc : Thread Cert.AdamORefIdeal.nD Cert.AdamORefIdeal.τ).loc Cert.AdamORefIdeal.main_arg5) = m' ((c.tc : Thread Cert.AdamORefIdeal.nD Cert.AdamORefIdeal.τ).loc Cert.AdamORefIdeal.main_arg5)
          ∧ r.2.mem ((c.tc : Thread Cert.AdamORefIdeal.nD Cert.AdamORefIdeal.τ).loc Cert.AdamORefIdeal.main_arg6) = m' ((c.tc : Thread Cert.AdamORefIdeal.nD Cert.AdamORefIdeal.τ).loc Cert.AdamORefIdeal.main_arg6)
          ∧ r.2.mem ((c.tc : Thread Cert.AdamORefIdeal.nD Cert.AdamORefIdeal.τ).loc Cert.AdamORefIdeal.main_arg7) = m' ((c.tc : Thread Cert.AdamORefIdeal.nD Cert.AdamORefIdeal.τ).loc Cert.AdamORefIdeal.main_arg7))

def preserves_AdamI_AdamIIdeal : Prop :=
  True

def algebraic_AdamIIdeal_AdamIRefIdeal [hAdamIIdeal : Cert.AdamIIdeal.Facts] [hAdamIRefIdeal : Cert.AdamIRefIdeal.Facts] : Prop :=
  ∀ (m : (ℓ : Loc Cert.AdamIIdeal.nD Cert.AdamIIdeal.τ Cert.AdamIIdeal.sig) → Buf (Elt Ideal) ℓ) (g : Dev Cert.AdamIIdeal.nD → PrngReg)
    (m' : (ℓ : Loc Cert.AdamIRefIdeal.nD Cert.AdamIRefIdeal.τ Cert.AdamIRefIdeal.sig) → Buf (Elt Ideal) ℓ) (g' : Dev Cert.AdamIRefIdeal.nD → PrngReg), Pre_AdamIIdeal m →
    (∀ c : Dev Cert.AdamIIdeal.nD,
      m' ((c.tc : Thread Cert.AdamIRefIdeal.nD Cert.AdamIRefIdeal.τ).loc Cert.AdamIRefIdeal.main_arg0) = m ((c.tc : Thread Cert.AdamIIdeal.nD Cert.AdamIIdeal.τ).loc Cert.AdamIIdeal.main_arg0)
      ∧ m' ((c.tc : Thread Cert.AdamIRefIdeal.nD Cert.AdamIRefIdeal.τ).loc Cert.AdamIRefIdeal.main_arg1) = m ((c.tc : Thread Cert.AdamIIdeal.nD Cert.AdamIIdeal.τ).loc Cert.AdamIIdeal.main_arg1)
      ∧ m' ((c.tc : Thread Cert.AdamIRefIdeal.nD Cert.AdamIRefIdeal.τ).loc Cert.AdamIRefIdeal.main_arg2) = m ((c.tc : Thread Cert.AdamIIdeal.nD Cert.AdamIIdeal.τ).loc Cert.AdamIIdeal.main_arg2)
      ∧ m' ((c.tc : Thread Cert.AdamIRefIdeal.nD Cert.AdamIRefIdeal.τ).loc Cert.AdamIRefIdeal.main_arg3) = m ((c.tc : Thread Cert.AdamIIdeal.nD Cert.AdamIIdeal.τ).loc Cert.AdamIIdeal.main_arg3)
      ∧ m' ((c.tc : Thread Cert.AdamIRefIdeal.nD Cert.AdamIRefIdeal.τ).loc Cert.AdamIRefIdeal.main_arg4) = m ((c.tc : Thread Cert.AdamIIdeal.nD Cert.AdamIIdeal.τ).loc Cert.AdamIIdeal.main_arg4)
      ∧ m' ((c.tc : Thread Cert.AdamIRefIdeal.nD Cert.AdamIRefIdeal.τ).loc Cert.AdamIRefIdeal.main_arg5) = m ((c.tc : Thread Cert.AdamIIdeal.nD Cert.AdamIIdeal.τ).loc Cert.AdamIIdeal.main_arg5)
      ∧ m' ((c.tc : Thread Cert.AdamIRefIdeal.nD Cert.AdamIRefIdeal.τ).loc Cert.AdamIRefIdeal.main_arg6) = m ((c.tc : Thread Cert.AdamIIdeal.nD Cert.AdamIIdeal.τ).loc Cert.AdamIIdeal.main_arg6)
      ∧ m' ((c.tc : Thread Cert.AdamIRefIdeal.nD Cert.AdamIRefIdeal.τ).loc Cert.AdamIRefIdeal.main_arg7) = m ((c.tc : Thread Cert.AdamIIdeal.nD Cert.AdamIIdeal.τ).loc Cert.AdamIIdeal.main_arg7)) →
    ∃ (v0 : (c : Dev Cert.AdamIIdeal.nD) → Buf (Elt Ideal) ((c.tc : Thread Cert.AdamIIdeal.nD Cert.AdamIIdeal.τ).loc Cert.AdamIIdeal.main_v0_0)) (v1 : (c : Dev Cert.AdamIIdeal.nD) → Buf (Elt Ideal) ((c.tc : Thread Cert.AdamIIdeal.nD Cert.AdamIIdeal.τ).loc Cert.AdamIIdeal.main_v0_1)) (v2 : (c : Dev Cert.AdamIIdeal.nD) → Buf (Elt Ideal) ((c.tc : Thread Cert.AdamIIdeal.nD Cert.AdamIIdeal.τ).loc Cert.AdamIIdeal.main_v0_2)) (v3 : (c : Dev Cert.AdamIIdeal.nD) → Buf (Elt Ideal) ((c.tc : Thread Cert.AdamIIdeal.nD Cert.AdamIIdeal.τ).loc Cert.AdamIIdeal.main_v0_3)),
      θ_run (Cert.AdamIIdeal.defs (F := Ideal)) (onTc (τ := Cert.AdamIIdeal.τ) (Cert.AdamIIdeal.main (F := Ideal))) ⟨m, fun _ => 0, g⟩ (fun r => ∀ c : Dev Cert.AdamIIdeal.nD,
          r.2.mem ((c.tc : Thread Cert.AdamIIdeal.nD Cert.AdamIIdeal.τ).loc Cert.AdamIIdeal.main_v0_0) = v0 c
          ∧ r.2.mem ((c.tc : Thread Cert.AdamIIdeal.nD Cert.AdamIIdeal.τ).loc Cert.AdamIIdeal.main_v0_1) = v1 c
          ∧ r.2.mem ((c.tc : Thread Cert.AdamIIdeal.nD Cert.AdamIIdeal.τ).loc Cert.AdamIIdeal.main_v0_2) = v2 c
          ∧ r.2.mem ((c.tc : Thread Cert.AdamIIdeal.nD Cert.AdamIIdeal.τ).loc Cert.AdamIIdeal.main_v0_3) = v3 c
          ∧ r.2.mem ((c.tc : Thread Cert.AdamIIdeal.nD Cert.AdamIIdeal.τ).loc Cert.AdamIIdeal.main_arg0) = m ((c.tc : Thread Cert.AdamIIdeal.nD Cert.AdamIIdeal.τ).loc Cert.AdamIIdeal.main_arg0)
          ∧ r.2.mem ((c.tc : Thread Cert.AdamIIdeal.nD Cert.AdamIIdeal.τ).loc Cert.AdamIIdeal.main_arg1) = m ((c.tc : Thread Cert.AdamIIdeal.nD Cert.AdamIIdeal.τ).loc Cert.AdamIIdeal.main_arg1)
          ∧ r.2.mem ((c.tc : Thread Cert.AdamIIdeal.nD Cert.AdamIIdeal.τ).loc Cert.AdamIIdeal.main_arg2) = m ((c.tc : Thread Cert.AdamIIdeal.nD Cert.AdamIIdeal.τ).loc Cert.AdamIIdeal.main_arg2)
          ∧ r.2.mem ((c.tc : Thread Cert.AdamIIdeal.nD Cert.AdamIIdeal.τ).loc Cert.AdamIIdeal.main_arg3) = m ((c.tc : Thread Cert.AdamIIdeal.nD Cert.AdamIIdeal.τ).loc Cert.AdamIIdeal.main_arg3)
          ∧ r.2.mem ((c.tc : Thread Cert.AdamIIdeal.nD Cert.AdamIIdeal.τ).loc Cert.AdamIIdeal.main_arg4) = m ((c.tc : Thread Cert.AdamIIdeal.nD Cert.AdamIIdeal.τ).loc Cert.AdamIIdeal.main_arg4)
          ∧ r.2.mem ((c.tc : Thread Cert.AdamIIdeal.nD Cert.AdamIIdeal.τ).loc Cert.AdamIIdeal.main_arg5) = m ((c.tc : Thread Cert.AdamIIdeal.nD Cert.AdamIIdeal.τ).loc Cert.AdamIIdeal.main_arg5)
          ∧ r.2.mem ((c.tc : Thread Cert.AdamIIdeal.nD Cert.AdamIIdeal.τ).loc Cert.AdamIIdeal.main_arg6) = m ((c.tc : Thread Cert.AdamIIdeal.nD Cert.AdamIIdeal.τ).loc Cert.AdamIIdeal.main_arg6)
          ∧ r.2.mem ((c.tc : Thread Cert.AdamIIdeal.nD Cert.AdamIIdeal.τ).loc Cert.AdamIIdeal.main_arg7) = m ((c.tc : Thread Cert.AdamIIdeal.nD Cert.AdamIIdeal.τ).loc Cert.AdamIIdeal.main_arg7))
      ∧ θ_run (Cert.AdamIRefIdeal.defs (F := Ideal)) (onTc (τ := Cert.AdamIRefIdeal.τ) (Cert.AdamIRefIdeal.main (F := Ideal))) ⟨m', fun _ => 0, g'⟩ (fun r => ∀ c : Dev Cert.AdamIRefIdeal.nD,
          r.2.mem ((c.tc : Thread Cert.AdamIRefIdeal.nD Cert.AdamIRefIdeal.τ).loc Cert.AdamIRefIdeal.main_v34) = v0 c
          ∧ r.2.mem ((c.tc : Thread Cert.AdamIRefIdeal.nD Cert.AdamIRefIdeal.τ).loc Cert.AdamIRefIdeal.main_v37) = v1 c
          ∧ r.2.mem ((c.tc : Thread Cert.AdamIRefIdeal.nD Cert.AdamIRefIdeal.τ).loc Cert.AdamIRefIdeal.main_v40) = v2 c
          ∧ r.2.mem ((c.tc : Thread Cert.AdamIRefIdeal.nD Cert.AdamIRefIdeal.τ).loc Cert.AdamIRefIdeal.main_v43) = v3 c
          ∧ r.2.mem ((c.tc : Thread Cert.AdamIRefIdeal.nD Cert.AdamIRefIdeal.τ).loc Cert.AdamIRefIdeal.main_arg0) = m' ((c.tc : Thread Cert.AdamIRefIdeal.nD Cert.AdamIRefIdeal.τ).loc Cert.AdamIRefIdeal.main_arg0)
          ∧ r.2.mem ((c.tc : Thread Cert.AdamIRefIdeal.nD Cert.AdamIRefIdeal.τ).loc Cert.AdamIRefIdeal.main_arg1) = m' ((c.tc : Thread Cert.AdamIRefIdeal.nD Cert.AdamIRefIdeal.τ).loc Cert.AdamIRefIdeal.main_arg1)
          ∧ r.2.mem ((c.tc : Thread Cert.AdamIRefIdeal.nD Cert.AdamIRefIdeal.τ).loc Cert.AdamIRefIdeal.main_arg2) = m' ((c.tc : Thread Cert.AdamIRefIdeal.nD Cert.AdamIRefIdeal.τ).loc Cert.AdamIRefIdeal.main_arg2)
          ∧ r.2.mem ((c.tc : Thread Cert.AdamIRefIdeal.nD Cert.AdamIRefIdeal.τ).loc Cert.AdamIRefIdeal.main_arg3) = m' ((c.tc : Thread Cert.AdamIRefIdeal.nD Cert.AdamIRefIdeal.τ).loc Cert.AdamIRefIdeal.main_arg3)
          ∧ r.2.mem ((c.tc : Thread Cert.AdamIRefIdeal.nD Cert.AdamIRefIdeal.τ).loc Cert.AdamIRefIdeal.main_arg4) = m' ((c.tc : Thread Cert.AdamIRefIdeal.nD Cert.AdamIRefIdeal.τ).loc Cert.AdamIRefIdeal.main_arg4)
          ∧ r.2.mem ((c.tc : Thread Cert.AdamIRefIdeal.nD Cert.AdamIRefIdeal.τ).loc Cert.AdamIRefIdeal.main_arg5) = m' ((c.tc : Thread Cert.AdamIRefIdeal.nD Cert.AdamIRefIdeal.τ).loc Cert.AdamIRefIdeal.main_arg5)
          ∧ r.2.mem ((c.tc : Thread Cert.AdamIRefIdeal.nD Cert.AdamIRefIdeal.τ).loc Cert.AdamIRefIdeal.main_arg6) = m' ((c.tc : Thread Cert.AdamIRefIdeal.nD Cert.AdamIRefIdeal.τ).loc Cert.AdamIRefIdeal.main_arg6)
          ∧ r.2.mem ((c.tc : Thread Cert.AdamIRefIdeal.nD Cert.AdamIRefIdeal.τ).loc Cert.AdamIRefIdeal.main_arg7) = m' ((c.tc : Thread Cert.AdamIRefIdeal.nD Cert.AdamIRefIdeal.τ).loc Cert.AdamIRefIdeal.main_arg7))

def preserves_AdamQ_AdamQIdeal : Prop :=
  True

def algebraic_AdamQIdeal_AdamQRefIdeal [hAdamQIdeal : Cert.AdamQIdeal.Facts] [hAdamQRefIdeal : Cert.AdamQRefIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.AdamQRefIdeal.nD Cert.AdamQRefIdeal.τ Cert.AdamQRefIdeal.sig) → Buf (Elt Ideal) ℓ) (g' : Dev Cert.AdamQRefIdeal.nD → PrngReg), Pre_AdamQIdeal m →
    (∀ c : Dev Cert.AdamQIdeal.nD,
      m' ((c.tc : Thread Cert.AdamQRefIdeal.nD Cert.AdamQRefIdeal.τ).loc Cert.AdamQRefIdeal.main_arg0) = m ((c.tc : Thread Cert.AdamQIdeal.nD Cert.AdamQIdeal.τ).loc Cert.AdamQIdeal.main_arg0)
      ∧ m' ((c.tc : Thread Cert.AdamQRefIdeal.nD Cert.AdamQRefIdeal.τ).loc Cert.AdamQRefIdeal.main_arg1) = m ((c.tc : Thread Cert.AdamQIdeal.nD Cert.AdamQIdeal.τ).loc Cert.AdamQIdeal.main_arg1)
      ∧ m' ((c.tc : Thread Cert.AdamQRefIdeal.nD Cert.AdamQRefIdeal.τ).loc Cert.AdamQRefIdeal.main_arg2) = m ((c.tc : Thread Cert.AdamQIdeal.nD Cert.AdamQIdeal.τ).loc Cert.AdamQIdeal.main_arg2)
      ∧ m' ((c.tc : Thread Cert.AdamQRefIdeal.nD Cert.AdamQRefIdeal.τ).loc Cert.AdamQRefIdeal.main_arg3) = m ((c.tc : Thread Cert.AdamQIdeal.nD Cert.AdamQIdeal.τ).loc Cert.AdamQIdeal.main_arg3)
      ∧ m' ((c.tc : Thread Cert.AdamQRefIdeal.nD Cert.AdamQRefIdeal.τ).loc Cert.AdamQRefIdeal.main_arg4) = m ((c.tc : Thread Cert.AdamQIdeal.nD Cert.AdamQIdeal.τ).loc Cert.AdamQIdeal.main_arg4)
      ∧ m' ((c.tc : Thread Cert.AdamQRefIdeal.nD Cert.AdamQRefIdeal.τ).loc Cert.AdamQRefIdeal.main_arg5) = m ((c.tc : Thread Cert.AdamQIdeal.nD Cert.AdamQIdeal.τ).loc Cert.AdamQIdeal.main_arg5)
      ∧ m' ((c.tc : Thread Cert.AdamQRefIdeal.nD Cert.AdamQRefIdeal.τ).loc Cert.AdamQRefIdeal.main_arg6) = m ((c.tc : Thread Cert.AdamQIdeal.nD Cert.AdamQIdeal.τ).loc Cert.AdamQIdeal.main_arg6)
      ∧ m' ((c.tc : Thread Cert.AdamQRefIdeal.nD Cert.AdamQRefIdeal.τ).loc Cert.AdamQRefIdeal.main_arg7) = m ((c.tc : Thread Cert.AdamQIdeal.nD Cert.AdamQIdeal.τ).loc Cert.AdamQIdeal.main_arg7)) →
    ∃ (v0 : (c : Dev Cert.AdamQIdeal.nD) → Buf (Elt Ideal) ((c.tc : Thread Cert.AdamQIdeal.nD Cert.AdamQIdeal.τ).loc Cert.AdamQIdeal.main_v0_0)) (v1 : (c : Dev Cert.AdamQIdeal.nD) → Buf (Elt Ideal) ((c.tc : Thread Cert.AdamQIdeal.nD Cert.AdamQIdeal.τ).loc Cert.AdamQIdeal.main_v0_1)) (v2 : (c : Dev Cert.AdamQIdeal.nD) → Buf (Elt Ideal) ((c.tc : Thread Cert.AdamQIdeal.nD Cert.AdamQIdeal.τ).loc Cert.AdamQIdeal.main_v0_2)) (v3 : (c : Dev Cert.AdamQIdeal.nD) → Buf (Elt Ideal) ((c.tc : Thread Cert.AdamQIdeal.nD Cert.AdamQIdeal.τ).loc Cert.AdamQIdeal.main_v0_3)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v0_0) = v0 c
          ∧ r.2.mem ((c.tc : Thread Cert.AdamQIdeal.nD Cert.AdamQIdeal.τ).loc Cert.AdamQIdeal.main_v0_1) = v1 c
          ∧ r.2.mem ((c.tc : Thread Cert.AdamQIdeal.nD Cert.AdamQIdeal.τ).loc Cert.AdamQIdeal.main_v0_2) = v2 c
          ∧ r.2.mem ((c.tc : Thread Cert.AdamQIdeal.nD Cert.AdamQIdeal.τ).loc Cert.AdamQIdeal.main_v0_3) = v3 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3)
          ∧ r.2.mem ((c.tc : Thread Cert.AdamQIdeal.nD Cert.AdamQIdeal.τ).loc Cert.AdamQIdeal.main_arg4) = m ((c.tc : Thread Cert.AdamQIdeal.nD Cert.AdamQIdeal.τ).loc Cert.AdamQIdeal.main_arg4)
          ∧ r.2.mem ((c.tc : Thread Cert.AdamQIdeal.nD Cert.AdamQIdeal.τ).loc Cert.AdamQIdeal.main_arg5) = m ((c.tc : Thread Cert.AdamQIdeal.nD Cert.AdamQIdeal.τ).loc Cert.AdamQIdeal.main_arg5)
          ∧ r.2.mem ((c.tc : Thread Cert.AdamQIdeal.nD Cert.AdamQIdeal.τ).loc Cert.AdamQIdeal.main_arg6) = m ((c.tc : Thread Cert.AdamQIdeal.nD Cert.AdamQIdeal.τ).loc Cert.AdamQIdeal.main_arg6)
          ∧ r.2.mem ((c.tc : Thread Cert.AdamQIdeal.nD Cert.AdamQIdeal.τ).loc Cert.AdamQIdeal.main_arg7) = m ((c.tc : Thread Cert.AdamQIdeal.nD Cert.AdamQIdeal.τ).loc Cert.AdamQIdeal.main_arg7))
      ∧ θ_run (Cert.AdamQRefIdeal.defs (F := Ideal)) (onTc (τ := Cert.AdamQRefIdeal.τ) (Cert.AdamQRefIdeal.main (F := Ideal))) ⟨m', fun _ => 0, g'⟩ (fun r => ∀ c : Dev Cert.AdamQRefIdeal.nD,
          r.2.mem ((c.tc : Thread Cert.AdamQRefIdeal.nD Cert.AdamQRefIdeal.τ).loc Cert.AdamQRefIdeal.main_v34) = v0 c
          ∧ r.2.mem ((c.tc : Thread Cert.AdamQRefIdeal.nD Cert.AdamQRefIdeal.τ).loc Cert.AdamQRefIdeal.main_v37) = v1 c
          ∧ r.2.mem ((c.tc : Thread Cert.AdamQRefIdeal.nD Cert.AdamQRefIdeal.τ).loc Cert.AdamQRefIdeal.main_v40) = v2 c
          ∧ r.2.mem ((c.tc : Thread Cert.AdamQRefIdeal.nD Cert.AdamQRefIdeal.τ).loc Cert.AdamQRefIdeal.main_v43) = v3 c
          ∧ r.2.mem ((c.tc : Thread Cert.AdamQRefIdeal.nD Cert.AdamQRefIdeal.τ).loc Cert.AdamQRefIdeal.main_arg0) = m' ((c.tc : Thread Cert.AdamQRefIdeal.nD Cert.AdamQRefIdeal.τ).loc Cert.AdamQRefIdeal.main_arg0)
          ∧ r.2.mem ((c.tc : Thread Cert.AdamQRefIdeal.nD Cert.AdamQRefIdeal.τ).loc Cert.AdamQRefIdeal.main_arg1) = m' ((c.tc : Thread Cert.AdamQRefIdeal.nD Cert.AdamQRefIdeal.τ).loc Cert.AdamQRefIdeal.main_arg1)
          ∧ r.2.mem ((c.tc : Thread Cert.AdamQRefIdeal.nD Cert.AdamQRefIdeal.τ).loc Cert.AdamQRefIdeal.main_arg2) = m' ((c.tc : Thread Cert.AdamQRefIdeal.nD Cert.AdamQRefIdeal.τ).loc Cert.AdamQRefIdeal.main_arg2)
          ∧ r.2.mem ((c.tc : Thread Cert.AdamQRefIdeal.nD Cert.AdamQRefIdeal.τ).loc Cert.AdamQRefIdeal.main_arg3) = m' ((c.tc : Thread Cert.AdamQRefIdeal.nD Cert.AdamQRefIdeal.τ).loc Cert.AdamQRefIdeal.main_arg3)
          ∧ r.2.mem ((c.tc : Thread Cert.AdamQRefIdeal.nD Cert.AdamQRefIdeal.τ).loc Cert.AdamQRefIdeal.main_arg4) = m' ((c.tc : Thread Cert.AdamQRefIdeal.nD Cert.AdamQRefIdeal.τ).loc Cert.AdamQRefIdeal.main_arg4)
          ∧ r.2.mem ((c.tc : Thread Cert.AdamQRefIdeal.nD Cert.AdamQRefIdeal.τ).loc Cert.AdamQRefIdeal.main_arg5) = m' ((c.tc : Thread Cert.AdamQRefIdeal.nD Cert.AdamQRefIdeal.τ).loc Cert.AdamQRefIdeal.main_arg5)
          ∧ r.2.mem ((c.tc : Thread Cert.AdamQRefIdeal.nD Cert.AdamQRefIdeal.τ).loc Cert.AdamQRefIdeal.main_arg6) = m' ((c.tc : Thread Cert.AdamQRefIdeal.nD Cert.AdamQRefIdeal.τ).loc Cert.AdamQRefIdeal.main_arg6)
          ∧ r.2.mem ((c.tc : Thread Cert.AdamQRefIdeal.nD Cert.AdamQRefIdeal.τ).loc Cert.AdamQRefIdeal.main_arg7) = m' ((c.tc : Thread Cert.AdamQRefIdeal.nD Cert.AdamQRefIdeal.τ).loc Cert.AdamQRefIdeal.main_arg7))

def preserves_AdamG_AdamGIdeal : Prop :=
  True

def algebraic_AdamGIdeal_AdamGRefIdeal [hAdamGIdeal : Cert.AdamGIdeal.Facts] [hAdamGRefIdeal : Cert.AdamGRefIdeal.Facts] : Prop :=
  ∀ (m : (ℓ : Loc Cert.AdamGIdeal.nD Cert.AdamGIdeal.τ Cert.AdamGIdeal.sig) → Buf (Elt Ideal) ℓ) (g : Dev Cert.AdamGIdeal.nD → PrngReg)
    (m' : (ℓ : Loc Cert.AdamGRefIdeal.nD Cert.AdamGRefIdeal.τ Cert.AdamGRefIdeal.sig) → Buf (Elt Ideal) ℓ) (g' : Dev Cert.AdamGRefIdeal.nD → PrngReg), Pre_AdamGIdeal m →
    (∀ c : Dev Cert.AdamGIdeal.nD,
      m' ((c.tc : Thread Cert.AdamGRefIdeal.nD Cert.AdamGRefIdeal.τ).loc Cert.AdamGRefIdeal.main_arg0) = m ((c.tc : Thread Cert.AdamGIdeal.nD Cert.AdamGIdeal.τ).loc Cert.AdamGIdeal.main_arg0)
      ∧ m' ((c.tc : Thread Cert.AdamGRefIdeal.nD Cert.AdamGRefIdeal.τ).loc Cert.AdamGRefIdeal.main_arg1) = m ((c.tc : Thread Cert.AdamGIdeal.nD Cert.AdamGIdeal.τ).loc Cert.AdamGIdeal.main_arg1)
      ∧ m' ((c.tc : Thread Cert.AdamGRefIdeal.nD Cert.AdamGRefIdeal.τ).loc Cert.AdamGRefIdeal.main_arg2) = m ((c.tc : Thread Cert.AdamGIdeal.nD Cert.AdamGIdeal.τ).loc Cert.AdamGIdeal.main_arg2)
      ∧ m' ((c.tc : Thread Cert.AdamGRefIdeal.nD Cert.AdamGRefIdeal.τ).loc Cert.AdamGRefIdeal.main_arg3) = m ((c.tc : Thread Cert.AdamGIdeal.nD Cert.AdamGIdeal.τ).loc Cert.AdamGIdeal.main_arg3)
      ∧ m' ((c.tc : Thread Cert.AdamGRefIdeal.nD Cert.AdamGRefIdeal.τ).loc Cert.AdamGRefIdeal.main_arg4) = m ((c.tc : Thread Cert.AdamGIdeal.nD Cert.AdamGIdeal.τ).loc Cert.AdamGIdeal.main_arg4)
      ∧ m' ((c.tc : Thread Cert.AdamGRefIdeal.nD Cert.AdamGRefIdeal.τ).loc Cert.AdamGRefIdeal.main_arg5) = m ((c.tc : Thread Cert.AdamGIdeal.nD Cert.AdamGIdeal.τ).loc Cert.AdamGIdeal.main_arg5)
      ∧ m' ((c.tc : Thread Cert.AdamGRefIdeal.nD Cert.AdamGRefIdeal.τ).loc Cert.AdamGRefIdeal.main_arg6) = m ((c.tc : Thread Cert.AdamGIdeal.nD Cert.AdamGIdeal.τ).loc Cert.AdamGIdeal.main_arg6)
      ∧ m' ((c.tc : Thread Cert.AdamGRefIdeal.nD Cert.AdamGRefIdeal.τ).loc Cert.AdamGRefIdeal.main_arg7) = m ((c.tc : Thread Cert.AdamGIdeal.nD Cert.AdamGIdeal.τ).loc Cert.AdamGIdeal.main_arg7)) →
    ∃ (v0 : (c : Dev Cert.AdamGIdeal.nD) → Buf (Elt Ideal) ((c.tc : Thread Cert.AdamGIdeal.nD Cert.AdamGIdeal.τ).loc Cert.AdamGIdeal.main_v0_0)) (v1 : (c : Dev Cert.AdamGIdeal.nD) → Buf (Elt Ideal) ((c.tc : Thread Cert.AdamGIdeal.nD Cert.AdamGIdeal.τ).loc Cert.AdamGIdeal.main_v0_1)) (v2 : (c : Dev Cert.AdamGIdeal.nD) → Buf (Elt Ideal) ((c.tc : Thread Cert.AdamGIdeal.nD Cert.AdamGIdeal.τ).loc Cert.AdamGIdeal.main_v0_2)) (v3 : (c : Dev Cert.AdamGIdeal.nD) → Buf (Elt Ideal) ((c.tc : Thread Cert.AdamGIdeal.nD Cert.AdamGIdeal.τ).loc Cert.AdamGIdeal.main_v0_3)),
      θ_run (Cert.AdamGIdeal.defs (F := Ideal)) (onTc (τ := Cert.AdamGIdeal.τ) (Cert.AdamGIdeal.main (F := Ideal))) ⟨m, fun _ => 0, g⟩ (fun r => ∀ c : Dev Cert.AdamGIdeal.nD,
          r.2.mem ((c.tc : Thread Cert.AdamGIdeal.nD Cert.AdamGIdeal.τ).loc Cert.AdamGIdeal.main_v0_0) = v0 c
          ∧ r.2.mem ((c.tc : Thread Cert.AdamGIdeal.nD Cert.AdamGIdeal.τ).loc Cert.AdamGIdeal.main_v0_1) = v1 c
          ∧ r.2.mem ((c.tc : Thread Cert.AdamGIdeal.nD Cert.AdamGIdeal.τ).loc Cert.AdamGIdeal.main_v0_2) = v2 c
          ∧ r.2.mem ((c.tc : Thread Cert.AdamGIdeal.nD Cert.AdamGIdeal.τ).loc Cert.AdamGIdeal.main_v0_3) = v3 c
          ∧ r.2.mem ((c.tc : Thread Cert.AdamGIdeal.nD Cert.AdamGIdeal.τ).loc Cert.AdamGIdeal.main_arg0) = m ((c.tc : Thread Cert.AdamGIdeal.nD Cert.AdamGIdeal.τ).loc Cert.AdamGIdeal.main_arg0)
          ∧ r.2.mem ((c.tc : Thread Cert.AdamGIdeal.nD Cert.AdamGIdeal.τ).loc Cert.AdamGIdeal.main_arg1) = m ((c.tc : Thread Cert.AdamGIdeal.nD Cert.AdamGIdeal.τ).loc Cert.AdamGIdeal.main_arg1)
          ∧ r.2.mem ((c.tc : Thread Cert.AdamGIdeal.nD Cert.AdamGIdeal.τ).loc Cert.AdamGIdeal.main_arg2) = m ((c.tc : Thread Cert.AdamGIdeal.nD Cert.AdamGIdeal.τ).loc Cert.AdamGIdeal.main_arg2)
          ∧ r.2.mem ((c.tc : Thread Cert.AdamGIdeal.nD Cert.AdamGIdeal.τ).loc Cert.AdamGIdeal.main_arg3) = m ((c.tc : Thread Cert.AdamGIdeal.nD Cert.AdamGIdeal.τ).loc Cert.AdamGIdeal.main_arg3)
          ∧ r.2.mem ((c.tc : Thread Cert.AdamGIdeal.nD Cert.AdamGIdeal.τ).loc Cert.AdamGIdeal.main_arg4) = m ((c.tc : Thread Cert.AdamGIdeal.nD Cert.AdamGIdeal.τ).loc Cert.AdamGIdeal.main_arg4)
          ∧ r.2.mem ((c.tc : Thread Cert.AdamGIdeal.nD Cert.AdamGIdeal.τ).loc Cert.AdamGIdeal.main_arg5) = m ((c.tc : Thread Cert.AdamGIdeal.nD Cert.AdamGIdeal.τ).loc Cert.AdamGIdeal.main_arg5)
          ∧ r.2.mem ((c.tc : Thread Cert.AdamGIdeal.nD Cert.AdamGIdeal.τ).loc Cert.AdamGIdeal.main_arg6) = m ((c.tc : Thread Cert.AdamGIdeal.nD Cert.AdamGIdeal.τ).loc Cert.AdamGIdeal.main_arg6)
          ∧ r.2.mem ((c.tc : Thread Cert.AdamGIdeal.nD Cert.AdamGIdeal.τ).loc Cert.AdamGIdeal.main_arg7) = m ((c.tc : Thread Cert.AdamGIdeal.nD Cert.AdamGIdeal.τ).loc Cert.AdamGIdeal.main_arg7))
      ∧ θ_run (Cert.AdamGRefIdeal.defs (F := Ideal)) (onTc (τ := Cert.AdamGRefIdeal.τ) (Cert.AdamGRefIdeal.main (F := Ideal))) ⟨m', fun _ => 0, g'⟩ (fun r => ∀ c : Dev Cert.AdamGRefIdeal.nD,
          r.2.mem ((c.tc : Thread Cert.AdamGRefIdeal.nD Cert.AdamGRefIdeal.τ).loc Cert.AdamGRefIdeal.main_v34) = v0 c
          ∧ r.2.mem ((c.tc : Thread Cert.AdamGRefIdeal.nD Cert.AdamGRefIdeal.τ).loc Cert.AdamGRefIdeal.main_v37) = v1 c
          ∧ r.2.mem ((c.tc : Thread Cert.AdamGRefIdeal.nD Cert.AdamGRefIdeal.τ).loc Cert.AdamGRefIdeal.main_v40) = v2 c
          ∧ r.2.mem ((c.tc : Thread Cert.AdamGRefIdeal.nD Cert.AdamGRefIdeal.τ).loc Cert.AdamGRefIdeal.main_v43) = v3 c
          ∧ r.2.mem ((c.tc : Thread Cert.AdamGRefIdeal.nD Cert.AdamGRefIdeal.τ).loc Cert.AdamGRefIdeal.main_arg0) = m' ((c.tc : Thread Cert.AdamGRefIdeal.nD Cert.AdamGRefIdeal.τ).loc Cert.AdamGRefIdeal.main_arg0)
          ∧ r.2.mem ((c.tc : Thread Cert.AdamGRefIdeal.nD Cert.AdamGRefIdeal.τ).loc Cert.AdamGRefIdeal.main_arg1) = m' ((c.tc : Thread Cert.AdamGRefIdeal.nD Cert.AdamGRefIdeal.τ).loc Cert.AdamGRefIdeal.main_arg1)
          ∧ r.2.mem ((c.tc : Thread Cert.AdamGRefIdeal.nD Cert.AdamGRefIdeal.τ).loc Cert.AdamGRefIdeal.main_arg2) = m' ((c.tc : Thread Cert.AdamGRefIdeal.nD Cert.AdamGRefIdeal.τ).loc Cert.AdamGRefIdeal.main_arg2)
          ∧ r.2.mem ((c.tc : Thread Cert.AdamGRefIdeal.nD Cert.AdamGRefIdeal.τ).loc Cert.AdamGRefIdeal.main_arg3) = m' ((c.tc : Thread Cert.AdamGRefIdeal.nD Cert.AdamGRefIdeal.τ).loc Cert.AdamGRefIdeal.main_arg3)
          ∧ r.2.mem ((c.tc : Thread Cert.AdamGRefIdeal.nD Cert.AdamGRefIdeal.τ).loc Cert.AdamGRefIdeal.main_arg4) = m' ((c.tc : Thread Cert.AdamGRefIdeal.nD Cert.AdamGRefIdeal.τ).loc Cert.AdamGRefIdeal.main_arg4)
          ∧ r.2.mem ((c.tc : Thread Cert.AdamGRefIdeal.nD Cert.AdamGRefIdeal.τ).loc Cert.AdamGRefIdeal.main_arg5) = m' ((c.tc : Thread Cert.AdamGRefIdeal.nD Cert.AdamGRefIdeal.τ).loc Cert.AdamGRefIdeal.main_arg5)
          ∧ r.2.mem ((c.tc : Thread Cert.AdamGRefIdeal.nD Cert.AdamGRefIdeal.τ).loc Cert.AdamGRefIdeal.main_arg6) = m' ((c.tc : Thread Cert.AdamGRefIdeal.nD Cert.AdamGRefIdeal.τ).loc Cert.AdamGRefIdeal.main_arg6)
          ∧ r.2.mem ((c.tc : Thread Cert.AdamGRefIdeal.nD Cert.AdamGRefIdeal.τ).loc Cert.AdamGRefIdeal.main_arg7) = m' ((c.tc : Thread Cert.AdamGRefIdeal.nD Cert.AdamGRefIdeal.τ).loc Cert.AdamGRefIdeal.main_arg7))

def preserves_AdamU_AdamUIdeal : Prop :=
  True

def algebraic_AdamUIdeal_AdamURefIdeal [hAdamUIdeal : Cert.AdamUIdeal.Facts] [hAdamURefIdeal : Cert.AdamURefIdeal.Facts] : Prop :=
  ∀ (m : (ℓ : Loc Cert.AdamUIdeal.nD Cert.AdamUIdeal.τ Cert.AdamUIdeal.sig) → Buf (Elt Ideal) ℓ) (g : Dev Cert.AdamUIdeal.nD → PrngReg)
    (m' : (ℓ : Loc Cert.AdamURefIdeal.nD Cert.AdamURefIdeal.τ Cert.AdamURefIdeal.sig) → Buf (Elt Ideal) ℓ) (g' : Dev Cert.AdamURefIdeal.nD → PrngReg), Pre_AdamUIdeal m →
    (∀ c : Dev Cert.AdamUIdeal.nD,
      m' ((c.tc : Thread Cert.AdamURefIdeal.nD Cert.AdamURefIdeal.τ).loc Cert.AdamURefIdeal.main_arg0) = m ((c.tc : Thread Cert.AdamUIdeal.nD Cert.AdamUIdeal.τ).loc Cert.AdamUIdeal.main_arg0)
      ∧ m' ((c.tc : Thread Cert.AdamURefIdeal.nD Cert.AdamURefIdeal.τ).loc Cert.AdamURefIdeal.main_arg1) = m ((c.tc : Thread Cert.AdamUIdeal.nD Cert.AdamUIdeal.τ).loc Cert.AdamUIdeal.main_arg1)
      ∧ m' ((c.tc : Thread Cert.AdamURefIdeal.nD Cert.AdamURefIdeal.τ).loc Cert.AdamURefIdeal.main_arg2) = m ((c.tc : Thread Cert.AdamUIdeal.nD Cert.AdamUIdeal.τ).loc Cert.AdamUIdeal.main_arg2)
      ∧ m' ((c.tc : Thread Cert.AdamURefIdeal.nD Cert.AdamURefIdeal.τ).loc Cert.AdamURefIdeal.main_arg3) = m ((c.tc : Thread Cert.AdamUIdeal.nD Cert.AdamUIdeal.τ).loc Cert.AdamUIdeal.main_arg3)
      ∧ m' ((c.tc : Thread Cert.AdamURefIdeal.nD Cert.AdamURefIdeal.τ).loc Cert.AdamURefIdeal.main_arg4) = m ((c.tc : Thread Cert.AdamUIdeal.nD Cert.AdamUIdeal.τ).loc Cert.AdamUIdeal.main_arg4)
      ∧ m' ((c.tc : Thread Cert.AdamURefIdeal.nD Cert.AdamURefIdeal.τ).loc Cert.AdamURefIdeal.main_arg5) = m ((c.tc : Thread Cert.AdamUIdeal.nD Cert.AdamUIdeal.τ).loc Cert.AdamUIdeal.main_arg5)
      ∧ m' ((c.tc : Thread Cert.AdamURefIdeal.nD Cert.AdamURefIdeal.τ).loc Cert.AdamURefIdeal.main_arg6) = m ((c.tc : Thread Cert.AdamUIdeal.nD Cert.AdamUIdeal.τ).loc Cert.AdamUIdeal.main_arg6)
      ∧ m' ((c.tc : Thread Cert.AdamURefIdeal.nD Cert.AdamURefIdeal.τ).loc Cert.AdamURefIdeal.main_arg7) = m ((c.tc : Thread Cert.AdamUIdeal.nD Cert.AdamUIdeal.τ).loc Cert.AdamUIdeal.main_arg7)) →
    ∃ (v0 : (c : Dev Cert.AdamUIdeal.nD) → Buf (Elt Ideal) ((c.tc : Thread Cert.AdamUIdeal.nD Cert.AdamUIdeal.τ).loc Cert.AdamUIdeal.main_v0_0)) (v1 : (c : Dev Cert.AdamUIdeal.nD) → Buf (Elt Ideal) ((c.tc : Thread Cert.AdamUIdeal.nD Cert.AdamUIdeal.τ).loc Cert.AdamUIdeal.main_v0_1)) (v2 : (c : Dev Cert.AdamUIdeal.nD) → Buf (Elt Ideal) ((c.tc : Thread Cert.AdamUIdeal.nD Cert.AdamUIdeal.τ).loc Cert.AdamUIdeal.main_v0_2)) (v3 : (c : Dev Cert.AdamUIdeal.nD) → Buf (Elt Ideal) ((c.tc : Thread Cert.AdamUIdeal.nD Cert.AdamUIdeal.τ).loc Cert.AdamUIdeal.main_v0_3)),
      θ_run (Cert.AdamUIdeal.defs (F := Ideal)) (onTc (τ := Cert.AdamUIdeal.τ) (Cert.AdamUIdeal.main (F := Ideal))) ⟨m, fun _ => 0, g⟩ (fun r => ∀ c : Dev Cert.AdamUIdeal.nD,
          r.2.mem ((c.tc : Thread Cert.AdamUIdeal.nD Cert.AdamUIdeal.τ).loc Cert.AdamUIdeal.main_v0_0) = v0 c
          ∧ r.2.mem ((c.tc : Thread Cert.AdamUIdeal.nD Cert.AdamUIdeal.τ).loc Cert.AdamUIdeal.main_v0_1) = v1 c
          ∧ r.2.mem ((c.tc : Thread Cert.AdamUIdeal.nD Cert.AdamUIdeal.τ).loc Cert.AdamUIdeal.main_v0_2) = v2 c
          ∧ r.2.mem ((c.tc : Thread Cert.AdamUIdeal.nD Cert.AdamUIdeal.τ).loc Cert.AdamUIdeal.main_v0_3) = v3 c
          ∧ r.2.mem ((c.tc : Thread Cert.AdamUIdeal.nD Cert.AdamUIdeal.τ).loc Cert.AdamUIdeal.main_arg0) = m ((c.tc : Thread Cert.AdamUIdeal.nD Cert.AdamUIdeal.τ).loc Cert.AdamUIdeal.main_arg0)
          ∧ r.2.mem ((c.tc : Thread Cert.AdamUIdeal.nD Cert.AdamUIdeal.τ).loc Cert.AdamUIdeal.main_arg1) = m ((c.tc : Thread Cert.AdamUIdeal.nD Cert.AdamUIdeal.τ).loc Cert.AdamUIdeal.main_arg1)
          ∧ r.2.mem ((c.tc : Thread Cert.AdamUIdeal.nD Cert.AdamUIdeal.τ).loc Cert.AdamUIdeal.main_arg2) = m ((c.tc : Thread Cert.AdamUIdeal.nD Cert.AdamUIdeal.τ).loc Cert.AdamUIdeal.main_arg2)
          ∧ r.2.mem ((c.tc : Thread Cert.AdamUIdeal.nD Cert.AdamUIdeal.τ).loc Cert.AdamUIdeal.main_arg3) = m ((c.tc : Thread Cert.AdamUIdeal.nD Cert.AdamUIdeal.τ).loc Cert.AdamUIdeal.main_arg3)
          ∧ r.2.mem ((c.tc : Thread Cert.AdamUIdeal.nD Cert.AdamUIdeal.τ).loc Cert.AdamUIdeal.main_arg4) = m ((c.tc : Thread Cert.AdamUIdeal.nD Cert.AdamUIdeal.τ).loc Cert.AdamUIdeal.main_arg4)
          ∧ r.2.mem ((c.tc : Thread Cert.AdamUIdeal.nD Cert.AdamUIdeal.τ).loc Cert.AdamUIdeal.main_arg5) = m ((c.tc : Thread Cert.AdamUIdeal.nD Cert.AdamUIdeal.τ).loc Cert.AdamUIdeal.main_arg5)
          ∧ r.2.mem ((c.tc : Thread Cert.AdamUIdeal.nD Cert.AdamUIdeal.τ).loc Cert.AdamUIdeal.main_arg6) = m ((c.tc : Thread Cert.AdamUIdeal.nD Cert.AdamUIdeal.τ).loc Cert.AdamUIdeal.main_arg6)
          ∧ r.2.mem ((c.tc : Thread Cert.AdamUIdeal.nD Cert.AdamUIdeal.τ).loc Cert.AdamUIdeal.main_arg7) = m ((c.tc : Thread Cert.AdamUIdeal.nD Cert.AdamUIdeal.τ).loc Cert.AdamUIdeal.main_arg7))
      ∧ θ_run (Cert.AdamURefIdeal.defs (F := Ideal)) (onTc (τ := Cert.AdamURefIdeal.τ) (Cert.AdamURefIdeal.main (F := Ideal))) ⟨m', fun _ => 0, g'⟩ (fun r => ∀ c : Dev Cert.AdamURefIdeal.nD,
          r.2.mem ((c.tc : Thread Cert.AdamURefIdeal.nD Cert.AdamURefIdeal.τ).loc Cert.AdamURefIdeal.main_v34) = v0 c
          ∧ r.2.mem ((c.tc : Thread Cert.AdamURefIdeal.nD Cert.AdamURefIdeal.τ).loc Cert.AdamURefIdeal.main_v37) = v1 c
          ∧ r.2.mem ((c.tc : Thread Cert.AdamURefIdeal.nD Cert.AdamURefIdeal.τ).loc Cert.AdamURefIdeal.main_v40) = v2 c
          ∧ r.2.mem ((c.tc : Thread Cert.AdamURefIdeal.nD Cert.AdamURefIdeal.τ).loc Cert.AdamURefIdeal.main_v43) = v3 c
          ∧ r.2.mem ((c.tc : Thread Cert.AdamURefIdeal.nD Cert.AdamURefIdeal.τ).loc Cert.AdamURefIdeal.main_arg0) = m' ((c.tc : Thread Cert.AdamURefIdeal.nD Cert.AdamURefIdeal.τ).loc Cert.AdamURefIdeal.main_arg0)
          ∧ r.2.mem ((c.tc : Thread Cert.AdamURefIdeal.nD Cert.AdamURefIdeal.τ).loc Cert.AdamURefIdeal.main_arg1) = m' ((c.tc : Thread Cert.AdamURefIdeal.nD Cert.AdamURefIdeal.τ).loc Cert.AdamURefIdeal.main_arg1)
          ∧ r.2.mem ((c.tc : Thread Cert.AdamURefIdeal.nD Cert.AdamURefIdeal.τ).loc Cert.AdamURefIdeal.main_arg2) = m' ((c.tc : Thread Cert.AdamURefIdeal.nD Cert.AdamURefIdeal.τ).loc Cert.AdamURefIdeal.main_arg2)
          ∧ r.2.mem ((c.tc : Thread Cert.AdamURefIdeal.nD Cert.AdamURefIdeal.τ).loc Cert.AdamURefIdeal.main_arg3) = m' ((c.tc : Thread Cert.AdamURefIdeal.nD Cert.AdamURefIdeal.τ).loc Cert.AdamURefIdeal.main_arg3)
          ∧ r.2.mem ((c.tc : Thread Cert.AdamURefIdeal.nD Cert.AdamURefIdeal.τ).loc Cert.AdamURefIdeal.main_arg4) = m' ((c.tc : Thread Cert.AdamURefIdeal.nD Cert.AdamURefIdeal.τ).loc Cert.AdamURefIdeal.main_arg4)
          ∧ r.2.mem ((c.tc : Thread Cert.AdamURefIdeal.nD Cert.AdamURefIdeal.τ).loc Cert.AdamURefIdeal.main_arg5) = m' ((c.tc : Thread Cert.AdamURefIdeal.nD Cert.AdamURefIdeal.τ).loc Cert.AdamURefIdeal.main_arg5)
          ∧ r.2.mem ((c.tc : Thread Cert.AdamURefIdeal.nD Cert.AdamURefIdeal.τ).loc Cert.AdamURefIdeal.main_arg6) = m' ((c.tc : Thread Cert.AdamURefIdeal.nD Cert.AdamURefIdeal.τ).loc Cert.AdamURefIdeal.main_arg6)
          ∧ r.2.mem ((c.tc : Thread Cert.AdamURefIdeal.nD Cert.AdamURefIdeal.τ).loc Cert.AdamURefIdeal.main_arg7) = m' ((c.tc : Thread Cert.AdamURefIdeal.nD Cert.AdamURefIdeal.τ).loc Cert.AdamURefIdeal.main_arg7))

def preserves_AdamD_AdamDIdeal : Prop :=
  True

def algebraic_AdamDIdeal_AdamDRefIdeal [hAdamDIdeal : Cert.AdamDIdeal.Facts] [hAdamDRefIdeal : Cert.AdamDRefIdeal.Facts] : Prop :=
  ∀ (m : (ℓ : Loc Cert.AdamDIdeal.nD Cert.AdamDIdeal.τ Cert.AdamDIdeal.sig) → Buf (Elt Ideal) ℓ) (g : Dev Cert.AdamDIdeal.nD → PrngReg)
    (m' : (ℓ : Loc Cert.AdamDRefIdeal.nD Cert.AdamDRefIdeal.τ Cert.AdamDRefIdeal.sig) → Buf (Elt Ideal) ℓ) (g' : Dev Cert.AdamDRefIdeal.nD → PrngReg), Pre_AdamDIdeal m →
    (∀ c : Dev Cert.AdamDIdeal.nD,
      m' ((c.tc : Thread Cert.AdamDRefIdeal.nD Cert.AdamDRefIdeal.τ).loc Cert.AdamDRefIdeal.main_arg0) = m ((c.tc : Thread Cert.AdamDIdeal.nD Cert.AdamDIdeal.τ).loc Cert.AdamDIdeal.main_arg0)
      ∧ m' ((c.tc : Thread Cert.AdamDRefIdeal.nD Cert.AdamDRefIdeal.τ).loc Cert.AdamDRefIdeal.main_arg1) = m ((c.tc : Thread Cert.AdamDIdeal.nD Cert.AdamDIdeal.τ).loc Cert.AdamDIdeal.main_arg1)
      ∧ m' ((c.tc : Thread Cert.AdamDRefIdeal.nD Cert.AdamDRefIdeal.τ).loc Cert.AdamDRefIdeal.main_arg2) = m ((c.tc : Thread Cert.AdamDIdeal.nD Cert.AdamDIdeal.τ).loc Cert.AdamDIdeal.main_arg2)
      ∧ m' ((c.tc : Thread Cert.AdamDRefIdeal.nD Cert.AdamDRefIdeal.τ).loc Cert.AdamDRefIdeal.main_arg3) = m ((c.tc : Thread Cert.AdamDIdeal.nD Cert.AdamDIdeal.τ).loc Cert.AdamDIdeal.main_arg3)
      ∧ m' ((c.tc : Thread Cert.AdamDRefIdeal.nD Cert.AdamDRefIdeal.τ).loc Cert.AdamDRefIdeal.main_arg4) = m ((c.tc : Thread Cert.AdamDIdeal.nD Cert.AdamDIdeal.τ).loc Cert.AdamDIdeal.main_arg4)
      ∧ m' ((c.tc : Thread Cert.AdamDRefIdeal.nD Cert.AdamDRefIdeal.τ).loc Cert.AdamDRefIdeal.main_arg5) = m ((c.tc : Thread Cert.AdamDIdeal.nD Cert.AdamDIdeal.τ).loc Cert.AdamDIdeal.main_arg5)
      ∧ m' ((c.tc : Thread Cert.AdamDRefIdeal.nD Cert.AdamDRefIdeal.τ).loc Cert.AdamDRefIdeal.main_arg6) = m ((c.tc : Thread Cert.AdamDIdeal.nD Cert.AdamDIdeal.τ).loc Cert.AdamDIdeal.main_arg6)
      ∧ m' ((c.tc : Thread Cert.AdamDRefIdeal.nD Cert.AdamDRefIdeal.τ).loc Cert.AdamDRefIdeal.main_arg7) = m ((c.tc : Thread Cert.AdamDIdeal.nD Cert.AdamDIdeal.τ).loc Cert.AdamDIdeal.main_arg7)) →
    ∃ (v0 : (c : Dev Cert.AdamDIdeal.nD) → Buf (Elt Ideal) ((c.tc : Thread Cert.AdamDIdeal.nD Cert.AdamDIdeal.τ).loc Cert.AdamDIdeal.main_v0_0)) (v1 : (c : Dev Cert.AdamDIdeal.nD) → Buf (Elt Ideal) ((c.tc : Thread Cert.AdamDIdeal.nD Cert.AdamDIdeal.τ).loc Cert.AdamDIdeal.main_v0_1)) (v2 : (c : Dev Cert.AdamDIdeal.nD) → Buf (Elt Ideal) ((c.tc : Thread Cert.AdamDIdeal.nD Cert.AdamDIdeal.τ).loc Cert.AdamDIdeal.main_v0_2)) (v3 : (c : Dev Cert.AdamDIdeal.nD) → Buf (Elt Ideal) ((c.tc : Thread Cert.AdamDIdeal.nD Cert.AdamDIdeal.τ).loc Cert.AdamDIdeal.main_v0_3)),
      θ_run (Cert.AdamDIdeal.defs (F := Ideal)) (onTc (τ := Cert.AdamDIdeal.τ) (Cert.AdamDIdeal.main (F := Ideal))) ⟨m, fun _ => 0, g⟩ (fun r => ∀ c : Dev Cert.AdamDIdeal.nD,
          r.2.mem ((c.tc : Thread Cert.AdamDIdeal.nD Cert.AdamDIdeal.τ).loc Cert.AdamDIdeal.main_v0_0) = v0 c
          ∧ r.2.mem ((c.tc : Thread Cert.AdamDIdeal.nD Cert.AdamDIdeal.τ).loc Cert.AdamDIdeal.main_v0_1) = v1 c
          ∧ r.2.mem ((c.tc : Thread Cert.AdamDIdeal.nD Cert.AdamDIdeal.τ).loc Cert.AdamDIdeal.main_v0_2) = v2 c
          ∧ r.2.mem ((c.tc : Thread Cert.AdamDIdeal.nD Cert.AdamDIdeal.τ).loc Cert.AdamDIdeal.main_v0_3) = v3 c
          ∧ r.2.mem ((c.tc : Thread Cert.AdamDIdeal.nD Cert.AdamDIdeal.τ).loc Cert.AdamDIdeal.main_arg0) = m ((c.tc : Thread Cert.AdamDIdeal.nD Cert.AdamDIdeal.τ).loc Cert.AdamDIdeal.main_arg0)
          ∧ r.2.mem ((c.tc : Thread Cert.AdamDIdeal.nD Cert.AdamDIdeal.τ).loc Cert.AdamDIdeal.main_arg1) = m ((c.tc : Thread Cert.AdamDIdeal.nD Cert.AdamDIdeal.τ).loc Cert.AdamDIdeal.main_arg1)
          ∧ r.2.mem ((c.tc : Thread Cert.AdamDIdeal.nD Cert.AdamDIdeal.τ).loc Cert.AdamDIdeal.main_arg2) = m ((c.tc : Thread Cert.AdamDIdeal.nD Cert.AdamDIdeal.τ).loc Cert.AdamDIdeal.main_arg2)
          ∧ r.2.mem ((c.tc : Thread Cert.AdamDIdeal.nD Cert.AdamDIdeal.τ).loc Cert.AdamDIdeal.main_arg3) = m ((c.tc : Thread Cert.AdamDIdeal.nD Cert.AdamDIdeal.τ).loc Cert.AdamDIdeal.main_arg3)
          ∧ r.2.mem ((c.tc : Thread Cert.AdamDIdeal.nD Cert.AdamDIdeal.τ).loc Cert.AdamDIdeal.main_arg4) = m ((c.tc : Thread Cert.AdamDIdeal.nD Cert.AdamDIdeal.τ).loc Cert.AdamDIdeal.main_arg4)
          ∧ r.2.mem ((c.tc : Thread Cert.AdamDIdeal.nD Cert.AdamDIdeal.τ).loc Cert.AdamDIdeal.main_arg5) = m ((c.tc : Thread Cert.AdamDIdeal.nD Cert.AdamDIdeal.τ).loc Cert.AdamDIdeal.main_arg5)
          ∧ r.2.mem ((c.tc : Thread Cert.AdamDIdeal.nD Cert.AdamDIdeal.τ).loc Cert.AdamDIdeal.main_arg6) = m ((c.tc : Thread Cert.AdamDIdeal.nD Cert.AdamDIdeal.τ).loc Cert.AdamDIdeal.main_arg6)
          ∧ r.2.mem ((c.tc : Thread Cert.AdamDIdeal.nD Cert.AdamDIdeal.τ).loc Cert.AdamDIdeal.main_arg7) = m ((c.tc : Thread Cert.AdamDIdeal.nD Cert.AdamDIdeal.τ).loc Cert.AdamDIdeal.main_arg7))
      ∧ θ_run (Cert.AdamDRefIdeal.defs (F := Ideal)) (onTc (τ := Cert.AdamDRefIdeal.τ) (Cert.AdamDRefIdeal.main (F := Ideal))) ⟨m', fun _ => 0, g'⟩ (fun r => ∀ c : Dev Cert.AdamDRefIdeal.nD,
          r.2.mem ((c.tc : Thread Cert.AdamDRefIdeal.nD Cert.AdamDRefIdeal.τ).loc Cert.AdamDRefIdeal.main_v34) = v0 c
          ∧ r.2.mem ((c.tc : Thread Cert.AdamDRefIdeal.nD Cert.AdamDRefIdeal.τ).loc Cert.AdamDRefIdeal.main_v37) = v1 c
          ∧ r.2.mem ((c.tc : Thread Cert.AdamDRefIdeal.nD Cert.AdamDRefIdeal.τ).loc Cert.AdamDRefIdeal.main_v40) = v2 c
          ∧ r.2.mem ((c.tc : Thread Cert.AdamDRefIdeal.nD Cert.AdamDRefIdeal.τ).loc Cert.AdamDRefIdeal.main_v43) = v3 c
          ∧ r.2.mem ((c.tc : Thread Cert.AdamDRefIdeal.nD Cert.AdamDRefIdeal.τ).loc Cert.AdamDRefIdeal.main_arg0) = m' ((c.tc : Thread Cert.AdamDRefIdeal.nD Cert.AdamDRefIdeal.τ).loc Cert.AdamDRefIdeal.main_arg0)
          ∧ r.2.mem ((c.tc : Thread Cert.AdamDRefIdeal.nD Cert.AdamDRefIdeal.τ).loc Cert.AdamDRefIdeal.main_arg1) = m' ((c.tc : Thread Cert.AdamDRefIdeal.nD Cert.AdamDRefIdeal.τ).loc Cert.AdamDRefIdeal.main_arg1)
          ∧ r.2.mem ((c.tc : Thread Cert.AdamDRefIdeal.nD Cert.AdamDRefIdeal.τ).loc Cert.AdamDRefIdeal.main_arg2) = m' ((c.tc : Thread Cert.AdamDRefIdeal.nD Cert.AdamDRefIdeal.τ).loc Cert.AdamDRefIdeal.main_arg2)
          ∧ r.2.mem ((c.tc : Thread Cert.AdamDRefIdeal.nD Cert.AdamDRefIdeal.τ).loc Cert.AdamDRefIdeal.main_arg3) = m' ((c.tc : Thread Cert.AdamDRefIdeal.nD Cert.AdamDRefIdeal.τ).loc Cert.AdamDRefIdeal.main_arg3)
          ∧ r.2.mem ((c.tc : Thread Cert.AdamDRefIdeal.nD Cert.AdamDRefIdeal.τ).loc Cert.AdamDRefIdeal.main_arg4) = m' ((c.tc : Thread Cert.AdamDRefIdeal.nD Cert.AdamDRefIdeal.τ).loc Cert.AdamDRefIdeal.main_arg4)
          ∧ r.2.mem ((c.tc : Thread Cert.AdamDRefIdeal.nD Cert.AdamDRefIdeal.τ).loc Cert.AdamDRefIdeal.main_arg5) = m' ((c.tc : Thread Cert.AdamDRefIdeal.nD Cert.AdamDRefIdeal.τ).loc Cert.AdamDRefIdeal.main_arg5)
          ∧ r.2.mem ((c.tc : Thread Cert.AdamDRefIdeal.nD Cert.AdamDRefIdeal.τ).loc Cert.AdamDRefIdeal.main_arg6) = m' ((c.tc : Thread Cert.AdamDRefIdeal.nD Cert.AdamDRefIdeal.τ).loc Cert.AdamDRefIdeal.main_arg6)
          ∧ r.2.mem ((c.tc : Thread Cert.AdamDRefIdeal.nD Cert.AdamDRefIdeal.τ).loc Cert.AdamDRefIdeal.main_arg7) = m' ((c.tc : Thread Cert.AdamDRefIdeal.nD Cert.AdamDRefIdeal.τ).loc Cert.AdamDRefIdeal.main_arg7))

def Claim : Prop :=
  ∃ (hKernel : Cert.Kernel.Facts) (hKernelIdeal : Cert.KernelIdeal.Facts) (hReferenceIdeal : Cert.ReferenceIdeal.Facts) (hDh : Cert.Dh.Facts) (hDhIdeal : Cert.DhIdeal.Facts) (hDhRefIdeal : Cert.DhRefIdeal.Facts) (hW2 : Cert.W2.Facts) (hW2Ideal : Cert.W2Ideal.Facts) (hW2RefIdeal : Cert.W2RefIdeal.Facts) (hW1 : Cert.W1.Facts) (hW1Ideal : Cert.W1Ideal.Facts) (hW1RefIdeal : Cert.W1RefIdeal.Facts) (hOut : Cert.Out.Facts) (hOutIdeal : Cert.OutIdeal.Facts) (hOutRefIdeal : Cert.OutRefIdeal.Facts) (hOutB : Cert.OutB.Facts) (hOutBIdeal : Cert.OutBIdeal.Facts) (hOutBRefIdeal : Cert.OutBRefIdeal.Facts) (hOutG : Cert.OutG.Facts) (hOutGIdeal : Cert.OutGIdeal.Facts) (hOutGRefIdeal : Cert.OutGRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hIn : Cert.In.Facts) (hInIdeal : Cert.InIdeal.Facts) (hInRefIdeal : Cert.InRefIdeal.Facts) (hQkv : Cert.Qkv.Facts) (hQkvIdeal : Cert.QkvIdeal.Facts) (hQkvRefIdeal : Cert.QkvRefIdeal.Facts) (hUpB : Cert.UpB.Facts) (hUpBIdeal : Cert.UpBIdeal.Facts) (hUpBRefIdeal : Cert.UpBRefIdeal.Facts) (hInB : Cert.InB.Facts) (hInBIdeal : Cert.InBIdeal.Facts) (hInBRefIdeal : Cert.InBRefIdeal.Facts) (hQkvB : Cert.QkvB.Facts) (hQkvBIdeal : Cert.QkvBIdeal.Facts) (hQkvBRefIdeal : Cert.QkvBRefIdeal.Facts) (hInG : Cert.InG.Facts) (hInGIdeal : Cert.InGIdeal.Facts) (hInGRefIdeal : Cert.InGRefIdeal.Facts) (hQkvG : Cert.QkvG.Facts) (hQkvGIdeal : Cert.QkvGIdeal.Facts) (hQkvGRefIdeal : Cert.QkvGRefIdeal.Facts) (hGlu : Cert.Glu.Facts) (hGluIdeal : Cert.GluIdeal.Facts) (hGluRefIdeal : Cert.GluRefIdeal.Facts) (hGluZ : Cert.GluZ.Facts) (hGluZIdeal : Cert.GluZIdeal.Facts) (hGluZRefIdeal : Cert.GluZRefIdeal.Facts) (hGluG : Cert.GluG.Facts) (hGluGIdeal : Cert.GluGIdeal.Facts) (hGluGRefIdeal : Cert.GluGRefIdeal.Facts) (hAdamS : Cert.AdamS.Facts) (hAdamSIdeal : Cert.AdamSIdeal.Facts) (hAdamSRefIdeal : Cert.AdamSRefIdeal.Facts) (hAdamO : Cert.AdamO.Facts) (hAdamOIdeal : Cert.AdamOIdeal.Facts) (hAdamORefIdeal : Cert.AdamORefIdeal.Facts) (hAdamI : Cert.AdamI.Facts) (hAdamIIdeal : Cert.AdamIIdeal.Facts) (hAdamIRefIdeal : Cert.AdamIRefIdeal.Facts) (hAdamQ : Cert.AdamQ.Facts) (hAdamQIdeal : Cert.AdamQIdeal.Facts) (hAdamQRefIdeal : Cert.AdamQRefIdeal.Facts) (hAdamG : Cert.AdamG.Facts) (hAdamGIdeal : Cert.AdamGIdeal.Facts) (hAdamGRefIdeal : Cert.AdamGRefIdeal.Facts) (hAdamU : Cert.AdamU.Facts) (hAdamUIdeal : Cert.AdamUIdeal.Facts) (hAdamURefIdeal : Cert.AdamURefIdeal.Facts) (hAdamD : Cert.AdamD.Facts) (hAdamDIdeal : Cert.AdamDIdeal.Facts) (hAdamDRefIdeal : Cert.AdamDRefIdeal.Facts),
    quiescent_Kernel (hKernel := hKernel)
    ∧ quiescent_KernelIdeal (hKernelIdeal := hKernelIdeal)
    ∧ quiescent_ReferenceIdeal (hReferenceIdeal := hReferenceIdeal)
    ∧ quiescent_Dh (hDh := hDh)
    ∧ quiescent_DhIdeal (hDhIdeal := hDhIdeal)
    ∧ quiescent_DhRefIdeal (hDhRefIdeal := hDhRefIdeal)
    ∧ quiescent_W2 (hW2 := hW2)
    ∧ quiescent_W2Ideal (hW2Ideal := hW2Ideal)
    ∧ quiescent_W2RefIdeal (hW2RefIdeal := hW2RefIdeal)
    ∧ quiescent_W1 (hW1 := hW1)
    ∧ quiescent_W1Ideal (hW1Ideal := hW1Ideal)
    ∧ quiescent_W1RefIdeal (hW1RefIdeal := hW1RefIdeal)
    ∧ quiescent_Out (hOut := hOut)
    ∧ quiescent_OutIdeal (hOutIdeal := hOutIdeal)
    ∧ quiescent_OutRefIdeal (hOutRefIdeal := hOutRefIdeal)
    ∧ quiescent_OutB (hOutB := hOutB)
    ∧ quiescent_OutBIdeal (hOutBIdeal := hOutBIdeal)
    ∧ quiescent_OutBRefIdeal (hOutBRefIdeal := hOutBRefIdeal)
    ∧ quiescent_OutG (hOutG := hOutG)
    ∧ quiescent_OutGIdeal (hOutGIdeal := hOutGIdeal)
    ∧ quiescent_OutGRefIdeal (hOutGRefIdeal := hOutGRefIdeal)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_In (hIn := hIn)
    ∧ quiescent_InIdeal (hInIdeal := hInIdeal)
    ∧ quiescent_InRefIdeal (hInRefIdeal := hInRefIdeal)
    ∧ quiescent_Qkv (hQkv := hQkv)
    ∧ quiescent_QkvIdeal (hQkvIdeal := hQkvIdeal)
    ∧ quiescent_QkvRefIdeal (hQkvRefIdeal := hQkvRefIdeal)
    ∧ quiescent_UpB (hUpB := hUpB)
    ∧ quiescent_UpBIdeal (hUpBIdeal := hUpBIdeal)
    ∧ quiescent_UpBRefIdeal (hUpBRefIdeal := hUpBRefIdeal)
    ∧ quiescent_InB (hInB := hInB)
    ∧ quiescent_InBIdeal (hInBIdeal := hInBIdeal)
    ∧ quiescent_InBRefIdeal (hInBRefIdeal := hInBRefIdeal)
    ∧ quiescent_QkvB (hQkvB := hQkvB)
    ∧ quiescent_QkvBIdeal (hQkvBIdeal := hQkvBIdeal)
    ∧ quiescent_QkvBRefIdeal (hQkvBRefIdeal := hQkvBRefIdeal)
    ∧ quiescent_InG (hInG := hInG)
    ∧ quiescent_InGIdeal (hInGIdeal := hInGIdeal)
    ∧ quiescent_InGRefIdeal (hInGRefIdeal := hInGRefIdeal)
    ∧ quiescent_QkvG (hQkvG := hQkvG)
    ∧ quiescent_QkvGIdeal (hQkvGIdeal := hQkvGIdeal)
    ∧ quiescent_QkvGRefIdeal (hQkvGRefIdeal := hQkvGRefIdeal)
    ∧ quiescent_Glu (hGlu := hGlu)
    ∧ quiescent_GluIdeal (hGluIdeal := hGluIdeal)
    ∧ quiescent_GluRefIdeal (hGluRefIdeal := hGluRefIdeal)
    ∧ quiescent_GluZ (hGluZ := hGluZ)
    ∧ quiescent_GluZIdeal (hGluZIdeal := hGluZIdeal)
    ∧ quiescent_GluZRefIdeal (hGluZRefIdeal := hGluZRefIdeal)
    ∧ quiescent_GluG (hGluG := hGluG)
    ∧ quiescent_GluGIdeal (hGluGIdeal := hGluGIdeal)
    ∧ quiescent_GluGRefIdeal (hGluGRefIdeal := hGluGRefIdeal)
    ∧ quiescent_AdamS (hAdamS := hAdamS)
    ∧ quiescent_AdamSIdeal (hAdamSIdeal := hAdamSIdeal)
    ∧ quiescent_AdamSRefIdeal (hAdamSRefIdeal := hAdamSRefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamI (hAdamI := hAdamI)
    ∧ quiescent_AdamIIdeal (hAdamIIdeal := hAdamIIdeal)
    ∧ quiescent_AdamIRefIdeal (hAdamIRefIdeal := hAdamIRefIdeal)
    ∧ quiescent_AdamQ (hAdamQ := hAdamQ)
    ∧ quiescent_AdamQIdeal (hAdamQIdeal := hAdamQIdeal)
    ∧ quiescent_AdamQRefIdeal (hAdamQRefIdeal := hAdamQRefIdeal)
    ∧ quiescent_AdamG (hAdamG := hAdamG)
    ∧ quiescent_AdamGIdeal (hAdamGIdeal := hAdamGIdeal)
    ∧ quiescent_AdamGRefIdeal (hAdamGRefIdeal := hAdamGRefIdeal)
    ∧ quiescent_AdamU (hAdamU := hAdamU)
    ∧ quiescent_AdamUIdeal (hAdamUIdeal := hAdamUIdeal)
    ∧ quiescent_AdamURefIdeal (hAdamURefIdeal := hAdamURefIdeal)
    ∧ quiescent_AdamD (hAdamD := hAdamD)
    ∧ quiescent_AdamDIdeal (hAdamDIdeal := hAdamDIdeal)
    ∧ quiescent_AdamDRefIdeal (hAdamDRefIdeal := hAdamDRefIdeal)
    ∧ preserves_Kernel_KernelIdeal
    ∧ algebraic_KernelIdeal_ReferenceIdeal (hKernelIdeal := hKernelIdeal) (hReferenceIdeal := hReferenceIdeal)
    ∧ preserves_Dh_DhIdeal
    ∧ algebraic_DhIdeal_DhRefIdeal (hDhIdeal := hDhIdeal) (hDhRefIdeal := hDhRefIdeal)
    ∧ preserves_W2_W2Ideal
    ∧ algebraic_W2Ideal_W2RefIdeal (hW2Ideal := hW2Ideal) (hW2RefIdeal := hW2RefIdeal)
    ∧ preserves_W1_W1Ideal
    ∧ algebraic_W1Ideal_W1RefIdeal (hW1Ideal := hW1Ideal) (hW1RefIdeal := hW1RefIdeal)
    ∧ preserves_Out_OutIdeal
    ∧ algebraic_OutIdeal_OutRefIdeal (hOutIdeal := hOutIdeal) (hOutRefIdeal := hOutRefIdeal)
    ∧ preserves_OutB_OutBIdeal
    ∧ algebraic_OutBIdeal_OutBRefIdeal (hOutBIdeal := hOutBIdeal) (hOutBRefIdeal := hOutBRefIdeal)
    ∧ preserves_OutG_OutGIdeal
    ∧ algebraic_OutGIdeal_OutGRefIdeal (hOutGIdeal := hOutGIdeal) (hOutGRefIdeal := hOutGRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_In_InIdeal
    ∧ algebraic_InIdeal_InRefIdeal (hInIdeal := hInIdeal) (hInRefIdeal := hInRefIdeal)
    ∧ preserves_Qkv_QkvIdeal
    ∧ algebraic_QkvIdeal_QkvRefIdeal (hQkvIdeal := hQkvIdeal) (hQkvRefIdeal := hQkvRefIdeal)
    ∧ preserves_UpB_UpBIdeal
    ∧ algebraic_UpBIdeal_UpBRefIdeal (hUpBIdeal := hUpBIdeal) (hUpBRefIdeal := hUpBRefIdeal)
    ∧ preserves_InB_InBIdeal
    ∧ algebraic_InBIdeal_InBRefIdeal (hInBIdeal := hInBIdeal) (hInBRefIdeal := hInBRefIdeal)
    ∧ preserves_QkvB_QkvBIdeal
    ∧ algebraic_QkvBIdeal_QkvBRefIdeal (hQkvBIdeal := hQkvBIdeal) (hQkvBRefIdeal := hQkvBRefIdeal)
    ∧ preserves_InG_InGIdeal
    ∧ algebraic_InGIdeal_InGRefIdeal (hInGIdeal := hInGIdeal) (hInGRefIdeal := hInGRefIdeal)
    ∧ preserves_QkvG_QkvGIdeal
    ∧ algebraic_QkvGIdeal_QkvGRefIdeal (hQkvGIdeal := hQkvGIdeal) (hQkvGRefIdeal := hQkvGRefIdeal)
    ∧ preserves_Glu_GluIdeal
    ∧ algebraic_GluIdeal_GluRefIdeal (hGluIdeal := hGluIdeal) (hGluRefIdeal := hGluRefIdeal)
    ∧ preserves_GluZ_GluZIdeal
    ∧ algebraic_GluZIdeal_GluZRefIdeal (hGluZIdeal := hGluZIdeal) (hGluZRefIdeal := hGluZRefIdeal)
    ∧ preserves_GluG_GluGIdeal
    ∧ algebraic_GluGIdeal_GluGRefIdeal (hGluGIdeal := hGluGIdeal) (hGluGRefIdeal := hGluGRefIdeal)
    ∧ preserves_AdamS_AdamSIdeal
    ∧ algebraic_AdamSIdeal_AdamSRefIdeal (hAdamSIdeal := hAdamSIdeal) (hAdamSRefIdeal := hAdamSRefIdeal)
    ∧ preserves_AdamO_AdamOIdeal
    ∧ algebraic_AdamOIdeal_AdamORefIdeal (hAdamOIdeal := hAdamOIdeal) (hAdamORefIdeal := hAdamORefIdeal)
    ∧ preserves_AdamI_AdamIIdeal
    ∧ algebraic_AdamIIdeal_AdamIRefIdeal (hAdamIIdeal := hAdamIIdeal) (hAdamIRefIdeal := hAdamIRefIdeal)
    ∧ preserves_AdamQ_AdamQIdeal
    ∧ algebraic_AdamQIdeal_AdamQRefIdeal (hAdamQIdeal := hAdamQIdeal) (hAdamQRefIdeal := hAdamQRefIdeal)
    ∧ preserves_AdamG_AdamGIdeal
    ∧ algebraic_AdamGIdeal_AdamGRefIdeal (hAdamGIdeal := hAdamGIdeal) (hAdamGRefIdeal := hAdamGRefIdeal)
    ∧ preserves_AdamU_AdamUIdeal
    ∧ algebraic_AdamUIdeal_AdamURefIdeal (hAdamUIdeal := hAdamUIdeal) (hAdamURefIdeal := hAdamURefIdeal)
    ∧ preserves_AdamD_AdamDIdeal
    ∧ algebraic_AdamDIdeal_AdamDRefIdeal (hAdamDIdeal := hAdamDIdeal) (hAdamDRefIdeal := hAdamDRefIdeal)
-- ==== Kernel.lean ====
abbrev S8192x4096 : Shape := ⟨2, ![8192, 4096]⟩
abbrev S8192x2048 : Shape := ⟨2, ![8192, 2048]⟩
abbrev S8192x1024 : Shape := ⟨2, ![8192, 1024]⟩
abbrev S8192x8 : Shape := ⟨2, ![8192, 8]⟩
abbrev S32x8 : Shape := ⟨2, ![32, 8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128 : Shape := ⟨2, ![1, 128]⟩
abbrev S256x1 : Shape := ⟨2, ![256, 1]⟩
abbrev S256x128 : Shape := ⟨2, ![256, 128]⟩
abbrev S128x256x1 : Shape := ⟨3, ![128, 256, 1]⟩
abbrev S128x256x8 : Shape := ⟨3, ![128, 256, 8]⟩
abbrev S8x128x256 : Shape := ⟨3, ![8, 128, 256]⟩
abbrev S256x128x1 : Shape := ⟨3, ![256, 128, 1]⟩
abbrev S256x128x8 : Shape := ⟨3, ![256, 128, 8]⟩
abbrev S8x256x128 : Shape := ⟨3, ![8, 256, 128]⟩
abbrev S8192x8x128 : Shape := ⟨3, ![8192, 8, 128]⟩
abbrev S8192x8x1 : Shape := ⟨3, ![8192, 8, 1]⟩
abbrev S128x1024 : Shape := ⟨2, ![128, 1024]⟩
abbrev S64x128 : Shape := ⟨2, ![64, 128]⟩
abbrev S128x128 : Shape := ⟨2, ![128, 128]⟩
abbrev S1x128x256 : Shape := ⟨3, ![1, 128, 256]⟩
abbrev S1x256x128 : Shape := ⟨3, ![1, 256, 128]⟩

abbrev nBuf : Space → Nat
  | .hbm => 134
  | .vmem => 45
  | .smem => 0
  | _ => 0

abbrev hbmTy0_0 (i : Nat) : BufTy := match i % 128 with
  | 0 => ⟨S8192x4096, .bf16⟩
  | 1 => ⟨S8192x2048, .bf16⟩
  | 2 => ⟨S8192x1024, .bf16⟩
  | 3 => ⟨S8192x8, .f32⟩
  | 4 => ⟨S32x8, .f32⟩
  | 5 => ⟨S128, .i32⟩
  | 6 => ⟨S128x1, .i32⟩
  | 7 => ⟨S256, .i32⟩
  | 8 => ⟨S1x256, .i32⟩
  | 9 => ⟨S_, .i32⟩
  | 10 => ⟨S1x256, .i32⟩
  | 11 => ⟨S1x256, .i32⟩
  | 12 => ⟨S128x256, .i32⟩
  | 13 => ⟨S128x256, .i32⟩
  | 14 => ⟨S128x256, .i32⟩
  | 15 => ⟨S128, .i32⟩
  | 16 => ⟨S1x128, .i32⟩
  | 17 => ⟨S_, .i32⟩
  | 18 => ⟨S1x128, .i32⟩
  | 19 => ⟨S1x128, .i32⟩
  | 20 => ⟨S256, .i32⟩
  | 21 => ⟨S256x1, .i32⟩
  | 22 => ⟨S256x128, .i32⟩
  | 23 => ⟨S256x128, .i32⟩
  | 24 => ⟨S256x128, .i32⟩
  | 25 => ⟨S128x256, .i32⟩
  | 26 => ⟨S_, .i32⟩
  | 27 => ⟨S128x256, .i32⟩
  | 28 => ⟨S128x256, .i32⟩
  | 29 => ⟨S128x256, .f32⟩
  | 30 => ⟨S_, .f32⟩
  | 31 => ⟨S128x256, .f32⟩
  | 32 => ⟨S128x256, .f32⟩
  | 33 => ⟨S128x256, .f32⟩
  | 34 => ⟨S_, .f32⟩
  | 35 => ⟨S128x256, .f32⟩
  | 36 => ⟨S128x256, .f32⟩
  | 37 => ⟨S_, .f32⟩
  | 38 => ⟨S128x256, .f32⟩
  | 39 => ⟨S128x256, .f32⟩
  | 40 => ⟨S128x256, .i32⟩
  | 41 => ⟨S_, .i32⟩
  | 42 => ⟨S128x256, .i32⟩
  | 43 => ⟨S128x256, .i32⟩
  | 44 => ⟨S_, .i32⟩
  | 45 => ⟨S128x256, .i32⟩
  | 46 => ⟨S128x256, .i32⟩
  | 47 => ⟨S_, .i32⟩
  | 48 => ⟨S128x256, .i32⟩
  | 49 => ⟨S128x256, .i1⟩
  | 50 => ⟨S_, .i32⟩
  | 51 => ⟨S_, .i32⟩
  | 52 => ⟨S128x256, .i32⟩
  | 53 => ⟨S128x256, .i32⟩
  | 54 => ⟨S128x256, .i32⟩
  | 55 => ⟨S_, .i32⟩
  | 56 => ⟨S128x256, .i32⟩
  | 57 => ⟨S128x256, .i1⟩
  | 58 => ⟨S128x256, .i32⟩
  | 59 => ⟨S128x256, .i32⟩
  | 60 => ⟨S128x256, .i32⟩
  | 61 => ⟨S_, .i32⟩
  | 62 => ⟨S128x256, .i32⟩
  | 63 => ⟨S128x256, .i1⟩
  | 64 => ⟨S_, .i32⟩
  | 65 => ⟨S128x256, .i32⟩
  | 66 => ⟨S128x256, .i32⟩
  | 67 => ⟨S128x256, .i32⟩
  | 68 => ⟨S128x256x1, .i32⟩
  | 69 => ⟨S128x256x8, .f32⟩
  | 70 => ⟨S8x128x256, .f32⟩
  | 71 => ⟨S256x128, .i32⟩
  | 72 => ⟨S_, .i32⟩
  | 73 => ⟨S256x128, .i32⟩
  | 74 => ⟨S256x128, .i32⟩
  | 75 => ⟨S256x128, .f32⟩
  | 76 => ⟨S_, .f32⟩
  | 77 => ⟨S256x128, .f32⟩
  | 78 => ⟨S256x128, .f32⟩
  | 79 => ⟨S256x128, .f32⟩
  | 80 => ⟨S_, .f32⟩
  | 81 => ⟨S256x128, .f32⟩
  | 82 => ⟨S256x128, .f32⟩
  | 83 => ⟨S_, .f32⟩
  | 84 => ⟨S256x128, .f32⟩
  | 85 => ⟨S256x128, .f32⟩
  | 86 => ⟨S256x128, .i32⟩
  | 87 => ⟨S_, .i32⟩
  | 88 => ⟨S256x128, .i32⟩
  | 89 => ⟨S256x128, .i32⟩
  | 90 => ⟨S_, .i32⟩
  | 91 => ⟨S256x128, .i32⟩
  | 92 => ⟨S256x128, .i32⟩
  | 93 => ⟨S_, .i32⟩
  | 94 => ⟨S256x128, .i32⟩
  | 95 => ⟨S256x128, .i1⟩
  | 96 => ⟨S_, .i32⟩
  | 97 => ⟨S_, .i32⟩
  | 98 => ⟨S256x128, .i32⟩
  | 99 => ⟨S256x128, .i32⟩
  | 100 => ⟨S256x128, .i32⟩
  | 101 => ⟨S_, .i32⟩
  | 102 => ⟨S256x128, .i32⟩
  | 103 => ⟨S256x128, .i1⟩
  | 104 => ⟨S256x128, .i32⟩
  | 105 => ⟨S256x128, .i32⟩
  | 106 => ⟨S256x128, .i32⟩
  | 107 => ⟨S_, .i32⟩
  | 108 => ⟨S256x128, .i32⟩
  | 109 => ⟨S256x128, .i1⟩
  | 110 => ⟨S_, .i32⟩
  | 111 => ⟨S256x128, .i32⟩
  | 112 => ⟨S256x128, .i32⟩
  | 113 => ⟨S256x128, .i32⟩
  | 114 => ⟨S256x128x1, .i32⟩
  | 115 => ⟨S256x128x8, .f32⟩
  | 116 => ⟨S8x256x128, .f32⟩
  | 117 => ⟨S8192x1024, .bf16⟩
  | 118 => ⟨S8192x1024, .f32⟩
  | 119 => ⟨S8192x1024, .f32⟩
  | 120 => ⟨S8192x1024, .f32⟩
  | 121 => ⟨S8192x8x128, .f32⟩
  | 122 => ⟨S_, .f32⟩
  | 123 => ⟨S8192x8, .f32⟩
  | 124 => ⟨S8192x8x1, .f32⟩
  | 125 => ⟨S8192x8x128, .f32⟩
  | 126 => ⟨S8192x1024, .f32⟩
  | 127 => ⟨S8192x8x1, .f32⟩
  | _ => ⟨S8192x4096, .bf16⟩

abbrev hbmTy0_1 (i : Nat) : BufTy := match i % 128 with
  | 0 => ⟨S8192x8x128, .f32⟩
  | 1 => ⟨S8192x1024, .f32⟩
  | 2 => ⟨S8192x1024, .f32⟩
  | 3 => ⟨S8192x1024, .f32⟩
  | 4 => ⟨S8192x1024, .f32⟩
  | 5 => ⟨S8x128x256, .f32⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x1024, .bf16⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S8x128x256, .f32⟩
  | .local _ .vmem, ⟨37, _⟩ => ⟨S8x256x128, .f32⟩
  | .local _ .vmem, ⟨38, _⟩ => ⟨S128x1024, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | .local _ .vmem, ⟨42, _⟩ => ⟨S128x1024, .f32⟩
  | .local _ .vmem, ⟨43, _⟩ => ⟨S128x1024, .f32⟩
  | .local _ .vmem, ⟨44, _⟩ => ⟨S8x128x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_c_8 : Ref sig .tc := ⟨.hbm, 51, rfl⟩
abbrev main_call0_v0 : Ref sig .tc := ⟨.hbm, 52, rfl⟩
abbrev main_call0_v1 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_10 : Ref sig .tc := ⟨.hbm, 61, rfl⟩
abbrev main_v42 : Ref sig .tc := ⟨.hbm, 62, rfl⟩
abbrev main_v43 : Ref sig .tc := ⟨.hbm, 63, rfl⟩
abbrev main_c_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_16 : Ref sig .tc := ⟨.hbm, 87, rfl⟩
abbrev main_v62 : Ref sig .tc := ⟨.hbm, 88, rfl⟩
abbrev main_v63 : Ref sig .tc := ⟨.hbm, 89, rfl⟩
abbrev main_c_17 : Ref sig .tc := ⟨.hbm, 90, rfl⟩
abbrev main_v64 : Ref sig .tc := ⟨.hbm, 91, rfl⟩
abbrev main_v65 : Ref sig .tc := ⟨.hbm, 92, rfl⟩
abbrev main_c_18 : Ref sig .tc := ⟨.hbm, 93, rfl⟩
abbrev main_v66 : Ref sig .tc := ⟨.hbm, 94, rfl⟩
abbrev main_v67 : Ref sig .tc := ⟨.hbm, 95, rfl⟩
abbrev main_c_19 : Ref sig .tc := ⟨.hbm, 96, rfl⟩
abbrev main_c_20 : Ref sig .tc := ⟨.hbm, 97, rfl⟩
abbrev main_call2_v0 : Ref sig .tc := ⟨.hbm, 98, rfl⟩
abbrev main_call2_v1 : Ref sig .tc := ⟨.hbm, 99, rfl⟩
abbrev main_v68 : Ref sig .tc := ⟨.hbm, 100, rfl⟩
abbrev main_c_21 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_22 : Ref sig .tc := ⟨.hbm, 107, rfl⟩
abbrev main_v74 : Ref sig .tc := ⟨.hbm, 108, rfl⟩
abbrev main_v75 : Ref sig .tc := ⟨.hbm, 109, rfl⟩
abbrev main_c_23 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_24 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94_0 : Ref sig .tc := ⟨.hbm, 130, rfl⟩
abbrev main_v94_1 : Ref sig .tc := ⟨.hbm, 131, rfl⟩
abbrev main_v94_2 : Ref sig .tc := ⟨.hbm, 132, rfl⟩
abbrev main_v94_3 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg19_0 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem19_0 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43
abbrev cc0_sem23_0 : DmaSem sig := 44

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c63_i32 : BitVec 32 := 63#32
  let v1 : BitVec 32 := Scalar.maxsi c0_i32 v0
  let v2 : BitVec 32 := Scalar.minsi c63_i32 v1
  let c4_i32 : BitVec 32 := 4#32
  let v3 : BitVec 32 := Scalar.muli arg0 c4_i32
  let c0_i32_0 : BitVec 32 := 0#32
  let v4 : BitVec 32 := Scalar.addi v3 c0_i32_0
  let c0_i32_1 : BitVec 32 := 0#32
  ![v2.toNat, v4.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c63_i32 : BitVec 32 := 63#32
  let v1 : BitVec 32 := Scalar.maxsi c0_i32_0 v0
  let v2 : BitVec 32 := Scalar.minsi c63_i32 v1
  let c4_i32 : BitVec 32 := 4#32
  let v3 : BitVec 32 := Scalar.muli arg0 c4_i32
  let c0_i32_1 : BitVec 32 := 0#32
  let v4 : BitVec 32 := Scalar.addi v3 c0_i32_1
  let c0_i32_2 : BitVec 32 := 0#32
  ![v2.toNat, v4.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c63_i32 : BitVec 32 := 63#32
  let v1 : BitVec 32 := Scalar.maxsi c0_i32 v0
  let v2 : BitVec 32 := Scalar.minsi c63_i32 v1
  let c4_i32 : BitVec 32 := 4#32
  let v3 : BitVec 32 := Scalar.muli arg0 c4_i32
  let c0_i32_0 : BitVec 32 := 0#32
  let v4 : BitVec 32 := Scalar.addi v3 c0_i32_0
  let c0_i32_1 : BitVec 32 := 0#32
  ![v2.toNat, v4.toNat]

def cc0_transform_3 (i : grid0.Coords) : Fin 2 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c63_i32 : BitVec 32 := 63#32
  let v1 : BitVec 32 := Scalar.maxsi c0_i32 v0
  let v2 : BitVec 32 := Scalar.minsi c63_i32 v1
  let c4_i32 : BitVec 32 := 4#32
  let v3 : BitVec 32 := Scalar.muli arg0 c4_i32
  let c1_i32 : BitVec 32 := 1#32
  let v4 : BitVec 32 := Scalar.addi v3 c1_i32
  let c0_i32_0 : BitVec 32 := 0#32
  ![v2.toNat, v4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c63_i32 : BitVec 32 := 63#32
  let v1 : BitVec 32 := Scalar.maxsi c0_i32_0 v0
  let v2 : BitVec 32 := Scalar.minsi c63_i32 v1
  let c4_i32 : BitVec 32 := 4#32
  let v3 : BitVec 32 := Scalar.muli arg0 c4_i32
  let c1_i32 : BitVec 32 := 1#32
  let v4 : BitVec 32 := Scalar.addi v3 c1_i32
  let c0_i32_1 : BitVec 32 := 0#32
  ![v2.toNat, v4.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c63_i32 : BitVec 32 := 63#32
  let v1 : BitVec 32 := Scalar.maxsi c0_i32 v0
  let v2 : BitVec 32 := Scalar.minsi c63_i32 v1
  let c4_i32 : BitVec 32 := 4#32
  let v3 : BitVec 32 := Scalar.muli arg0 c4_i32
  let c1_i32_0 : BitVec 32 := 1#32
  let v4 : BitVec 32 := Scalar.addi v3 c1_i32_0
  let c0_i32_1 : BitVec 32 := 0#32
  ![v2.toNat, v4.toNat]

def cc0_transform_6 (i : grid0.Coords) : Fin 2 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c63_i32 : BitVec 32 := 63#32
  let v1 : BitVec 32 := Scalar.maxsi c0_i32 v0
  let v2 : BitVec 32 := Scalar.minsi c63_i32 v1
  let c4_i32 : BitVec 32 := 4#32
  let v3 : BitVec 32 := Scalar.muli arg0 c4_i32
  let c2_i32 : BitVec 32 := 2#32
  let v4 : BitVec 32 := Scalar.addi v3 c2_i32
  let c0_i32_0 : BitVec 32 := 0#32
  ![v2.toNat, v4.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c63_i32 : BitVec 32 := 63#32
  let v1 : BitVec 32 := Scalar.maxsi c0_i32_0 v0
  let v2 : BitVec 32 := Scalar.minsi c63_i32 v1
  let c4_i32 : BitVec 32 := 4#32
  let v3 : BitVec 32 := Scalar.muli arg0 c4_i32
  let c2_i32 : BitVec 32 := 2#32
  let v4 : BitVec 32 := Scalar.addi v3 c2_i32
  let c0_i32_1 : BitVec 32 := 0#32
  ![v2.toNat, v4.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c63_i32 : BitVec 32 := 63#32
  let v1 : BitVec 32 := Scalar.maxsi c0_i32 v0
  let v2 : BitVec 32 := Scalar.minsi c63_i32 v1
  let c4_i32 : BitVec 32 := 4#32
  let v3 : BitVec 32 := Scalar.muli arg0 c4_i32
  let c2_i32 : BitVec 32 := 2#32
  let v4 : BitVec 32 := Scalar.addi v3 c2_i32
  let c0_i32_0 : BitVec 32 := 0#32
  ![v2.toNat, v4.toNat]

def cc0_transform_9 (i : grid0.Coords) : Fin 2 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c63_i32 : BitVec 32 := 63#32
  let v1 : BitVec 32 := Scalar.maxsi c0_i32 v0
  let v2 : BitVec 32 := Scalar.minsi c63_i32 v1
  let c2_i32 : BitVec 32 := 2#32
  let v3 : BitVec 32 := Scalar.muli arg0 c2_i32
  let c0_i32_0 : BitVec 32 := 0#32
  let v4 : BitVec 32 := Scalar.addi v3 c0_i32_0
  let c0_i32_1 : BitVec 32 := 0#32
  ![v2.toNat, v4.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c63_i32 : BitVec 32 := 63#32
  let v1 : BitVec 32 := Scalar.maxsi c0_i32_0 v0
  let v2 : BitVec 32 := Scalar.minsi c63_i32 v1
  let c2_i32 : BitVec 32 := 2#32
  let v3 : BitVec 32 := Scalar.muli arg0 c2_i32
  let c0_i32_1 : BitVec 32 := 0#32
  let v4 : BitVec 32 := Scalar.addi v3 c0_i32_1
  let c0_i32_2 : BitVec 32 := 0#32
  ![v2.toNat, v4.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c63_i32 : BitVec 32 := 63#32
  let v1 : BitVec 32 := Scalar.maxsi c0_i32 v0
  let v2 : BitVec 32 := Scalar.minsi c63_i32 v1
  let c2_i32 : BitVec 32 := 2#32
  let v3 : BitVec 32 := Scalar.muli arg0 c2_i32
  let c0_i32_0 : BitVec 32 := 0#32
  let v4 : BitVec 32 := Scalar.addi v3 c0_i32_0
  let c0_i32_1 : BitVec 32 := 0#32
  ![v2.toNat, v4.toNat]

def cc0_transform_12 (i : grid0.Coords) : Fin 2 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c63_i32 : BitVec 32 := 63#32
  let v1 : BitVec 32 := Scalar.maxsi c0_i32 v0
  let v2 : BitVec 32 := Scalar.minsi c63_i32 v1
  let c1_i32 : BitVec 32 := 1#32
  let v3 : BitVec 32 := Scalar.muli arg0 c1_i32
  let c0_i32_0 : BitVec 32 := 0#32
  let v4 : BitVec 32 := Scalar.addi v3 c0_i32_0
  let c0_i32_1 : BitVec 32 := 0#32
  ![v2.toNat, v4.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c63_i32 : BitVec 32 := 63#32
  let v1 : BitVec 32 := Scalar.maxsi c0_i32_0 v0
  let v2 : BitVec 32 := Scalar.minsi c63_i32 v1
  let c1_i32 : BitVec 32 := 1#32
  let v3 : BitVec 32 := Scalar.muli arg0 c1_i32
  let c0_i32_1 : BitVec 32 := 0#32
  let v4 : BitVec 32 := Scalar.addi v3 c0_i32_1
  let c0_i32_2 : BitVec 32 := 0#32
  ![v2.toNat, v4.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c63_i32 : BitVec 32 := 63#32
  let v1 : BitVec 32 := Scalar.maxsi c0_i32 v0
  let v2 : BitVec 32 := Scalar.minsi c63_i32 v1
  let c1_i32_0 : BitVec 32 := 1#32
  let v3 : BitVec 32 := Scalar.muli arg0 c1_i32_0
  let c0_i32_1 : BitVec 32 := 0#32
  let v4 : BitVec 32 := Scalar.addi v3 c0_i32_1
  let c0_i32_2 : BitVec 32 := 0#32
  ![v2.toNat, v4.toNat]

def cc0_transform_15 (i : grid0.Coords) : Fin 2 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c63_i32 : BitVec 32 := 63#32
  let v1 : BitVec 32 := Scalar.maxsi c0_i32 v0
  let v2 : BitVec 32 := Scalar.minsi c63_i32 v1
  let c1_i32 : BitVec 32 := 1#32
  let v3 : BitVec 32 := Scalar.muli arg0 c1_i32
  let c0_i32_0 : BitVec 32 := 0#32
  let v4 : BitVec 32 := Scalar.addi v3 c0_i32_0
  let c0_i32_1 : BitVec 32 := 0#32
  ![v2.toNat, v4.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c63_i32 : BitVec 32 := 63#32
  let v1 : BitVec 32 := Scalar.maxsi c0_i32_0 v0
  let v2 : BitVec 32 := Scalar.minsi c63_i32 v1
  let c1_i32 : BitVec 32 := 1#32
  let v3 : BitVec 32 := Scalar.muli arg0 c1_i32
  let c0_i32_1 : BitVec 32 := 0#32
  let v4 : BitVec 32 := Scalar.addi v3 c0_i32_1
  let c0_i32_2 : BitVec 32 := 0#32
  ![v2.toNat, v4.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c63_i32 : BitVec 32 := 63#32
  let v1 : BitVec 32 := Scalar.maxsi c0_i32 v0
  let v2 : BitVec 32 := Scalar.minsi c63_i32 v1
  let c1_i32_0 : BitVec 32 := 1#32
  let v3 : BitVec 32 := Scalar.muli arg0 c1_i32_0
  let c0_i32_1 : BitVec 32 := 0#32
  let v4 : BitVec 32 := Scalar.addi v3 c0_i32_1
  let c0_i32_2 : BitVec 32 := 0#32
  ![v2.toNat, v4.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S8x128x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S8x256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S128x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S128x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 1 → Memref sig .tc .vmem S8x128x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]
-- ==== ReferenceIdeal.lean ====
abbrev S8192x4096 : Shape := ⟨2, ![8192, 4096]⟩
abbrev S8192x2048 : Shape := ⟨2, ![8192, 2048]⟩
abbrev S8192x1024 : Shape := ⟨2, ![8192, 1024]⟩
abbrev S8192x8 : Shape := ⟨2, ![8192, 8]⟩
abbrev S32x8 : Shape := ⟨2, ![32, 8]⟩
abbrev S8192x8x128 : Shape := ⟨3, ![8192, 8, 128]⟩
abbrev S8x8192x128 : Shape := ⟨3, ![8, 8192, 128]⟩
abbrev S256 : Shape := ⟨1, ![256]⟩
abbrev S1x256 : Shape := ⟨2, ![1, 256]⟩
abbrev S_ : Shape := ⟨0, ![]⟩
abbrev S128 : Shape := ⟨1, ![128]⟩
abbrev S128x1 : Shape := ⟨2, ![128, 1]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S8x8192 : Shape := ⟨2, ![8, 8192]⟩
abbrev S8x64x128x128 : Shape := ⟨4, ![8, 64, 128, 128]⟩
abbrev S8x64x128 : Shape := ⟨3, ![8, 64, 128]⟩
abbrev S64 : Shape := ⟨1, ![64]⟩
abbrev S64x1 : Shape := ⟨2, ![64, 1]⟩
abbrev S64x256 : Shape := ⟨2, ![64, 256]⟩
abbrev S8x8320x128 : Shape := ⟨3, ![8, 8320, 128]⟩
abbrev S64x256x1 : Shape := ⟨3, ![64, 256, 1]⟩
abbrev S8x64x256x128 : Shape := ⟨4, ![8, 64, 256, 128]⟩
abbrev S1x128x256 : Shape := ⟨3, ![1, 128, 256]⟩
abbrev S64x1x256 : Shape := ⟨3, ![64, 1, 256]⟩
abbrev S64x128x256 : Shape := ⟨3, ![64, 128, 256]⟩
abbrev S8x64x128x256 : Shape := ⟨4, ![8, 64, 128, 256]⟩
abbrev S8x1x128x256 : Shape := ⟨4, ![8, 1, 128, 256]⟩
abbrev S8x64x128x1 : Shape := ⟨4, ![8, 64, 128, 1]⟩

abbrev nBuf : Space → Nat
  | .hbm => 219
  | .vmem => 0
  | .smem => 0
  | _ => 0

abbrev hbmTy0_0 (i : Nat) : BufTy := match i % 128 with
  | 0 => ⟨S8192x4096, .bf16⟩
  | 1 => ⟨S8192x2048, .bf16⟩
  | 2 => ⟨S8192x1024, .bf16⟩
  | 3 => ⟨S8192x8, .f32⟩
  | 4 => ⟨S32x8, .f32⟩
  | 5 => ⟨S8192x1024, .bf16⟩
  | 6 => ⟨S8192x1024, .f32⟩
  | 7 => ⟨S8192x8x128, .f32⟩
  | 8 => ⟨S8x8192x128, .f32⟩
  | 9 => ⟨S8192x1024, .bf16⟩
  | 10 => ⟨S8192x1024, .f32⟩
  | 11 => ⟨S8192x8x128, .f32⟩
  | 12 => ⟨S8x8192x128, .f32⟩
  | 13 => ⟨S8192x1024, .bf16⟩
  | 14 => ⟨S8192x1024, .f32⟩
  | 15 => ⟨S8192x8x128, .f32⟩
  | 16 => ⟨S8x8192x128, .f32⟩
  | 17 => ⟨S256, .i32⟩
  | 18 => ⟨S1x256, .i32⟩
  | 19 => ⟨S_, .i32⟩
  | 20 => ⟨S1x256, .i32⟩
  | 21 => ⟨S1x256, .i32⟩
  | 22 => ⟨S128, .i32⟩
  | 23 => ⟨S128x1, .i32⟩
  | 24 => ⟨S128x256, .i32⟩
  | 25 => ⟨S128x256, .i32⟩
  | 26 => ⟨S128x256, .i32⟩
  | 27 => ⟨S128x256, .i32⟩
  | 28 => ⟨S_, .i32⟩
  | 29 => ⟨S128x256, .i32⟩
  | 30 => ⟨S128x256, .i32⟩
  | 31 => ⟨S128x256, .f32⟩
  | 32 => ⟨S_, .f32⟩
  | 33 => ⟨S128x256, .f32⟩
  | 34 => ⟨S128x256, .f32⟩
  | 35 => ⟨S128x256, .f32⟩
  | 36 => ⟨S_, .f32⟩
  | 37 => ⟨S128x256, .f32⟩
  | 38 => ⟨S128x256, .f32⟩
  | 39 => ⟨S_, .f32⟩
  | 40 => ⟨S128x256, .f32⟩
  | 41 => ⟨S128x256, .f32⟩
  | 42 => ⟨S128x256, .i32⟩
  | 43 => ⟨S_, .i32⟩
  | 44 => ⟨S128x256, .i32⟩
  | 45 => ⟨S128x256, .i32⟩
  | 46 => ⟨S_, .i32⟩
  | 47 => ⟨S128x256, .i32⟩
  | 48 => ⟨S128x256, .i32⟩
  | 49 => ⟨S_, .i32⟩
  | 50 => ⟨S128x256, .i32⟩
  | 51 => ⟨S128x256, .i1⟩
  | 52 => ⟨S_, .i32⟩
  | 53 => ⟨S_, .i32⟩
  | 54 => ⟨S128x256, .i32⟩
  | 55 => ⟨S128x256, .i32⟩
  | 56 => ⟨S128x256, .i32⟩
  | 57 => ⟨S_, .i32⟩
  | 58 => ⟨S128x256, .i32⟩
  | 59 => ⟨S128x256, .i1⟩
  | 60 => ⟨S128x256, .i32⟩
  | 61 => ⟨S128x256, .i32⟩
  | 62 => ⟨S128x256, .i32⟩
  | 63 => ⟨S_, .i32⟩
  | 64 => ⟨S128x256, .i32⟩
  | 65 => ⟨S128x256, .i1⟩
  | 66 => ⟨S_, .i32⟩
  | 67 => ⟨S128x256, .i32⟩
  | 68 => ⟨S128x256, .i32⟩
  | 69 => ⟨S128x256, .i32⟩
  | 70 => ⟨S128x256x1, .i32⟩
  | 71 => ⟨S128x256x8, .f32⟩
  | 72 => ⟨S8x128x256, .f32⟩
  | 73 => ⟨S8x8192, .f32⟩
  | 74 => ⟨S8192x1024, .bf16⟩
  | 75 => ⟨S8192x1024, .f32⟩
  | 76 => ⟨S8192x8x128, .f32⟩
  | 77 => ⟨S8x8192x128, .f32⟩
  | 78 => ⟨S8192x1024, .f32⟩
  | 79 => ⟨S8192x8x128, .f32⟩
  | 80 => ⟨S8x8192x128, .f32⟩
  | 81 => ⟨S8x8192x128, .f32⟩
  | 82 => ⟨S_, .f32⟩
  | 83 => ⟨S8x8192, .f32⟩
  | 84 => ⟨S8x8192, .f32⟩
  | 85 => ⟨S8x64x128x128, .f32⟩
  | 86 => ⟨S_, .f32⟩
  | 87 => ⟨S8x64x128, .f32⟩
  | 88 => ⟨S64, .i32⟩
  | 89 => ⟨S64x1, .i32⟩
  | 90 => ⟨S_, .i32⟩
  | 91 => ⟨S64x1, .i32⟩
  | 92 => ⟨S64x1, .i32⟩
  | 93 => ⟨S256, .i32⟩
  | 94 => ⟨S1x256, .i32⟩
  | 95 => ⟨S64x256, .i32⟩
  | 96 => ⟨S64x256, .i32⟩
  | 97 => ⟨S64x256, .i32⟩
  | 98 => ⟨S8x8320x128, .f32⟩
  | 99 => ⟨S_, .f32⟩
  | 100 => ⟨S8x64x128, .f32⟩
  | 101 => ⟨S_, .f32⟩
  | 102 => ⟨S8x64x128, .f32⟩
  | 103 => ⟨S_, .i32⟩
  | 104 => ⟨S64x256, .i32⟩
  | 105 => ⟨S64x256, .i1⟩
  | 106 => ⟨S_, .i32⟩
  | 107 => ⟨S64x256, .i32⟩
  | 108 => ⟨S64x256, .i32⟩
  | 109 => ⟨S64x256, .i32⟩
  | 110 => ⟨S64x256x1, .i32⟩
  | 111 => ⟨S8x64x256x128, .f32⟩
  | 112 => ⟨S8x8320x128, .f32⟩
  | 113 => ⟨S_, .f32⟩
  | 114 => ⟨S8x64x128, .f32⟩
  | 115 => ⟨S_, .f32⟩
  | 116 => ⟨S8x64x128, .f32⟩
  | 117 => ⟨S_, .i32⟩
  | 118 => ⟨S64x256, .i32⟩
  | 119 => ⟨S64x256, .i1⟩
  | 120 => ⟨S_, .i32⟩
  | 121 => ⟨S64x256, .i32⟩
  | 122 => ⟨S64x256, .i32⟩
  | 123 => ⟨S64x256, .i32⟩
  | 124 => ⟨S64x256x1, .i32⟩
  | 125 => ⟨S8x64x256x128, .f32⟩
  | 126 => ⟨S256, .i32⟩
  | 127 => ⟨S1x256, .i32⟩
  | _ => ⟨S8192x4096, .bf16⟩

abbrev hbmTy0_1 (i : Nat) : BufTy := match i % 128 with
  | 0 => ⟨S_, .i32⟩
  | 1 => ⟨S1x256, .i32⟩
  | 2 => ⟨S1x256, .i32⟩
  | 3 => ⟨S128, .i32⟩
  | 4 => ⟨S128x1, .i32⟩
  | 5 => ⟨S128x256, .i32⟩
  | 6 => ⟨S128x256, .i32⟩
  | 7 => ⟨S128x256, .i32⟩
  | 8 => ⟨S_, .i32⟩
  | 9 => ⟨S64x256, .i32⟩
  | 10 => ⟨S64x256, .i32⟩
  | 11 => ⟨S128x256, .i32⟩
  | 12 => ⟨S_, .i32⟩
  | 13 => ⟨S128x256, .i32⟩
  | 14 => ⟨S128x256, .i1⟩
  | 15 => ⟨S1x128x256, .i1⟩
  | 16 => ⟨S_, .i32⟩
  | 17 => ⟨S64x256, .i32⟩
  | 18 => ⟨S64x256, .i1⟩
  | 19 => ⟨S_, .i32⟩
  | 20 => ⟨S64x256, .i32⟩
  | 21 => ⟨S64x256, .i1⟩
  | 22 => ⟨S64x256, .i1⟩
  | 23 => ⟨S64x1x256, .i1⟩
  | 24 => ⟨S64x128x256, .i1⟩
  | 25 => ⟨S64x128x256, .i1⟩
  | 26 => ⟨S64x128x256, .i1⟩
  | 27 => ⟨S8x64x128x256, .f32⟩
  | 28 => ⟨S_, .f32⟩
  | 29 => ⟨S8x64x128x256, .f32⟩
  | 30 => ⟨S8x64x128x256, .f32⟩
  | 31 => ⟨S8x1x128x256, .f32⟩
  | 32 => ⟨S8x64x128x256, .f32⟩
  | 33 => ⟨S8x64x128x256, .f32⟩
  | 34 => ⟨S_, .f32⟩
  | 35 => ⟨S_, .f32⟩
  | 36 => ⟨S8x64x128x256, .i1⟩
  | 37 => ⟨S8x64x128x256, .f32⟩
  | 38 => ⟨S8x64x128x256, .f32⟩
  | 39 => ⟨S_, .f32⟩
  | 40 => ⟨S8x64x128x256, .f32⟩
  | 41 => ⟨S8x64x128, .f32⟩
  | 42 => ⟨S8x64x128x1, .f32⟩
  | 43 => ⟨S8x64x128x256, .f32⟩
  | 44 => ⟨S8x64x128x256, .f32⟩
  | 45 => ⟨S8x64x128x256, .f32⟩
  | 46 => ⟨S_, .f32⟩
  | 47 => ⟨S8x64x128, .f32⟩
  | 48 => ⟨S8x64x128x128, .f32⟩
  | 49 => ⟨S8x8192, .f32⟩
  | 50 => ⟨S8x8192x128, .f32⟩
  | 51 => ⟨S8x64x128x128, .f32⟩
  | 52 => ⟨S8x64x128, .f32⟩
  | 53 => ⟨S8x64x128x256, .f32⟩
  | 54 => ⟨S8x64x256x128, .f32⟩
  | 55 => ⟨S8x64x128x256, .f32⟩
  | 56 => ⟨S8x64x128x256, .f32⟩
  | 57 => ⟨S8x64x128x256, .f32⟩
  | 58 => ⟨S8x64x128x256, .f32⟩
  | 59 => ⟨S_, .f32⟩
  | 60 => ⟨S8x64x128x256, .f32⟩
  | 61 => ⟨S8x64x128x256, .f32⟩
  | 62 => ⟨S_, .f32⟩
  | 63 => ⟨S8x128x256, .f32⟩
  | 64 => ⟨S8x1x128x256, .f32⟩
  | 65 => ⟨S_, .f32⟩
  | 66 => ⟨S8x128x256, .f32⟩
  | 67 => ⟨S_, .f32⟩
  | 68 => ⟨S8x64x128x256, .f32⟩
  | 69 => ⟨S8x64x128x256, .f32⟩
  | 70 => ⟨S8x64x256x128, .f32⟩
  | 71 => ⟨S8x64x128x128, .f32⟩
  | 72 => ⟨S_, .f32⟩
  | 73 => ⟨S8x8320x128, .f32⟩
  | 74 => ⟨S8x8320x128, .f32⟩
  | 75 => ⟨S8x64x128, .f32⟩
  | 76 => ⟨S8x8192x128, .f32⟩
  | 77 => ⟨S8x64x128, .f32⟩
  | 78 => ⟨S_, .f32⟩
  | 79 => ⟨S8x8320x128, .f32⟩
  | 80 => ⟨S8x8320x128, .f32⟩
  | 81 => ⟨S8x64x128, .f32⟩
  | 82 => ⟨S8x8192x128, .f32⟩
  | 83 => ⟨S8x64x128, .f32⟩
  | 84 => ⟨S8x8192x128, .f32⟩
  | 85 => ⟨S8192x8x128, .f32⟩
  | 86 => ⟨S8192x1024, .f32⟩
  | 87 => ⟨S8192x8x128, .f32⟩
  | 88 => ⟨S8192x1024, .f32⟩
  | 89 => ⟨S8192x8x128, .f32⟩
  | 90 => ⟨S8192x1024, .f32⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_c_7 : Ref sig .tc := ⟨.hbm, 53, rfl⟩
abbrev main_call0_v0 : Ref sig .tc := ⟨.hbm, 54, rfl⟩
abbrev main_call0_v1 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_13 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_14 : Ref sig .tc := ⟨.hbm, 99, rfl⟩
abbrev main_v76 : Ref sig .tc := ⟨.hbm, 100, rfl⟩
abbrev main_cst_15 : Ref sig .tc := ⟨.hbm, 101, rfl⟩
abbrev main_v77 : Ref sig .tc := ⟨.hbm, 102, rfl⟩
abbrev main_c_16 : Ref sig .tc := ⟨.hbm, 103, rfl⟩
abbrev main_v78 : Ref sig .tc := ⟨.hbm, 104, rfl⟩
abbrev main_v79 : Ref sig .tc := ⟨.hbm, 105, rfl⟩
abbrev main_c_17 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_18 : Ref sig .tc := ⟨.hbm, 113, rfl⟩
abbrev main_v86 : Ref sig .tc := ⟨.hbm, 114, rfl⟩
abbrev main_cst_19 : Ref sig .tc := ⟨.hbm, 115, rfl⟩
abbrev main_v87 : Ref sig .tc := ⟨.hbm, 116, rfl⟩
abbrev main_c_20 : Ref sig .tc := ⟨.hbm, 117, rfl⟩
abbrev main_v88 : Ref sig .tc := ⟨.hbm, 118, rfl⟩
abbrev main_v89 : Ref sig .tc := ⟨.hbm, 119, rfl⟩
abbrev main_c_21 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_22 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_c_23 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_c_24 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_c_25 : Ref sig .tc := ⟨.hbm, 144, rfl⟩
abbrev main_v110 : Ref sig .tc := ⟨.hbm, 145, rfl⟩
abbrev main_v111 : Ref sig .tc := ⟨.hbm, 146, rfl⟩
abbrev main_c_26 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_27 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_28 : Ref sig .tc := ⟨.hbm, 162, rfl⟩
abbrev main_call2_v0 : Ref sig .tc := ⟨.hbm, 163, rfl⟩
abbrev main_v125_1 : Ref sig .tc := ⟨.hbm, 164, rfl⟩
abbrev main_call2_v2 : Ref sig .tc := ⟨.hbm, 165, rfl⟩
abbrev main_v125_0 : Ref sig .tc := ⟨.hbm, 166, rfl⟩
abbrev main_call2_cst : Ref sig .tc := ⟨.hbm, 167, rfl⟩
abbrev main_v125_2 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_29 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_call3_cst : Ref sig .tc := ⟨.hbm, 187, rfl⟩
abbrev main_call3_v0 : Ref sig .tc := ⟨.hbm, 188, rfl⟩
abbrev main_v143 : Ref sig .tc := ⟨.hbm, 189, rfl⟩
abbrev main_cst_30 : Ref sig .tc := ⟨.hbm, 190, rfl⟩
abbrev main_v144 : Ref sig .tc := ⟨.hbm, 191, rfl⟩
abbrev main_v145 : Ref sig .tc := ⟨.hbm, 192, rfl⟩
abbrev main_cst_31 : Ref sig .tc := ⟨.hbm, 193, rfl⟩
abbrev main_v146 : Ref sig .tc := ⟨.hbm, 194, rfl⟩
abbrev main_cst_32 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_33 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_34 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩

abbrev nD : Nat := 1
abbrev τ : Topo := Topo.v7x

variable {F : FTy → Type} [FloatOps F]
-- ==== Dh.lean ====
abbrev S8192x2048 : Shape := ⟨2, ![8192, 2048]⟩
abbrev S8192x8192 : Shape := ⟨2, ![8192, 8192]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x8192, .bf16⟩
  | .hbm, ⟨3, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhRefIdeal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x8192, .bf16⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x2048, .f32⟩
  | .hbm, ⟨17, _⟩ => ⟨S8192x2048, .f32⟩
  | .hbm, ⟨18, _⟩ => ⟨S2048x8192, .f32⟩
  | .hbm, ⟨19, _⟩ => ⟨S8192x2048, .f32⟩
  | .hbm, ⟨20, _⟩ => ⟨S8192x8192, .f32⟩
  | .hbm, ⟨21, _⟩ => ⟨S8192x2048, .bf16⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== W2.lean ====
abbrev S8192x8192 : Shape := ⟨2, ![8192, 8192]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== W2RefIdeal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S2048x8192, .f32⟩
  | .hbm, ⟨11, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== W1.lean ====
abbrev S8192x2048 : Shape := ⟨2, ![8192, 2048]⟩
abbrev S8192x8192 : Shape := ⟨2, ![8192, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S8x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== W1RefIdeal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩
abbrev S2048x8x1024 : Shape := ⟨3, ![2048, 8, 1024]⟩
abbrev S8x2048x1024 : Shape := ⟨3, ![8, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S2048x8x1024, .f32⟩
  | .hbm, ⟨10, _⟩ => ⟨S8x2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutB.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutG.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Down.lean ====
abbrev S8192x8192 : Shape := ⟨2, ![8192, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Up.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | .hbm, ⟨5, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== In.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | .hbm, ⟨5, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Qkv.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x2048, .f32⟩
  | .hbm, ⟨3, _⟩ => ⟨S2048x6144, .f32⟩
  | .hbm, ⟨4, _⟩ => ⟨S8192x6144, .f32⟩
  | .hbm, ⟨5, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpB.lean ====
abbrev S8192x8192 : Shape := ⟨2, ![8192, 8192]⟩
abbrev S2048x8192 : Shape := ⟨2, ![2048, 8192]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpBRefIdeal.lean ====
abbrev S8192x8192 : Shape := ⟨2, ![8192, 8192]⟩
abbrev S2048x8192 : Shape := ⟨2, ![2048, 8192]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InB.lean ====
abbrev S8192x4096 : Shape := ⟨2, ![8192, 4096]⟩
abbrev S2048x4096 : Shape := ⟨2, ![2048, 4096]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBRefIdeal.lean ====
abbrev S8192x4096 : Shape := ⟨2, ![8192, 4096]⟩
abbrev S2048x4096 : Shape := ⟨2, ![2048, 4096]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S_, .f32⟩
  | .hbm, ⟨3, _⟩ => ⟨S8192x2048, .f32⟩
  | .hbm, ⟨4, _⟩ => ⟨S2048x4096, .f32⟩
  | .hbm, ⟨5, _⟩ => ⟨S8192x4096, .f32⟩
  | .hbm, ⟨6, _⟩ => ⟨S8192x4096, .f32⟩
  | .hbm, ⟨7, _⟩ => ⟨S8192x2048, .f32⟩
  | .hbm, ⟨8, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QkvB.lean ====
abbrev S8192x6144 : Shape := ⟨2, ![8192, 6144]⟩
abbrev S2048x6144 : Shape := ⟨2, ![2048, 6144]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvBRefIdeal.lean ====
abbrev S8192x6144 : Shape := ⟨2, ![8192, 6144]⟩
abbrev S2048x6144 : Shape := ⟨2, ![2048, 6144]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S_, .f32⟩
  | .hbm, ⟨3, _⟩ => ⟨S8192x2048, .f32⟩
  | .hbm, ⟨4, _⟩ => ⟨S2048x6144, .f32⟩
  | .hbm, ⟨5, _⟩ => ⟨S8192x6144, .f32⟩
  | .hbm, ⟨6, _⟩ => ⟨S8192x6144, .f32⟩
  | .hbm, ⟨7, _⟩ => ⟨S8192x2048, .f32⟩
  | .hbm, ⟨8, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InG.lean ====
abbrev S8192x2048 : Shape := ⟨2, ![8192, 2048]⟩
abbrev S8192x4096 : Shape := ⟨2, ![8192, 4096]⟩
abbrev S8x2048x512 : Shape := ⟨3, ![8, 2048, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8x2048x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGRefIdeal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩
abbrev S2048x8x512 : Shape := ⟨3, ![2048, 8, 512]⟩
abbrev S8x2048x512 : Shape := ⟨3, ![8, 2048, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S_, .f32⟩
  | .hbm, ⟨3, _⟩ => ⟨S2048x4096, .f32⟩
  | .hbm, ⟨4, _⟩ => ⟨S8192x2048, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S2048x4096, .f32⟩
  | .hbm, ⟨9, _⟩ => ⟨S2048x8x512, .f32⟩
  | .hbm, ⟨10, _⟩ => ⟨S8x2048x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== QkvG.lean ====
abbrev S8192x2048 : Shape := ⟨2, ![8192, 2048]⟩
abbrev S8192x6144 : Shape := ⟨2, ![8192, 6144]⟩
abbrev S8x2048x768 : Shape := ⟨3, ![8, 2048, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S8x2048x768, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvGRefIdeal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S_, .f32⟩
  | .hbm, ⟨3, _⟩ => ⟨S2048x6144, .f32⟩
  | .hbm, ⟨4, _⟩ => ⟨S8192x2048, .f32⟩
  | .hbm, ⟨5, _⟩ => ⟨S8192x6144, .f32⟩
  | .hbm, ⟨6, _⟩ => ⟨S8192x6144, .f32⟩
  | .hbm, ⟨7, _⟩ => ⟨S6144x2048, .f32⟩
  | .hbm, ⟨8, _⟩ => ⟨S2048x6144, .f32⟩
  | .hbm, ⟨9, _⟩ => ⟨S2048x8x768, .f32⟩
  | .hbm, ⟨10, _⟩ => ⟨S8x2048x768, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Glu.lean ====
abbrev S8192x1024 : Shape := ⟨2, ![8192, 1024]⟩
abbrev S1024x1024 : Shape := ⟨2, ![1024, 1024]⟩

abbrev nBuf : Space → Nat
  | .hbm => 3
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_12 : BitVec 32 := 0#32
  let v25 : BitVec 1 := Scalar.cmpi .eq arg2 c0_i32_12
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GluRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== GluZ.lean ====
abbrev S8192x1024 : Shape := ⟨2, ![8192, 1024]⟩
abbrev S1024x1024 : Shape := ⟨2, ![1024, 1024]⟩
abbrev S8192x2048 : Shape := ⟨2, ![8192, 2048]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x2048, .bf16⟩
  | .hbm, ⟨3, _⟩ => ⟨S8192x1024, .bf16⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_12 : BitVec 32 := 0#32
  let v25 : BitVec 1 := Scalar.cmpi .eq arg2 c0_i32_12
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GluZRefIdeal.lean ====
abbrev S8192x1024 : Shape := ⟨2, ![8192, 1024]⟩
abbrev S1024x1024 : Shape := ⟨2, ![1024, 1024]⟩
abbrev S8192x2048 : Shape := ⟨2, ![8192, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x2048, .bf16⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S1024x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== GluG.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v25 : BitVec 1 := Scalar.cmpi .eq arg2 c3_i32
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluGRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1024x1024, .f32⟩
  | .hbm, ⟨21, _⟩ => ⟨S8192x1024, .f32⟩
  | .hbm, ⟨22, _⟩ => ⟨S8192x1024, .f32⟩
  | .hbm, ⟨23, _⟩ => ⟨S1024x1024, .f32⟩
  | .hbm, ⟨24, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== AdamS.lean ====
abbrev S6688x128 : Shape := ⟨2, ![6688, 128]⟩
abbrev S8x6688x128 : Shape := ⟨3, ![8, 6688, 128]⟩
abbrev S3344x128 : Shape := ⟨2, ![3344, 128]⟩
abbrev S8x3344x128 : Shape := ⟨3, ![8, 3344, 128]⟩
abbrev S1x3344x128 : Shape := ⟨3, ![1, 3344, 128]⟩

abbrev nBuf : Space → Nat
  | .hbm => 8
  | .vmem => 16
  | .smem => 0
  | _ => 0

abbrev bufTy : (tb : Table) → Fin (tcTables nBuf tb) → BufTy
  | .hbm, ⟨0, _⟩ => ⟨S6688x128, .f32⟩
  | .hbm, ⟨1, _⟩ => ⟨S8x6688x128, .bf16⟩
  | .hbm, ⟨2, _⟩ => ⟨S6688x128, .f32⟩
  | .hbm, ⟨3, _⟩ => ⟨S6688x128, .f32⟩
  | .hbm, ⟨4, _⟩ => ⟨S6688x128, .f32⟩
  | .hbm, ⟨5, _⟩ => ⟨S6688x128, .f32⟩
  | .hbm, ⟨6, _⟩ => ⟨S6688x128, .f32⟩
  | .hbm, ⟨7, _⟩ => ⟨S6688x128, .f32⟩
  | .local _ .vmem, ⟨0, _⟩ => ⟨S3344x128, .f32⟩
  | .local _ .vmem, ⟨1, _⟩ => ⟨S3344x128, .f32⟩
  | .local _ .vmem, ⟨2, _⟩ => ⟨S8x3344x128, .bf16⟩
  | .local _ .vmem, ⟨3, _⟩ => ⟨S8x3344x128, .bf16⟩
  | .local _ .vmem, ⟨4, _⟩ => ⟨S3344x128, .f32⟩
  | .local _ .vmem, ⟨5, _⟩ => ⟨S3344x128, .f32⟩
  | .local _ .vmem, ⟨6, _⟩ => ⟨S3344x128, .f32⟩
  | .local _ .vmem, ⟨7, _⟩ => ⟨S3344x128, .f32⟩
  | .local _ .vmem, ⟨8, _⟩ => ⟨S3344x128, .f32⟩
  | .local _ .vmem, ⟨9, _⟩ => ⟨S3344x128, .f32⟩
  | .local _ .vmem, ⟨10, _⟩ => ⟨S3344x128, .f32⟩
  | .local _ .vmem, ⟨11, _⟩ => ⟨S3344x128, .f32⟩
  | .local _ .vmem, ⟨12, _⟩ => ⟨S3344x128, .f32⟩
  | .local _ .vmem, ⟨13, _⟩ => ⟨S3344x128, .f32⟩
  | .local _ .vmem, ⟨14, _⟩ => ⟨S3344x128, .f32⟩
  | .local _ .vmem, ⟨15, _⟩ => ⟨S3344x128, .f32⟩
  | _, _ => ⟨S6688x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3344x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3344x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3344x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3344x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3344x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3344x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3344x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3344x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSRefIdeal.lean ====
abbrev S6688x128 : Shape := ⟨2, ![6688, 128]⟩
abbrev S8x6688x128 : Shape := ⟨3, ![8, 6688, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S6688x128, .f32⟩
  | .hbm, ⟨1, _⟩ => ⟨S8x6688x128, .bf16⟩
  | .hbm, ⟨2, _⟩ => ⟨S6688x128, .f32⟩
  | .hbm, ⟨3, _⟩ => ⟨S6688x128, .f32⟩
  | .hbm, ⟨4, _⟩ => ⟨S8x6688x128, .f32⟩
  | .hbm, ⟨5, _⟩ => ⟨S_, .f32⟩
  | .hbm, ⟨6, _⟩ => ⟨S6688x128, .f32⟩
  | .hbm, ⟨7, _⟩ => ⟨S_, .f32⟩
  | .hbm, ⟨8, _⟩ => ⟨S6688x128, .f32⟩
  | .hbm, ⟨9, _⟩ => ⟨S6688x128, .f32⟩
  | .hbm, ⟨10, _⟩ => ⟨S_, .f32⟩
  | .hbm, ⟨11, _⟩ => ⟨S6688x128, .f32⟩
  | .hbm, ⟨12, _⟩ => ⟨S6688x128, .f32⟩
  | .hbm, ⟨13, _⟩ => ⟨S6688x128, .f32⟩
  | .hbm, ⟨14, _⟩ => ⟨S_, .f32⟩
  | .hbm, ⟨15, _⟩ => ⟨S6688x128, .f32⟩
  | .hbm, ⟨16, _⟩ => ⟨S6688x128, .f32⟩
  | .hbm, ⟨17, _⟩ => ⟨S6688x128, .f32⟩
  | .hbm, ⟨18, _⟩ => ⟨S_, .f32⟩
  | .hbm, ⟨19, _⟩ => ⟨S6688x128, .f32⟩
  | .hbm, ⟨20, _⟩ => ⟨S6688x128, .f32⟩
  | .hbm, ⟨21, _⟩ => ⟨S6688x128, .f32⟩
  | .hbm, ⟨22, _⟩ => ⟨S_, .f32⟩
  | .hbm, ⟨23, _⟩ => ⟨S6688x128, .f32⟩
  | .hbm, ⟨24, _⟩ => ⟨S6688x128, .f32⟩
  | .hbm, ⟨25, _⟩ => ⟨S_, .f32⟩
  | .hbm, ⟨26, _⟩ => ⟨S6688x128, .f32⟩
  | .hbm, ⟨27, _⟩ => ⟨S6688x128, .f32⟩
  | .hbm, ⟨28, _⟩ => ⟨S6688x128, .f32⟩
  | .hbm, ⟨29, _⟩ => ⟨S_, .f32⟩
  | .hbm, ⟨30, _⟩ => ⟨S6688x128, .f32⟩
  | .hbm, ⟨31, _⟩ => ⟨S6688x128, .f32⟩
  | .hbm, ⟨32, _⟩ => ⟨S6688x128, .f32⟩
  | .hbm, ⟨33, _⟩ => ⟨S_, .f32⟩
  | .hbm, ⟨34, _⟩ => ⟨S6688x128, .f32⟩
  | .hbm, ⟨35, _⟩ => ⟨S6688x128, .f32⟩
  | .hbm, ⟨36, _⟩ => ⟨S6688x128, .f32⟩
  | .hbm, ⟨37, _⟩ => ⟨S_, .f32⟩
  | .hbm, ⟨38, _⟩ => ⟨S6688x128, .f32⟩
  | .hbm, ⟨39, _⟩ => ⟨S6688x128, .f32⟩
  | _, _ => ⟨S6688x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamO.lean ====
abbrev S2x256x2048 : Shape := ⟨3, ![2, 256, 2048]⟩
abbrev S4x256x2048 : Shape := ⟨3, ![4, 256, 2048]⟩
abbrev S1x64x2048 : Shape := ⟨3, ![1, 64, 2048]⟩
abbrev S4x64x2048 : Shape := ⟨3, ![4, 64, 2048]⟩
abbrev S64x2048 : Shape := ⟨2, ![64, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x256x2048, .f32⟩
  | .hbm, ⟨1, _⟩ => ⟨S4x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .local _ .vmem, ⟨0, _⟩ => ⟨S1x64x2048, .f32⟩
  | .local _ .vmem, ⟨1, _⟩ => ⟨S1x64x2048, .f32⟩
  | .local _ .vmem, ⟨2, _⟩ => ⟨S4x64x2048, .bf16⟩
  | .local _ .vmem, ⟨3, _⟩ => ⟨S4x64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamORefIdeal.lean ====
abbrev S2x256x2048 : Shape := ⟨3, ![2, 256, 2048]⟩
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 62
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S4x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S4x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S1x256x2048, .f32⟩
  | .hbm, ⟨14, _⟩ => ⟨S256x2048, .f32⟩
  | .hbm, ⟨15, _⟩ => ⟨S1x256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S1x256x2048, .f32⟩
  | .hbm, ⟨51, _⟩ => ⟨S1x256x2048, .f32⟩
  | .hbm, ⟨52, _⟩ => ⟨S2x256x2048, .f32⟩
  | .hbm, ⟨53, _⟩ => ⟨S1x256x2048, .f32⟩
  | .hbm, ⟨54, _⟩ => ⟨S1x256x2048, .f32⟩
  | .hbm, ⟨55, _⟩ => ⟨S2x256x2048, .f32⟩
  | .hbm, ⟨56, _⟩ => ⟨S1x256x2048, .f32⟩
  | .hbm, ⟨57, _⟩ => ⟨S1x256x2048, .f32⟩
  | .hbm, ⟨58, _⟩ => ⟨S2x256x2048, .f32⟩
  | .hbm, ⟨59, _⟩ => ⟨S1x256x2048, .f32⟩
  | .hbm, ⟨60, _⟩ => ⟨S1x256x2048, .f32⟩
  | .hbm, ⟨61, _⟩ => ⟨S2x256x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== AdamI.lean ====
abbrev S2x2048x512 : Shape := ⟨3, ![2, 2048, 512]⟩
abbrev S4x2048x512 : Shape := ⟨3, ![4, 2048, 512]⟩
abbrev S1x256x512 : Shape := ⟨3, ![1, 256, 512]⟩
abbrev S4x256x512 : Shape := ⟨3, ![4, 256, 512]⟩
abbrev S256x512 : Shape := ⟨2, ![256, 512]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x512, .f32⟩
  | .hbm, ⟨1, _⟩ => ⟨S4x2048x512, .bf16⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x512, .f32⟩
  | .hbm, ⟨9, _⟩ => ⟨S2x2048x512, .f32⟩
  | .hbm, ⟨10, _⟩ => ⟨S2x2048x512, .f32⟩
  | .hbm, ⟨11, _⟩ => ⟨S2x2048x512, .f32⟩
  | .local _ .vmem, ⟨0, _⟩ => ⟨S1x256x512, .f32⟩
  | .local _ .vmem, ⟨1, _⟩ => ⟨S1x256x512, .f32⟩
  | .local _ .vmem, ⟨2, _⟩ => ⟨S4x256x512, .bf16⟩
  | .local _ .vmem, ⟨3, _⟩ => ⟨S4x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamIRefIdeal.lean ====
abbrev S2x2048x512 : Shape := ⟨3, ![2, 2048, 512]⟩
abbrev S4x2048x512 : Shape := ⟨3, ![4, 2048, 512]⟩
abbrev S_ : Shape := ⟨0, ![]⟩
abbrev S2048x512 : Shape := ⟨2, ![2048, 512]⟩
abbrev S1x2048x512 : Shape := ⟨3, ![1, 2048, 512]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S4x2048x512, .bf16⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S4x2048x512, .f32⟩
  | .hbm, ⟨9, _⟩ => ⟨S_, .f32⟩
  | .hbm, ⟨10, _⟩ => ⟨S2048x512, .f32⟩
  | .hbm, ⟨11, _⟩ => ⟨S1x2048x512, .f32⟩
  | .hbm, ⟨12, _⟩ => ⟨S2048x512, .f32⟩
  | .hbm, ⟨13, _⟩ => ⟨S1x2048x512, .f32⟩
  | .hbm, ⟨14, _⟩ => ⟨S2048x512, .f32⟩
  | .hbm, ⟨15, _⟩ => ⟨S1x2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S2048x512, .f32⟩
  | .hbm, ⟨49, _⟩ => ⟨S2048x512, .f32⟩
  | .hbm, ⟨50, _⟩ => ⟨S1x2048x512, .f32⟩
  | .hbm, ⟨51, _⟩ => ⟨S1x2048x512, .f32⟩
  | .hbm, ⟨52, _⟩ => ⟨S2x2048x512, .f32⟩
  | .hbm, ⟨53, _⟩ => ⟨S1x2048x512, .f32⟩
  | .hbm, ⟨54, _⟩ => ⟨S1x2048x512, .f32⟩
  | .hbm, ⟨55, _⟩ => ⟨S2x2048x512, .f32⟩
  | .hbm, ⟨56, _⟩ => ⟨S1x2048x512, .f32⟩
  | .hbm, ⟨57, _⟩ => ⟨S1x2048x512, .f32⟩
  | .hbm, ⟨58, _⟩ => ⟨S2x2048x512, .f32⟩
  | .hbm, ⟨59, _⟩ => ⟨S1x2048x512, .f32⟩
  | .hbm, ⟨60, _⟩ => ⟨S1x2048x512, .f32⟩
  | .hbm, ⟨61, _⟩ => ⟨S2x2048x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== AdamQ.lean ====
abbrev S2x2048x768 : Shape := ⟨3, ![2, 2048, 768]⟩
abbrev S4x2048x768 : Shape := ⟨3, ![4, 2048, 768]⟩
abbrev S1x128x768 : Shape := ⟨3, ![1, 128, 768]⟩
abbrev S4x128x768 : Shape := ⟨3, ![4, 128, 768]⟩
abbrev S128x768 : Shape := ⟨2, ![128, 768]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x768, .f32⟩
  | .hbm, ⟨1, _⟩ => ⟨S4x2048x768, .bf16⟩
  | .hbm, ⟨2, _⟩ => ⟨S2x2048x768, .f32⟩
  | .hbm, ⟨3, _⟩ => ⟨S2x2048x768, .f32⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S2x2048x768, .f32⟩
  | .hbm, ⟨9, _⟩ => ⟨S2x2048x768, .f32⟩
  | .hbm, ⟨10, _⟩ => ⟨S2x2048x768, .f32⟩
  | .hbm, ⟨11, _⟩ => ⟨S2x2048x768, .f32⟩
  | .local _ .vmem, ⟨0, _⟩ => ⟨S1x128x768, .f32⟩
  | .local _ .vmem, ⟨1, _⟩ => ⟨S1x128x768, .f32⟩
  | .local _ .vmem, ⟨2, _⟩ => ⟨S4x128x768, .bf16⟩
  | .local _ .vmem, ⟨3, _⟩ => ⟨S4x128x768, .bf16⟩
  | .local _ .vmem, ⟨4, _⟩ => ⟨S1x128x768, .f32⟩
  | .local _ .vmem, ⟨5, _⟩ => ⟨S1x128x768, .f32⟩
  | .local _ .vmem, ⟨6, _⟩ => ⟨S1x128x768, .f32⟩
  | .local _ .vmem, ⟨7, _⟩ => ⟨S1x128x768, .f32⟩
  | .local _ .vmem, ⟨8, _⟩ => ⟨S1x128x768, .f32⟩
  | .local _ .vmem, ⟨9, _⟩ => ⟨S1x128x768, .f32⟩
  | .local _ .vmem, ⟨10, _⟩ => ⟨S1x128x768, .f32⟩
  | .local _ .vmem, ⟨11, _⟩ => ⟨S1x128x768, .f32⟩
  | .local _ .vmem, ⟨12, _⟩ => ⟨S1x128x768, .f32⟩
  | .local _ .vmem, ⟨13, _⟩ => ⟨S1x128x768, .f32⟩
  | .local _ .vmem, ⟨14, _⟩ => ⟨S1x128x768, .f32⟩
  | .local _ .vmem, ⟨15, _⟩ => ⟨S1x128x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQRefIdeal.lean ====
abbrev S2x2048x768 : Shape := ⟨3, ![2, 2048, 768]⟩
abbrev S4x2048x768 : Shape := ⟨3, ![4, 2048, 768]⟩
abbrev S_ : Shape := ⟨0, ![]⟩
abbrev S2048x768 : Shape := ⟨2, ![2048, 768]⟩
abbrev S1x2048x768 : Shape := ⟨3, ![1, 2048, 768]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S4x2048x768, .bf16⟩
  | .hbm, ⟨2, _⟩ => ⟨S2x2048x768, .f32⟩
  | .hbm, ⟨3, _⟩ => ⟨S2x2048x768, .f32⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S4x2048x768, .f32⟩
  | .hbm, ⟨9, _⟩ => ⟨S_, .f32⟩
  | .hbm, ⟨10, _⟩ => ⟨S2048x768, .f32⟩
  | .hbm, ⟨11, _⟩ => ⟨S1x2048x768, .f32⟩
  | .hbm, ⟨12, _⟩ => ⟨S2048x768, .f32⟩
  | .hbm, ⟨13, _⟩ => ⟨S1x2048x768, .f32⟩
  | .hbm, ⟨14, _⟩ => ⟨S2048x768, .f32⟩
  | .hbm, ⟨15, _⟩ => ⟨S1x2048x768, .f32⟩
  | .hbm, ⟨16, _⟩ => ⟨S2048x768, .f32⟩
  | .hbm, ⟨17, _⟩ => ⟨S_, .f32⟩
  | .hbm, ⟨18, _⟩ => ⟨S2048x768, .f32⟩
  | .hbm, ⟨19, _⟩ => ⟨S2048x768, .f32⟩
  | .hbm, ⟨20, _⟩ => ⟨S_, .f32⟩
  | .hbm, ⟨21, _⟩ => ⟨S2048x768, .f32⟩
  | .hbm, ⟨22, _⟩ => ⟨S2048x768, .f32⟩
  | .hbm, ⟨23, _⟩ => ⟨S2048x768, .f32⟩
  | .hbm, ⟨24, _⟩ => ⟨S_, .f32⟩
  | .hbm, ⟨25, _⟩ => ⟨S2048x768, .f32⟩
  | .hbm, ⟨26, _⟩ => ⟨S2048x768, .f32⟩
  | .hbm, ⟨27, _⟩ => ⟨S2048x768, .f32⟩
  | .hbm, ⟨28, _⟩ => ⟨S_, .f32⟩
  | .hbm, ⟨29, _⟩ => ⟨S2048x768, .f32⟩
  | .hbm, ⟨30, _⟩ => ⟨S2048x768, .f32⟩
  | .hbm, ⟨31, _⟩ => ⟨S2048x768, .f32⟩
  | .hbm, ⟨32, _⟩ => ⟨S_, .f32⟩
  | .hbm, ⟨33, _⟩ => ⟨S2048x768, .f32⟩
  | .hbm, ⟨34, _⟩ => ⟨S2048x768, .f32⟩
  | .hbm, ⟨35, _⟩ => ⟨S_, .f32⟩
  | .hbm, ⟨36, _⟩ => ⟨S2048x768, .f32⟩
  | .hbm, ⟨37, _⟩ => ⟨S2048x768, .f32⟩
  | .hbm, ⟨38, _⟩ => ⟨S2048x768, .f32⟩
  | .hbm, ⟨39, _⟩ => ⟨S_, .f32⟩
  | .hbm, ⟨40, _⟩ => ⟨S2048x768, .f32⟩
  | .hbm, ⟨41, _⟩ => ⟨S2048x768, .f32⟩
  | .hbm, ⟨42, _⟩ => ⟨S2048x768, .f32⟩
  | .hbm, ⟨43, _⟩ => ⟨S_, .f32⟩
  | .hbm, ⟨44, _⟩ => ⟨S2048x768, .f32⟩
  | .hbm, ⟨45, _⟩ => ⟨S2048x768, .f32⟩
  | .hbm, ⟨46, _⟩ => ⟨S2048x768, .f32⟩
  | .hbm, ⟨47, _⟩ => ⟨S_, .f32⟩
  | .hbm, ⟨48, _⟩ => ⟨S2048x768, .f32⟩
  | .hbm, ⟨49, _⟩ => ⟨S2048x768, .f32⟩
  | .hbm, ⟨50, _⟩ => ⟨S1x2048x768, .f32⟩
  | .hbm, ⟨51, _⟩ => ⟨S1x2048x768, .f32⟩
  | .hbm, ⟨52, _⟩ => ⟨S2x2048x768, .f32⟩
  | .hbm, ⟨53, _⟩ => ⟨S1x2048x768, .f32⟩
  | .hbm, ⟨54, _⟩ => ⟨S1x2048x768, .f32⟩
  | .hbm, ⟨55, _⟩ => ⟨S2x2048x768, .f32⟩
  | .hbm, ⟨56, _⟩ => ⟨S1x2048x768, .f32⟩
  | .hbm, ⟨57, _⟩ => ⟨S1x2048x768, .f32⟩
  | .hbm, ⟨58, _⟩ => ⟨S2x2048x768, .f32⟩
  | .hbm, ⟨59, _⟩ => ⟨S1x2048x768, .f32⟩
  | .hbm, ⟨60, _⟩ => ⟨S1x2048x768, .f32⟩
  | .hbm, ⟨61, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== AdamG.lean ====
abbrev S2x128x1024 : Shape := ⟨3, ![2, 128, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x128x1024, .f32⟩
  | .hbm, ⟨1, _⟩ => ⟨S4x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .local _ .vmem, ⟨0, _⟩ => ⟨S1x128x1024, .f32⟩
  | .local _ .vmem, ⟨1, _⟩ => ⟨S4x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGRefIdeal.lean ====
abbrev S2x128x1024 : Shape := ⟨3, ![2, 128, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S4x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S4x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S128x1024, .f32⟩
  | .hbm, ⟨13, _⟩ => ⟨S1x128x1024, .f32⟩
  | .hbm, ⟨14, _⟩ => ⟨S128x1024, .f32⟩
  | .hbm, ⟨15, _⟩ => ⟨S1x128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S1x128x1024, .f32⟩
  | .hbm, ⟨51, _⟩ => ⟨S1x128x1024, .f32⟩
  | .hbm, ⟨52, _⟩ => ⟨S2x128x1024, .f32⟩
  | .hbm, ⟨53, _⟩ => ⟨S1x128x1024, .f32⟩
  | .hbm, ⟨54, _⟩ => ⟨S1x128x1024, .f32⟩
  | .hbm, ⟨55, _⟩ => ⟨S2x128x1024, .f32⟩
  | .hbm, ⟨56, _⟩ => ⟨S1x128x1024, .f32⟩
  | .hbm, ⟨57, _⟩ => ⟨S1x128x1024, .f32⟩
  | .hbm, ⟨58, _⟩ => ⟨S2x128x1024, .f32⟩
  | .hbm, ⟨59, _⟩ => ⟨S1x128x1024, .f32⟩
  | .hbm, ⟨60, _⟩ => ⟨S1x128x1024, .f32⟩
  | .hbm, ⟨61, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== AdamU.lean ====
abbrev S4x2048x1024 : Shape := ⟨3, ![4, 2048, 1024]⟩
abbrev S1x128x1024 : Shape := ⟨3, ![1, 128, 1024]⟩
abbrev S4x128x1024 : Shape := ⟨3, ![4, 128, 1024]⟩
abbrev S128x1024 : Shape := ⟨2, ![128, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .bf16⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .local _ .vmem, ⟨0, _⟩ => ⟨S1x128x1024, .f32⟩
  | .local _ .vmem, ⟨1, _⟩ => ⟨S1x128x1024, .f32⟩
  | .local _ .vmem, ⟨2, _⟩ => ⟨S4x128x1024, .bf16⟩
  | .local _ .vmem, ⟨3, _⟩ => ⟨S4x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamURefIdeal.lean ====
abbrev S4x2048x1024 : Shape := ⟨3, ![4, 2048, 1024]⟩
abbrev S_ : Shape := ⟨0, ![]⟩
abbrev S2048x1024 : Shape := ⟨2, ![2048, 1024]⟩
abbrev S1x2048x1024 : Shape := ⟨3, ![1, 2048, 1024]⟩
abbrev S3x2048x1024 : Shape := ⟨3, ![3, 2048, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .bf16⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S2048x1024, .f32⟩
  | .hbm, ⟨11, _⟩ => ⟨S1x2048x1024, .f32⟩
  | .hbm, ⟨12, _⟩ => ⟨S2048x1024, .f32⟩
  | .hbm, ⟨13, _⟩ => ⟨S1x2048x1024, .f32⟩
  | .hbm, ⟨14, _⟩ => ⟨S2048x1024, .f32⟩
  | .hbm, ⟨15, _⟩ => ⟨S1x2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S3x2048x1024, .f32⟩
  | .hbm, ⟨51, _⟩ => ⟨S1x2048x1024, .f32⟩
  | .hbm, ⟨52, _⟩ => ⟨S4x2048x1024, .f32⟩
  | .hbm, ⟨53, _⟩ => ⟨S3x2048x1024, .f32⟩
  | .hbm, ⟨54, _⟩ => ⟨S1x2048x1024, .f32⟩
  | .hbm, ⟨55, _⟩ => ⟨S4x2048x1024, .f32⟩
  | .hbm, ⟨56, _⟩ => ⟨S3x2048x1024, .f32⟩
  | .hbm, ⟨57, _⟩ => ⟨S1x2048x1024, .f32⟩
  | .hbm, ⟨58, _⟩ => ⟨S4x2048x1024, .f32⟩
  | .hbm, ⟨59, _⟩ => ⟨S3x2048x1024, .f32⟩
  | .hbm, ⟨60, _⟩ => ⟨S1x2048x1024, .f32⟩
  | .hbm, ⟨61, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== AdamD.lean ====
abbrev S4x1024x2048 : Shape := ⟨3, ![4, 1024, 2048]⟩
abbrev S1x64x2048 : Shape := ⟨3, ![1, 64, 2048]⟩
abbrev S4x64x2048 : Shape := ⟨3, ![4, 64, 2048]⟩
abbrev S64x2048 : Shape := ⟨2, ![64, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .bf16⟩
  | .hbm, ⟨2, _⟩ => ⟨S4x1024x2048, .f32⟩
  | .hbm, ⟨3, _⟩ => ⟨S4x1024x2048, .f32⟩
  | .hbm, ⟨4, _⟩ => ⟨S4x1024x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x1024x2048, .f32⟩
  | .hbm, ⟨9, _⟩ => ⟨S4x1024x2048, .f32⟩
  | .hbm, ⟨10, _⟩ => ⟨S4x1024x2048, .f32⟩
  | .hbm, ⟨11, _⟩ => ⟨S4x1024x2048, .f32⟩
  | .local _ .vmem, ⟨0, _⟩ => ⟨S1x64x2048, .f32⟩
  | .local _ .vmem, ⟨1, _⟩ => ⟨S1x64x2048, .f32⟩
  | .local _ .vmem, ⟨2, _⟩ => ⟨S4x64x2048, .bf16⟩
  | .local _ .vmem, ⟨3, _⟩ => ⟨S4x64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDRefIdeal.lean ====
abbrev S4x1024x2048 : Shape := ⟨3, ![4, 1024, 2048]⟩
abbrev S_ : Shape := ⟨0, ![]⟩
abbrev S1024x2048 : Shape := ⟨2, ![1024, 2048]⟩
abbrev S1x1024x2048 : Shape := ⟨3, ![1, 1024, 2048]⟩
abbrev S3x1024x2048 : Shape := ⟨3, ![3, 1024, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .bf16⟩
  | .hbm, ⟨2, _⟩ => ⟨S4x1024x2048, .f32⟩
  | .hbm, ⟨3, _⟩ => ⟨S4x1024x2048, .f32⟩
  | .hbm, ⟨4, _⟩ => ⟨S4x1024x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x1024x2048, .f32⟩
  | .hbm, ⟨9, _⟩ => ⟨S_, .f32⟩
  | .hbm, ⟨10, _⟩ => ⟨S1024x2048, .f32⟩
  | .hbm, ⟨11, _⟩ => ⟨S1x1024x2048, .f32⟩
  | .hbm, ⟨12, _⟩ => ⟨S1024x2048, .f32⟩
  | .hbm, ⟨13, _⟩ => ⟨S1x1024x2048, .f32⟩
  | .hbm, ⟨14, _⟩ => ⟨S1024x2048, .f32⟩
  | .hbm, ⟨15, _⟩ => ⟨S1x1024x2048, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S_, .f32⟩
  | .hbm, ⟨21, _⟩ => ⟨S1024x2048, .f32⟩
  | .hbm, ⟨22, _⟩ => ⟨S1024x2048, .f32⟩
  | .hbm, ⟨23, _⟩ => ⟨S1024x2048, .f32⟩
  | .hbm, ⟨24, _⟩ => ⟨S_, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S1024x2048, .f32⟩
  | .hbm, ⟨39, _⟩ => ⟨S_, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S_, .f32⟩
  | .hbm, ⟨44, _⟩ => ⟨S1024x2048, .f32⟩
  | .hbm, ⟨45, _⟩ => ⟨S1024x2048, .f32⟩
  | .hbm, ⟨46, _⟩ => ⟨S1024x2048, .f32⟩
  | .hbm, ⟨47, _⟩ => ⟨S_, .f32⟩
  | .hbm, ⟨48, _⟩ => ⟨S1024x2048, .f32⟩
  | .hbm, ⟨49, _⟩ => ⟨S1024x2048, .f32⟩
  | .hbm, ⟨50, _⟩ => ⟨S3x1024x2048, .f32⟩
  | .hbm, ⟨51, _⟩ => ⟨S1x1024x2048, .f32⟩
  | .hbm, ⟨52, _⟩ => ⟨S4x1024x2048, .f32⟩
  | .hbm, ⟨53, _⟩ => ⟨S3x1024x2048, .f32⟩
  | .hbm, ⟨54, _⟩ => ⟨S1x1024x2048, .f32⟩
  | .hbm, ⟨55, _⟩ => ⟨S4x1024x2048, .f32⟩
  | .hbm, ⟨56, _⟩ => ⟨S3x1024x2048, .f32⟩
  | .hbm, ⟨57, _⟩ => ⟨S1x1024x2048, .f32⟩
  | .hbm, ⟨58, _⟩ => ⟨S4x1024x2048, .f32⟩
  | .hbm, ⟨59, _⟩ => ⟨S3x1024x2048, .f32⟩
  | .hbm, ⟨60, _⟩ => ⟨S1x1024x2048, .f32⟩
  | .hbm, ⟨61, _⟩ => ⟨S4x1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.DhValue.lean ====
/- The gradient that the MLP's down projection sends back through its squared ReLU. The kernel's run is the generated
   one; here its result is read as one sum per element, and the reference's as the same sum. -/
module

public import proofs.«01_k».proof.Defs
public import proofs.«01_k».proof.Proof.Gen.DhIdeal.Value
public import proofs.«01_k».proof.Proof.Gen.DhRefIdeal.Run
public import proofs.«01_k».proof.Proof.Gen.DhRefIdeal.Read
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.DhProof

open Cert.DhIdeal Cert.DhIdeal.Gen Cert.DhIdeal.Value

/-- What the kernel stores of one block, at an element: the product of a row of `dx` with a row of `w2`, times twice the
    ReLU of `h`. -/
theorem block_apply (x0 : Vec Ideal S1024x2048 .f32) (x1 : Vec Ideal S1024x2048 .bf16) (x2 : Vec Ideal S1024x1024 .bf16) (r l : Fin 1024) :
    k0_pay3 (k0_pay2 x0 (k0_pay1 (F := Ideal)) x1) x2 (ix2 r l)
      = (∑ k : Fin 2048, x0 (ix2 r k) * x1 (ix2 l k)) * (Ideal.ofBits .f32 0x40000000#32 * max (x2 (ix2 r l)) 0) := by
  pointwise [k0_pay1, k0_pay2, k0_pay3]

theorem idx_facts : ∀ t : Fin grid0.N, win0_0.index t = ![t.val / 8, 0] ∧ win0_1.index t = ![t.val % 8, 0]
    ∧ win0_2.index t = ![t.val / 8, t.val % 8] ∧ win0_3.index t = ![t.val / 8, t.val % 8] := by decide +kernel

/-- The gradient with respect to `h` at an element. -/
def G (dx : S8192x2048.Idx → EReal) (w2 : S8192x2048.Idx → EReal) (h : S8192x8192.Idx → EReal) (i : S8192x8192.Idx) : EReal :=
  (∑ k : Fin 2048, dx (ix2 (i 0) k) * w2 (ix2 (i 1) k)) * (Ideal.ofBits .f32 0x40000000#32 * max (h i) 0)

variable (m : (ℓ : Loc nD τ sig) → Buf (Elt Ideal) ℓ)

/-- The kernel's result array holds that gradient. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have e0 := (idx_facts t).1
  have e1 := (idx_facts t).2.1
  have e2 := (idx_facts t).2.2.1
  have e3 := (idx_facts t).2.2.2
  blk_simp
  rw [after0_3]
  unfold outsAt0
  frame_out
  idx_vars y
  rw [block_apply]
  unfold G
  blk_point [iblk, V, e0, e1, e2, e3]

open Cert.DhRefIdeal.Read in
/-- The reference's result is that gradient: where `h` is not positive its ReLU is zero, and so is the product. -/
theorem ref_eq (dx : (⟨Cert.DhRefIdeal.S8192x2048, .f32⟩ : BufTy).Contents (Elt Ideal))
    (w2 : (⟨Cert.DhRefIdeal.S8192x2048, .bf16⟩ : BufTy).Contents (Elt Ideal))
    (h : (⟨Cert.DhRefIdeal.S8192x8192, .bf16⟩ : BufTy).Contents (Elt Ideal)) : val_main_v17 (F := Ideal) dx w2 h = G dx w2 h := by
  funext i
  simp only [val_main_v17_apply, val_main_v16_apply, val_main_v3_apply, val_main_v0_apply, val_main_v2_apply, val_main_cst_apply,
    val_main_v15_apply, val_main_cst_2_apply, val_main_v14_apply, val_main_v12_apply, val_main_v7_apply, val_main_v6_apply,
    val_main_cst_1_apply, val_main_v1_apply, val_main_call0_v0_apply, val_main_call0_cst_apply, val_main_v8_apply]
  show (if Ideal.cmp .ogt (h i) (Ideal.ofBits .f32 0x00000000#32) = 1#1 then _ else Ideal.ofBits .f32 0x00000000#32) = _
  unfold G
  have hl : ∀ k, lidx_main_v12 i k = ix2 (i 0) k := fun k => eq_ix2 _
  have hr : ∀ k, ridx_main_v12 i k = ix2 (i 1) k := fun k => eq_ix2 _
  simp only [Ideal.ofBits_zero_f32, hl, hr, Ideal.mulf_def, Ideal.extf_def, Ideal.maximumf_def, Ideal.ofBits_def]
  by_cases hp : (0 : EReal) < h i
  · rw [if_pos (by simp [Ideal.cmp, hp])]; rfl
  · rw [if_neg (by simp [Ideal.cmp, hp]), max_eq_right (not_lt.mp hp), mul_zero, mul_zero]

/-- The claim: both programs end with that gradient in the result array, whatever the arguments hold. -/
theorem algebraic : Cert.algebraic_DhIdeal_DhRefIdeal (hDhIdeal := Cert.DhIdeal.Gen.facts) (hDhRefIdeal := Cert.DhRefIdeal.Gen.facts) := by
  intro m g m' g' _ hagree
  refine ⟨fun c => G (m ((c : Thread nD τ).loc main_arg0)) (m ((c : Thread nD τ).loc main_arg1)) (m ((c : Thread nD τ).loc main_arg2)), ?_, ?_⟩
  · refine (θ_run defs _ _).mono (fun r h c => ?_) (run_blocks (F := Ideal) m g)
    exact ⟨(h c).1.trans (final m c), (h c).2⟩
  · refine (θ_run Cert.DhRefIdeal.defs _ _).mono (fun r h c => ?_) (Cert.DhRefIdeal.Value.run (F := Ideal) m' g')
    refine ⟨(h c).1.trans ?_, (h c).2⟩
    rw [(hagree c).1, (hagree c).2.1, (hagree c).2.2]
    exact (Cert.DhRefIdeal.Read.val_main_v17_eq _ _ _).trans (ref_eq _ _ _)

end Cert.DhProof
end
-- ==== Proof.W2Value.lean ====
/- The gradient of the MLP's down projection's weight, accumulated over four blocks of 2048 rows. The kernel's run is the
   generated one; here its result is read as one sum over all 8192 rows, and the reference's as the same sum. -/
module

public import proofs.«01_k».proof.Defs
public import proofs.«01_k».proof.Proof.Gen.W2Ideal.Value
public import proofs.«01_k».proof.Proof.Gen.W2RefIdeal.Run
public import proofs.«01_k».proof.Proof.Gen.W2RefIdeal.Read
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.W2Proof

open Cert.W2Ideal Cert.W2Ideal.Gen Cert.W2Ideal.Value

/-- One point's block product at an element. -/
def blockTerm (x0 : Vec Ideal S2048x1024 .bf16) (x1 : Vec Ideal S2048x1024 .f32) (j : S1024x1024.Idx) : EReal :=
  ∑ k : Fin 2048, (max (x0 (ix2 k (j 0))) 0 * max (x0 (ix2 k (j 0))) 0) * x1 (ix2 k (j 1))

/-- One point's block product, added to what the accumulator held. -/
theorem pay2_apply (x0 : Vec Ideal S2048x1024 .bf16) (acc : Vec Ideal S1024x1024 .f32) (x1 : Vec Ideal S2048x1024 .f32) (r l : Fin 1024) :
    k0_pay2 x0 acc x1 (ix2 r l)
      = acc (ix2 r l) + blockTerm x0 x1 (ix2 r l) := by
  unfold blockTerm
  pointwise [k0_pay2]

theorem pay1_apply (r l : Fin 1024) : k0_pay1 (F := Ideal) (ix2 r l) = 0 := by
  pointwise [k0_pay1]

theorem idx_facts : ∀ t : Fin grid0.N, win0_0.index t = ![t.val % 4, t.val / 8] ∧ win0_1.index t = ![t.val % 4, t.val / 4 % 2]
    ∧ win0_2.index t = ![t.val / 8, t.val / 4 % 2] := by decide +kernel

/-- The gradient with respect to the weight at an element. -/
def G (h : S8192x8192.Idx → EReal) (dx : S8192x2048.Idx → EReal) (i : S8192x2048.Idx) : EReal :=
  ∑ k : Fin 8192, (max (h (ix2 k (i 0))) 0 * max (h (ix2 k (i 0))) 0) * dx (ix2 k (i 1))

variable (m : (ℓ : Loc nD τ sig) → Buf (Elt Ideal) ℓ)

/-- The accumulator after the last point of a run of four: the sum of the four block products. -/
theorem acc_sum (c : Dev nD) (t : Fin cfg0.N) (ht : t.val % 4 = 3) (j : S1024x1024.Idx) :
    (outsAt0 m c t.val t.isLt).2 j = 0 + ∑ s : Fin 4, (fun (p : Fin cfg0.N) (j : S1024x1024.Idx) =>
      blockTerm (iblk m c 0 p) (iblk m c 1 p) j)
        ⟨4 * (t.val / 4) + s.val, Pipeline.run_point_lt_of_flush t ht s⟩ j := by
  refine Pipeline.eq_sum_fin_of_reset_step_apply_of_flush (fun n h => (outsAt0 m c n h).2) 4 (fun _ => (0 : EReal))
    (fun (p : Fin cfg0.N) (j : S1024x1024.Idx) => blockTerm (iblk m c 0 p) (iblk m c 1 p) j) ?_ ?_ t ht j
  · intro t h j
    have h1 : ¬t.val % 4 = 3 := by omega
    rw [outsAt0_A m c t h h1]
    frame_out
    idx_vars j
    rw [pay2_apply, pay1_apply]
  · intro t h j
    by_cases h1 : t.val % 4 = 3
    · rw [outsAt0_C m c t h h1]
      frame_out
      simp only [read_unread_whole]
      idx_vars j
      rw [pay2_apply]
    · rw [outsAt0_B m c t h h1]
      frame_out
      simp only [read_unread_whole]
      idx_vars j
      rw [pay2_apply]

/-- The kernel's result array holds the gradient. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have h0 : ¬t.val % 4 = 0 := by omega
  blk_simp
  rw [after0_2]
  have e : (outsAt0 m c t.val t.isLt).1 = (outsAt0 m c t.val t.isLt).2 := by
    rw [outsAt0_C m c t h0 ht]
    frame_out
  rw [e, acc_sum m c t ht]
  unfold G
  idx_vars y
  rw [zero_add]
  refine Fin.sum_mul_add_congr fun s k hl => ?_
  have hN : t.val < 64 := lt_of_lt_of_eq t.isLt (show cfg0.N = 64 from N_0)
  have ef := idx_facts t
  have ep := idx_facts ⟨4 * (t.val / 4) + s.val, Pipeline.run_point_lt_of_flush t ht s⟩
  have e1 := ep.1
  have e2 := ep.2.1
  have e3 := ef.2.2
  blk_point [iblk, V, e1, e2, e3]

open Cert.W2RefIdeal.Read in
/-- The reference's result is the gradient. -/
theorem ref_eq (h : (⟨Cert.W2RefIdeal.S8192x8192, .bf16⟩ : BufTy).Contents (Elt Ideal))
    (dx : (⟨Cert.W2RefIdeal.S8192x2048, .f32⟩ : BufTy).Contents (Elt Ideal)) : val_main_v6 (F := Ideal) h dx = G h dx := by
  funext i
  idx_vars i
  unfold G
  pointwise [val_main_v6, val_main_v5, val_main_v3, val_main_v2, val_main_v1, val_main_call0_v0, val_main_call0_cst]
  refine Finset.sum_congr rfl fun k _ => ?_
  exact mul_comm _ _

/-- The claim: both programs end with the gradient in the result array, whatever the arguments hold. -/
theorem algebraic : Cert.algebraic_W2Ideal_W2RefIdeal (hW2Ideal := Cert.W2Ideal.Gen.facts) (hW2RefIdeal := Cert.W2RefIdeal.Gen.facts) := by
  intro m g m' g' _ hagree
  refine ⟨fun c => G (m ((c : Thread nD τ).loc main_arg0)) (m ((c : Thread nD τ).loc main_arg1)), ?_, ?_⟩
  · refine (θ_run defs _ _).mono (fun r h c => ?_) (run_blocks (F := Ideal) m g)
    exact ⟨(h c).1.trans (final m c), (h c).2⟩
  · refine (θ_run Cert.W2RefIdeal.defs _ _).mono (fun r h c => ?_) (Cert.W2RefIdeal.Value.run (F := Ideal) m' g')
    refine ⟨(h c).1.trans ?_, (h c).2⟩
    rw [(hagree c).1, (hagree c).2]
    exact (Cert.W2RefIdeal.Read.val_main_v6_eq _ _).trans (ref_eq _ _)

end Cert.W2Proof
end
-- ==== Proof.W1Value.lean ====
/- The gradient of the MLP's up projection's weight, accumulated over four blocks of 2048 rows and written in the order
   (column block of 1024, row, column within the block). The kernel's run is the
   generated one; here its result is read as one sum over all 8192 rows, and the reference's as the same sum. -/
module

public import proofs.«01_k».proof.Defs
public import proofs.«01_k».proof.Proof.Gen.W1Ideal.Value
public import proofs.«01_k».proof.Proof.Gen.W1RefIdeal.Run
public import proofs.«01_k».proof.Proof.Gen.W1RefIdeal.Read
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.W1Proof

open Cert.W1Ideal Cert.W1Ideal.Gen Cert.W1Ideal.Value

/-- One point's block product at an element. -/
def blockTerm (x0 : Vec Ideal S2048x1024 .bf16) (x1 : Vec Ideal S2048x1024 .bf16) (j : S1024x1024.Idx) : EReal :=
  ∑ k : Fin 2048, x0 (ix2 k (j 0)) * x1 (ix2 k (j 1))

/-- One point's block product, added to what the accumulator held. -/
theorem pay2_apply (x0 : Vec Ideal S2048x1024 .bf16) (acc : Vec Ideal S1024x1024 .f32) (x1 : Vec Ideal S2048x1024 .bf16) (r l : Fin 1024) :
    k0_pay2 x0 acc x1 (ix2 r l)
      = acc (ix2 r l) + blockTerm x0 x1 (ix2 r l) := by
  unfold blockTerm
  pointwise [k0_pay2]

/-- The stored block is the accumulator under a new leading axis. -/
theorem pay3_apply (acc : Vec Ideal S1024x1024 .f32) (z : Fin 1) (r l : Fin 1024) : k0_pay3 acc (ix3 z r l) = acc (ix2 r l) := by
  pointwise [k0_pay3]

theorem pay1_apply (r l : Fin 1024) : k0_pay1 (F := Ideal) (ix2 r l) = 0 := by
  pointwise [k0_pay1]

theorem idx_facts : ∀ t : Fin grid0.N, win0_0.index t = ![t.val % 4, t.val / 32] ∧ win0_1.index t = ![t.val % 4, t.val / 4 % 8]
    ∧ win0_2.index t = ![t.val / 4 % 8, t.val / 32, 0] := by decide +kernel

/-- The gradient with respect to the weight at an element: column `1024 * i 0 + i 2` of row `i 1`. -/
def G (hn : S8192x2048.Idx → EReal) (dh : S8192x8192.Idx → EReal) (i : S8x2048x1024.Idx) : EReal :=
  ∑ k : Fin 8192, hn (ix2 k (i 1)) * dh (ix2 k ⟨1024 * (i 0).val + (i 2).val, by
    have h0 : (i 0).val < 8 := (i 0).isLt
    have h2 : (i 2).val < 1024 := (i 2).isLt
    omega⟩)

variable (m : (ℓ : Loc nD τ sig) → Buf (Elt Ideal) ℓ)

/-- The accumulator after the last point of a run of four: the sum of the four block products. -/
theorem acc_sum (c : Dev nD) (t : Fin cfg0.N) (ht : t.val % 4 = 3) (j : S1024x1024.Idx) :
    (outsAt0 m c t.val t.isLt).2 j = 0 + ∑ s : Fin 4, (fun (p : Fin cfg0.N) (j : S1024x1024.Idx) =>
      blockTerm (iblk m c 0 p) (iblk m c 1 p) j)
        ⟨4 * (t.val / 4) + s.val, Pipeline.run_point_lt_of_flush t ht s⟩ j := by
  refine Pipeline.eq_sum_fin_of_reset_step_apply_of_flush (fun n h => (outsAt0 m c n h).2) 4 (fun _ => (0 : EReal))
    (fun (p : Fin cfg0.N) (j : S1024x1024.Idx) => blockTerm (iblk m c 0 p) (iblk m c 1 p) j) ?_ ?_ t ht j
  · intro t h j
    have h1 : ¬t.val % 4 = 3 := by omega
    rw [outsAt0_A m c t h h1]
    frame_out
    idx_vars j
    rw [pay2_apply, pay1_apply]
  · intro t h j
    by_cases h1 : t.val % 4 = 3
    · rw [outsAt0_C m c t h h1]
      frame_out
      simp only [read_unread_whole]
      idx_vars j
      rw [pay2_apply]
    · rw [outsAt0_B m c t h h1]
      frame_out
      simp only [read_unread_whole]
      idx_vars j
      rw [pay2_apply]

/-- The kernel's result array holds the gradient. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have h0 : ¬t.val % 4 = 0 := by omega
  blk_simp
  rw [after0_2]
  have e : (outsAt0 m c t.val t.isLt).1 = k0_pay3 (outsAt0 m c t.val t.isLt).2 := by
    rw [outsAt0_C m c t h0 ht]
    frame_out
  rw [e]
  idx_vars y
  rw [pay3_apply, acc_sum m c t ht]
  unfold G
  rw [zero_add]
  refine Fin.sum_mul_add_congr fun s k hl => ?_
  have hN : t.val < 64 := lt_of_lt_of_eq t.isLt (show cfg0.N = 64 from N_0)
  have ef := idx_facts t
  have ep := idx_facts ⟨4 * (t.val / 4) + s.val, Pipeline.run_point_lt_of_flush t ht s⟩
  have e1 := ep.1
  have e2 := ep.2.1
  have e3 := ef.2.2
  blk_point [iblk, V, e1, e2, e3]

open Cert.W1RefIdeal.Read in
/-- The reference's result is the gradient. -/
theorem ref_eq (hn : (⟨Cert.W1RefIdeal.S8192x2048, .bf16⟩ : BufTy).Contents (Elt Ideal))
    (dh : (⟨Cert.W1RefIdeal.S8192x8192, .bf16⟩ : BufTy).Contents (Elt Ideal)) : val_main_v7 (F := Ideal) hn dh = G hn dh := by
  funext i
  idx_vars i
  unfold G
  pointwise [val_main_v7, val_main_v6, val_main_v5, val_main_v4, val_main_v3, val_main_v1]
  refine Finset.sum_congr rfl fun k _ => ?_
  rw [mul_comm]
  congr 3
  exact Fin.ext (by dsimp only; omega)

/-- The claim: both programs end with the gradient in the result array, whatever the arguments hold. -/
theorem algebraic : Cert.algebraic_W1Ideal_W1RefIdeal (hW1Ideal := Cert.W1Ideal.Gen.facts) (hW1RefIdeal := Cert.W1RefIdeal.Gen.facts) := by
  intro m g m' g' _ hagree
  refine ⟨fun c => G (m ((c : Thread nD τ).loc main_arg0)) (m ((c : Thread nD τ).loc main_arg1)), ?_, ?_⟩
  · refine (θ_run defs _ _).mono (fun r h c => ?_) (run_blocks (F := Ideal) m g)
    exact ⟨(h c).1.trans (final m c), (h c).2⟩
  · refine (θ_run Cert.W1RefIdeal.defs _ _).mono (fun r h c => ?_) (Cert.W1RefIdeal.Value.run (F := Ideal) m' g')
    refine ⟨(h c).1.trans ?_, (h c).2⟩
    rw [(hagree c).1, (hagree c).2]
    exact (Cert.W1RefIdeal.Read.val_main_v7_eq _ _).trans (ref_eq _ _)

end Cert.W1Proof
end
-- ==== Proof.OutValue.lean ====
/- A mixer's output projection, added to the residual stream. The kernel's run is the generated one; here its result is read as one sum per
   element, and the reference's as the same sum. -/
module

public import proofs.«01_k».proof.Defs
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.OutProof

open Cert.OutIdeal Cert.OutIdeal.Gen Cert.OutIdeal.Value

/-- One point's block product at an element. -/
def blockTerm (x0 : Vec Ideal S1024x2048 .bf16) (x1 : Vec Ideal S2048x1024 .bf16) (j : S1024x1024.Idx) : EReal :=
  ∑ k : Fin 2048, x0 (ix2 (j 0) k) * x1 (ix2 k (j 1))

/-- One point's block product, added to what the accumulator held. -/
theorem pay2_apply (x0 : Vec Ideal S1024x2048 .bf16) (acc : Vec Ideal S1024x1024 .f32) (x1 : Vec Ideal S2048x1024 .bf16) (r : Fin 1024) (l : Fin 1024) :
    k0_pay2 x0 acc x1 (ix2 r l) = acc (ix2 r l) + blockTerm x0 x1 (ix2 r l) := by
  unfold blockTerm
  pointwise [k0_pay2]

theorem pay1_apply (r : Fin 1024) (l : Fin 1024) : k0_pay1 (F := Ideal) (ix2 r l) = 0 := by
  pointwise [k0_pay1]

/-- The stored block is the accumulator and the residual stream's block. -/
theorem pay3_apply (acc x : Vec Ideal S1024x1024 .f32) (r : Fin 1024) (l : Fin 1024) : k0_pay3 acc x (ix2 r l) = acc (ix2 r l) + x (ix2 r l) := by
  pointwise [k0_pay3]

theorem idx_facts : ∀ t : Fin grid0.N, win0_0.index t = ![t.val / 2, 0] ∧ win0_1.index t = ![0, t.val % 2]
    ∧ win0_2.index t = ![t.val / 2, t.val % 2] ∧ win0_3.index t = ![t.val / 2, t.val % 2] := by decide +kernel

/-- The product at an element. -/
def G (a : S8192x2048.Idx → EReal) (b : S2048x2048.Idx → EReal) (x : S8192x2048.Idx → EReal) (i : S8192x2048.Idx) : EReal :=
  (∑ k : Fin 2048, a (ix2 (i 0) k) * b (ix2 k (i 1))) + x i

variable (m : (ℓ : Loc nD τ sig) → Buf (Elt Ideal) ℓ)

/-- The kernel's result array holds the product. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have e0 := (idx_facts t).1
  have e1 := (idx_facts t).2.1
  have e2 := (idx_facts t).2.2.1
  have e3 := (idx_facts t).2.2.2
  blk_simp
  rw [after0_3]
  unfold outsAt0
  frame_out
  idx_vars y
  rw [pay3_apply, pay2_apply, pay1_apply, zero_add]
  unfold G blockTerm
  blk_point [iblk, V, e0, e1, e2, e3]

open Cert.OutRefIdeal.Read in
/-- The reference's result is the product. -/
theorem ref_eq (a : (⟨Cert.OutRefIdeal.S8192x2048, .bf16⟩ : BufTy).Contents (Elt Ideal)) (b : (⟨Cert.OutRefIdeal.S2048x2048, .bf16⟩ : BufTy).Contents (Elt Ideal)) (x : (⟨Cert.OutRefIdeal.S8192x2048, .f32⟩ : BufTy).Contents (Elt Ideal)) :
    val_main_v3 (F := Ideal) a b x = G a b x := by
  funext i
  idx_vars i
  unfold G
  pointwise [val_main_v0, val_main_v1, val_main_v2, val_main_v3]
  exact add_comm _ _

/-- The claim: both programs end with the product in the result array, whatever the arguments hold. -/
theorem algebraic : Cert.algebraic_OutIdeal_OutRefIdeal (hOutIdeal := Cert.OutIdeal.Gen.facts) (hOutRefIdeal := Cert.OutRefIdeal.Gen.facts) := by
  intro m g m' g' _ hagree
  refine ⟨fun c => G (m ((c : Thread nD τ).loc main_arg0)) (m ((c : Thread nD τ).loc main_arg1)) (m ((c : Thread nD τ).loc main_arg2)), ?_, ?_⟩
  · refine (θ_run defs _ _).mono (fun r h c => ?_) (run_blocks (F := Ideal) m g)
    exact ⟨(h c).1.trans (final m c), (h c).2⟩
  · refine (θ_run Cert.OutRefIdeal.defs _ _).mono (fun r h c => ?_) (Cert.OutRefIdeal.Value.run (F := Ideal) m' g')
    refine ⟨(h c).1.trans ?_, (h c).2⟩
    rw [(hagree c).1, (hagree c).2.1, (hagree c).2.2]
    exact (Cert.OutRefIdeal.Read.val_main_v3_eq _ _ _).trans (ref_eq _ _ _)

end Cert.OutProof
end
-- ==== Proof.OutBValue.lean ====
/- What a mixer's output projection sends back to its input. The kernel's run is the generated one; here its result is read as one sum per
   element, and the reference's as the same sum. -/
module

public import proofs.«01_k».proof.Defs
public import proofs.«01_k».proof.Proof.Gen.OutBIdeal.Value
public import proofs.«01_k».proof.Proof.Gen.OutBRefIdeal.Run
public import proofs.«01_k».proof.Proof.Gen.OutBRefIdeal.Read
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.OutBProof

open Cert.OutBIdeal Cert.OutBIdeal.Gen Cert.OutBIdeal.Value

/-- One point's block product at an element. -/
def blockTerm (x0 : Vec Ideal S1024x2048 .f32) (x1 : Vec Ideal S1024x2048 .bf16) (j : S1024x1024.Idx) : EReal :=
  ∑ k : Fin 2048, x0 (ix2 (j 0) k) * x1 (ix2 (j 1) k)

/-- One point's block product, added to what the accumulator held. -/
theorem pay2_apply (x0 : Vec Ideal S1024x2048 .f32) (acc : Vec Ideal S1024x1024 .f32) (x1 : Vec Ideal S1024x2048 .bf16) (r : Fin 1024) (l : Fin 1024) :
    k0_pay2 x0 acc x1 (ix2 r l) = acc (ix2 r l) + blockTerm x0 x1 (ix2 r l) := by
  unfold blockTerm
  pointwise [k0_pay2]

theorem pay1_apply (r : Fin 1024) (l : Fin 1024) : k0_pay1 (F := Ideal) (ix2 r l) = 0 := by
  pointwise [k0_pay1]

/-- The stored block is the accumulator, rounded. -/
theorem pay3_apply (acc : Vec Ideal S1024x1024 .f32) (r : Fin 1024) (l : Fin 1024) : k0_pay3 acc (ix2 r l) = acc (ix2 r l) := by
  pointwise [k0_pay3]

theorem idx_facts : ∀ t : Fin grid0.N, win0_0.index t = ![t.val / 2, 0] ∧ win0_1.index t = ![t.val % 2, 0]
    ∧ win0_2.index t = ![t.val / 2, t.val % 2] := by decide +kernel

/-- The product at an element. -/
def G (a : S8192x2048.Idx → EReal) (b : S2048x2048.Idx → EReal) (i : S8192x2048.Idx) : EReal :=
  ∑ k : Fin 2048, a (ix2 (i 0) k) * b (ix2 (i 1) k)

variable (m : (ℓ : Loc nD τ sig) → Buf (Elt Ideal) ℓ)

/-- The kernel's result array holds the product. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have e0 := (idx_facts t).1
  have e1 := (idx_facts t).2.1
  have e2 := (idx_facts t).2.2
  blk_simp
  rw [after0_2]
  unfold outsAt0
  frame_out
  idx_vars y
  rw [pay3_apply, pay2_apply, pay1_apply, zero_add]
  unfold G blockTerm
  blk_point [iblk, V, e0, e1, e2]

open Cert.OutBRefIdeal.Read in
/-- The reference's result is the product. -/
theorem ref_eq (a : (⟨Cert.OutBRefIdeal.S8192x2048, .f32⟩ : BufTy).Contents (Elt Ideal)) (b : (⟨Cert.OutBRefIdeal.S2048x2048, .bf16⟩ : BufTy).Contents (Elt Ideal)) :
    val_main_v4 (F := Ideal) a b = G a b := by
  funext i
  idx_vars i
  unfold G
  pointwise [val_main_cst, val_main_v0, val_main_v1, val_main_v2, val_main_v3, val_main_v4]

/-- The claim: both programs end with the product in the result array, whatever the arguments hold. -/
theorem algebraic : Cert.algebraic_OutBIdeal_OutBRefIdeal (hOutBIdeal := Cert.OutBIdeal.Gen.facts) (hOutBRefIdeal := Cert.OutBRefIdeal.Gen.facts) := by
  intro m g m' g' _ hagree
  refine ⟨fun c => G (m ((c : Thread nD τ).loc main_arg0)) (m ((c : Thread nD τ).loc main_arg1)), ?_, ?_⟩
  · refine (θ_run defs _ _).mono (fun r h c => ?_) (run_blocks (F := Ideal) m g)
    exact ⟨(h c).1.trans (final m c), (h c).2⟩
  · refine (θ_run Cert.OutBRefIdeal.defs _ _).mono (fun r h c => ?_) (Cert.OutBRefIdeal.Value.run (F := Ideal) m' g')
    refine ⟨(h c).1.trans ?_, (h c).2⟩
    rw [(hagree c).1, (hagree c).2]
    exact (Cert.OutBRefIdeal.Read.val_main_v4_eq _ _).trans (ref_eq _ _)

end Cert.OutBProof
end
-- ==== Proof.OutGValue.lean ====
/- The gradient of a mixer's output projection. The kernel's run is the generated one; here its result is read as one sum per
   element, and the reference's as the same sum. -/
module

public import proofs.«01_k».proof.Defs
public import proofs.«01_k».proof.Proof.Gen.OutGIdeal.Value
public import proofs.«01_k».proof.Proof.Gen.OutGRefIdeal.Run
public import proofs.«01_k».proof.Proof.Gen.OutGRefIdeal.Read
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.OutGProof

open Cert.OutGIdeal Cert.OutGIdeal.Gen Cert.OutGIdeal.Value

/-- One point's block product at an element. -/
def blockTerm (x0 : Vec Ideal S2048x1024 .bf16) (x1 : Vec Ideal S2048x1024 .f32) (j : S1024x1024.Idx) : EReal :=
  ∑ k : Fin 2048, x0 (ix2 k (j 0)) * x1 (ix2 k (j 1))

/-- One point's block product, added to what the accumulator held. -/
theorem pay2_apply (x0 : Vec Ideal S2048x1024 .bf16) (acc : Vec Ideal S1024x1024 .f32) (x1 : Vec Ideal S2048x1024 .f32) (r : Fin 1024) (l : Fin 1024) :
    k0_pay2 x0 acc x1 (ix2 r l) = acc (ix2 r l) + blockTerm x0 x1 (ix2 r l) := by
  unfold blockTerm
  pointwise [k0_pay2]

theorem pay1_apply (r : Fin 1024) (l : Fin 1024) : k0_pay1 (F := Ideal) (ix2 r l) = 0 := by
  pointwise [k0_pay1]

theorem idx_facts : ∀ t : Fin grid0.N, win0_0.index t = ![t.val % 4, t.val / 8] ∧ win0_1.index t = ![t.val % 4, t.val / 4 % 2]
    ∧ win0_2.index t = ![t.val / 8, t.val / 4 % 2] := by decide +kernel

/-- The product at an element. -/
def G (a : S8192x2048.Idx → EReal) (b : S8192x2048.Idx → EReal) (i : S2048x2048.Idx) : EReal :=
  ∑ k : Fin 8192, a (ix2 k (i 0)) * b (ix2 k (i 1))

variable (m : (ℓ : Loc nD τ sig) → Buf (Elt Ideal) ℓ)

/-- The accumulator after the last point of a run of 4: the sum of its block products. -/
theorem acc_sum (c : Dev nD) (t : Fin cfg0.N) (ht : t.val % 4 = 3) (j : S1024x1024.Idx) :
    (outsAt0 m c t.val t.isLt).2 j = 0 + ∑ s : Fin 4, (fun (p : Fin cfg0.N) (j : S1024x1024.Idx) =>
      blockTerm (iblk m c 0 p) (iblk m c 1 p) j)
        ⟨4 * (t.val / 4) + s.val, Pipeline.run_point_lt_of_flush t ht s⟩ j := by
  refine Pipeline.eq_sum_fin_of_reset_step_apply_of_flush (fun n h => (outsAt0 m c n h).2) 4 (fun _ => (0 : EReal))
    (fun (p : Fin cfg0.N) (j : S1024x1024.Idx) => blockTerm (iblk m c 0 p) (iblk m c 1 p) j) ?_ ?_ t ht j
  · intro t h j
    have h1 : ¬t.val % 4 = 3 := by omega
    rw [outsAt0_A m c t h h1]
    frame_out
    idx_vars j
    rw [pay2_apply, pay1_apply]
  · intro t h j
    by_cases h1 : t.val % 4 = 3
    · rw [outsAt0_C m c t h h1]
      frame_out
      simp only [read_unread_whole]
      idx_vars j
      rw [pay2_apply]
    · rw [outsAt0_B m c t h h1]
      frame_out
      simp only [read_unread_whole]
      idx_vars j
      rw [pay2_apply]

/-- The kernel's result array holds the product. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have h0 : ¬t.val % 4 = 0 := by omega
  blk_simp
  rw [after0_2]
  have e : (outsAt0 m c t.val t.isLt).1 = (outsAt0 m c t.val t.isLt).2 := by
    rw [outsAt0_C m c t h0 ht]
    frame_out
  rw [e]
  rw [acc_sum m c t ht]
  unfold G
  idx_vars y
  rw [zero_add]
  refine Fin.sum_mul_add_congr fun s k hl => ?_
  have hN : t.val < 16 := lt_of_lt_of_eq t.isLt (show cfg0.N = 16 from N_0)
  have ef := idx_facts t
  have ep := idx_facts ⟨4 * (t.val / 4) + s.val, Pipeline.run_point_lt_of_flush t ht s⟩
  have e1 := ep.1
  have e2 := ep.2.1
  have e3 := ef.2.2
  blk_point [iblk, V, e1, e2, e3]

open Cert.OutGRefIdeal.Read in
/-- The reference's result is the product. -/
theorem ref_eq (a : (⟨Cert.OutGRefIdeal.S8192x2048, .bf16⟩ : BufTy).Contents (Elt Ideal)) (b : (⟨Cert.OutGRefIdeal.S8192x2048, .f32⟩ : BufTy).Contents (Elt Ideal)) :
    val_main_v4 (F := Ideal) a b = G a b := by
  funext i
  idx_vars i
  unfold G
  pointwise [val_main_cst, val_main_v0, val_main_v1, val_main_v2, val_main_v3, val_main_v4]
  refine Finset.sum_congr rfl fun k _ => ?_
  exact mul_comm _ _

/-- The claim: both programs end with the product in the result array, whatever the arguments hold. -/
theorem algebraic : Cert.algebraic_OutGIdeal_OutGRefIdeal (hOutGIdeal := Cert.OutGIdeal.Gen.facts) (hOutGRefIdeal := Cert.OutGRefIdeal.Gen.facts) := by
  intro m g m' g' _ hagree
  refine ⟨fun c => G (m ((c : Thread nD τ).loc main_arg0)) (m ((c : Thread nD τ).loc main_arg1)), ?_, ?_⟩
  · refine (θ_run defs _ _).mono (fun r h c => ?_) (run_blocks (F := Ideal) m g)
    exact ⟨(h c).1.trans (final m c), (h c).2⟩
  · refine (θ_run Cert.OutGRefIdeal.defs _ _).mono (fun r h c => ?_) (Cert.OutGRefIdeal.Value.run (F := Ideal) m' g')
    refine ⟨(h c).1.trans ?_, (h c).2⟩
    rw [(hagree c).1, (hagree c).2]
    exact (Cert.OutGRefIdeal.Read.val_main_v4_eq _ _).trans (ref_eq _ _)

end Cert.OutGProof
end
-- ==== Proof.DownValue.lean ====
/- The MLP's second product, of the squared ReLU of its hidden layer, added to the residual stream. The kernel's run is the generated one; here its result is read as one sum per
   element, and the reference's as the same sum. -/
module

public import proofs.«01_k».proof.Defs
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.DownProof

open Cert.DownIdeal Cert.DownIdeal.Gen Cert.DownIdeal.Value

/-- One point's block product at an element. -/
def blockTerm (x0 : Vec Ideal S1024x2048 .bf16) (x1 : Vec Ideal S2048x1024 .bf16) (j : S1024x1024.Idx) : EReal :=
  ∑ k : Fin 2048, (max (x0 (ix2 (j 0) k)) 0 * max (x0 (ix2 (j 0) k)) 0) * x1 (ix2 k (j 1))

/-- One point's block product, added to what the accumulator held. -/
theorem pay2_apply (x0 : Vec Ideal S1024x2048 .bf16) (acc : Vec Ideal S1024x1024 .f32) (x1 : Vec Ideal S2048x1024 .bf16) (r : Fin 1024) (l : Fin 1024) :
    k0_pay2 x0 acc x1 (ix2 r l) = acc (ix2 r l) + blockTerm x0 x1 (ix2 r l) := by
  unfold blockTerm
  pointwise [k0_pay2]

theorem pay1_apply (r : Fin 1024) (l : Fin 1024) : k0_pay1 (F := Ideal) (ix2 r l) = 0 := by
  pointwise [k0_pay1]

/-- The stored block is the accumulator and the residual stream's block. -/
theorem pay3_apply (acc x : Vec Ideal S1024x1024 .f32) (r : Fin 1024) (l : Fin 1024) : k0_pay3 acc x (ix2 r l) = acc (ix2 r l) + x (ix2 r l) := by
  pointwise [k0_pay3]

theorem idx_facts : ∀ t : Fin grid0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] := by decide +kernel

/-- The product at an element. -/
def G (a : S8192x8192.Idx → EReal) (b : S8192x2048.Idx → EReal) (x : S8192x2048.Idx → EReal) (i : S8192x2048.Idx) : EReal :=
  (∑ k : Fin 8192, (max (a (ix2 (i 0) k)) 0 * max (a (ix2 (i 0) k)) 0) * b (ix2 k (i 1))) + x i

variable (m : (ℓ : Loc nD τ sig) → Buf (Elt Ideal) ℓ)

/-- The accumulator after the last point of a run of 4: the sum of its block products. -/
theorem acc_sum (c : Dev nD) (t : Fin cfg0.N) (ht : t.val % 4 = 3) (j : S1024x1024.Idx) :
    (outsAt0 m c t.val t.isLt).2 j = 0 + ∑ s : Fin 4, (fun (p : Fin cfg0.N) (j : S1024x1024.Idx) =>
      blockTerm (iblk m c 0 p) (iblk m c 1 p) j)
        ⟨4 * (t.val / 4) + s.val, Pipeline.run_point_lt_of_flush t ht s⟩ j := by
  refine Pipeline.eq_sum_fin_of_reset_step_apply_of_flush (fun n h => (outsAt0 m c n h).2) 4 (fun _ => (0 : EReal))
    (fun (p : Fin cfg0.N) (j : S1024x1024.Idx) => blockTerm (iblk m c 0 p) (iblk m c 1 p) j) ?_ ?_ t ht j
  · intro t h j
    have h1 : ¬t.val % 4 = 3 := by omega
    rw [outsAt0_A m c t h h1]
    frame_out
    idx_vars j
    rw [pay2_apply, pay1_apply]
  · intro t h j
    by_cases h1 : t.val % 4 = 3
    · rw [outsAt0_C m c t h h1]
      frame_out
      simp only [read_unread_whole]
      idx_vars j
      rw [pay2_apply]
    · rw [outsAt0_B m c t h h1]
      frame_out
      simp only [read_unread_whole]
      idx_vars j
      rw [pay2_apply]

/-- The kernel's result array holds the product. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val % 4 = 3 := (flush0_3 t).mp hf
  have h0 : ¬t.val % 4 = 0 := by omega
  blk_simp
  rw [after0_3]
  have e : (outsAt0 m c t.val t.isLt).1 = k0_pay3 (outsAt0 m c t.val t.isLt).2 (iblk m c 2 t) := by
    rw [outsAt0_C m c t h0 ht]
    frame_out
  rw [e]
  idx_vars y
  rw [pay3_apply, acc_sum m c t ht]
  unfold G
  refine congrArg₂ (fun x y : EReal => x + y) ?_ ?_
  swap
  · have e2 := (idx_facts t).2.2.1
    have e3 := (idx_facts t).2.2.2
    blk_point [iblk, V, e2, e3]
  rw [zero_add]
  refine Fin.sum_mul_add_congr fun s k hl => ?_
  have hN : t.val < 64 := lt_of_lt_of_eq t.isLt (show cfg0.N = 64 from N_0)
  have ef := idx_facts t
  have ep := idx_facts ⟨4 * (t.val / 4) + s.val, Pipeline.run_point_lt_of_flush t ht s⟩
  have e1 := ep.1
  have e2 := ep.2.1
  have e3 := ef.2.2.2
  blk_point [iblk, V, e1, e2, e3]

open Cert.DownRefIdeal.Read in
/-- The reference's result is the product. -/
theorem ref_eq (a : (⟨Cert.DownRefIdeal.S8192x8192, .bf16⟩ : BufTy).Contents (Elt Ideal)) (b : (⟨Cert.DownRefIdeal.S8192x2048, .bf16⟩ : BufTy).Contents (Elt Ideal)) (x : (⟨Cert.DownRefIdeal.S8192x2048, .f32⟩ : BufTy).Contents (Elt Ideal)) :
    val_main_v5 (F := Ideal) a b x = G a b x := by
  funext i
  idx_vars i
  unfold G
  pointwise [val_main_v0, val_main_call0_cst, val_main_call0_v0, val_main_v1, val_main_v2, val_main_v3, val_main_v4, val_main_v5]
  exact add_comm _ _

/-- The claim: both programs end with the product in the result array, whatever the arguments hold. -/
theorem algebraic : Cert.algebraic_DownIdeal_DownRefIdeal (hDownIdeal := Cert.DownIdeal.Gen.facts) (hDownRefIdeal := Cert.DownRefIdeal.Gen.facts) := by
  intro m g m' g' _ hagree
  refine ⟨fun c => G (m ((c : Thread nD τ).loc main_arg0)) (m ((c : Thread nD τ).loc main_arg1)) (m ((c : Thread nD τ).loc main_arg2)), ?_, ?_⟩
  · refine (θ_run defs _ _).mono (fun r h c => ?_) (run_blocks (F := Ideal) m g)
    exact ⟨(h c).1.trans (final m c), (h c).2⟩
  · refine (θ_run Cert.DownRefIdeal.defs _ _).mono (fun r h c => ?_) (Cert.DownRefIdeal.Value.run (F := Ideal) m' g')
    refine ⟨(h c).1.trans ?_, (h c).2⟩
    rw [(hagree c).1, (hagree c).2.1, (hagree c).2.2]
    exact (Cert.DownRefIdeal.Read.val_main_v5_eq _ _ _).trans (ref_eq _ _ _)

end Cert.DownProof
end
-- ==== Proof.UpValue.lean ====
/- The MLP's first product. The kernel's run is the generated one; here its result is read as one sum per
   element, and the reference's as the same sum. -/
module

public import proofs.«01_k».proof.Defs
public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.UpProof

open Cert.UpIdeal Cert.UpIdeal.Gen Cert.UpIdeal.Value

/-- One point's block product at an element. -/
def blockTerm (x0 : Vec Ideal S1024x2048 .bf16) (x1 : Vec Ideal S2048x1024 .bf16) (j : S1024x1024.Idx) : EReal :=
  ∑ k : Fin 2048, x0 (ix2 (j 0) k) * x1 (ix2 k (j 1))

/-- One point's block product, added to what the accumulator held. -/
theorem pay2_apply (x0 : Vec Ideal S1024x2048 .bf16) (acc : Vec Ideal S1024x1024 .f32) (x1 : Vec Ideal S2048x1024 .bf16) (r : Fin 1024) (l : Fin 1024) :
    k0_pay2 x0 acc x1 (ix2 r l) = acc (ix2 r l) + blockTerm x0 x1 (ix2 r l) := by
  unfold blockTerm
  pointwise [k0_pay2]

theorem pay1_apply (r : Fin 1024) (l : Fin 1024) : k0_pay1 (F := Ideal) (ix2 r l) = 0 := by
  pointwise [k0_pay1]

/-- The stored block is the accumulator, rounded. -/
theorem pay3_apply (acc : Vec Ideal S1024x1024 .f32) (r : Fin 1024) (l : Fin 1024) : k0_pay3 acc (ix2 r l) = acc (ix2 r l) := by
  pointwise [k0_pay3]

theorem idx_facts : ∀ t : Fin grid0.N, win0_0.index t = ![t.val / 8, 0] ∧ win0_1.index t = ![0, t.val % 8]
    ∧ win0_2.index t = ![t.val / 8, t.val % 8] := by decide +kernel

/-- The product at an element. -/
def G (a : S8192x2048.Idx → EReal) (b : S2048x8192.Idx → EReal) (i : S8192x8192.Idx) : EReal :=
  ∑ k : Fin 2048, a (ix2 (i 0) k) * b (ix2 k (i 1))

variable (m : (ℓ : Loc nD τ sig) → Buf (Elt Ideal) ℓ)

/-- The kernel's result array holds the product. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have e0 := (idx_facts t).1
  have e1 := (idx_facts t).2.1
  have e2 := (idx_facts t).2.2
  blk_simp
  rw [after0_2]
  unfold outsAt0
  frame_out
  idx_vars y
  rw [pay3_apply, pay2_apply, pay1_apply, zero_add]
  unfold G blockTerm
  blk_point [iblk, V, e0, e1, e2]

open Cert.UpRefIdeal.Read in
/-- The reference's result is the product. -/
theorem ref_eq (a : (⟨Cert.UpRefIdeal.S8192x2048, .bf16⟩ : BufTy).Contents (Elt Ideal)) (b : (⟨Cert.UpRefIdeal.S2048x8192, .bf16⟩ : BufTy).Contents (Elt Ideal)) :
    val_main_v3 (F := Ideal) a b = G a b := by
  funext i
  idx_vars i
  unfold G
  pointwise [val_main_v0, val_main_v1, val_main_v2, val_main_v3]

/-- The claim: both programs end with the product in the result array, whatever the arguments hold. -/
theorem algebraic : Cert.algebraic_UpIdeal_UpRefIdeal (hUpIdeal := Cert.UpIdeal.Gen.facts) (hUpRefIdeal := Cert.UpRefIdeal.Gen.facts) := by
  intro m g m' g' _ hagree
  refine ⟨fun c => G (m ((c : Thread nD τ).loc main_arg0)) (m ((c : Thread nD τ).loc main_arg1)), ?_, ?_⟩
  · refine (θ_run defs _ _).mono (fun r h c => ?_) (run_blocks (F := Ideal) m g)
    exact ⟨(h c).1.trans (final m c), (h c).2⟩
  · refine (θ_run Cert.UpRefIdeal.defs _ _).mono (fun r h c => ?_) (Cert.UpRefIdeal.Value.run (F := Ideal) m' g')
    refine ⟨(h c).1.trans ?_, (h c).2⟩
    rw [(hagree c).1, (hagree c).2]
    exact (Cert.UpRefIdeal.Read.val_main_v3_eq _ _).trans (ref_eq _ _)

end Cert.UpProof
end
-- ==== Proof.InValue.lean ====
/- The projection into the dilated attention and the S5 layer. The kernel's run is the generated one; here its result is read as one sum per
   element, and the reference's as the same sum. -/
module

public import proofs.«01_k».proof.Defs
public import proofs.«01_k».proof.Proof.Gen.InIdeal.Value
public import proofs.«01_k».proof.Proof.Gen.InRefIdeal.Run
public import proofs.«01_k».proof.Proof.Gen.InRefIdeal.Read
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.InProof

open Cert.InIdeal Cert.InIdeal.Gen Cert.InIdeal.Value

/-- One point's block product at an element. -/
def blockTerm (x0 : Vec Ideal S1024x2048 .bf16) (x1 : Vec Ideal S2048x1024 .bf16) (j : S1024x1024.Idx) : EReal :=
  ∑ k : Fin 2048, x0 (ix2 (j 0) k) * x1 (ix2 k (j 1))

/-- One point's block product, added to what the accumulator held. -/
theorem pay2_apply (x0 : Vec Ideal S1024x2048 .bf16) (acc : Vec Ideal S1024x1024 .f32) (x1 : Vec Ideal S2048x1024 .bf16) (r : Fin 1024) (l : Fin 1024) :
    k0_pay2 x0 acc x1 (ix2 r l) = acc (ix2 r l) + blockTerm x0 x1 (ix2 r l) := by
  unfold blockTerm
  pointwise [k0_pay2]

theorem pay1_apply (r : Fin 1024) (l : Fin 1024) : k0_pay1 (F := Ideal) (ix2 r l) = 0 := by
  pointwise [k0_pay1]

/-- The stored block is the accumulator, rounded. -/
theorem pay3_apply (acc : Vec Ideal S1024x1024 .f32) (r : Fin 1024) (l : Fin 1024) : k0_pay3 acc (ix2 r l) = acc (ix2 r l) := by
  pointwise [k0_pay3]

theorem idx_facts : ∀ t : Fin grid0.N, win0_0.index t = ![t.val / 4, 0] ∧ win0_1.index t = ![0, t.val % 4]
    ∧ win0_2.index t = ![t.val / 4, t.val % 4] := by decide +kernel

/-- The product at an element. -/
def G (a : S8192x2048.Idx → EReal) (b : S2048x4096.Idx → EReal) (i : S8192x4096.Idx) : EReal :=
  ∑ k : Fin 2048, a (ix2 (i 0) k) * b (ix2 k (i 1))

variable (m : (ℓ : Loc nD τ sig) → Buf (Elt Ideal) ℓ)

/-- The kernel's result array holds the product. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have e0 := (idx_facts t).1
  have e1 := (idx_facts t).2.1
  have e2 := (idx_facts t).2.2
  blk_simp
  rw [after0_2]
  unfold outsAt0
  frame_out
  idx_vars y
  rw [pay3_apply, pay2_apply, pay1_apply, zero_add]
  unfold G blockTerm
  blk_point [iblk, V, e0, e1, e2]

open Cert.InRefIdeal.Read in
/-- The reference's result is the product. -/
theorem ref_eq (a : (⟨Cert.InRefIdeal.S8192x2048, .bf16⟩ : BufTy).Contents (Elt Ideal)) (b : (⟨Cert.InRefIdeal.S2048x4096, .bf16⟩ : BufTy).Contents (Elt Ideal)) :
    val_main_v3 (F := Ideal) a b = G a b := by
  funext i
  idx_vars i
  unfold G
  pointwise [val_main_v0, val_main_v1, val_main_v2, val_main_v3]

/-- The claim: both programs end with the product in the result array, whatever the arguments hold. -/
theorem algebraic : Cert.algebraic_InIdeal_InRefIdeal (hInIdeal := Cert.InIdeal.Gen.facts) (hInRefIdeal := Cert.InRefIdeal.Gen.facts) := by
  intro m g m' g' _ hagree
  refine ⟨fun c => G (m ((c : Thread nD τ).loc main_arg0)) (m ((c : Thread nD τ).loc main_arg1)), ?_, ?_⟩
  · refine (θ_run defs _ _).mono (fun r h c => ?_) (run_blocks (F := Ideal) m g)
    exact ⟨(h c).1.trans (final m c), (h c).2⟩
  · refine (θ_run Cert.InRefIdeal.defs _ _).mono (fun r h c => ?_) (Cert.InRefIdeal.Value.run (F := Ideal) m' g')
    refine ⟨(h c).1.trans ?_, (h c).2⟩
    rw [(hagree c).1, (hagree c).2]
    exact (Cert.InRefIdeal.Read.val_main_v3_eq _ _).trans (ref_eq _ _)

end Cert.InProof
end
-- ==== Proof.QkvValue.lean ====
/- The projection into the neighbourhood attention. The kernel's run is the generated one; here its result is read as one sum per
   element, and the reference's as the same sum. -/
module

public import proofs.«01_k».proof.Defs
public import proofs.«01_k».proof.Proof.Gen.QkvIdeal.Value
public import proofs.«01_k».proof.Proof.Gen.QkvRefIdeal.Run
public import proofs.«01_k».proof.Proof.Gen.QkvRefIdeal.Read
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.QkvProof

open Cert.QkvIdeal Cert.QkvIdeal.Gen Cert.QkvIdeal.Value

/-- One point's block product at an element. -/
def blockTerm (x0 : Vec Ideal S1024x2048 .bf16) (x1 : Vec Ideal S2048x1024 .bf16) (j : S1024x1024.Idx) : EReal :=
  ∑ k : Fin 2048, x0 (ix2 (j 0) k) * x1 (ix2 k (j 1))

/-- One point's block product, added to what the accumulator held. -/
theorem pay2_apply (x0 : Vec Ideal S1024x2048 .bf16) (acc : Vec Ideal S1024x1024 .f32) (x1 : Vec Ideal S2048x1024 .bf16) (r : Fin 1024) (l : Fin 1024) :
    k0_pay2 x0 acc x1 (ix2 r l) = acc (ix2 r l) + blockTerm x0 x1 (ix2 r l) := by
  unfold blockTerm
  pointwise [k0_pay2]

theorem pay1_apply (r : Fin 1024) (l : Fin 1024) : k0_pay1 (F := Ideal) (ix2 r l) = 0 := by
  pointwise [k0_pay1]

/-- The stored block is the accumulator, rounded. -/
theorem pay3_apply (acc : Vec Ideal S1024x1024 .f32) (r : Fin 1024) (l : Fin 1024) : k0_pay3 acc (ix2 r l) = acc (ix2 r l) := by
  pointwise [k0_pay3]

theorem idx_facts : ∀ t : Fin grid0.N, win0_0.index t = ![t.val / 6, 0] ∧ win0_1.index t = ![0, t.val % 6]
    ∧ win0_2.index t = ![t.val / 6, t.val % 6] := by decide +kernel

/-- The product at an element. -/
def G (a : S8192x2048.Idx → EReal) (b : S2048x6144.Idx → EReal) (i : S8192x6144.Idx) : EReal :=
  ∑ k : Fin 2048, a (ix2 (i 0) k) * b (ix2 k (i 1))

variable (m : (ℓ : Loc nD τ sig) → Buf (Elt Ideal) ℓ)

/-- The kernel's result array holds the product. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have e0 := (idx_facts t).1
  have e1 := (idx_facts t).2.1
  have e2 := (idx_facts t).2.2
  blk_simp
  rw [after0_2]
  unfold outsAt0
  frame_out
  idx_vars y
  rw [pay3_apply, pay2_apply, pay1_apply, zero_add]
  unfold G blockTerm
  blk_point [iblk, V, e0, e1, e2]

open Cert.QkvRefIdeal.Read in
/-- The reference's result is the product. -/
theorem ref_eq (a : (⟨Cert.QkvRefIdeal.S8192x2048, .bf16⟩ : BufTy).Contents (Elt Ideal)) (b : (⟨Cert.QkvRefIdeal.S2048x6144, .bf16⟩ : BufTy).Contents (Elt Ideal)) :
    val_main_v3 (F := Ideal) a b = G a b := by
  funext i
  idx_vars i
  unfold G
  pointwise [val_main_v0, val_main_v1, val_main_v2, val_main_v3]

/-- The claim: both programs end with the product in the result array, whatever the arguments hold. -/
theorem algebraic : Cert.algebraic_QkvIdeal_QkvRefIdeal (hQkvIdeal := Cert.QkvIdeal.Gen.facts) (hQkvRefIdeal := Cert.QkvRefIdeal.Gen.facts) := by
  intro m g m' g' _ hagree
  refine ⟨fun c => G (m ((c : Thread nD τ).loc main_arg0)) (m ((c : Thread nD τ).loc main_arg1)), ?_, ?_⟩
  · refine (θ_run defs _ _).mono (fun r h c => ?_) (run_blocks (F := Ideal) m g)
    exact ⟨(h c).1.trans (final m c), (h c).2⟩
  · refine (θ_run Cert.QkvRefIdeal.defs _ _).mono (fun r h c => ?_) (Cert.QkvRefIdeal.Value.run (F := Ideal) m' g')
    refine ⟨(h c).1.trans ?_, (h c).2⟩
    rw [(hagree c).1, (hagree c).2]
    exact (Cert.QkvRefIdeal.Read.val_main_v3_eq _ _).trans (ref_eq _ _)

end Cert.QkvProof
end
-- ==== Proof.UpBValue.lean ====
/- What the MLP's first product sends back to its input. The kernel's run is the generated one; here its result is read as one sum per
   element, and the reference's as the same sum. -/
module

public import proofs.«01_k».proof.Defs
public import proofs.«01_k».proof.Proof.Gen.UpBIdeal.Value
public import proofs.«01_k».proof.Proof.Gen.UpBRefIdeal.Run
public import proofs.«01_k».proof.Proof.Gen.UpBRefIdeal.Read
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.UpBProof

open Cert.UpBIdeal Cert.UpBIdeal.Gen Cert.UpBIdeal.Value

/-- One point's block product at an element. -/
def blockTerm (x0 : Vec Ideal S1024x2048 .bf16) (x1 : Vec Ideal S1024x2048 .bf16) (j : S1024x1024.Idx) : EReal :=
  ∑ k : Fin 2048, x0 (ix2 (j 0) k) * x1 (ix2 (j 1) k)

/-- One point's block product, added to what the accumulator held. -/
theorem pay2_apply (x0 : Vec Ideal S1024x2048 .bf16) (acc : Vec Ideal S1024x1024 .f32) (x1 : Vec Ideal S1024x2048 .bf16) (r : Fin 1024) (l : Fin 1024) :
    k0_pay2 x0 acc x1 (ix2 r l) = acc (ix2 r l) + blockTerm x0 x1 (ix2 r l) := by
  unfold blockTerm
  pointwise [k0_pay2]

theorem pay1_apply (r : Fin 1024) (l : Fin 1024) : k0_pay1 (F := Ideal) (ix2 r l) = 0 := by
  pointwise [k0_pay1]

/-- The stored block is the accumulator, rounded. -/
theorem pay3_apply (acc : Vec Ideal S1024x1024 .f32) (r : Fin 1024) (l : Fin 1024) : k0_pay3 acc (ix2 r l) = acc (ix2 r l) := by
  pointwise [k0_pay3]

theorem idx_facts : ∀ t : Fin grid0.N, win0_0.index t = ![t.val / 8, t.val % 4] ∧ win0_1.index t = ![t.val / 4 % 2, t.val % 4]
    ∧ win0_2.index t = ![t.val / 8, t.val / 4 % 2] := by decide +kernel

/-- The product at an element. -/
def G (a : S8192x8192.Idx → EReal) (b : S2048x8192.Idx → EReal) (i : S8192x2048.Idx) : EReal :=
  ∑ k : Fin 8192, a (ix2 (i 0) k) * b (ix2 (i 1) k)

variable (m : (ℓ : Loc nD τ sig) → Buf (Elt Ideal) ℓ)

/-- The accumulator after the last point of a run of 4: the sum of its block products. -/
theorem acc_sum (c : Dev nD) (t : Fin cfg0.N) (ht : t.val % 4 = 3) (j : S1024x1024.Idx) :
    (outsAt0 m c t.val t.isLt).2 j = 0 + ∑ s : Fin 4, (fun (p : Fin cfg0.N) (j : S1024x1024.Idx) =>
      blockTerm (iblk m c 0 p) (iblk m c 1 p) j)
        ⟨4 * (t.val / 4) + s.val, Pipeline.run_point_lt_of_flush t ht s⟩ j := by
  refine Pipeline.eq_sum_fin_of_reset_step_apply_of_flush (fun n h => (outsAt0 m c n h).2) 4 (fun _ => (0 : EReal))
    (fun (p : Fin cfg0.N) (j : S1024x1024.Idx) => blockTerm (iblk m c 0 p) (iblk m c 1 p) j) ?_ ?_ t ht j
  · intro t h j
    have h1 : ¬t.val % 4 = 3 := by omega
    rw [outsAt0_A m c t h h1]
    frame_out
    idx_vars j
    rw [pay2_apply, pay1_apply]
  · intro t h j
    by_cases h1 : t.val % 4 = 3
    · rw [outsAt0_C m c t h h1]
      frame_out
      simp only [read_unread_whole]
      idx_vars j
      rw [pay2_apply]
    · rw [outsAt0_B m c t h h1]
      frame_out
      simp only [read_unread_whole]
      idx_vars j
      rw [pay2_apply]

/-- The kernel's result array holds the product. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have h0 : ¬t.val % 4 = 0 := by omega
  blk_simp
  rw [after0_2]
  have e : (outsAt0 m c t.val t.isLt).1 = k0_pay3 (outsAt0 m c t.val t.isLt).2 := by
    rw [outsAt0_C m c t h0 ht]
    frame_out
  rw [e]
  idx_vars y
  rw [pay3_apply, acc_sum m c t ht]
  unfold G
  rw [zero_add]
  refine Fin.sum_mul_add_congr fun s k hl => ?_
  have hN : t.val < 64 := lt_of_lt_of_eq t.isLt (show cfg0.N = 64 from N_0)
  have ef := idx_facts t
  have ep := idx_facts ⟨4 * (t.val / 4) + s.val, Pipeline.run_point_lt_of_flush t ht s⟩
  have e1 := ep.1
  have e2 := ep.2.1
  have e3 := ef.2.2
  blk_point [iblk, V, e1, e2, e3]

open Cert.UpBRefIdeal.Read in
/-- The reference's result is the product. -/
theorem ref_eq (a : (⟨Cert.UpBRefIdeal.S8192x8192, .bf16⟩ : BufTy).Contents (Elt Ideal)) (b : (⟨Cert.UpBRefIdeal.S2048x8192, .bf16⟩ : BufTy).Contents (Elt Ideal)) :
    val_main_v5 (F := Ideal) a b = G a b := by
  funext i
  idx_vars i
  unfold G
  pointwise [val_main_cst, val_main_v0, val_main_v1, val_main_v2, val_main_v3, val_main_v4, val_main_v5]

/-- The claim: both programs end with the product in the result array, whatever the arguments hold. -/
theorem algebraic : Cert.algebraic_UpBIdeal_UpBRefIdeal (hUpBIdeal := Cert.UpBIdeal.Gen.facts) (hUpBRefIdeal := Cert.UpBRefIdeal.Gen.facts) := by
  intro m g m' g' _ hagree
  refine ⟨fun c => G (m ((c : Thread nD τ).loc main_arg0)) (m ((c : Thread nD τ).loc main_arg1)), ?_, ?_⟩
  · refine (θ_run defs _ _).mono (fun r h c => ?_) (run_blocks (F := Ideal) m g)
    exact ⟨(h c).1.trans (final m c), (h c).2⟩
  · refine (θ_run Cert.UpBRefIdeal.defs _ _).mono (fun r h c => ?_) (Cert.UpBRefIdeal.Value.run (F := Ideal) m' g')
    refine ⟨(h c).1.trans ?_, (h c).2⟩
    rw [(hagree c).1, (hagree c).2]
    exact (Cert.UpBRefIdeal.Read.val_main_v5_eq _ _).trans (ref_eq _ _)

end Cert.UpBProof
end
-- ==== Proof.InBValue.lean ====
/- What the projection into the dilated attention and the S5 layer sends back to its input. The kernel's run is the generated one; here its result is read as one sum per
   element, and the reference's as the same sum. -/
module

public import proofs.«01_k».proof.Defs
public import proofs.«01_k».proof.Proof.Gen.InBIdeal.Value
public import proofs.«01_k».proof.Proof.Gen.InBRefIdeal.Run
public import proofs.«01_k».proof.Proof.Gen.InBRefIdeal.Read
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.InBProof

open Cert.InBIdeal Cert.InBIdeal.Gen Cert.InBIdeal.Value

/-- One point's block product at an element. -/
def blockTerm (x0 : Vec Ideal S1024x2048 .bf16) (x1 : Vec Ideal S1024x2048 .bf16) (j : S1024x1024.Idx) : EReal :=
  ∑ k : Fin 2048, x0 (ix2 (j 0) k) * x1 (ix2 (j 1) k)

/-- One point's block product, added to what the accumulator held. -/
theorem pay2_apply (x0 : Vec Ideal S1024x2048 .bf16) (acc : Vec Ideal S1024x1024 .f32) (x1 : Vec Ideal S1024x2048 .bf16) (r : Fin 1024) (l : Fin 1024) :
    k0_pay2 x0 acc x1 (ix2 r l) = acc (ix2 r l) + blockTerm x0 x1 (ix2 r l) := by
  unfold blockTerm
  pointwise [k0_pay2]

theorem pay1_apply (r : Fin 1024) (l : Fin 1024) : k0_pay1 (F := Ideal) (ix2 r l) = 0 := by
  pointwise [k0_pay1]

/-- The stored block is the accumulator, rounded. -/
theorem pay3_apply (acc : Vec Ideal S1024x1024 .f32) (r : Fin 1024) (l : Fin 1024) : k0_pay3 acc (ix2 r l) = acc (ix2 r l) := by
  pointwise [k0_pay3]

theorem idx_facts : ∀ t : Fin grid0.N, win0_0.index t = ![t.val / 4, t.val % 2] ∧ win0_1.index t = ![t.val / 2 % 2, t.val % 2]
    ∧ win0_2.index t = ![t.val / 4, t.val / 2 % 2] := by decide +kernel

/-- The product at an element. -/
def G (a : S8192x4096.Idx → EReal) (b : S2048x4096.Idx → EReal) (i : S8192x2048.Idx) : EReal :=
  ∑ k : Fin 4096, a (ix2 (i 0) k) * b (ix2 (i 1) k)

variable (m : (ℓ : Loc nD τ sig) → Buf (Elt Ideal) ℓ)

/-- The accumulator after the last point of a run of 2: the sum of its block products. -/
theorem acc_sum (c : Dev nD) (t : Fin cfg0.N) (ht : t.val % 2 = 1) (j : S1024x1024.Idx) :
    (outsAt0 m c t.val t.isLt).2 j = 0 + ∑ s : Fin 2, (fun (p : Fin cfg0.N) (j : S1024x1024.Idx) =>
      blockTerm (iblk m c 0 p) (iblk m c 1 p) j)
        ⟨2 * (t.val / 2) + s.val, Pipeline.run_point_lt_of_flush t ht s⟩ j := by
  refine Pipeline.eq_sum_fin_of_reset_step_apply_of_flush (fun n h => (outsAt0 m c n h).2) 2 (fun _ => (0 : EReal))
    (fun (p : Fin cfg0.N) (j : S1024x1024.Idx) => blockTerm (iblk m c 0 p) (iblk m c 1 p) j) ?_ ?_ t ht j
  · intro t h j
    have h1 : ¬t.val % 2 = 1 := by omega
    rw [outsAt0_A m c t h h1]
    frame_out
    idx_vars j
    rw [pay2_apply, pay1_apply]
  · intro t h j
    by_cases h1 : t.val % 2 = 1
    · rw [outsAt0_B m c t h h1]
      frame_out
      simp only [read_unread_whole]
      idx_vars j
      rw [pay2_apply]
    · omega

/-- The kernel's result array holds the product. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have h0 : ¬t.val % 2 = 0 := by omega
  blk_simp
  rw [after0_2]
  have e : (outsAt0 m c t.val t.isLt).1 = k0_pay3 (outsAt0 m c t.val t.isLt).2 := by
    rw [outsAt0_B m c t h0 ht]
    frame_out
  rw [e]
  idx_vars y
  rw [pay3_apply, acc_sum m c t ht]
  unfold G
  rw [zero_add]
  refine Fin.sum_mul_add_congr fun s k hl => ?_
  have hN : t.val < 32 := lt_of_lt_of_eq t.isLt (show cfg0.N = 32 from N_0)
  have ef := idx_facts t
  have ep := idx_facts ⟨2 * (t.val / 2) + s.val, Pipeline.run_point_lt_of_flush t ht s⟩
  have e1 := ep.1
  have e2 := ep.2.1
  have e3 := ef.2.2
  blk_point [iblk, V, e1, e2, e3]

open Cert.InBRefIdeal.Read in
/-- The reference's result is the product. -/
theorem ref_eq (a : (⟨Cert.InBRefIdeal.S8192x4096, .bf16⟩ : BufTy).Contents (Elt Ideal)) (b : (⟨Cert.InBRefIdeal.S2048x4096, .bf16⟩ : BufTy).Contents (Elt Ideal)) :
    val_main_v5 (F := Ideal) a b = G a b := by
  funext i
  idx_vars i
  unfold G
  pointwise [val_main_cst, val_main_v0, val_main_v1, val_main_v2, val_main_v3, val_main_v4, val_main_v5]

/-- The claim: both programs end with the product in the result array, whatever the arguments hold. -/
theorem algebraic : Cert.algebraic_InBIdeal_InBRefIdeal (hInBIdeal := Cert.InBIdeal.Gen.facts) (hInBRefIdeal := Cert.InBRefIdeal.Gen.facts) := by
  intro m g m' g' _ hagree
  refine ⟨fun c => G (m ((c : Thread nD τ).loc main_arg0)) (m ((c : Thread nD τ).loc main_arg1)), ?_, ?_⟩
  · refine (θ_run defs _ _).mono (fun r h c => ?_) (run_blocks (F := Ideal) m g)
    exact ⟨(h c).1.trans (final m c), (h c).2⟩
  · refine (θ_run Cert.InBRefIdeal.defs _ _).mono (fun r h c => ?_) (Cert.InBRefIdeal.Value.run (F := Ideal) m' g')
    refine ⟨(h c).1.trans ?_, (h c).2⟩
    rw [(hagree c).1, (hagree c).2]
    exact (Cert.InBRefIdeal.Read.val_main_v5_eq _ _).trans (ref_eq _ _)

end Cert.InBProof
end
-- ==== Proof.QkvBValue.lean ====
/- What the projection into the neighbourhood attention sends back to its input. The kernel's run is the generated one; here its result is read as one sum per
   element, and the reference's as the same sum. -/
module

public import proofs.«01_k».proof.Defs
public import proofs.«01_k».proof.Proof.Gen.QkvBIdeal.Value
public import proofs.«01_k».proof.Proof.Gen.QkvBRefIdeal.Run
public import proofs.«01_k».proof.Proof.Gen.QkvBRefIdeal.Read
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.QkvBProof

open Cert.QkvBIdeal Cert.QkvBIdeal.Gen Cert.QkvBIdeal.Value

/-- One point's block product at an element. -/
def blockTerm (x0 : Vec Ideal S1024x2048 .bf16) (x1 : Vec Ideal S1024x2048 .bf16) (j : S1024x1024.Idx) : EReal :=
  ∑ k : Fin 2048, x0 (ix2 (j 0) k) * x1 (ix2 (j 1) k)

/-- One point's block product, added to what the accumulator held. -/
theorem pay2_apply (x0 : Vec Ideal S1024x2048 .bf16) (acc : Vec Ideal S1024x1024 .f32) (x1 : Vec Ideal S1024x2048 .bf16) (r : Fin 1024) (l : Fin 1024) :
    k0_pay2 x0 acc x1 (ix2 r l) = acc (ix2 r l) + blockTerm x0 x1 (ix2 r l) := by
  unfold blockTerm
  pointwise [k0_pay2]

theorem pay1_apply (r : Fin 1024) (l : Fin 1024) : k0_pay1 (F := Ideal) (ix2 r l) = 0 := by
  pointwise [k0_pay1]

/-- The stored block is the accumulator, rounded. -/
theorem pay3_apply (acc : Vec Ideal S1024x1024 .f32) (r : Fin 1024) (l : Fin 1024) : k0_pay3 acc (ix2 r l) = acc (ix2 r l) := by
  pointwise [k0_pay3]

theorem idx_facts : ∀ t : Fin grid0.N, win0_0.index t = ![t.val / 6, t.val % 3] ∧ win0_1.index t = ![t.val / 3 % 2, t.val % 3]
    ∧ win0_2.index t = ![t.val / 6, t.val / 3 % 2] := by decide +kernel

/-- The product at an element. -/
def G (a : S8192x6144.Idx → EReal) (b : S2048x6144.Idx → EReal) (i : S8192x2048.Idx) : EReal :=
  ∑ k : Fin 6144, a (ix2 (i 0) k) * b (ix2 (i 1) k)

variable (m : (ℓ : Loc nD τ sig) → Buf (Elt Ideal) ℓ)

/-- The accumulator after the last point of a run of 3: the sum of its block products. -/
theorem acc_sum (c : Dev nD) (t : Fin cfg0.N) (ht : t.val % 3 = 2) (j : S1024x1024.Idx) :
    (outsAt0 m c t.val t.isLt).2 j = 0 + ∑ s : Fin 3, (fun (p : Fin cfg0.N) (j : S1024x1024.Idx) =>
      blockTerm (iblk m c 0 p) (iblk m c 1 p) j)
        ⟨3 * (t.val / 3) + s.val, Pipeline.run_point_lt_of_flush t ht s⟩ j := by
  refine Pipeline.eq_sum_fin_of_reset_step_apply_of_flush (fun n h => (outsAt0 m c n h).2) 3 (fun _ => (0 : EReal))
    (fun (p : Fin cfg0.N) (j : S1024x1024.Idx) => blockTerm (iblk m c 0 p) (iblk m c 1 p) j) ?_ ?_ t ht j
  · intro t h j
    have h1 : ¬t.val % 3 = 2 := by omega
    rw [outsAt0_A m c t h h1]
    frame_out
    idx_vars j
    rw [pay2_apply, pay1_apply]
  · intro t h j
    by_cases h1 : t.val % 3 = 2
    · rw [outsAt0_C m c t h h1]
      frame_out
      simp only [read_unread_whole]
      idx_vars j
      rw [pay2_apply]
    · rw [outsAt0_B m c t h h1]
      frame_out
      simp only [read_unread_whole]
      idx_vars j
      rw [pay2_apply]

/-- The kernel's result array holds the product. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have ht : t.val % 3 = 2 := (flush0_2 t).mp hf
  have h0 : ¬t.val % 3 = 0 := by omega
  blk_simp
  rw [after0_2]
  have e : (outsAt0 m c t.val t.isLt).1 = k0_pay3 (outsAt0 m c t.val t.isLt).2 := by
    rw [outsAt0_C m c t h0 ht]
    frame_out
  rw [e]
  idx_vars y
  rw [pay3_apply, acc_sum m c t ht]
  unfold G
  rw [zero_add]
  refine Fin.sum_mul_add_congr fun s k hl => ?_
  have hN : t.val < 48 := lt_of_lt_of_eq t.isLt (show cfg0.N = 48 from N_0)
  have ef := idx_facts t
  have ep := idx_facts ⟨3 * (t.val / 3) + s.val, Pipeline.run_point_lt_of_flush t ht s⟩
  have e1 := ep.1
  have e2 := ep.2.1
  have e3 := ef.2.2
  blk_point [iblk, V, e1, e2, e3]

open Cert.QkvBRefIdeal.Read in
/-- The reference's result is the product. -/
theorem ref_eq (a : (⟨Cert.QkvBRefIdeal.S8192x6144, .bf16⟩ : BufTy).Contents (Elt Ideal)) (b : (⟨Cert.QkvBRefIdeal.S2048x6144, .bf16⟩ : BufTy).Contents (Elt Ideal)) :
    val_main_v5 (F := Ideal) a b = G a b := by
  funext i
  idx_vars i
  unfold G
  pointwise [val_main_cst, val_main_v0, val_main_v1, val_main_v2, val_main_v3, val_main_v4, val_main_v5]

/-- The claim: both programs end with the product in the result array, whatever the arguments hold. -/
theorem algebraic : Cert.algebraic_QkvBIdeal_QkvBRefIdeal (hQkvBIdeal := Cert.QkvBIdeal.Gen.facts) (hQkvBRefIdeal := Cert.QkvBRefIdeal.Gen.facts) := by
  intro m g m' g' _ hagree
  refine ⟨fun c => G (m ((c : Thread nD τ).loc main_arg0)) (m ((c : Thread nD τ).loc main_arg1)), ?_, ?_⟩
  · refine (θ_run defs _ _).mono (fun r h c => ?_) (run_blocks (F := Ideal) m g)
    exact ⟨(h c).1.trans (final m c), (h c).2⟩
  · refine (θ_run Cert.QkvBRefIdeal.defs _ _).mono (fun r h c => ?_) (Cert.QkvBRefIdeal.Value.run (F := Ideal) m' g')
    refine ⟨(h c).1.trans ?_, (h c).2⟩
    rw [(hagree c).1, (hagree c).2]
    exact (Cert.QkvBRefIdeal.Read.val_main_v5_eq _ _).trans (ref_eq _ _)

end Cert.QkvBProof
end
-- ==== Proof.InGValue.lean ====
/- The gradient of the projection into the dilated attention and the S5 layer, stacked by column blocks of 512. The kernel's run is the generated one; here its result is read as one sum per
   element, and the reference's as the same sum. -/
module

public import proofs.«01_k».proof.Defs
public import proofs.«01_k».proof.Proof.Gen.InGIdeal.Value
public import proofs.«01_k».proof.Proof.Gen.InGRefIdeal.Run
public import proofs.«01_k».proof.Proof.Gen.InGRefIdeal.Read
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.InGProof

open Cert.InGIdeal Cert.InGIdeal.Gen Cert.InGIdeal.Value

/-- One point's block product at an element. -/
def blockTerm (x0 : Vec Ideal S2048x1024 .bf16) (x1 : Vec Ideal S2048x512 .bf16) (j : S1024x512.Idx) : EReal :=
  ∑ k : Fin 2048, x0 (ix2 k (j 0)) * x1 (ix2 k (j 1))

/-- One point's block product, added to what the accumulator held. -/
theorem pay2_apply (x0 : Vec Ideal S2048x1024 .bf16) (acc : Vec Ideal S1024x512 .f32) (x1 : Vec Ideal S2048x512 .bf16) (r : Fin 1024) (l : Fin 512) :
    k0_pay2 x0 acc x1 (ix2 r l) = acc (ix2 r l) + blockTerm x0 x1 (ix2 r l) := by
  unfold blockTerm
  pointwise [k0_pay2]

theorem pay1_apply (r : Fin 1024) (l : Fin 512) : k0_pay1 (F := Ideal) (ix2 r l) = 0 := by
  pointwise [k0_pay1]

/-- The stored block is the accumulator under a new leading axis. -/
theorem pay3_apply (acc : Vec Ideal S1024x512 .f32) (z : Fin 1) (r : Fin 1024) (l : Fin 512) : k0_pay3 acc (ix3 z r l) = acc (ix2 r l) := by
  pointwise [k0_pay3]

theorem idx_facts : ∀ t : Fin grid0.N, win0_0.index t = ![t.val % 4, t.val / 32] ∧ win0_1.index t = ![t.val % 4, t.val / 4 % 8]
    ∧ win0_2.index t = ![t.val / 4 % 8, t.val / 32, 0] := by decide +kernel

/-- The product at an element. -/
def G (a : S8192x2048.Idx → EReal) (b : S8192x4096.Idx → EReal) (i : S8x2048x512.Idx) : EReal :=
  ∑ k : Fin 8192, a (ix2 k (i 1)) * b (ix2 k ⟨512 * (i 0).val + (i 2).val, by
    have h0 : (i 0).val < 8 := (i 0).isLt
    have h2 : (i 2).val < 512 := (i 2).isLt
    omega⟩)

variable (m : (ℓ : Loc nD τ sig) → Buf (Elt Ideal) ℓ)

/-- The accumulator after the last point of a run of 4: the sum of its block products. -/
theorem acc_sum (c : Dev nD) (t : Fin cfg0.N) (ht : t.val % 4 = 3) (j : S1024x512.Idx) :
    (outsAt0 m c t.val t.isLt).2 j = 0 + ∑ s : Fin 4, (fun (p : Fin cfg0.N) (j : S1024x512.Idx) =>
      blockTerm (iblk m c 0 p) (iblk m c 1 p) j)
        ⟨4 * (t.val / 4) + s.val, Pipeline.run_point_lt_of_flush t ht s⟩ j := by
  refine Pipeline.eq_sum_fin_of_reset_step_apply_of_flush (fun n h => (outsAt0 m c n h).2) 4 (fun _ => (0 : EReal))
    (fun (p : Fin cfg0.N) (j : S1024x512.Idx) => blockTerm (iblk m c 0 p) (iblk m c 1 p) j) ?_ ?_ t ht j
  · intro t h j
    have h1 : ¬t.val % 4 = 3 := by omega
    rw [outsAt0_A m c t h h1]
    frame_out
    idx_vars j
    rw [pay2_apply, pay1_apply]
  · intro t h j
    by_cases h1 : t.val % 4 = 3
    · rw [outsAt0_C m c t h h1]
      frame_out
      simp only [read_unread_whole]
      idx_vars j
      rw [pay2_apply]
    · rw [outsAt0_B m c t h h1]
      frame_out
      simp only [read_unread_whole]
      idx_vars j
      rw [pay2_apply]

/-- The kernel's result array holds the product. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have h0 : ¬t.val % 4 = 0 := by omega
  blk_simp
  rw [after0_2]
  have e : (outsAt0 m c t.val t.isLt).1 = k0_pay3 (outsAt0 m c t.val t.isLt).2 := by
    rw [outsAt0_C m c t h0 ht]
    frame_out
  rw [e]
  idx_vars y
  rw [pay3_apply, acc_sum m c t ht]
  unfold G
  rw [zero_add]
  refine Fin.sum_mul_add_congr fun s k hl => ?_
  have hN : t.val < 64 := lt_of_lt_of_eq t.isLt (show cfg0.N = 64 from N_0)
  have ef := idx_facts t
  have ep := idx_facts ⟨4 * (t.val / 4) + s.val, Pipeline.run_point_lt_of_flush t ht s⟩
  have e1 := ep.1
  have e2 := ep.2.1
  have e3 := ef.2.2
  blk_point [iblk, V, e1, e2, e3]

open Cert.InGRefIdeal.Read in
/-- The reference's result is the product. -/
theorem ref_eq (a : (⟨Cert.InGRefIdeal.S8192x2048, .bf16⟩ : BufTy).Contents (Elt Ideal)) (b : (⟨Cert.InGRefIdeal.S8192x4096, .bf16⟩ : BufTy).Contents (Elt Ideal)) :
    val_main_v7 (F := Ideal) a b = G a b := by
  funext i
  idx_vars i
  unfold G
  pointwise [val_main_cst, val_main_v0, val_main_v1, val_main_v2, val_main_v3, val_main_v4, val_main_v5, val_main_v6, val_main_v7]
  refine Finset.sum_congr rfl fun k _ => ?_
  rw [mul_comm]
  congr 3
  exact Fin.ext (by dsimp only; omega)

/-- The claim: both programs end with the product in the result array, whatever the arguments hold. -/
theorem algebraic : Cert.algebraic_InGIdeal_InGRefIdeal (hInGIdeal := Cert.InGIdeal.Gen.facts) (hInGRefIdeal := Cert.InGRefIdeal.Gen.facts) := by
  intro m g m' g' _ hagree
  refine ⟨fun c => G (m ((c : Thread nD τ).loc main_arg0)) (m ((c : Thread nD τ).loc main_arg1)), ?_, ?_⟩
  · refine (θ_run defs _ _).mono (fun r h c => ?_) (run_blocks (F := Ideal) m g)
    exact ⟨(h c).1.trans (final m c), (h c).2⟩
  · refine (θ_run Cert.InGRefIdeal.defs _ _).mono (fun r h c => ?_) (Cert.InGRefIdeal.Value.run (F := Ideal) m' g')
    refine ⟨(h c).1.trans ?_, (h c).2⟩
    rw [(hagree c).1, (hagree c).2]
    exact (Cert.InGRefIdeal.Read.val_main_v7_eq _ _).trans (ref_eq _ _)

end Cert.InGProof
end
-- ==== Proof.QkvGValue.lean ====
/- The gradient of the projection into the neighbourhood attention, stacked by column blocks of 768. The kernel's run is the generated one; here its result is read as one sum per
   element, and the reference's as the same sum. -/
module

public import proofs.«01_k».proof.Defs
public import proofs.«01_k».proof.Proof.Gen.QkvGIdeal.Value
public import proofs.«01_k».proof.Proof.Gen.QkvGRefIdeal.Run
public import proofs.«01_k».proof.Proof.Gen.QkvGRefIdeal.Read
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.QkvGProof

open Cert.QkvGIdeal Cert.QkvGIdeal.Gen Cert.QkvGIdeal.Value

/-- One point's block product at an element. -/
def blockTerm (x0 : Vec Ideal S2048x1024 .bf16) (x1 : Vec Ideal S2048x768 .bf16) (j : S1024x768.Idx) : EReal :=
  ∑ k : Fin 2048, x0 (ix2 k (j 0)) * x1 (ix2 k (j 1))

/-- One point's block product, added to what the accumulator held. -/
theorem pay2_apply (x0 : Vec Ideal S2048x1024 .bf16) (acc : Vec Ideal S1024x768 .f32) (x1 : Vec Ideal S2048x768 .bf16) (r : Fin 1024) (l : Fin 768) :
    k0_pay2 x0 acc x1 (ix2 r l) = acc (ix2 r l) + blockTerm x0 x1 (ix2 r l) := by
  unfold blockTerm
  pointwise [k0_pay2]

theorem pay1_apply (r : Fin 1024) (l : Fin 768) : k0_pay1 (F := Ideal) (ix2 r l) = 0 := by
  pointwise [k0_pay1]

/-- The stored block is the accumulator under a new leading axis. -/
theorem pay3_apply (acc : Vec Ideal S1024x768 .f32) (z : Fin 1) (r : Fin 1024) (l : Fin 768) : k0_pay3 acc (ix3 z r l) = acc (ix2 r l) := by
  pointwise [k0_pay3]

theorem idx_facts : ∀ t : Fin grid0.N, win0_0.index t = ![t.val % 4, t.val / 32] ∧ win0_1.index t = ![t.val % 4, t.val / 4 % 8]
    ∧ win0_2.index t = ![t.val / 4 % 8, t.val / 32, 0] := by decide +kernel

/-- The product at an element. -/
def G (a : S8192x2048.Idx → EReal) (b : S8192x6144.Idx → EReal) (i : S8x2048x768.Idx) : EReal :=
  ∑ k : Fin 8192, a (ix2 k (i 1)) * b (ix2 k ⟨768 * (i 0).val + (i 2).val, by
    have h0 : (i 0).val < 8 := (i 0).isLt
    have h2 : (i 2).val < 768 := (i 2).isLt
    omega⟩)

variable (m : (ℓ : Loc nD τ sig) → Buf (Elt Ideal) ℓ)

/-- The accumulator after the last point of a run of 4: the sum of its block products. -/
theorem acc_sum (c : Dev nD) (t : Fin cfg0.N) (ht : t.val % 4 = 3) (j : S1024x768.Idx) :
    (outsAt0 m c t.val t.isLt).2 j = 0 + ∑ s : Fin 4, (fun (p : Fin cfg0.N) (j : S1024x768.Idx) =>
      blockTerm (iblk m c 0 p) (iblk m c 1 p) j)
        ⟨4 * (t.val / 4) + s.val, Pipeline.run_point_lt_of_flush t ht s⟩ j := by
  refine Pipeline.eq_sum_fin_of_reset_step_apply_of_flush (fun n h => (outsAt0 m c n h).2) 4 (fun _ => (0 : EReal))
    (fun (p : Fin cfg0.N) (j : S1024x768.Idx) => blockTerm (iblk m c 0 p) (iblk m c 1 p) j) ?_ ?_ t ht j
  · intro t h j
    have h1 : ¬t.val % 4 = 3 := by omega
    rw [outsAt0_A m c t h h1]
    frame_out
    idx_vars j
    rw [pay2_apply, pay1_apply]
  · intro t h j
    by_cases h1 : t.val % 4 = 3
    · rw [outsAt0_C m c t h h1]
      frame_out
      simp only [read_unread_whole]
      idx_vars j
      rw [pay2_apply]
    · rw [outsAt0_B m c t h h1]
      frame_out
      simp only [read_unread_whole]
      idx_vars j
      rw [pay2_apply]

/-- The kernel's result array holds the product. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have h0 : ¬t.val % 4 = 0 := by omega
  blk_simp
  rw [after0_2]
  have e : (outsAt0 m c t.val t.isLt).1 = k0_pay3 (outsAt0 m c t.val t.isLt).2 := by
    rw [outsAt0_C m c t h0 ht]
    frame_out
  rw [e]
  idx_vars y
  rw [pay3_apply, acc_sum m c t ht]
  unfold G
  rw [zero_add]
  refine Fin.sum_mul_add_congr fun s k hl => ?_
  have hN : t.val < 64 := lt_of_lt_of_eq t.isLt (show cfg0.N = 64 from N_0)
  have ef := idx_facts t
  have ep := idx_facts ⟨4 * (t.val / 4) + s.val, Pipeline.run_point_lt_of_flush t ht s⟩
  have e1 := ep.1
  have e2 := ep.2.1
  have e3 := ef.2.2
  blk_point [iblk, V, e1, e2, e3]

open Cert.QkvGRefIdeal.Read in
/-- The reference's result is the product. -/
theorem ref_eq (a : (⟨Cert.QkvGRefIdeal.S8192x2048, .bf16⟩ : BufTy).Contents (Elt Ideal)) (b : (⟨Cert.QkvGRefIdeal.S8192x6144, .bf16⟩ : BufTy).Contents (Elt Ideal)) :
    val_main_v7 (F := Ideal) a b = G a b := by
  funext i
  idx_vars i
  unfold G
  pointwise [val_main_cst, val_main_v0, val_main_v1, val_main_v2, val_main_v3, val_main_v4, val_main_v5, val_main_v6, val_main_v7]
  refine Finset.sum_congr rfl fun k _ => ?_
  rw [mul_comm]
  congr 3
  exact Fin.ext (by dsimp only; omega)

/-- The claim: both programs end with the product in the result array, whatever the arguments hold. -/
theorem algebraic : Cert.algebraic_QkvGIdeal_QkvGRefIdeal (hQkvGIdeal := Cert.QkvGIdeal.Gen.facts) (hQkvGRefIdeal := Cert.QkvGRefIdeal.Gen.facts) := by
  intro m g m' g' _ hagree
  refine ⟨fun c => G (m ((c : Thread nD τ).loc main_arg0)) (m ((c : Thread nD τ).loc main_arg1)), ?_, ?_⟩
  · refine (θ_run defs _ _).mono (fun r h c => ?_) (run_blocks (F := Ideal) m g)
    exact ⟨(h c).1.trans (final m c), (h c).2⟩
  · refine (θ_run Cert.QkvGRefIdeal.defs _ _).mono (fun r h c => ?_) (Cert.QkvGRefIdeal.Value.run (F := Ideal) m' g')
    refine ⟨(h c).1.trans ?_, (h c).2⟩
    rw [(hagree c).1, (hagree c).2]
    exact (Cert.QkvGRefIdeal.Read.val_main_v7_eq _ _).trans (ref_eq _ _)

end Cert.QkvGProof
end
-- ==== Proof.GluValue.lean ====
/- The gate of the S5 layer: its output's GELU times the logistic of a product of the GELU. -/
module

public import proofs.«01_k».proof.Defs
public import proofs.«01_k».proof.Proof.Gen.GluIdeal.Value
public import proofs.«01_k».proof.Proof.Gen.GluRefIdeal.Run
public import proofs.«01_k».proof.Proof.Gen.GluRefIdeal.Read
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.GluProof

open Cert.GluIdeal Cert.GluIdeal.Gen Cert.GluIdeal.Value

/-- The GELU with the hyperbolic tangent, as the model writes it: `x` times the weight. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- The kernel multiplies the same factors in another order. -/
theorem gelu_kernel (x : EReal) :
    Ideal.ofBits .f32 0x3F000000#32 * x * (1 + Ideal.tanh (Ideal.ofBits .f32 0x3F4C422A#32 * (x + Ideal.ofBits .f32 0x3D372713#32 * x * x * x)))
      = gelu x := by
  unfold gelu
  have e : Ideal.ofBits .f32 0x3D372713#32 * x * x * x = Ideal.ofBits .f32 0x3D372713#32 * (x * x * x) := by
    simp only [mul_assoc]
  rw [e, mul_comm _ x, mul_assoc]

/-- One block's product with the gate's matrix. -/
def blockTerm (x0 : Vec Ideal S1024x1024 .f32) (x1 : Vec Ideal S1024x1024 .bf16) (j : S1024x1024.Idx) : EReal :=
  ∑ k : Fin 1024, gelu (x0 (ix2 (j 0) k)) * x1 (ix2 k (j 1))

theorem pay1_apply (r : Fin 1024) (l : Fin 1024) : k0_pay1 (F := Ideal) (ix2 r l) = 0 := by
  pointwise [k0_pay1]

/-- The block product, added to what the accumulator held. -/
theorem pay2_apply (x0 acc : Vec Ideal S1024x1024 .f32) (x1 : Vec Ideal S1024x1024 .bf16) (r : Fin 1024) (l : Fin 1024) :
    k0_pay2 x0 acc x1 (ix2 r l) = acc (ix2 r l) + blockTerm x0 x1 (ix2 r l) := by
  unfold blockTerm
  pointwise [k0_pay2]
  simp only [gelu_kernel]

/-- The stored block is the GELU times the logistic of the accumulator. -/
theorem pay3_apply (acc y : Vec Ideal S1024x1024 .f32) (r : Fin 1024) (l : Fin 1024) :
    k0_pay3 acc y (ix2 r l) = gelu (y (ix2 r l)) * Ideal.logistic (acc (ix2 r l)) := by
  pointwise [k0_pay3]
  rw [gelu_kernel]

theorem idx_facts : ∀ t : Fin grid0.N, win0_0.index t = ![t.val, 0] ∧ win0_1.index t = ![0, 0]
    ∧ win0_2.index t = ![t.val, 0] ∧ win0_3.index t = ![t.val, 0] := by decide +kernel

/-- The gate's output at an element. -/
def G (a : S8192x1024.Idx → EReal) (b : S1024x1024.Idx → EReal) (i : S8192x1024.Idx) : EReal :=
  gelu (a i) * Ideal.logistic (∑ k : Fin 1024, gelu (a (ix2 (i 0) k)) * b (ix2 k (i 1)))

variable (m : (ℓ : Loc nD τ sig) → Buf (Elt Ideal) ℓ)

/-- The kernel's result array holds the gate's output. -/
theorem final (c : Dev nD) : (dats m 0 c).arrAt 3 cfg0.N
    = G (m ((c : Thread nD τ).loc main_arg0)) (m ((c : Thread nD τ).loc main_arg1)) := by
  refine (dats m 0 c).arrAt_eq_of_covers 3 _ (by decide +kernel) fun t hf y => ?_
  have e0 := (idx_facts t).1
  have e1 := (idx_facts t).2.1
  have e2 := (idx_facts t).2.2.1
  have e3 := (idx_facts t).2.2.2
  blk_simp
  rw [after0_3]
  unfold outsAt0
  frame_out
  idx_vars y
  rw [pay3_apply, pay2_apply, pay1_apply, zero_add]
  unfold G blockTerm
  blk_point [iblk, V, e0, e1, e2, e3]

open Cert.GluRefIdeal.Read in
/-- The reference's result is the gate's output. -/
theorem ref_eq (a : (⟨Cert.GluRefIdeal.S8192x1024, .f32⟩ : BufTy).Contents (Elt Ideal)) (b : (⟨Cert.GluRefIdeal.S1024x1024, .bf16⟩ : BufTy).Contents (Elt Ideal)) :
    val_main_v22 (F := Ideal) a b = G a b := by
  funext i
  idx_vars i
  unfold G gelu Ideal.logistic
  pointwise [val_main_v0, val_main_v1, val_main_cst, val_main_v2, val_main_v3, val_main_v4, val_main_cst_0, val_main_v5, val_main_v6, val_main_v7, val_main_cst_1, val_main_v8, val_main_v9, val_main_cst_2, val_main_v10, val_main_v11, val_main_v12, val_main_v13, val_main_v14, val_main_v15, val_main_v16, val_main_cst_3, val_main_v17, val_main_v18, val_main_cst_4, val_main_v19, val_main_v20, val_main_v21, val_main_v22]

/-- The claim: both programs end with the gate's output in the result array, whatever the arguments hold. -/
theorem algebraic : Cert.algebraic_GluIdeal_GluRefIdeal (hGluIdeal := Cert.GluIdeal.Gen.facts) (hGluRefIdeal := Cert.GluRefIdeal.Gen.facts) := by
  intro m g m' g' _ hagree
  refine ⟨fun c => G (m ((c : Thread nD τ).loc main_arg0)) (m ((c : Thread nD τ).loc main_arg1)), ?_, ?_⟩
  · refine (θ_run defs _ _).mono (fun r h c => ?_) (run_blocks (F := Ideal) m g)
    exact ⟨(h c).1.trans (final m c), (h c).2⟩
  · refine (θ_run Cert.GluRefIdeal.defs _ _).mono (fun r h c => ?_) (Cert.GluRefIdeal.Value.run (F := Ideal) m' g')
    refine ⟨(h c).1.trans ?_, (h c).2⟩
    rw [(hagree c).1, (hagree c).2]
    exact (Cert.GluRefIdeal.Read.val_main_v22_eq _ _).trans (ref_eq _ _)

end Cert.GluProof
end
-- ==== Proof.GluZValue.lean ====
/- What the S5 layer's gate sends back to the logistic's argument and to the gated factor. -/
module

public import proofs.«01_k».proof.Defs
public import proofs.«01_k».proof.Proof.Gen.GluZIdeal.Value
public import proofs.«01_k».proof.Proof.Gen.GluZRefIdeal.Run
public import proofs.«01_k».proof.Proof.Gen.GluZRefIdeal.Read
public import proofs.«01_k».proof.Proof.GluValue
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.GluZProof

open Cert.GluZIdeal Cert.GluZIdeal.Gen Cert.GluZIdeal.Value

open Cert.GluProof (gelu gelu_kernel)

/-- One block's product with the gate's matrix. -/
def blockTerm (x0 : Vec Ideal S1024x1024 .f32) (x1 : Vec Ideal S1024x1024 .bf16) (j : S1024x1024.Idx) : EReal :=
  ∑ k : Fin 1024, gelu (x0 (ix2 (j 0) k)) * x1 (ix2 k (j 1))

theorem pay1_apply (r : Fin 1024) (l : Fin 1024) : k0_pay1 (F := Ideal) (ix2 r l) = 0 := by
  pointwise [k0_pay1]

/-- The block product, added to what the accumulator held. -/
theorem pay2_apply (x0 acc : Vec Ideal S1024x1024 .f32) (x1 : Vec Ideal S1024x1024 .bf16) (r : Fin 1024) (l : Fin 1024) :
    k0_pay2 x0 acc x1 (ix2 r l) = acc (ix2 r l) + blockTerm x0 x1 (ix2 r l) := by
  unfold blockTerm
  pointwise [k0_pay2]
  simp only [gelu_kernel]

/-- The first stored block: the gradient of the logistic's argument. -/
theorem pay6_apply (acc y : Vec Ideal S1024x1024 .f32) (d : Vec Ideal S1024x1024 .bf16) (r : Fin 1024) (l : Fin 1024) :
    k0_pay6 acc y d (ix2 r l)
      = gelu (y (ix2 r l)) * d (ix2 r l) * (Ideal.logistic (acc (ix2 r l)) * (1 - Ideal.logistic (acc (ix2 r l)))) := by
  pointwise [k0_pay6, k0_pay4, k0_pay3]
  rw [gelu_kernel, mul_comm (d (ix2 r l)), mul_assoc (gelu _ * _)]

/-- The second stored block: the gradient of the gated factor. -/
theorem pay5_apply (acc : Vec Ideal S1024x1024 .f32) (d : Vec Ideal S1024x1024 .bf16) (r : Fin 1024) (l : Fin 1024) :
    k0_pay5 acc d (ix2 r l) = d (ix2 r l) * Ideal.logistic (acc (ix2 r l)) := by
  pointwise [k0_pay5, k0_pay4, k0_pay3]

theorem idx_facts : ∀ t : Fin grid0.N, win0_0.index t = ![t.val, 0] ∧ win0_1.index t = ![0, 0]
    ∧ win0_2.index t = ![t.val, 0] ∧ win0_3.index t = ![t.val, 1] ∧ win0_4.index t = ![t.val, 0] ∧ win0_5.index t = ![t.val, 0] := by decide +kernel

/-- The logistic's argument at an element. -/
def arg (a : S8192x1024.Idx → EReal) (b : S1024x1024.Idx → EReal) (i : S8192x1024.Idx) : EReal :=
  ∑ k : Fin 1024, gelu (a (ix2 (i 0) k)) * b (ix2 k (i 1))

/-- What comes back from the merged output: its second half. -/
def back (x : S8192x2048.Idx → EReal) (i : S8192x1024.Idx) : EReal :=
  x (ix2 (i 0) ⟨1024 + (i 1).val, by
    have h1 : (i 1).val < 1024 := (i 1).isLt
    omega⟩)

/-- The gradient of the logistic's argument. -/
def GZ (a : S8192x1024.Idx → EReal) (b : S1024x1024.Idx → EReal) (x : S8192x2048.Idx → EReal) (i : S8192x1024.Idx) : EReal :=
  gelu (a i) * back x i * (Ideal.logistic (arg a b i) * (1 - Ideal.logistic (arg a b i)))

/-- The gradient of the gated factor. -/
def GY (a : S8192x1024.Idx → EReal) (b : S1024x1024.Idx → EReal) (x : S8192x2048.Idx → EReal) (i : S8192x1024.Idx) : EReal :=
  back x i * Ideal.logistic (arg a b i)

variable (m : (ℓ : Loc nD τ sig) → Buf (Elt Ideal) ℓ)

/-- The kernel's result array. -/
theorem final_z (c : Dev nD) : (dats m 0 c).arrAt 4 cfg0.N
    = GZ (m ((c : Thread nD τ).loc main_arg0)) (m ((c : Thread nD τ).loc main_arg1)) (m ((c : Thread nD τ).loc main_arg2)) := by
  refine (dats m 0 c).arrAt_eq_of_covers 4 _ (by decide +kernel) fun t hf y => ?_
  have e0 := (idx_facts t).1
  have e1 := (idx_facts t).2.1
  have e2 := (idx_facts t).2.2.1
  have e3 := (idx_facts t).2.2.2.1
  have e4 := (idx_facts t).2.2.2.2.1
  have e5 := (idx_facts t).2.2.2.2.2
  blk_simp
  rw [after0_4]
  unfold outsAt0
  frame_out
  idx_vars y
  rw [pay6_apply, pay2_apply, pay1_apply, zero_add]
  unfold GZ arg back blockTerm
  blk_point [iblk, V, e0, e1, e2, e3, e4]

/-- The kernel's result array. -/
theorem final_y (c : Dev nD) : (dats m 0 c).arrAt 5 cfg0.N
    = GY (m ((c : Thread nD τ).loc main_arg0)) (m ((c : Thread nD τ).loc main_arg1)) (m ((c : Thread nD τ).loc main_arg2)) := by
  refine (dats m 0 c).arrAt_eq_of_covers 5 _ (by decide +kernel) fun t hf y => ?_
  have e0 := (idx_facts t).1
  have e1 := (idx_facts t).2.1
  have e2 := (idx_facts t).2.2.1
  have e3 := (idx_facts t).2.2.2.1
  have e4 := (idx_facts t).2.2.2.2.1
  have e5 := (idx_facts t).2.2.2.2.2
  blk_simp
  rw [after0_5]
  unfold outsAt0
  frame_out
  idx_vars y
  rw [pay5_apply, pay2_apply, pay1_apply, zero_add]
  unfold GY arg back blockTerm
  blk_point [iblk, V, e0, e1, e2, e3, e5]

open Cert.GluZRefIdeal.Read in
/-- The reference's result. -/
theorem ref_z (a : (⟨Cert.GluZRefIdeal.S8192x1024, .f32⟩ : BufTy).Contents (Elt Ideal)) (b : (⟨Cert.GluZRefIdeal.S1024x1024, .bf16⟩ : BufTy).Contents (Elt Ideal)) (x : (⟨Cert.GluZRefIdeal.S8192x2048, .bf16⟩ : BufTy).Contents (Elt Ideal)) :
    val_main_v30 (F := Ideal) a b x = GZ a b x := by
  funext i
  idx_vars i
  unfold GZ arg back gelu Ideal.logistic
  pointwise [val_main_v0, val_main_v1, val_main_cst, val_main_v2, val_main_v3, val_main_v4, val_main_cst_0, val_main_v5, val_main_v6, val_main_v7, val_main_cst_1, val_main_v8, val_main_v9, val_main_cst_2, val_main_v10, val_main_v11, val_main_v12, val_main_v13, val_main_v14, val_main_v15, val_main_v16, val_main_v17, val_main_v18, val_main_cst_3, val_main_v19, val_main_v20, val_main_cst_4, val_main_v21, val_main_v22, val_main_cst_5, val_main_v23, val_main_v24, val_main_v25, val_main_v26, val_main_v27, val_main_v28, val_main_v29, val_main_v30]

open Cert.GluZRefIdeal.Read in
/-- The reference's result. -/
theorem ref_y (a : (⟨Cert.GluZRefIdeal.S8192x1024, .f32⟩ : BufTy).Contents (Elt Ideal)) (b : (⟨Cert.GluZRefIdeal.S1024x1024, .bf16⟩ : BufTy).Contents (Elt Ideal)) (x : (⟨Cert.GluZRefIdeal.S8192x2048, .bf16⟩ : BufTy).Contents (Elt Ideal)) :
    val_main_v28 (F := Ideal) a b x = GY a b x := by
  funext i
  idx_vars i
  unfold GY arg back gelu Ideal.logistic
  pointwise [val_main_v0, val_main_v1, val_main_cst, val_main_v2, val_main_v3, val_main_v4, val_main_cst_0, val_main_v5, val_main_v6, val_main_v7, val_main_cst_1, val_main_v8, val_main_v9, val_main_cst_2, val_main_v10, val_main_v11, val_main_v12, val_main_v13, val_main_v14, val_main_v15, val_main_v16, val_main_v17, val_main_v18, val_main_cst_3, val_main_v19, val_main_v20, val_main_cst_4, val_main_v21, val_main_v22, val_main_cst_5, val_main_v23, val_main_v24, val_main_v25, val_main_v26, val_main_v27, val_main_v28, val_main_v29, val_main_v30]

/-- The claim: both programs end with the same two gradients, whatever the arguments hold. -/
theorem algebraic : Cert.algebraic_GluZIdeal_GluZRefIdeal (hGluZIdeal := Cert.GluZIdeal.Gen.facts) (hGluZRefIdeal := Cert.GluZRefIdeal.Gen.facts) := by
  intro m g m' g' _ hagree
  refine ⟨fun c => GZ (m ((c : Thread nD τ).loc main_arg0)) (m ((c : Thread nD τ).loc main_arg1)) (m ((c : Thread nD τ).loc main_arg2)), fun c => GY (m ((c : Thread nD τ).loc main_arg0)) (m ((c : Thread nD τ).loc main_arg1)) (m ((c : Thread nD τ).loc main_arg2)), ?_, ?_⟩
  · refine (θ_run defs _ _).mono (fun r h c => ?_) (run_blocks (F := Ideal) m g)
    exact ⟨(h c).1.trans (final_z m c), (h c).2.1.trans (final_y m c), (h c).2.2⟩
  · refine (θ_run Cert.GluZRefIdeal.defs _ _).mono (fun r h c => ?_) (Cert.GluZRefIdeal.Value.run (F := Ideal) m' g')
    refine ⟨(h c).1.trans ?_, (h c).2.1.trans ?_, (h c).2.2⟩
    · rw [(hagree c).1, (hagree c).2.1, (hagree c).2.2]
      exact (Cert.GluZRefIdeal.Read.val_main_v30_eq _ _ _).trans (ref_z _ _ _)
    · rw [(hagree c).1, (hagree c).2.1, (hagree c).2.2]
      exact (Cert.GluZRefIdeal.Read.val_main_v28_eq _ _ _).trans (ref_y _ _ _)

end Cert.GluZProof
end
-- ==== Proof.GluGValue.lean ====
/- The gradient of the gate's matrix. -/
module

public import proofs.«01_k».proof.Defs
public import proofs.«01_k».proof.Proof.Gen.GluGIdeal.Value
public import proofs.«01_k».proof.Proof.Gen.GluGRefIdeal.Run
public import proofs.«01_k».proof.Proof.Gen.GluGRefIdeal.Read
public import proofs.«01_k».proof.Proof.GluValue
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.GluGProof

open Cert.GluGIdeal Cert.GluGIdeal.Gen Cert.GluGIdeal.Value

open Cert.GluProof (gelu gelu_kernel)

/-- One point's block product at an element. -/
def blockTerm (x0 : Vec Ideal S2048x1024 .f32) (x1 : Vec Ideal S2048x1024 .bf16) (j : S1024x1024.Idx) : EReal :=
  ∑ k : Fin 2048, gelu (x0 (ix2 k (j 0))) * x1 (ix2 k (j 1))

/-- One point's block product, added to what the accumulator held. -/
theorem pay2_apply (x0 : Vec Ideal S2048x1024 .f32) (acc : Vec Ideal S1024x1024 .f32) (x1 : Vec Ideal S2048x1024 .bf16) (r : Fin 1024) (l : Fin 1024) :
    k0_pay2 x0 acc x1 (ix2 r l) = acc (ix2 r l) + blockTerm x0 x1 (ix2 r l) := by
  unfold blockTerm
  pointwise [k0_pay2]
  simp only [gelu_kernel]

theorem pay1_apply (r : Fin 1024) (l : Fin 1024) : k0_pay1 (F := Ideal) (ix2 r l) = 0 := by
  pointwise [k0_pay1]

theorem idx_facts : ∀ t : Fin grid0.N, win0_0.index t = ![t.val % 4, 0] ∧ win0_1.index t = ![t.val % 4, 0]
    ∧ win0_2.index t = ![0, 0] := by decide +kernel

/-- The product at an element. -/
def G (a : S8192x1024.Idx → EReal) (b : S8192x1024.Idx → EReal) (i : S1024x1024.Idx) : EReal :=
  ∑ k : Fin 8192, gelu (a (ix2 k (i 0))) * b (ix2 k (i 1))

variable (m : (ℓ : Loc nD τ sig) → Buf (Elt Ideal) ℓ)

/-- The accumulator after the last point of a run of 4: the sum of its block products. -/
theorem acc_sum (c : Dev nD) (t : Fin cfg0.N) (ht : t.val % 4 = 3) (j : S1024x1024.Idx) :
    (outsAt0 m c t.val t.isLt).2 j = 0 + ∑ s : Fin 4, (fun (p : Fin cfg0.N) (j : S1024x1024.Idx) =>
      blockTerm (iblk m c 0 p) (iblk m c 1 p) j)
        ⟨4 * (t.val / 4) + s.val, Pipeline.run_point_lt_of_flush t ht s⟩ j := by
  refine Pipeline.eq_sum_fin_of_reset_step_apply_of_flush (fun n h => (outsAt0 m c n h).2) 4 (fun _ => (0 : EReal))
    (fun (p : Fin cfg0.N) (j : S1024x1024.Idx) => blockTerm (iblk m c 0 p) (iblk m c 1 p) j) ?_ ?_ t ht j
  · intro t h j
    have h1 : ¬t.val % 4 = 3 := by omega
    rw [outsAt0_A m c t h h1]
    frame_out
    idx_vars j
    rw [pay2_apply, pay1_apply]
  · intro t h j
    by_cases h1 : t.val % 4 = 3
    · rw [outsAt0_C m c t h h1]
      frame_out
      simp only [read_unread_whole]
      idx_vars j
      rw [pay2_apply]
    · rw [outsAt0_B m c t h h1]
      frame_out
      simp only [read_unread_whole]
      idx_vars j
      rw [pay2_apply]

/-- The kernel's result array holds the product. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have h0 : ¬t.val % 4 = 0 := by omega
  blk_simp
  rw [after0_2]
  have e : (outsAt0 m c t.val t.isLt).1 = (outsAt0 m c t.val t.isLt).2 := by
    rw [outsAt0_C m c t h0 ht]
    frame_out
  rw [e]
  rw [acc_sum m c t ht]
  unfold G
  idx_vars y
  rw [zero_add]
  refine Fin.sum_mul_add_congr fun s k hl => ?_
  have hN : t.val < 4 := lt_of_lt_of_eq t.isLt (show cfg0.N = 4 from N_0)
  have ef := idx_facts t
  have ep := idx_facts ⟨4 * (t.val / 4) + s.val, Pipeline.run_point_lt_of_flush t ht s⟩
  have e1 := ep.1
  have e2 := ep.2.1
  have e3 := ef.2.2
  blk_point [iblk, V, e1, e2, e3]

open Cert.GluGRefIdeal.Read in
/-- The reference's result is the product. -/
theorem ref_eq (a : (⟨Cert.GluGRefIdeal.S8192x1024, .f32⟩ : BufTy).Contents (Elt Ideal)) (b : (⟨Cert.GluGRefIdeal.S8192x1024, .bf16⟩ : BufTy).Contents (Elt Ideal)) :
    val_main_v17 (F := Ideal) a b = G a b := by
  funext i
  idx_vars i
  unfold G gelu
  pointwise [val_main_v0, val_main_v1, val_main_cst, val_main_v2, val_main_v3, val_main_v4, val_main_cst_0, val_main_v5, val_main_v6, val_main_v7, val_main_cst_1, val_main_v8, val_main_v9, val_main_cst_2, val_main_v10, val_main_v11, val_main_v12, val_main_cst_3, val_main_v13, val_main_v14, val_main_v15, val_main_v16, val_main_v17]
  refine Finset.sum_congr rfl fun k _ => ?_
  exact mul_comm _ _

/-- The claim: both programs end with the product in the result array, whatever the arguments hold. -/
theorem algebraic : Cert.algebraic_GluGIdeal_GluGRefIdeal (hGluGIdeal := Cert.GluGIdeal.Gen.facts) (hGluGRefIdeal := Cert.GluGRefIdeal.Gen.facts) := by
  intro m g m' g' _ hagree
  refine ⟨fun c => G (m ((c : Thread nD τ).loc main_arg0)) (m ((c : Thread nD τ).loc main_arg1)), ?_, ?_⟩
  · refine (θ_run defs _ _).mono (fun r h c => ?_) (run_blocks (F := Ideal) m g)
    exact ⟨(h c).1.trans (final m c), (h c).2⟩
  · refine (θ_run Cert.GluGRefIdeal.defs _ _).mono (fun r h c => ?_) (Cert.GluGRefIdeal.Value.run (F := Ideal) m' g')
    refine ⟨(h c).1.trans ?_, (h c).2⟩
    rw [(hagree c).1, (hagree c).2]
    exact (Cert.GluGRefIdeal.Read.val_main_v17_eq _ _).trans (ref_eq _ _)

end Cert.GluGProof
end
-- ==== Proof.AdamSpec.lean ====
/- One AdamW step of a number: the new moments and the step of the weight, as the programs spell their constants. -/
module

public import Idealize.ShloMosaic.Lib.Pipeline.ValueKit
public import Idealize.ShloMosaic.Lib.Pointwise
public import Idealize.ShloMosaic.Lib.Tactic

@[expose] public section

noncomputable section

open Idealize.ShloMosaic

namespace Cert.AdamProof

/-- The new first moment: 0.9 of the old one and 0.1 of the gradient. -/
def newM (m g : EReal) : EReal := Ideal.ofBits .f32 0x3F666666#32 * m + Ideal.ofBits .f32 0x3DCCCCCD#32 * g

/-- The new second moment: 0.999 of the old one and 0.001 of the gradient's square. -/
def newV (v g : EReal) : EReal := Ideal.ofBits .f32 0x3F7FBE77#32 * v + Ideal.ofBits .f32 0x3A83126F#32 * (g * g)

/-- The step of the weight: both moments without their bias, the quotient, the decay of the weight, and the rate. -/
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

end Cert.AdamProof
end
-- ==== Proof.AdamSValue.lean ====
/- The AdamW step of the small weights. -/
module

public import proofs.«01_k».proof.Defs
public import proofs.«01_k».proof.Proof.Gen.AdamSIdeal.Value
public import proofs.«01_k».proof.Proof.Gen.AdamSRefIdeal.Run
public import proofs.«01_k».proof.Proof.Gen.AdamSRefIdeal.Read
public import proofs.«01_k».proof.Proof.AdamSpec
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.AdamSProof

open Cert.AdamSIdeal Cert.AdamSIdeal.Gen Cert.AdamSIdeal.Value
open Cert.AdamProof

/-- The gradient: the sum of the devices' gradients. -/
def grad (gs : S8x6688x128.Idx → EReal) (i : S6688x128.Idx) : EReal := ∑ p : Fin 8, gs (ix3 p (i 0) (i 1))
/-- The new first moment. -/
def gm (gs : S8x6688x128.Idx → EReal) (m : S6688x128.Idx → EReal) (i : S6688x128.Idx) : EReal := newM (m i) (grad gs i)
/-- The new second moment. -/
def gv (gs : S8x6688x128.Idx → EReal) (v : S6688x128.Idx → EReal) (i : S6688x128.Idx) : EReal := newV (v i) (grad gs i)
/-- The step of the weights. -/
def gd (w : S6688x128.Idx → EReal) (gs : S8x6688x128.Idx → EReal) (m v : S6688x128.Idx → EReal) (i : S6688x128.Idx) : EReal :=
  step (w i) (gm gs m i) (gv gs v i)

/-- The sum of a block's eight planes. -/
theorem pay5_apply (x0 : Vec Ideal S3344x128 .f32) (x1 : Vec Ideal S8x3344x128 .bf16) (x2 x3 : Vec Ideal S3344x128 .f32) (r : Fin 3344) (l : Fin 128) :
    (k0_pay5 x0 x1 x2 x3 (ix2 r l) : EReal) = ∑ p : Fin 8, x1 (ix3 p r l) := by
  unfold k0_pay5
  pointwise [k0_pay4]
  simp only [Fin.sum_univ_eight]

theorem pay1_apply (g m : Vec Ideal S3344x128 .f32) (r : Fin 3344) (l : Fin 128) :
    (k0_pay1 g m (Scalar.ofBits .f32 0x3F666666#32) (ix2 r l) : EReal) = newM (m (ix2 r l)) (g (ix2 r l)) := by
  unfold newM
  pointwise [k0_pay1]

theorem pay2_apply (g v : Vec Ideal S3344x128 .f32) (r : Fin 3344) (l : Fin 128) :
    (k0_pay2 g v (ix2 r l) : EReal) = newV (v (ix2 r l)) (g (ix2 r l)) := by
  unfold newV
  pointwise [k0_pay2]

theorem pay3_apply (g m v w : Vec Ideal S3344x128 .f32) (r : Fin 3344) (l : Fin 128) :
    (k0_pay3 g m (Scalar.ofBits .f32 0x3F666666#32) v w (ix2 r l) : EReal)
      = step (w (ix2 r l)) (newM (m (ix2 r l)) (g (ix2 r l))) (newV (v (ix2 r l)) (g (ix2 r l))) := by
  unfold step newM newV
  pointwise [k0_pay3, k0_pay1, k0_pay2]

theorem idx_facts : ∀ t : Fin grid0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by decide +kernel

variable (m : (ℓ : Loc nD τ sig) → Buf (Elt Ideal) ℓ)

theorem final_g (c : Dev nD) : (dats m 0 c).arrAt 4 cfg0.N = grad (m ((c : Thread nD τ).loc main_arg1)) := by
  refine (dats m 0 c).arrAt_eq_of_covers 4 _ (by decide +kernel) fun t hf y => ?_
  have ⟨e0, e1, e2, e3, e4, e5, e6, e7⟩ := idx_facts t
  blk_simp
  rw [after0_4]
  frame_out
  idx_vars y
  rw [pay5_apply]
  unfold grad
  blk_point [iblk, V, e1, e4]

theorem final_m (c : Dev nD) : (dats m 0 c).arrAt 6 cfg0.N = gm (m ((c : Thread nD τ).loc main_arg1)) (m ((c : Thread nD τ).loc main_arg2)) := by
  refine (dats m 0 c).arrAt_eq_of_covers 6 _ (by decide +kernel) fun t hf y => ?_
  have ⟨e0, e1, e2, e3, e4, e5, e6, e7⟩ := idx_facts t
  blk_simp
  rw [after0_6]
  frame_out
  idx_vars y
  rw [pay1_apply, pay5_apply]
  unfold gm grad
  blk_point [iblk, V, e1, e2, e6]

theorem final_v (c : Dev nD) : (dats m 0 c).arrAt 7 cfg0.N = gv (m ((c : Thread nD τ).loc main_arg1)) (m ((c : Thread nD τ).loc main_arg3)) := by
  refine (dats m 0 c).arrAt_eq_of_covers 7 _ (by decide +kernel) fun t hf y => ?_
  have ⟨e0, e1, e2, e3, e4, e5, e6, e7⟩ := idx_facts t
  blk_simp
  rw [after0_7]
  frame_out
  idx_vars y
  rw [pay2_apply, pay5_apply]
  unfold gv grad
  blk_point [iblk, V, e1, e3, e7]

theorem final_d (c : Dev nD) : (dats m 0 c).arrAt 5 cfg0.N = gd (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ⟨e0, e1, e2, e3, e4, e5, e6, e7⟩ := idx_facts t
  blk_simp
  rw [after0_5]
  frame_out
  idx_vars y
  rw [pay3_apply, pay5_apply]
  unfold gd gm gv grad
  blk_point [iblk, V, e0, e1, e2, e3, e5]

section
open Cert.AdamSRefIdeal.Read
variable (w : (⟨Cert.AdamSRefIdeal.S6688x128, .f32⟩ : BufTy).Contents (Elt Ideal)) (gs : (⟨Cert.AdamSRefIdeal.S8x6688x128, .bf16⟩ : BufTy).Contents (Elt Ideal))
  (a b : (⟨Cert.AdamSRefIdeal.S6688x128, .f32⟩ : BufTy).Contents (Elt Ideal))

theorem ref_g : val_main_v1 (F := Ideal) gs = grad gs := by
  funext i
  idx_vars i
  unfold grad
  pointwise [val_main_v0, val_main_cst, val_main_v1]

theorem ref_m : val_main_v6 (F := Ideal) gs a = gm gs a := by
  funext i
  idx_vars i
  unfold gm newM
  rw [← ref_g]
  pointwise [val_main_cst_0, val_main_v2, val_main_v3, val_main_cst_1, val_main_v4, val_main_v5, val_main_v6]

theorem ref_v : val_main_v12 (F := Ideal) gs b = gv gs b := by
  funext i
  idx_vars i
  unfold gv newV
  rw [← ref_g]
  pointwise [val_main_cst_2, val_main_v7, val_main_v8, val_main_v9, val_main_cst_3, val_main_v10, val_main_v11, val_main_v12]

theorem ref_d : val_main_v25 (F := Ideal) w gs a b = gd w gs a b := by
  funext i
  idx_vars i
  unfold gd step
  rw [← ref_m, ← ref_v]
  pointwise [val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
end

/-- The claim: both programs end with the same gradient, step and moments, whatever the arguments hold. -/
theorem algebraic : Cert.algebraic_AdamSIdeal_AdamSRefIdeal (hAdamSIdeal := Cert.AdamSIdeal.Gen.facts) (hAdamSRefIdeal := Cert.AdamSRefIdeal.Gen.facts) := by
  intro m g m' g' _ hagree
  refine ⟨fun c => grad (m ((c : Thread nD τ).loc main_arg1)),
    fun c => gd (m ((c : Thread nD τ).loc main_arg0)) (m ((c : Thread nD τ).loc main_arg1)) (m ((c : Thread nD τ).loc main_arg2)) (m ((c : Thread nD τ).loc main_arg3)),
    fun c => gm (m ((c : Thread nD τ).loc main_arg1)) (m ((c : Thread nD τ).loc main_arg2)),
    fun c => gv (m ((c : Thread nD τ).loc main_arg1)) (m ((c : Thread nD τ).loc main_arg3)), ?_, ?_⟩
  · refine (θ_run defs _ _).mono (fun r h c => ?_) (run_blocks (F := Ideal) m g)
    exact ⟨(h c).1.trans (final_g m c), (h c).2.1.trans (final_d m c), (h c).2.2.1.trans (final_m m c), (h c).2.2.2.1.trans (final_v m c), (h c).2.2.2.2⟩
  · refine (θ_run Cert.AdamSRefIdeal.defs _ _).mono (fun r h c => ?_) (Cert.AdamSRefIdeal.Value.run (F := Ideal) m' g')
    refine ⟨(h c).1.trans ?_, (h c).2.1.trans ?_, (h c).2.2.1.trans ?_, (h c).2.2.2.1.trans ?_, (h c).2.2.2.2⟩
    · rw [(hagree c).2.1]
      exact (Cert.AdamSRefIdeal.Read.val_main_v1_eq _).trans (ref_g _)
    · rw [(hagree c).1, (hagree c).2.1, (hagree c).2.2.1, (hagree c).2.2.2]
      exact (Cert.AdamSRefIdeal.Read.val_main_v25_eq _ _ _ _).trans (ref_d _ _ _ _)
    · rw [(hagree c).2.1, (hagree c).2.2.1]
      exact (Cert.AdamSRefIdeal.Read.val_main_v6_eq _ _).trans (ref_m _ _)
    · rw [(hagree c).2.1, (hagree c).2.2.2]
      exact (Cert.AdamSRefIdeal.Read.val_main_v12_eq _ _).trans (ref_v _ _)

end Cert.AdamSProof
end
-- ==== Proof.AdamOValue.lean ====
/- The AdamW step of the last layer of a weight: AdamO. -/
module

public import proofs.«01_k».proof.Defs
public import proofs.«01_k».proof.Proof.Gen.AdamOIdeal.Value
public import proofs.«01_k».proof.Proof.Gen.AdamORefIdeal.Run
public import proofs.«01_k».proof.Proof.Gen.AdamORefIdeal.Read
public import proofs.«01_k».proof.Proof.AdamSpec
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.AdamOProof

open Cert.AdamOIdeal Cert.AdamOIdeal.Gen Cert.AdamOIdeal.Value
open Cert.AdamProof

/-- The gradient of the layer: the sum of the four stacked gradients. -/
def grad (gs : S4x256x2048.Idx → EReal) (r : Fin 256) (l : Fin 2048) : EReal := ∑ p : Fin 4, gs (ix3 p r l)
/-- The new first moment of the layer. -/
def gm (gs : S4x256x2048.Idx → EReal) (m : S2x256x2048.Idx → EReal) (r : Fin 256) (l : Fin 2048) : EReal := newM (m (ix3 1 r l)) (grad gs r l)
/-- The new second moment of the layer. -/
def gv (gs : S4x256x2048.Idx → EReal) (v : S2x256x2048.Idx → EReal) (r : Fin 256) (l : Fin 2048) : EReal := newV (v (ix3 1 r l)) (grad gs r l)
/-- The step of the layer's weights. -/
def gd (w : S2x256x2048.Idx → EReal) (gs : S4x256x2048.Idx → EReal) (m v : S2x256x2048.Idx → EReal) (r : Fin 256) (l : Fin 2048) : EReal :=
  step (w (ix3 1 r l)) (gm gs m r l) (gv gs v r l)
/-- All layers: the earlier ones as they were, and the last one new. -/
def layers (old : S2x256x2048.Idx → EReal) (new : Fin 256 → Fin 2048 → EReal) (i : S2x256x2048.Idx) : EReal :=
  if (i 0 : ℕ) = 1 then new (i 1) (i 2) else old i

/-- The sum of a block's four planes. -/
theorem pay4_apply (x0 x1 x2 x3 : Vec Ideal S1x64x2048 .bf16) (r : Fin 64) (l : Fin 2048) :
    (k0_pay4 x0 x1 x2 x3 (ix2 r l) : EReal) = x0 (ix3 0 r l) + x1 (ix3 0 r l) + x2 (ix3 0 r l) + x3 (ix3 0 r l) := by
  pointwise [k0_pay4]

theorem pay7_apply (x0 x1 x2 x3 : Vec Ideal S1x64x2048 .bf16) (u : Fin 1) (r : Fin 64) (l : Fin 2048) :
    (k0_pay7 x0 x1 x2 x3 (ix3 u r l) : EReal) = x0 (ix3 0 r l) + x1 (ix3 0 r l) + x2 (ix3 0 r l) + x3 (ix3 0 r l) := by
  rw [← pay4_apply]
  pointwise [k0_pay7]

theorem pay5_apply (x0 x1 x2 x3 : Vec Ideal S1x64x2048 .bf16) (a : Vec Ideal S1x64x2048 .f32) (r : Fin 64) (l : Fin 2048) :
    (k0_pay5 x0 x1 x2 x3 a (ix2 r l) : EReal) = newM (a (ix3 0 r l)) (x0 (ix3 0 r l) + x1 (ix3 0 r l) + x2 (ix3 0 r l) + x3 (ix3 0 r l)) := by
  rw [← pay4_apply]
  unfold newM
  pointwise [k0_pay5]

theorem pay6_apply (x0 x1 x2 x3 : Vec Ideal S1x64x2048 .bf16) (a : Vec Ideal S1x64x2048 .f32) (r : Fin 64) (l : Fin 2048) :
    (k0_pay6 x0 x1 x2 x3 a (ix2 r l) : EReal) = newV (a (ix3 0 r l)) (x0 (ix3 0 r l) + x1 (ix3 0 r l) + x2 (ix3 0 r l) + x3 (ix3 0 r l)) := by
  rw [← pay4_apply]
  unfold newV
  pointwise [k0_pay6]

theorem pay1_apply (a : Vec Ideal S64x2048 .f32) (u : Fin 1) (r : Fin 64) (l : Fin 2048) :
    (k0_pay1 (F := Ideal) a (ix3 u r l) : EReal) = a (ix2 r l) := by
  pointwise [k0_pay1]

theorem pay2_apply (a : Vec Ideal S64x2048 .f32) (u : Fin 1) (r : Fin 64) (l : Fin 2048) :
    (k0_pay2 (F := Ideal) a (ix3 u r l) : EReal) = a (ix2 r l) := by
  pointwise [k0_pay2]

theorem pay3_apply (a b : Vec Ideal S64x2048 .f32) (w : Vec Ideal S1x64x2048 .f32) (u : Fin 1) (r : Fin 64) (l : Fin 2048) :
    (k0_pay3 a b w (ix3 u r l) : EReal) = step (w (ix3 0 r l)) (a (ix2 r l)) (b (ix2 r l)) := by
  unfold step
  pointwise [k0_pay3]

theorem idx_facts : ∀ t : Fin grid0.N, win0_0.index t = ![1, t.val, 0] ∧ win0_1.index t = ![0, t.val, 0] ∧ win0_2.index t = ![1, t.val, 0] ∧ win0_3.index t = ![1, t.val, 0]
    ∧ win0_4.index t = ![1, t.val, 0] ∧ win0_5.index t = ![1, t.val, 0] ∧ win0_6.index t = ![1, t.val, 0] ∧ win0_7.index t = ![1, t.val, 0] := by decide +kernel

variable (m : (ℓ : Loc nD τ sig) → Buf (Elt Ideal) ℓ)

theorem entry_o0 (c : Dev nD) : V m c main_v0_0 = (m ((c : Thread nD τ).loc main_arg4)) := by
  show StableHlo.after hostOps0 _ _ = _
  after_results
  rfl

theorem entry_o1 (c : Dev nD) : V m c main_v0_1 = (m ((c : Thread nD τ).loc main_arg5)) := by
  show StableHlo.after hostOps0 _ _ = _
  after_results
  rfl

theorem entry_o2 (c : Dev nD) : V m c main_v0_2 = (m ((c : Thread nD τ).loc main_arg6)) := by
  show StableHlo.after hostOps0 _ _ = _
  after_results
  rfl

theorem entry_o3 (c : Dev nD) : V m c main_v0_3 = (m ((c : Thread nD τ).loc main_arg7)) := by
  show StableHlo.after hostOps0 _ _ = _
  after_results
  rfl

theorem final_g (c : Dev nD) : (dats m 0 c).arrAt 4 cfg0.N = layers (m ((c : Thread nD τ).loc main_arg4)) (grad (m ((c : Thread nD τ).loc main_arg1))) := by
  have h := (dats m 0 c).arrAt_eq_of_coversWhere 4 (P := fun i => (i (0 : Fin 3) : ℕ) = 1) (fun i : S2x256x2048.Idx => (grad (m ((c : Thread nD τ).loc main_arg1))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o0 m c) i
  have ⟨e0, e1, e2, e3, e4, e5, e6, e7⟩ := idx_facts t
  blk_simp
  rw [after0_4]
  unfold outsAt0
  frame_out
  idx_vars y
  rw [pay7_apply]
  unfold grad
  rw [Fin.sum_univ_four]
  blk_point [iblk, V, e1, e4]

theorem final_m (c : Dev nD) : (dats m 0 c).arrAt 6 cfg0.N = layers (m ((c : Thread nD τ).loc main_arg6)) (gm (m ((c : Thread nD τ).loc main_arg1)) (m ((c : Thread nD τ).loc main_arg2))) := by
  have h := (dats m 0 c).arrAt_eq_of_coversWhere 6 (P := fun i => (i (0 : Fin 3) : ℕ) = 1) (fun i : S2x256x2048.Idx => (gm (m ((c : Thread nD τ).loc main_arg1)) (m ((c : Thread nD τ).loc main_arg2))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o2 m c) i
  have ⟨e0, e1, e2, e3, e4, e5, e6, e7⟩ := idx_facts t
  blk_simp
  rw [after0_6]
  unfold outsAt0
  frame_out
  idx_vars y
  rw [pay1_apply, pay5_apply]
  unfold gm grad
  rw [Fin.sum_univ_four]
  blk_point [iblk, V, e1, e2, e6]

theorem final_v (c : Dev nD) : (dats m 0 c).arrAt 7 cfg0.N = layers (m ((c : Thread nD τ).loc main_arg7)) (gv (m ((c : Thread nD τ).loc main_arg1)) (m ((c : Thread nD τ).loc main_arg3))) := by
  have h := (dats m 0 c).arrAt_eq_of_coversWhere 7 (P := fun i => (i (0 : Fin 3) : ℕ) = 1) (fun i : S2x256x2048.Idx => (gv (m ((c : Thread nD τ).loc main_arg1)) (m ((c : Thread nD τ).loc main_arg3))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o3 m c) i
  have ⟨e0, e1, e2, e3, e4, e5, e6, e7⟩ := idx_facts t
  blk_simp
  rw [after0_7]
  unfold outsAt0
  frame_out
  idx_vars y
  rw [pay2_apply, pay6_apply]
  unfold gv grad
  rw [Fin.sum_univ_four]
  blk_point [iblk, V, e1, e3, e7]

theorem final_d (c : Dev nD) : (dats m 0 c).arrAt 5 cfg0.N = layers (m ((c : Thread nD τ).loc main_arg5)) (gd (m ((c : Thread nD τ).loc main_arg0)) (m ((c : Thread nD τ).loc main_arg1)) (m ((c : Thread nD τ).loc main_arg2)) (m ((c : Thread nD τ).loc main_arg3))) := by
  have h := (dats m 0 c).arrAt_eq_of_coversWhere 5 (P := fun i => (i (0 : Fin 3) : ℕ) = 1) (fun i : S2x256x2048.Idx => (gd (m ((c : Thread nD τ).loc main_arg0)) (m ((c : Thread nD τ).loc main_arg1)) (m ((c : Thread nD τ).loc main_arg2)) (m ((c : Thread nD τ).loc main_arg3))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o1 m c) i
  have ⟨e0, e1, e2, e3, e4, e5, e6, e7⟩ := idx_facts t
  blk_simp
  rw [after0_5]
  unfold outsAt0
  frame_out
  idx_vars y
  rw [pay3_apply, pay5_apply, pay6_apply]
  unfold gd gm gv grad
  rw [Fin.sum_univ_four]
  blk_point [iblk, V, e0, e1, e2, e3, e5]

section
open Cert.AdamORefIdeal.Read
variable (w : (⟨Cert.AdamORefIdeal.S2x256x2048, .f32⟩ : BufTy).Contents (Elt Ideal)) (gs : (⟨Cert.AdamORefIdeal.S4x256x2048, .bf16⟩ : BufTy).Contents (Elt Ideal)) (a b o : (⟨Cert.AdamORefIdeal.S2x256x2048, .f32⟩ : BufTy).Contents (Elt Ideal))

theorem ref_g (r : Fin 256) (l : Fin 2048) : val_main_v1 (F := Ideal) gs (ix2 r l) = grad gs r l := by
  unfold grad
  pointwise [val_main_v0, val_main_cst, val_main_v1]

theorem ref_m (r : Fin 256) (l : Fin 2048) : val_main_v12 (F := Ideal) gs a (ix2 r l) = gm gs a r l := by
  unfold gm newM
  rw [← ref_g]
  pointwise [val_main_v4, val_main_v5, val_main_cst_0, val_main_v8, val_main_v9, val_main_cst_1, val_main_v10, val_main_v11, val_main_v12]

theorem ref_v (r : Fin 256) (l : Fin 2048) : val_main_v18 (F := Ideal) gs b (ix2 r l) = gv gs b r l := by
  unfold gv newV
  rw [← ref_g]
  pointwise [val_main_v6, val_main_v7, val_main_cst_2, val_main_v13, val_main_v14, val_main_v15, val_main_cst_3, val_main_v16, val_main_v17, val_main_v18]

theorem ref_d (r : Fin 256) (l : Fin 2048) : val_main_v31 (F := Ideal) w gs a b (ix2 r l) = gd w gs a b r l := by
  unfold gd step
  rw [← ref_m, ← ref_v]
  pointwise [val_main_v2, val_main_v3, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31]

theorem refAll_g : val_main_v34 (F := Ideal) gs o = layers o (grad gs) := by
  funext i
  idx_vars i
  by_cases h : (i0 : ℕ) = 1
  · obtain rfl : i0 = 1 := Fin.ext h
    refine Eq.trans ?_ (ref_g gs i1 i2)
    pointwise [val_main_v32, val_main_v33, val_main_v34]
  · have h1 : (i0 : ℕ) < 1 := by omega
    refine Eq.trans ?_ (if_neg h).symm
    pointwise [val_main_v32, val_main_v33, val_main_v34]
    simp [h1]

theorem refAll_d : val_main_v37 (F := Ideal) w gs a b o = layers o (gd w gs a b) := by
  funext i
  idx_vars i
  by_cases h : (i0 : ℕ) = 1
  · obtain rfl : i0 = 1 := Fin.ext h
    refine Eq.trans ?_ (ref_d w gs a b i1 i2)
    pointwise [val_main_v35, val_main_v36, val_main_v37]
  · have h1 : (i0 : ℕ) < 1 := by omega
    refine Eq.trans ?_ (if_neg h).symm
    pointwise [val_main_v35, val_main_v36, val_main_v37]
    simp [h1]

theorem refAll_m : val_main_v40 (F := Ideal) gs a o = layers o (gm gs a) := by
  funext i
  idx_vars i
  by_cases h : (i0 : ℕ) = 1
  · obtain rfl : i0 = 1 := Fin.ext h
    refine Eq.trans ?_ (ref_m gs a i1 i2)
    pointwise [val_main_v38, val_main_v39, val_main_v40]
  · have h1 : (i0 : ℕ) < 1 := by omega
    refine Eq.trans ?_ (if_neg h).symm
    pointwise [val_main_v38, val_main_v39, val_main_v40]
    simp [h1]

theorem refAll_v : val_main_v43 (F := Ideal) gs b o = layers o (gv gs b) := by
  funext i
  idx_vars i
  by_cases h : (i0 : ℕ) = 1
  · obtain rfl : i0 = 1 := Fin.ext h
    refine Eq.trans ?_ (ref_v gs b i1 i2)
    pointwise [val_main_v41, val_main_v42, val_main_v43]
  · have h1 : (i0 : ℕ) < 1 := by omega
    refine Eq.trans ?_ (if_neg h).symm
    pointwise [val_main_v41, val_main_v42, val_main_v43]
    simp [h1]

end

/-- The claim: both programs end with the same gradient, step and moments of all layers, whatever the arguments hold. -/
theorem algebraic : Cert.algebraic_AdamOIdeal_AdamORefIdeal (hAdamOIdeal := Cert.AdamOIdeal.Gen.facts) (hAdamORefIdeal := Cert.AdamORefIdeal.Gen.facts) := by
  intro m g m' g' _ hagree
  refine ⟨fun c => layers (m ((c : Thread nD τ).loc main_arg4)) (grad (m ((c : Thread nD τ).loc main_arg1))),
    fun c => layers (m ((c : Thread nD τ).loc main_arg5)) (gd (m ((c : Thread nD τ).loc main_arg0)) (m ((c : Thread nD τ).loc main_arg1)) (m ((c : Thread nD τ).loc main_arg2)) (m ((c : Thread nD τ).loc main_arg3))),
    fun c => layers (m ((c : Thread nD τ).loc main_arg6)) (gm (m ((c : Thread nD τ).loc main_arg1)) (m ((c : Thread nD τ).loc main_arg2))),
    fun c => layers (m ((c : Thread nD τ).loc main_arg7)) (gv (m ((c : Thread nD τ).loc main_arg1)) (m ((c : Thread nD τ).loc main_arg3))), ?_, ?_⟩
  · refine (θ_run defs _ _).mono (fun r h c => ?_) (run_blocks (F := Ideal) m g)
    exact ⟨(h c).1.trans (final_g m c), (h c).2.1.trans (final_d m c), (h c).2.2.1.trans (final_m m c), (h c).2.2.2.1.trans (final_v m c), (h c).2.2.2.2⟩
  · refine (θ_run Cert.AdamORefIdeal.defs _ _).mono (fun r h c => ?_) (Cert.AdamORefIdeal.Value.run (F := Ideal) m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [h1, h4]
      exact (Cert.AdamORefIdeal.Read.val_main_v34_eq _ _).trans (refAll_g _ _)
    · rw [h0, h1, h2, h3, h5]
      exact (Cert.AdamORefIdeal.Read.val_main_v37_eq _ _ _ _ _).trans (refAll_d _ _ _ _ _)
    · rw [h1, h2, h6]
      exact (Cert.AdamORefIdeal.Read.val_main_v40_eq _ _ _).trans (refAll_m _ _ _)
    · rw [h1, h3, h7]
      exact (Cert.AdamORefIdeal.Read.val_main_v43_eq _ _ _).trans (refAll_v _ _ _)

end Cert.AdamOProof
end
-- ==== Proof.AdamIValue.lean ====
/- The AdamW step of the last layer of a weight: AdamI. -/
module

public import proofs.«01_k».proof.Defs
public import proofs.«01_k».proof.Proof.Gen.AdamIIdeal.Value
public import proofs.«01_k».proof.Proof.Gen.AdamIRefIdeal.Run
public import proofs.«01_k».proof.Proof.Gen.AdamIRefIdeal.Read
public import proofs.«01_k».proof.Proof.AdamSpec
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.AdamIProof

open Cert.AdamIIdeal Cert.AdamIIdeal.Gen Cert.AdamIIdeal.Value
open Cert.AdamProof

/-- The gradient of the layer: the sum of the four stacked gradients. -/
def grad (gs : S4x2048x512.Idx → EReal) (r : Fin 2048) (l : Fin 512) : EReal := ∑ p : Fin 4, gs (ix3 p r l)
/-- The new first moment of the layer. -/
def gm (gs : S4x2048x512.Idx → EReal) (m : S2x2048x512.Idx → EReal) (r : Fin 2048) (l : Fin 512) : EReal := newM (m (ix3 1 r l)) (grad gs r l)
/-- The new second moment of the layer. -/
def gv (gs : S4x2048x512.Idx → EReal) (v : S2x2048x512.Idx → EReal) (r : Fin 2048) (l : Fin 512) : EReal := newV (v (ix3 1 r l)) (grad gs r l)
/-- The step of the layer's weights. -/
def gd (w : S2x2048x512.Idx → EReal) (gs : S4x2048x512.Idx → EReal) (m v : S2x2048x512.Idx → EReal) (r : Fin 2048) (l : Fin 512) : EReal :=
  step (w (ix3 1 r l)) (gm gs m r l) (gv gs v r l)
/-- All layers: the earlier ones as they were, and the last one new. -/
def layers (old : S2x2048x512.Idx → EReal) (new : Fin 2048 → Fin 512 → EReal) (i : S2x2048x512.Idx) : EReal :=
  if (i 0 : ℕ) = 1 then new (i 1) (i 2) else old i

/-- The sum of a block's four planes. -/
theorem pay4_apply (x0 x1 x2 x3 : Vec Ideal S1x256x512 .bf16) (r : Fin 256) (l : Fin 512) :
    (k0_pay4 x0 x1 x2 x3 (ix2 r l) : EReal) = x0 (ix3 0 r l) + x1 (ix3 0 r l) + x2 (ix3 0 r l) + x3 (ix3 0 r l) := by
  pointwise [k0_pay4]

theorem pay7_apply (x0 x1 x2 x3 : Vec Ideal S1x256x512 .bf16) (u : Fin 1) (r : Fin 256) (l : Fin 512) :
    (k0_pay7 x0 x1 x2 x3 (ix3 u r l) : EReal) = x0 (ix3 0 r l) + x1 (ix3 0 r l) + x2 (ix3 0 r l) + x3 (ix3 0 r l) := by
  rw [← pay4_apply]
  pointwise [k0_pay7]

theorem pay5_apply (x0 x1 x2 x3 : Vec Ideal S1x256x512 .bf16) (a : Vec Ideal S1x256x512 .f32) (r : Fin 256) (l : Fin 512) :
    (k0_pay5 x0 x1 x2 x3 a (ix2 r l) : EReal) = newM (a (ix3 0 r l)) (x0 (ix3 0 r l) + x1 (ix3 0 r l) + x2 (ix3 0 r l) + x3 (ix3 0 r l)) := by
  rw [← pay4_apply]
  unfold newM
  pointwise [k0_pay5]

theorem pay6_apply (x0 x1 x2 x3 : Vec Ideal S1x256x512 .bf16) (a : Vec Ideal S1x256x512 .f32) (r : Fin 256) (l : Fin 512) :
    (k0_pay6 x0 x1 x2 x3 a (ix2 r l) : EReal) = newV (a (ix3 0 r l)) (x0 (ix3 0 r l) + x1 (ix3 0 r l) + x2 (ix3 0 r l) + x3 (ix3 0 r l)) := by
  rw [← pay4_apply]
  unfold newV
  pointwise [k0_pay6]

theorem pay1_apply (a : Vec Ideal S256x512 .f32) (u : Fin 1) (r : Fin 256) (l : Fin 512) :
    (k0_pay1 (F := Ideal) a (ix3 u r l) : EReal) = a (ix2 r l) := by
  pointwise [k0_pay1]

theorem pay2_apply (a : Vec Ideal S256x512 .f32) (u : Fin 1) (r : Fin 256) (l : Fin 512) :
    (k0_pay2 (F := Ideal) a (ix3 u r l) : EReal) = a (ix2 r l) := by
  pointwise [k0_pay2]

theorem pay3_apply (a b : Vec Ideal S256x512 .f32) (w : Vec Ideal S1x256x512 .f32) (u : Fin 1) (r : Fin 256) (l : Fin 512) :
    (k0_pay3 a b w (ix3 u r l) : EReal) = step (w (ix3 0 r l)) (a (ix2 r l)) (b (ix2 r l)) := by
  unfold step
  pointwise [k0_pay3]

theorem idx_facts : ∀ t : Fin grid0.N, win0_0.index t = ![1, t.val, 0] ∧ win0_1.index t = ![0, t.val, 0] ∧ win0_2.index t = ![1, t.val, 0] ∧ win0_3.index t = ![1, t.val, 0]
    ∧ win0_4.index t = ![1, t.val, 0] ∧ win0_5.index t = ![1, t.val, 0] ∧ win0_6.index t = ![1, t.val, 0] ∧ win0_7.index t = ![1, t.val, 0] := by decide +kernel

variable (m : (ℓ : Loc nD τ sig) → Buf (Elt Ideal) ℓ)

theorem entry_o0 (c : Dev nD) : V m c main_v0_0 = (m ((c : Thread nD τ).loc main_arg4)) := by
  show StableHlo.after hostOps0 _ _ = _
  after_results
  rfl

theorem entry_o1 (c : Dev nD) : V m c main_v0_1 = (m ((c : Thread nD τ).loc main_arg5)) := by
  show StableHlo.after hostOps0 _ _ = _
  after_results
  rfl

theorem entry_o2 (c : Dev nD) : V m c main_v0_2 = (m ((c : Thread nD τ).loc main_arg6)) := by
  show StableHlo.after hostOps0 _ _ = _
  after_results
  rfl

theorem entry_o3 (c : Dev nD) : V m c main_v0_3 = (m ((c : Thread nD τ).loc main_arg7)) := by
  show StableHlo.after hostOps0 _ _ = _
  after_results
  rfl

theorem final_g (c : Dev nD) : (dats m 0 c).arrAt 4 cfg0.N = layers (m ((c : Thread nD τ).loc main_arg4)) (grad (m ((c : Thread nD τ).loc main_arg1))) := by
  have h := (dats m 0 c).arrAt_eq_of_coversWhere 4 (P := fun i => (i (0 : Fin 3) : ℕ) = 1) (fun i : S2x2048x512.Idx => (grad (m ((c : Thread nD τ).loc main_arg1))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o0 m c) i
  have ⟨e0, e1, e2, e3, e4, e5, e6, e7⟩ := idx_facts t
  blk_simp
  rw [after0_4]
  unfold outsAt0
  frame_out
  idx_vars y
  rw [pay7_apply]
  unfold grad
  rw [Fin.sum_univ_four]
  blk_point [iblk, V, e1, e4]

theorem final_m (c : Dev nD) : (dats m 0 c).arrAt 6 cfg0.N = layers (m ((c : Thread nD τ).loc main_arg6)) (gm (m ((c : Thread nD τ).loc main_arg1)) (m ((c : Thread nD τ).loc main_arg2))) := by
  have h := (dats m 0 c).arrAt_eq_of_coversWhere 6 (P := fun i => (i (0 : Fin 3) : ℕ) = 1) (fun i : S2x2048x512.Idx => (gm (m ((c : Thread nD τ).loc main_arg1)) (m ((c : Thread nD τ).loc main_arg2))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o2 m c) i
  have ⟨e0, e1, e2, e3, e4, e5, e6, e7⟩ := idx_facts t
  blk_simp
  rw [after0_6]
  unfold outsAt0
  frame_out
  idx_vars y
  rw [pay1_apply, pay5_apply]
  unfold gm grad
  rw [Fin.sum_univ_four]
  blk_point [iblk, V, e1, e2, e6]

theorem final_v (c : Dev nD) : (dats m 0 c).arrAt 7 cfg0.N = layers (m ((c : Thread nD τ).loc main_arg7)) (gv (m ((c : Thread nD τ).loc main_arg1)) (m ((c : Thread nD τ).loc main_arg3))) := by
  have h := (dats m 0 c).arrAt_eq_of_coversWhere 7 (P := fun i => (i (0 : Fin 3) : ℕ) = 1) (fun i : S2x2048x512.Idx => (gv (m ((c : Thread nD τ).loc main_arg1)) (m ((c : Thread nD τ).loc main_arg3))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o3 m c) i
  have ⟨e0, e1, e2, e3, e4, e5, e6, e7⟩ := idx_facts t
  blk_simp
  rw [after0_7]
  unfold outsAt0
  frame_out
  idx_vars y
  rw [pay2_apply, pay6_apply]
  unfold gv grad
  rw [Fin.sum_univ_four]
  blk_point [iblk, V, e1, e3, e7]

theorem final_d (c : Dev nD) : (dats m 0 c).arrAt 5 cfg0.N = layers (m ((c : Thread nD τ).loc main_arg5)) (gd (m ((c : Thread nD τ).loc main_arg0)) (m ((c : Thread nD τ).loc main_arg1)) (m ((c : Thread nD τ).loc main_arg2)) (m ((c : Thread nD τ).loc main_arg3))) := by
  have h := (dats m 0 c).arrAt_eq_of_coversWhere 5 (P := fun i => (i (0 : Fin 3) : ℕ) = 1) (fun i : S2x2048x512.Idx => (gd (m ((c : Thread nD τ).loc main_arg0)) (m ((c : Thread nD τ).loc main_arg1)) (m ((c : Thread nD τ).loc main_arg2)) (m ((c : Thread nD τ).loc main_arg3))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o1 m c) i
  have ⟨e0, e1, e2, e3, e4, e5, e6, e7⟩ := idx_facts t
  blk_simp
  rw [after0_5]
  unfold outsAt0
  frame_out
  idx_vars y
  rw [pay3_apply, pay5_apply, pay6_apply]
  unfold gd gm gv grad
  rw [Fin.sum_univ_four]
  blk_point [iblk, V, e0, e1, e2, e3, e5]

section
open Cert.AdamIRefIdeal.Read
variable (w : (⟨Cert.AdamIRefIdeal.S2x2048x512, .f32⟩ : BufTy).Contents (Elt Ideal)) (gs : (⟨Cert.AdamIRefIdeal.S4x2048x512, .bf16⟩ : BufTy).Contents (Elt Ideal)) (a b o : (⟨Cert.AdamIRefIdeal.S2x2048x512, .f32⟩ : BufTy).Contents (Elt Ideal))

theorem ref_g (r : Fin 2048) (l : Fin 512) : val_main_v1 (F := Ideal) gs (ix2 r l) = grad gs r l := by
  unfold grad
  pointwise [val_main_v0, val_main_cst, val_main_v1]

theorem ref_m (r : Fin 2048) (l : Fin 512) : val_main_v12 (F := Ideal) gs a (ix2 r l) = gm gs a r l := by
  unfold gm newM
  rw [← ref_g]
  pointwise [val_main_v4, val_main_v5, val_main_cst_0, val_main_v8, val_main_v9, val_main_cst_1, val_main_v10, val_main_v11, val_main_v12]

theorem ref_v (r : Fin 2048) (l : Fin 512) : val_main_v18 (F := Ideal) gs b (ix2 r l) = gv gs b r l := by
  unfold gv newV
  rw [← ref_g]
  pointwise [val_main_v6, val_main_v7, val_main_cst_2, val_main_v13, val_main_v14, val_main_v15, val_main_cst_3, val_main_v16, val_main_v17, val_main_v18]

theorem ref_d (r : Fin 2048) (l : Fin 512) : val_main_v31 (F := Ideal) w gs a b (ix2 r l) = gd w gs a b r l := by
  unfold gd step
  rw [← ref_m, ← ref_v]
  pointwise [val_main_v2, val_main_v3, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31]

theorem refAll_g : val_main_v34 (F := Ideal) gs o = layers o (grad gs) := by
  funext i
  idx_vars i
  by_cases h : (i0 : ℕ) = 1
  · obtain rfl : i0 = 1 := Fin.ext h
    refine Eq.trans ?_ (ref_g gs i1 i2)
    pointwise [val_main_v32, val_main_v33, val_main_v34]
  · have h1 : (i0 : ℕ) < 1 := by omega
    refine Eq.trans ?_ (if_neg h).symm
    pointwise [val_main_v32, val_main_v33, val_main_v34]
    simp [h1]

theorem refAll_d : val_main_v37 (F := Ideal) w gs a b o = layers o (gd w gs a b) := by
  funext i
  idx_vars i
  by_cases h : (i0 : ℕ) = 1
  · obtain rfl : i0 = 1 := Fin.ext h
    refine Eq.trans ?_ (ref_d w gs a b i1 i2)
    pointwise [val_main_v35, val_main_v36, val_main_v37]
  · have h1 : (i0 : ℕ) < 1 := by omega
    refine Eq.trans ?_ (if_neg h).symm
    pointwise [val_main_v35, val_main_v36, val_main_v37]
    simp [h1]

theorem refAll_m : val_main_v40 (F := Ideal) gs a o = layers o (gm gs a) := by
  funext i
  idx_vars i
  by_cases h : (i0 : ℕ) = 1
  · obtain rfl : i0 = 1 := Fin.ext h
    refine Eq.trans ?_ (ref_m gs a i1 i2)
    pointwise [val_main_v38, val_main_v39, val_main_v40]
  · have h1 : (i0 : ℕ) < 1 := by omega
    refine Eq.trans ?_ (if_neg h).symm
    pointwise [val_main_v38, val_main_v39, val_main_v40]
    simp [h1]

theorem refAll_v : val_main_v43 (F := Ideal) gs b o = layers o (gv gs b) := by
  funext i
  idx_vars i
  by_cases h : (i0 : ℕ) = 1
  · obtain rfl : i0 = 1 := Fin.ext h
    refine Eq.trans ?_ (ref_v gs b i1 i2)
    pointwise [val_main_v41, val_main_v42, val_main_v43]
  · have h1 : (i0 : ℕ) < 1 := by omega
    refine Eq.trans ?_ (if_neg h).symm
    pointwise [val_main_v41, val_main_v42, val_main_v43]
    simp [h1]

end

/-- The claim: both programs end with the same gradient, step and moments of all layers, whatever the arguments hold. -/
theorem algebraic : Cert.algebraic_AdamIIdeal_AdamIRefIdeal (hAdamIIdeal := Cert.AdamIIdeal.Gen.facts) (hAdamIRefIdeal := Cert.AdamIRefIdeal.Gen.facts) := by
  intro m g m' g' _ hagree
  refine ⟨fun c => layers (m ((c : Thread nD τ).loc main_arg4)) (grad (m ((c : Thread nD τ).loc main_arg1))),
    fun c => layers (m ((c : Thread nD τ).loc main_arg5)) (gd (m ((c : Thread nD τ).loc main_arg0)) (m ((c : Thread nD τ).loc main_arg1)) (m ((c : Thread nD τ).loc main_arg2)) (m ((c : Thread nD τ).loc main_arg3))),
    fun c => layers (m ((c : Thread nD τ).loc main_arg6)) (gm (m ((c : Thread nD τ).loc main_arg1)) (m ((c : Thread nD τ).loc main_arg2))),
    fun c => layers (m ((c : Thread nD τ).loc main_arg7)) (gv (m ((c : Thread nD τ).loc main_arg1)) (m ((c : Thread nD τ).loc main_arg3))), ?_, ?_⟩
  · refine (θ_run defs _ _).mono (fun r h c => ?_) (run_blocks (F := Ideal) m g)
    exact ⟨(h c).1.trans (final_g m c), (h c).2.1.trans (final_d m c), (h c).2.2.1.trans (final_m m c), (h c).2.2.2.1.trans (final_v m c), (h c).2.2.2.2⟩
  · refine (θ_run Cert.AdamIRefIdeal.defs _ _).mono (fun r h c => ?_) (Cert.AdamIRefIdeal.Value.run (F := Ideal) m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [h1, h4]
      exact (Cert.AdamIRefIdeal.Read.val_main_v34_eq _ _).trans (refAll_g _ _)
    · rw [h0, h1, h2, h3, h5]
      exact (Cert.AdamIRefIdeal.Read.val_main_v37_eq _ _ _ _ _).trans (refAll_d _ _ _ _ _)
    · rw [h1, h2, h6]
      exact (Cert.AdamIRefIdeal.Read.val_main_v40_eq _ _ _).trans (refAll_m _ _ _)
    · rw [h1, h3, h7]
      exact (Cert.AdamIRefIdeal.Read.val_main_v43_eq _ _ _).trans (refAll_v _ _ _)

end Cert.AdamIProof
end
-- ==== Proof.AdamQValue.lean ====
/- The AdamW step of the last layer of a weight: AdamQ. -/
module

public import proofs.«01_k».proof.Defs
public import proofs.«01_k».proof.Proof.Gen.AdamQIdeal.Value
public import proofs.«01_k».proof.Proof.Gen.AdamQRefIdeal.Run
public import proofs.«01_k».proof.Proof.Gen.AdamQRefIdeal.Read
public import proofs.«01_k».proof.Proof.AdamSpec
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.AdamQProof

open Cert.AdamQIdeal Cert.AdamQIdeal.Gen Cert.AdamQIdeal.Value
open Cert.AdamProof

/-- The gradient of the layer: the sum of the four stacked gradients. -/
def grad (gs : S4x2048x768.Idx → EReal) (r : Fin 2048) (l : Fin 768) : EReal := ∑ p : Fin 4, gs (ix3 p r l)
/-- The new first moment of the layer. -/
def gm (gs : S4x2048x768.Idx → EReal) (m : S2x2048x768.Idx → EReal) (r : Fin 2048) (l : Fin 768) : EReal := newM (m (ix3 1 r l)) (grad gs r l)
/-- The new second moment of the layer. -/
def gv (gs : S4x2048x768.Idx → EReal) (v : S2x2048x768.Idx → EReal) (r : Fin 2048) (l : Fin 768) : EReal := newV (v (ix3 1 r l)) (grad gs r l)
/-- The step of the layer's weights. -/
def gd (w : S2x2048x768.Idx → EReal) (gs : S4x2048x768.Idx → EReal) (m v : S2x2048x768.Idx → EReal) (r : Fin 2048) (l : Fin 768) : EReal :=
  step (w (ix3 1 r l)) (gm gs m r l) (gv gs v r l)
/-- All layers: the earlier ones as they were, and the last one new. -/
def layers (old : S2x2048x768.Idx → EReal) (new : Fin 2048 → Fin 768 → EReal) (i : S2x2048x768.Idx) : EReal :=
  if (i 0 : ℕ) = 1 then new (i 1) (i 2) else old i

/-- The sum of a block's four planes. -/
theorem pay4_apply (x0 x1 x2 x3 : Vec Ideal S1x128x768 .bf16) (r : Fin 128) (l : Fin 768) :
    (k0_pay4 x0 x1 x2 x3 (ix2 r l) : EReal) = x0 (ix3 0 r l) + x1 (ix3 0 r l) + x2 (ix3 0 r l) + x3 (ix3 0 r l) := by
  pointwise [k0_pay4]

theorem pay7_apply (x0 x1 x2 x3 : Vec Ideal S1x128x768 .bf16) (u : Fin 1) (r : Fin 128) (l : Fin 768) :
    (k0_pay7 x0 x1 x2 x3 (ix3 u r l) : EReal) = x0 (ix3 0 r l) + x1 (ix3 0 r l) + x2 (ix3 0 r l) + x3 (ix3 0 r l) := by
  rw [← pay4_apply]
  pointwise [k0_pay7]

theorem pay5_apply (x0 x1 x2 x3 : Vec Ideal S1x128x768 .bf16) (a : Vec Ideal S1x128x768 .f32) (r : Fin 128) (l : Fin 768) :
    (k0_pay5 x0 x1 x2 x3 a (ix2 r l) : EReal) = newM (a (ix3 0 r l)) (x0 (ix3 0 r l) + x1 (ix3 0 r l) + x2 (ix3 0 r l) + x3 (ix3 0 r l)) := by
  rw [← pay4_apply]
  unfold newM
  pointwise [k0_pay5]

theorem pay6_apply (x0 x1 x2 x3 : Vec Ideal S1x128x768 .bf16) (a : Vec Ideal S1x128x768 .f32) (r : Fin 128) (l : Fin 768) :
    (k0_pay6 x0 x1 x2 x3 a (ix2 r l) : EReal) = newV (a (ix3 0 r l)) (x0 (ix3 0 r l) + x1 (ix3 0 r l) + x2 (ix3 0 r l) + x3 (ix3 0 r l)) := by
  rw [← pay4_apply]
  unfold newV
  pointwise [k0_pay6]

theorem pay1_apply (a : Vec Ideal S128x768 .f32) (u : Fin 1) (r : Fin 128) (l : Fin 768) :
    (k0_pay1 (F := Ideal) a (ix3 u r l) : EReal) = a (ix2 r l) := by
  pointwise [k0_pay1]

theorem pay2_apply (a : Vec Ideal S128x768 .f32) (u : Fin 1) (r : Fin 128) (l : Fin 768) :
    (k0_pay2 (F := Ideal) a (ix3 u r l) : EReal) = a (ix2 r l) := by
  pointwise [k0_pay2]

theorem pay3_apply (a b : Vec Ideal S128x768 .f32) (w : Vec Ideal S1x128x768 .f32) (u : Fin 1) (r : Fin 128) (l : Fin 768) :
    (k0_pay3 a b w (ix3 u r l) : EReal) = step (w (ix3 0 r l)) (a (ix2 r l)) (b (ix2 r l)) := by
  unfold step
  pointwise [k0_pay3]

theorem idx_facts : ∀ t : Fin grid0.N, win0_0.index t = ![1, t.val, 0] ∧ win0_1.index t = ![0, t.val, 0] ∧ win0_2.index t = ![1, t.val, 0] ∧ win0_3.index t = ![1, t.val, 0]
    ∧ win0_4.index t = ![1, t.val, 0] ∧ win0_5.index t = ![1, t.val, 0] ∧ win0_6.index t = ![1, t.val, 0] ∧ win0_7.index t = ![1, t.val, 0] := by decide +kernel

variable (m : (ℓ : Loc nD τ sig) → Buf (Elt Ideal) ℓ)

theorem entry_o0 (c : Dev nD) : V m c main_v0_0 = (m ((c : Thread nD τ).loc main_arg4)) := by
  show StableHlo.after hostOps0 _ _ = _
  after_results
  rfl

theorem entry_o1 (c : Dev nD) : V m c main_v0_1 = (m ((c : Thread nD τ).loc main_arg5)) := by
  show StableHlo.after hostOps0 _ _ = _
  after_results
  rfl

theorem entry_o2 (c : Dev nD) : V m c main_v0_2 = (m ((c : Thread nD τ).loc main_arg6)) := by
  show StableHlo.after hostOps0 _ _ = _
  after_results
  rfl

theorem entry_o3 (c : Dev nD) : V m c main_v0_3 = (m ((c : Thread nD τ).loc main_arg7)) := by
  show StableHlo.after hostOps0 _ _ = _
  after_results
  rfl

theorem final_g (c : Dev nD) : (dats m 0 c).arrAt 4 cfg0.N = layers (m ((c : Thread nD τ).loc main_arg4)) (grad (m ((c : Thread nD τ).loc main_arg1))) := by
  have h := (dats m 0 c).arrAt_eq_of_coversWhere 4 (P := fun i => (i (0 : Fin 3) : ℕ) = 1) (fun i : S2x2048x768.Idx => (grad (m ((c : Thread nD τ).loc main_arg1))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o0 m c) i
  have ⟨e0, e1, e2, e3, e4, e5, e6, e7⟩ := idx_facts t
  blk_simp
  rw [after0_4]
  unfold outsAt0
  frame_out
  idx_vars y
  rw [pay7_apply]
  unfold grad
  rw [Fin.sum_univ_four]
  blk_point [iblk, V, e1, e4]

theorem final_m (c : Dev nD) : (dats m 0 c).arrAt 6 cfg0.N = layers (m ((c : Thread nD τ).loc main_arg6)) (gm (m ((c : Thread nD τ).loc main_arg1)) (m ((c : Thread nD τ).loc main_arg2))) := by
  have h := (dats m 0 c).arrAt_eq_of_coversWhere 6 (P := fun i => (i (0 : Fin 3) : ℕ) = 1) (fun i : S2x2048x768.Idx => (gm (m ((c : Thread nD τ).loc main_arg1)) (m ((c : Thread nD τ).loc main_arg2))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o2 m c) i
  have ⟨e0, e1, e2, e3, e4, e5, e6, e7⟩ := idx_facts t
  blk_simp
  rw [after0_6]
  unfold outsAt0
  frame_out
  idx_vars y
  rw [pay1_apply, pay5_apply]
  unfold gm grad
  rw [Fin.sum_univ_four]
  blk_point [iblk, V, e1, e2, e6]

theorem final_v (c : Dev nD) : (dats m 0 c).arrAt 7 cfg0.N = layers (m ((c : Thread nD τ).loc main_arg7)) (gv (m ((c : Thread nD τ).loc main_arg1)) (m ((c : Thread nD τ).loc main_arg3))) := by
  have h := (dats m 0 c).arrAt_eq_of_coversWhere 7 (P := fun i => (i (0 : Fin 3) : ℕ) = 1) (fun i : S2x2048x768.Idx => (gv (m ((c : Thread nD τ).loc main_arg1)) (m ((c : Thread nD τ).loc main_arg3))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o3 m c) i
  have ⟨e0, e1, e2, e3, e4, e5, e6, e7⟩ := idx_facts t
  blk_simp
  rw [after0_7]
  unfold outsAt0
  frame_out
  idx_vars y
  rw [pay2_apply, pay6_apply]
  unfold gv grad
  rw [Fin.sum_univ_four]
  blk_point [iblk, V, e1, e3, e7]

theorem final_d (c : Dev nD) : (dats m 0 c).arrAt 5 cfg0.N = layers (m ((c : Thread nD τ).loc main_arg5)) (gd (m ((c : Thread nD τ).loc main_arg0)) (m ((c : Thread nD τ).loc main_arg1)) (m ((c : Thread nD τ).loc main_arg2)) (m ((c : Thread nD τ).loc main_arg3))) := by
  have h := (dats m 0 c).arrAt_eq_of_coversWhere 5 (P := fun i => (i (0 : Fin 3) : ℕ) = 1) (fun i : S2x2048x768.Idx => (gd (m ((c : Thread nD τ).loc main_arg0)) (m ((c : Thread nD τ).loc main_arg1)) (m ((c : Thread nD τ).loc main_arg2)) (m ((c : Thread nD τ).loc main_arg3))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o1 m c) i
  have ⟨e0, e1, e2, e3, e4, e5, e6, e7⟩ := idx_facts t
  blk_simp
  rw [after0_5]
  unfold outsAt0
  frame_out
  idx_vars y
  rw [pay3_apply, pay5_apply, pay6_apply]
  unfold gd gm gv grad
  rw [Fin.sum_univ_four]
  blk_point [iblk, V, e0, e1, e2, e3, e5]

section
open Cert.AdamQRefIdeal.Read
variable (w : (⟨Cert.AdamQRefIdeal.S2x2048x768, .f32⟩ : BufTy).Contents (Elt Ideal)) (gs : (⟨Cert.AdamQRefIdeal.S4x2048x768, .bf16⟩ : BufTy).Contents (Elt Ideal)) (a b o : (⟨Cert.AdamQRefIdeal.S2x2048x768, .f32⟩ : BufTy).Contents (Elt Ideal))

theorem ref_g (r : Fin 2048) (l : Fin 768) : val_main_v1 (F := Ideal) gs (ix2 r l) = grad gs r l := by
  unfold grad
  pointwise [val_main_v0, val_main_cst, val_main_v1]

theorem ref_m (r : Fin 2048) (l : Fin 768) : val_main_v12 (F := Ideal) gs a (ix2 r l) = gm gs a r l := by
  unfold gm newM
  rw [← ref_g]
  pointwise [val_main_v4, val_main_v5, val_main_cst_0, val_main_v8, val_main_v9, val_main_cst_1, val_main_v10, val_main_v11, val_main_v12]

theorem ref_v (r : Fin 2048) (l : Fin 768) : val_main_v18 (F := Ideal) gs b (ix2 r l) = gv gs b r l := by
  unfold gv newV
  rw [← ref_g]
  pointwise [val_main_v6, val_main_v7, val_main_cst_2, val_main_v13, val_main_v14, val_main_v15, val_main_cst_3, val_main_v16, val_main_v17, val_main_v18]

theorem ref_d (r : Fin 2048) (l : Fin 768) : val_main_v31 (F := Ideal) w gs a b (ix2 r l) = gd w gs a b r l := by
  unfold gd step
  rw [← ref_m, ← ref_v]
  pointwise [val_main_v2, val_main_v3, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31]

theorem refAll_g : val_main_v34 (F := Ideal) gs o = layers o (grad gs) := by
  funext i
  idx_vars i
  by_cases h : (i0 : ℕ) = 1
  · obtain rfl : i0 = 1 := Fin.ext h
    refine Eq.trans ?_ (ref_g gs i1 i2)
    pointwise [val_main_v32, val_main_v33, val_main_v34]
  · have h1 : (i0 : ℕ) < 1 := by omega
    refine Eq.trans ?_ (if_neg h).symm
    pointwise [val_main_v32, val_main_v33, val_main_v34]
    simp [h1]

theorem refAll_d : val_main_v37 (F := Ideal) w gs a b o = layers o (gd w gs a b) := by
  funext i
  idx_vars i
  by_cases h : (i0 : ℕ) = 1
  · obtain rfl : i0 = 1 := Fin.ext h
    refine Eq.trans ?_ (ref_d w gs a b i1 i2)
    pointwise [val_main_v35, val_main_v36, val_main_v37]
  · have h1 : (i0 : ℕ) < 1 := by omega
    refine Eq.trans ?_ (if_neg h).symm
    pointwise [val_main_v35, val_main_v36, val_main_v37]
    simp [h1]

theorem refAll_m : val_main_v40 (F := Ideal) gs a o = layers o (gm gs a) := by
  funext i
  idx_vars i
  by_cases h : (i0 : ℕ) = 1
  · obtain rfl : i0 = 1 := Fin.ext h
    refine Eq.trans ?_ (ref_m gs a i1 i2)
    pointwise [val_main_v38, val_main_v39, val_main_v40]
  · have h1 : (i0 : ℕ) < 1 := by omega
    refine Eq.trans ?_ (if_neg h).symm
    pointwise [val_main_v38, val_main_v39, val_main_v40]
    simp [h1]

theorem refAll_v : val_main_v43 (F := Ideal) gs b o = layers o (gv gs b) := by
  funext i
  idx_vars i
  by_cases h : (i0 : ℕ) = 1
  · obtain rfl : i0 = 1 := Fin.ext h
    refine Eq.trans ?_ (ref_v gs b i1 i2)
    pointwise [val_main_v41, val_main_v42, val_main_v43]
  · have h1 : (i0 : ℕ) < 1 := by omega
    refine Eq.trans ?_ (if_neg h).symm
    pointwise [val_main_v41, val_main_v42, val_main_v43]
    simp [h1]

end

/-- The claim: both programs end with the same gradient, step and moments of all layers, whatever the arguments hold. -/
theorem algebraic : Cert.algebraic_AdamQIdeal_AdamQRefIdeal (hAdamQIdeal := Cert.AdamQIdeal.Gen.facts) (hAdamQRefIdeal := Cert.AdamQRefIdeal.Gen.facts) := by
  intro m g m' g' _ hagree
  refine ⟨fun c => layers (m ((c : Thread nD τ).loc main_arg4)) (grad (m ((c : Thread nD τ).loc main_arg1))),
    fun c => layers (m ((c : Thread nD τ).loc main_arg5)) (gd (m ((c : Thread nD τ).loc main_arg0)) (m ((c : Thread nD τ).loc main_arg1)) (m ((c : Thread nD τ).loc main_arg2)) (m ((c : Thread nD τ).loc main_arg3))),
    fun c => layers (m ((c : Thread nD τ).loc main_arg6)) (gm (m ((c : Thread nD τ).loc main_arg1)) (m ((c : Thread nD τ).loc main_arg2))),
    fun c => layers (m ((c : Thread nD τ).loc main_arg7)) (gv (m ((c : Thread nD τ).loc main_arg1)) (m ((c : Thread nD τ).loc main_arg3))), ?_, ?_⟩
  · refine (θ_run defs _ _).mono (fun r h c => ?_) (run_blocks (F := Ideal) m g)
    exact ⟨(h c).1.trans (final_g m c), (h c).2.1.trans (final_d m c), (h c).2.2.1.trans (final_m m c), (h c).2.2.2.1.trans (final_v m c), (h c).2.2.2.2⟩
  · refine (θ_run Cert.AdamQRefIdeal.defs _ _).mono (fun r h c => ?_) (Cert.AdamQRefIdeal.Value.run (F := Ideal) m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [h1, h4]
      exact (Cert.AdamQRefIdeal.Read.val_main_v34_eq _ _).trans (refAll_g _ _)
    · rw [h0, h1, h2, h3, h5]
      exact (Cert.AdamQRefIdeal.Read.val_main_v37_eq _ _ _ _ _).trans (refAll_d _ _ _ _ _)
    · rw [h1, h2, h6]
      exact (Cert.AdamQRefIdeal.Read.val_main_v40_eq _ _ _).trans (refAll_m _ _ _)
    · rw [h1, h3, h7]
      exact (Cert.AdamQRefIdeal.Read.val_main_v43_eq _ _ _).trans (refAll_v _ _ _)

end Cert.AdamQProof
end
-- ==== Proof.AdamGValue.lean ====
/- The AdamW step of the last layer of a weight: AdamG. -/
module

public import proofs.«01_k».proof.Defs
public import proofs.«01_k».proof.Proof.Gen.AdamGIdeal.Value
public import proofs.«01_k».proof.Proof.Gen.AdamGRefIdeal.Run
public import proofs.«01_k».proof.Proof.Gen.AdamGRefIdeal.Read
public import proofs.«01_k».proof.Proof.AdamSpec
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.AdamGProof

open Cert.AdamGIdeal Cert.AdamGIdeal.Gen Cert.AdamGIdeal.Value
open Cert.AdamProof

/-- The gradient of the layer: the sum of the four stacked gradients. -/
def grad (gs : S4x128x1024.Idx → EReal) (r : Fin 128) (l : Fin 1024) : EReal := ∑ p : Fin 4, gs (ix3 p r l)
/-- The new first moment of the layer. -/
def gm (gs : S4x128x1024.Idx → EReal) (m : S2x128x1024.Idx → EReal) (r : Fin 128) (l : Fin 1024) : EReal := newM (m (ix3 1 r l)) (grad gs r l)
/-- The new second moment of the layer. -/
def gv (gs : S4x128x1024.Idx → EReal) (v : S2x128x1024.Idx → EReal) (r : Fin 128) (l : Fin 1024) : EReal := newV (v (ix3 1 r l)) (grad gs r l)
/-- The step of the layer's weights. -/
def gd (w : S2x128x1024.Idx → EReal) (gs : S4x128x1024.Idx → EReal) (m v : S2x128x1024.Idx → EReal) (r : Fin 128) (l : Fin 1024) : EReal :=
  step (w (ix3 1 r l)) (gm gs m r l) (gv gs v r l)
/-- All layers: the earlier ones as they were, and the last one new. -/
def layers (old : S2x128x1024.Idx → EReal) (new : Fin 128 → Fin 1024 → EReal) (i : S2x128x1024.Idx) : EReal :=
  if (i 0 : ℕ) = 1 then new (i 1) (i 2) else old i

/-- The sum of a block's four planes. -/
theorem pay4_apply (x0 x1 x2 x3 : Vec Ideal S1x128x1024 .bf16) (r : Fin 128) (l : Fin 1024) :
    (k0_pay4 x0 x1 x2 x3 (ix2 r l) : EReal) = x0 (ix3 0 r l) + x1 (ix3 0 r l) + x2 (ix3 0 r l) + x3 (ix3 0 r l) := by
  pointwise [k0_pay4]

theorem pay7_apply (x0 x1 x2 x3 : Vec Ideal S1x128x1024 .bf16) (u : Fin 1) (r : Fin 128) (l : Fin 1024) :
    (k0_pay7 x0 x1 x2 x3 (ix3 u r l) : EReal) = x0 (ix3 0 r l) + x1 (ix3 0 r l) + x2 (ix3 0 r l) + x3 (ix3 0 r l) := by
  rw [← pay4_apply]
  pointwise [k0_pay7]

theorem pay5_apply (x0 x1 x2 x3 : Vec Ideal S1x128x1024 .bf16) (a : Vec Ideal S1x128x1024 .f32) (r : Fin 128) (l : Fin 1024) :
    (k0_pay5 x0 x1 x2 x3 a (ix2 r l) : EReal) = newM (a (ix3 0 r l)) (x0 (ix3 0 r l) + x1 (ix3 0 r l) + x2 (ix3 0 r l) + x3 (ix3 0 r l)) := by
  rw [← pay4_apply]
  unfold newM
  pointwise [k0_pay5]

theorem pay6_apply (x0 x1 x2 x3 : Vec Ideal S1x128x1024 .bf16) (a : Vec Ideal S1x128x1024 .f32) (r : Fin 128) (l : Fin 1024) :
    (k0_pay6 x0 x1 x2 x3 a (ix2 r l) : EReal) = newV (a (ix3 0 r l)) (x0 (ix3 0 r l) + x1 (ix3 0 r l) + x2 (ix3 0 r l) + x3 (ix3 0 r l)) := by
  rw [← pay4_apply]
  unfold newV
  pointwise [k0_pay6]

theorem pay1_apply (a : Vec Ideal S128x1024 .f32) (u : Fin 1) (r : Fin 128) (l : Fin 1024) :
    (k0_pay1 (F := Ideal) a (ix3 u r l) : EReal) = a (ix2 r l) := by
  pointwise [k0_pay1]

theorem pay2_apply (a : Vec Ideal S128x1024 .f32) (u : Fin 1) (r : Fin 128) (l : Fin 1024) :
    (k0_pay2 (F := Ideal) a (ix3 u r l) : EReal) = a (ix2 r l) := by
  pointwise [k0_pay2]

theorem pay3_apply (a b : Vec Ideal S128x1024 .f32) (w : Vec Ideal S1x128x1024 .f32) (u : Fin 1) (r : Fin 128) (l : Fin 1024) :
    (k0_pay3 a b w (ix3 u r l) : EReal) = step (w (ix3 0 r l)) (a (ix2 r l)) (b (ix2 r l)) := by
  unfold step
  pointwise [k0_pay3]

theorem idx_facts : ∀ t : Fin grid0.N, win0_0.index t = ![1, t.val, 0] ∧ win0_1.index t = ![0, t.val, 0] ∧ win0_2.index t = ![1, t.val, 0] ∧ win0_3.index t = ![1, t.val, 0]
    ∧ win0_4.index t = ![1, t.val, 0] ∧ win0_5.index t = ![1, t.val, 0] ∧ win0_6.index t = ![1, t.val, 0] ∧ win0_7.index t = ![1, t.val, 0] := by decide +kernel

variable (m : (ℓ : Loc nD τ sig) → Buf (Elt Ideal) ℓ)

theorem entry_o0 (c : Dev nD) : V m c main_v0_0 = (m ((c : Thread nD τ).loc main_arg4)) := by
  show StableHlo.after hostOps0 _ _ = _
  after_results
  rfl

theorem entry_o1 (c : Dev nD) : V m c main_v0_1 = (m ((c : Thread nD τ).loc main_arg5)) := by
  show StableHlo.after hostOps0 _ _ = _
  after_results
  rfl

theorem entry_o2 (c : Dev nD) : V m c main_v0_2 = (m ((c : Thread nD τ).loc main_arg6)) := by
  show StableHlo.after hostOps0 _ _ = _
  after_results
  rfl

theorem entry_o3 (c : Dev nD) : V m c main_v0_3 = (m ((c : Thread nD τ).loc main_arg7)) := by
  show StableHlo.after hostOps0 _ _ = _
  after_results
  rfl

theorem final_g (c : Dev nD) : (dats m 0 c).arrAt 4 cfg0.N = layers (m ((c : Thread nD τ).loc main_arg4)) (grad (m ((c : Thread nD τ).loc main_arg1))) := by
  have h := (dats m 0 c).arrAt_eq_of_coversWhere 4 (P := fun i => (i (0 : Fin 3) : ℕ) = 1) (fun i : S2x128x1024.Idx => (grad (m ((c : Thread nD τ).loc main_arg1))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o0 m c) i
  have ⟨e0, e1, e2, e3, e4, e5, e6, e7⟩ := idx_facts t
  blk_simp
  rw [after0_4]
  unfold outsAt0
  frame_out
  idx_vars y
  rw [pay7_apply]
  unfold grad
  rw [Fin.sum_univ_four]
  blk_point [iblk, V, e1, e4]

theorem final_m (c : Dev nD) : (dats m 0 c).arrAt 6 cfg0.N = layers (m ((c : Thread nD τ).loc main_arg6)) (gm (m ((c : Thread nD τ).loc main_arg1)) (m ((c : Thread nD τ).loc main_arg2))) := by
  have h := (dats m 0 c).arrAt_eq_of_coversWhere 6 (P := fun i => (i (0 : Fin 3) : ℕ) = 1) (fun i : S2x128x1024.Idx => (gm (m ((c : Thread nD τ).loc main_arg1)) (m ((c : Thread nD τ).loc main_arg2))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o2 m c) i
  have ⟨e0, e1, e2, e3, e4, e5, e6, e7⟩ := idx_facts t
  blk_simp
  rw [after0_6]
  unfold outsAt0
  frame_out
  idx_vars y
  rw [pay1_apply, pay5_apply]
  unfold gm grad
  rw [Fin.sum_univ_four]
  blk_point [iblk, V, e1, e2, e6]

theorem final_v (c : Dev nD) : (dats m 0 c).arrAt 7 cfg0.N = layers (m ((c : Thread nD τ).loc main_arg7)) (gv (m ((c : Thread nD τ).loc main_arg1)) (m ((c : Thread nD τ).loc main_arg3))) := by
  have h := (dats m 0 c).arrAt_eq_of_coversWhere 7 (P := fun i => (i (0 : Fin 3) : ℕ) = 1) (fun i : S2x128x1024.Idx => (gv (m ((c : Thread nD τ).loc main_arg1)) (m ((c : Thread nD τ).loc main_arg3))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o3 m c) i
  have ⟨e0, e1, e2, e3, e4, e5, e6, e7⟩ := idx_facts t
  blk_simp
  rw [after0_7]
  unfold outsAt0
  frame_out
  idx_vars y
  rw [pay2_apply, pay6_apply]
  unfold gv grad
  rw [Fin.sum_univ_four]
  blk_point [iblk, V, e1, e3, e7]

theorem final_d (c : Dev nD) : (dats m 0 c).arrAt 5 cfg0.N = layers (m ((c : Thread nD τ).loc main_arg5)) (gd (m ((c : Thread nD τ).loc main_arg0)) (m ((c : Thread nD τ).loc main_arg1)) (m ((c : Thread nD τ).loc main_arg2)) (m ((c : Thread nD τ).loc main_arg3))) := by
  have h := (dats m 0 c).arrAt_eq_of_coversWhere 5 (P := fun i => (i (0 : Fin 3) : ℕ) = 1) (fun i : S2x128x1024.Idx => (gd (m ((c : Thread nD τ).loc main_arg0)) (m ((c : Thread nD τ).loc main_arg1)) (m ((c : Thread nD τ).loc main_arg2)) (m ((c : Thread nD τ).loc main_arg3))) (i 1) (i 2)) (fun β => β (0 : Fin 3) = 1) (by decide +kernel)
    (fun t hf y => ?_) (fun j => by blk_simp [Pipeline.Window.cell_apply]; rw [Nat.div_one])
  · rw [h]
    funext i
    unfold layers
    refine if_congr Iff.rfl rfl ?_
    exact congrFun (entry_o1 m c) i
  have ⟨e0, e1, e2, e3, e4, e5, e6, e7⟩ := idx_facts t
  blk_simp
  rw [after0_5]
  unfold outsAt0
  frame_out
  idx_vars y
  rw [pay3_apply, pay5_apply, pay6_apply]
  unfold gd gm gv grad
  rw [Fin.sum_univ_four]
  blk_point [iblk, V, e0, e1, e2, e3, e5]

section
open Cert.AdamGRefIdeal.Read
variable (w : (⟨Cert.AdamGRefIdeal.S2x128x1024, .f32⟩ : BufTy).Contents (Elt Ideal)) (gs : (⟨Cert.AdamGRefIdeal.S4x128x1024, .bf16⟩ : BufTy).Contents (Elt Ideal)) (a b o : (⟨Cert.AdamGRefIdeal.S2x128x1024, .f32⟩ : BufTy).Contents (Elt Ideal))

theorem ref_g (r : Fin 128) (l : Fin 1024) : val_main_v1 (F := Ideal) gs (ix2 r l) = grad gs r l := by
  unfold grad
  pointwise [val_main_v0, val_main_cst, val_main_v1]

theorem ref_m (r : Fin 128) (l : Fin 1024) : val_main_v12 (F := Ideal) gs a (ix2 r l) = gm gs a r l := by
  unfold gm newM
  rw [← ref_g]
  pointwise [val_main_v4, val_main_v5, val_main_cst_0, val_main_v8, val_main_v9, val_main_cst_1, val_main_v10, val_main_v11, val_main_v12]

theorem ref_v (r : Fin 128) (l : Fin 1024) : val_main_v18 (F := Ideal) gs b (ix2 r l) = gv gs b r l := by
  unfold gv newV
  rw [← ref_g]
  pointwise [val_main_v6, val_main_v7, val_main_cst_2, val_main_v13, val_main_v14, val_main_v15, val_main_cst_3, val_main_v16, val_main_v17, val_main_v18]

theorem ref_d (r : Fin 128) (l : Fin 1024) : val_main_v31 (F := Ideal) w gs a b (ix2 r l) = gd w gs a b r l := by
  unfold gd step
  rw [← ref_m, ← ref_v]
  pointwise [val_main_v2, val_main_v3, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31]

theorem refAll_g : val_main_v34 (F := Ideal) gs o = layers o (grad gs) := by
  funext i
  idx_vars i
  by_cases h : (i0 : ℕ) = 1
  · obtain rfl : i0 = 1 := Fin.ext h
    refine Eq.trans ?_ (ref_g gs i1 i2)
    pointwise [val_main_v32, val_main_v33, val_main_v34]
  · have h1 : (i0 : ℕ) < 1 := by omega
    refine Eq.trans ?_ (if_neg h).symm
    pointwise [val_main_v32, val_main_v33, val_main_v34]
    simp [h1]

theorem refAll_d : val_main_v37 (F := Ideal) w gs a b o = layers o (gd w gs a b) := by
  funext i
  idx_vars i
  by_cases h : (i0 : ℕ) = 1
  · obtain rfl : i0 = 1 := Fin.ext h
    refine Eq.trans ?_ (ref_d w gs a b i1 i2)
    pointwise [val_main_v35, val_main_v36, val_main_v37]
  · have h1 : (i0 : ℕ) < 1 := by omega
    refine Eq.trans ?_ (if_neg h).symm
    pointwise [val_main_v35, val_main_v36, val_main_v37]
    simp [h1]

theorem refAll_m : val_main_v40 (F := Ideal) gs a o = layers o (gm gs a) := by
  funext i
  idx_vars i
  by_cases h : (i0 : ℕ) = 1
  · obtain rfl : i0 = 1 := Fin.ext h
    refine Eq.trans ?_ (ref_m gs a i1 i2)
    pointwise [val_main_v38, val_main_v39, val_main_v40]
  · have h1 : (i0 : ℕ) < 1 := by omega
    refine Eq.trans ?_ (if_neg h).symm
    pointwise [val_main_v38, val_main_v39, val_main_v40]
    simp [h1]

theorem refAll_v : val_main_v43 (F := Ideal) gs b o = layers o (gv gs b) := by
  funext i
  idx_vars i
  by_cases h : (i0 : ℕ) = 1
  · obtain rfl : i0 = 1 := Fin.ext h
    refine Eq.trans ?_ (ref_v gs b i1 i2)
    pointwise [val_main_v41, val_main_v42, val_main_v43]
  · have h1 : (i0 : ℕ) < 1 := by omega
    refine Eq.trans ?_ (if_neg h).symm
    pointwise [val_main_v41, val_main_v42, val_main_v43]
    simp [h1]

end

/-- The claim: both programs end with the same gradient, step and moments of all layers, whatever the arguments hold. -/
theorem algebraic : Cert.algebraic_AdamGIdeal_AdamGRefIdeal (hAdamGIdeal := Cert.AdamGIdeal.Gen.facts) (hAdamGRefIdeal := Cert.AdamGRefIdeal.Gen.facts) := by
  intro m g m' g' _ hagree
  refine ⟨fun c => layers (m ((c : Thread nD τ).loc main_arg4)) (grad (m ((c : Thread nD τ).loc main_arg1))),
    fun c => layers (m ((c : Thread nD τ).loc main_arg5)) (gd (m ((c : Thread nD τ).loc main_arg0)) (m ((c : Thread nD τ).loc main_arg1)) (m ((c : Thread nD τ).loc main_arg2)) (m ((c : Thread nD τ).loc main_arg3))),
    fun c => layers (m ((c : Thread nD τ).loc main_arg6)) (gm (m ((c : Thread nD τ).loc main_arg1)) (m ((c : Thread nD τ).loc main_arg2))),
    fun c => layers (m ((c : Thread nD τ).loc main_arg7)) (gv (m ((c : Thread nD τ).loc main_arg1)) (m ((c : Thread nD τ).loc main_arg3))), ?_, ?_⟩
  · refine (θ_run defs _ _).mono (fun r h c => ?_) (run_blocks (F := Ideal) m g)
    exact ⟨(h c).1.trans (final_g m c), (h c).2.1.trans (final_d m c), (h c).2.2.1.trans (final_m m c), (h c).2.2.2.1.trans (final_v m c), (h c).2.2.2.2⟩
  · refine (θ_run Cert.AdamGRefIdeal.defs _ _).mono (fun r h c => ?_) (Cert.AdamGRefIdeal.Value.run (F := Ideal) m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [h1, h4]
      exact (Cert.AdamGRefIdeal.Read.val_main_v34_eq _ _).trans (refAll_g _ _)
    · rw [h0, h1, h2, h3, h5]
      exact (Cert.AdamGRefIdeal.Read.val_main_v37_eq _ _ _ _ _).trans (refAll_d _ _ _ _ _)
    · rw [h1, h2, h6]
      exact (Cert.AdamGRefIdeal.Read.val_main_v40_eq _ _ _).trans (refAll_m _ _ _)
    · rw [h1, h3, h7]
      exact (Cert.AdamGRefIdeal.Read.val_main_v43_eq _ _ _).trans (refAll_v _ _ _)

end Cert.AdamGProof
end
-- ==== Proof.AdamUValue.lean ====
/- The AdamW step of the last layer of a weight: AdamU. -/
module

public import proofs.«01_k».proof.Defs
public import proofs.«01_k».proof.Proof.Gen.AdamUIdeal.Value
public import proofs.«01_k».proof.Proof.Gen.AdamURefIdeal.Run
public import proofs.«01_k».proof.Proof.Gen.AdamURefIdeal.Read
public import proofs.«01_k».proof.Proof.AdamSpec
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.AdamUProof

open Cert.AdamUIdeal Cert.AdamUIdeal.Gen Cert.AdamUIdeal.Value
open Cert.AdamProof

/-- The gradient of the layer: the sum of the four stacked gradients. -/
def grad (gs : S4x2048x1024.Idx → EReal) (r : Fin 2048) (l : Fin 1024) : EReal := ∑ p : Fin 4, gs (ix3 p r l)
/-- The new first moment of the layer. -/
def gm (gs : S4x2048x1024.Idx → EReal) (m : S4x2048x1024.Idx → EReal) (r : Fin 2048) (l : Fin 1024) : EReal := newM (m (ix3 3 r l)) (grad gs r l)
/-- The new second moment of the layer. -/
def gv (gs : S4x2048x1024.Idx → EReal) (v : S4x2048x1024.Idx → EReal) (r : Fin 2048) (l : Fin 1024) : EReal := newV (v (ix3 3 r l)) (grad gs r l)
/-- The step of the layer's weights. -/
def gd (w : S4x2048x1024.Idx → EReal) (gs : S4x2048x1024.Idx → EReal) (m v : S4x2048x1024.Idx → EReal) (r : Fin 2048) (l : Fin 1024) : EReal :=
  step (w (ix3 3 r l)) (gm gs m r l) (gv gs v r l)
/-- All layers: the earlier ones as they were, and the last one new. -/
def layers (old : S4x2048x1024.Idx → EReal) (new : Fin 2048 → Fin 1024 → EReal) (i : S4x2048x1024.Idx) : EReal :=
  if (i 0 : ℕ) = 3 then new (i 1) (i 2) else old i

/-- The sum of a block's four planes. -/
theorem pay4_apply (x0 x1 x2 x3 : Vec Ideal S1x128x1024 .bf16) (r : Fin 128) (l : Fin 1024) :
    (k0_pay4 x0 x1 x2 x3 (ix2 r l) : EReal) = x0 (ix3 0 r l) + x1 (ix3 0 r l) + x2 (ix3 0 r l) + x3 (ix3 0 r l) := by
  pointwise [k0_pay4]

theorem pay7_apply (x0 x1 x2 x3 : Vec Ideal S1x128x1024 .bf16) (u : Fin 1) (r : Fin 128) (l : Fin 1024) :
    (k0_pay7 x0 x1 x2 x3 (ix3 u r l) : EReal) = x0 (ix3 0 r l) + x1 (ix3 0 r l) + x2 (ix3 0 r l) + x3 (ix3 0 r l) := by
  rw [← pay4_apply]
  pointwise [k0_pay7]

theorem pay5_apply (x0 x1 x2 x3 : Vec Ideal S1x128x1024 .bf16) (a : Vec Ideal S1x128x1024 .f32) (r : Fin 128) (l : Fin 1024) :
    (k0_pay5 x0 x1 x2 x3 a (ix2 r l) : EReal) = newM (a (ix3 0 r l)) (x0 (ix3 0 r l) + x1 (ix3 0 r l) + x2 (ix3 0 r l) + x3 (ix3 0 r l)) := by
  rw [← pay4_apply]
  unfold newM
  pointwise [k0_pay5]

theorem pay6_apply (x0 x1 x2 x3 : Vec Ideal S1x128x1024 .bf16) (a : Vec Ideal S1x128x1024 .f32) (r : Fin 128) (l : Fin 1024) :
    (k0_pay6 x0 x1 x2 x3 a (ix2 r l) : EReal) = newV (a (ix3 0 r l)) (x0 (ix3 0 r l) + x1 (ix3 0 r l) + x2 (ix3 0 r l) + x3 (ix3 0 r l)) := by
  rw [← pay4_apply]
  unfold newV
  pointwise [k0_pay6]

theorem pay1_apply (a : Vec Ideal S128x1024 .f32) (u : Fin 1) (r : Fin 128) (l : Fin 1024) :
    (k0_pay1 (F := Ideal) a (ix3 u r l) : EReal) = a (ix2 r l) := by
  pointwise [k0_pay1]

theorem pay2_apply (a : Vec Ideal S128x1024 .f32) (u : Fin 1) (r : Fin 128) (l : Fin 1024) :
    (k0_pay2 (F := Ideal) a (ix3 u r l) : EReal) = a (ix2 r l) := by
  pointwise [k0_pay2]

theorem pay3_apply (a b : Vec Ideal S128x1024 .f32) (w : Vec Ideal S1x128x1024 .f32) (u : Fin 1) (r : Fin 128) (l : Fin 1024) :
    (k0_pay3 a b w (ix3 u r l) : EReal) = step (w (ix3 0 r l)) (a (ix2 r l)) (b (ix2 r l)) := by
  unfold step
  pointwise [k0_pay3]

theorem idx_facts : ∀ t : Fin grid0.N, win0_0.index t = ![3, t.val, 0] ∧ win0_1.index t = ![0, t.val, 0] ∧ win0_2.index t = ![3, t.val, 0] ∧ win0_3.index t = ![3, t.val, 0]
    ∧ win0_4.index t = ![3, t.val, 0] ∧ win0_5.index t = ![3, t.val, 0] ∧ win0_6.index t = ![3, t.val, 0] ∧ win0_7.index t = ![3, t.val, 0] := by decide +kernel

variable (m : (ℓ : Loc nD τ sig) → Buf (Elt Ideal) ℓ)

theorem entry_o0 (c : Dev nD) : V m c main_v0_0 = (m ((c : Thread nD τ).loc main_arg4)) := by
  show StableHlo.after hostOps0 _ _ = _
  after_results
  rfl

theorem entry_o1 (c : Dev nD) : V m c main_v0_1 = (m ((c : Thread nD τ).loc main_arg5)) := by
  show StableHlo.after hostOps0 _ _ = _
  after_results
  rfl

theorem entry_o2 (c : Dev nD) : V m c main_v0_2 = (m ((c : Thread nD τ).loc main_arg6)) := by
  show StableHlo.after hostOps0 _ _ = _
  after_results
  rfl

theorem entry_o3 (c : Dev nD) : V m c main_v0_3 = (m ((c : Thread nD τ).loc main_arg7)) := by
  show StableHlo.after hostOps0 _ _ = _
  after_results
  rfl

theorem final_g (c : Dev nD) : (dats m 0 c).arrAt 4 cfg0.N = layers (m ((c : Thread nD τ).loc main_arg4)) (grad (m ((c : Thread nD τ).loc main_arg1))) := by
  have h := (dats m 0 c).arrAt_eq_of_coversWhere 4 (P := fun i => (i (0 : Fin 3) : ℕ) = 3) (fun i : S4x2048x1024.Idx => (grad (m ((c : Thread nD τ).loc main_arg1))) (i 1) (i 2)) (fun β => β (0 : Fin 3) = 3) (by decide +kernel)
    (fun t hf y => ?_) (fun j => by blk_simp [Pipeline.Window.cell_apply]; rw [Nat.div_one])
  · rw [h]
    funext i
    unfold layers
    refine if_congr Iff.rfl rfl ?_
    exact congrFun (entry_o0 m c) i
  have ⟨e0, e1, e2, e3, e4, e5, e6, e7⟩ := idx_facts t
  blk_simp
  rw [after0_4]
  unfold outsAt0
  frame_out
  idx_vars y
  rw [pay7_apply]
  unfold grad
  rw [Fin.sum_univ_four]
  blk_point [iblk, V, e1, e4]

theorem final_m (c : Dev nD) : (dats m 0 c).arrAt 6 cfg0.N = layers (m ((c : Thread nD τ).loc main_arg6)) (gm (m ((c : Thread nD τ).loc main_arg1)) (m ((c : Thread nD τ).loc main_arg2))) := by
  have h := (dats m 0 c).arrAt_eq_of_coversWhere 6 (P := fun i => (i (0 : Fin 3) : ℕ) = 3) (fun i : S4x2048x1024.Idx => (gm (m ((c : Thread nD τ).loc main_arg1)) (m ((c : Thread nD τ).loc main_arg2))) (i 1) (i 2)) (fun β => β (0 : Fin 3) = 3) (by decide +kernel)
    (fun t hf y => ?_) (fun j => by blk_simp [Pipeline.Window.cell_apply]; rw [Nat.div_one])
  · rw [h]
    funext i
    unfold layers
    refine if_congr Iff.rfl rfl ?_
    exact congrFun (entry_o2 m c) i
  have ⟨e0, e1, e2, e3, e4, e5, e6, e7⟩ := idx_facts t
  blk_simp
  rw [after0_6]
  unfold outsAt0
  frame_out
  idx_vars y
  rw [pay1_apply, pay5_apply]
  unfold gm grad
  rw [Fin.sum_univ_four]
  blk_point [iblk, V, e1, e2, e6]

theorem final_v (c : Dev nD) : (dats m 0 c).arrAt 7 cfg0.N = layers (m ((c : Thread nD τ).loc main_arg7)) (gv (m ((c : Thread nD τ).loc main_arg1)) (m ((c : Thread nD τ).loc main_arg3))) := by
  have h := (dats m 0 c).arrAt_eq_of_coversWhere 7 (P := fun i => (i (0 : Fin 3) : ℕ) = 3) (fun i : S4x2048x1024.Idx => (gv (m ((c : Thread nD τ).loc main_arg1)) (m ((c : Thread nD τ).loc main_arg3))) (i 1) (i 2)) (fun β => β (0 : Fin 3) = 3) (by decide +kernel)
    (fun t hf y => ?_) (fun j => by blk_simp [Pipeline.Window.cell_apply]; rw [Nat.div_one])
  · rw [h]
    funext i
    unfold layers
    refine if_congr Iff.rfl rfl ?_
    exact congrFun (entry_o3 m c) i
  have ⟨e0, e1, e2, e3, e4, e5, e6, e7⟩ := idx_facts t
  blk_simp
  rw [after0_7]
  unfold outsAt0
  frame_out
  idx_vars y
  rw [pay2_apply, pay6_apply]
  unfold gv grad
  rw [Fin.sum_univ_four]
  blk_point [iblk, V, e1, e3, e7]

theorem final_d (c : Dev nD) : (dats m 0 c).arrAt 5 cfg0.N = layers (m ((c : Thread nD τ).loc main_arg5)) (gd (m ((c : Thread nD τ).loc main_arg0)) (m ((c : Thread nD τ).loc main_arg1)) (m ((c : Thread nD τ).loc main_arg2)) (m ((c : Thread nD τ).loc main_arg3))) := by
  have h := (dats m 0 c).arrAt_eq_of_coversWhere 5 (P := fun i => (i (0 : Fin 3) : ℕ) = 3) (fun i : S4x2048x1024.Idx => (gd (m ((c : Thread nD τ).loc main_arg0)) (m ((c : Thread nD τ).loc main_arg1)) (m ((c : Thread nD τ).loc main_arg2)) (m ((c : Thread nD τ).loc main_arg3))) (i 1) (i 2)) (fun β => β (0 : Fin 3) = 3) (by decide +kernel)
    (fun t hf y => ?_) (fun j => by blk_simp [Pipeline.Window.cell_apply]; rw [Nat.div_one])
  · rw [h]
    funext i
    unfold layers
    refine if_congr Iff.rfl rfl ?_
    exact congrFun (entry_o1 m c) i
  have ⟨e0, e1, e2, e3, e4, e5, e6, e7⟩ := idx_facts t
  blk_simp
  rw [after0_5]
  unfold outsAt0
  frame_out
  idx_vars y
  rw [pay3_apply, pay5_apply, pay6_apply]
  unfold gd gm gv grad
  rw [Fin.sum_univ_four]
  blk_point [iblk, V, e0, e1, e2, e3, e5]

section
open Cert.AdamURefIdeal.Read
variable (w : (⟨Cert.AdamURefIdeal.S4x2048x1024, .f32⟩ : BufTy).Contents (Elt Ideal)) (gs : (⟨Cert.AdamURefIdeal.S4x2048x1024, .bf16⟩ : BufTy).Contents (Elt Ideal)) (a b o : (⟨Cert.AdamURefIdeal.S4x2048x1024, .f32⟩ : BufTy).Contents (Elt Ideal))

theorem ref_g (r : Fin 2048) (l : Fin 1024) : val_main_v1 (F := Ideal) gs (ix2 r l) = grad gs r l := by
  unfold grad
  pointwise [val_main_v0, val_main_cst, val_main_v1]

theorem ref_m (r : Fin 2048) (l : Fin 1024) : val_main_v12 (F := Ideal) gs a (ix2 r l) = gm gs a r l := by
  unfold gm newM
  rw [← ref_g]
  pointwise [val_main_v4, val_main_v5, val_main_cst_0, val_main_v8, val_main_v9, val_main_cst_1, val_main_v10, val_main_v11, val_main_v12]

theorem ref_v (r : Fin 2048) (l : Fin 1024) : val_main_v18 (F := Ideal) gs b (ix2 r l) = gv gs b r l := by
  unfold gv newV
  rw [← ref_g]
  pointwise [val_main_v6, val_main_v7, val_main_cst_2, val_main_v13, val_main_v14, val_main_v15, val_main_cst_3, val_main_v16, val_main_v17, val_main_v18]

theorem ref_d (r : Fin 2048) (l : Fin 1024) : val_main_v31 (F := Ideal) w gs a b (ix2 r l) = gd w gs a b r l := by
  unfold gd step
  rw [← ref_m, ← ref_v]
  pointwise [val_main_v2, val_main_v3, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31]

theorem refAll_g : val_main_v34 (F := Ideal) gs o = layers o (grad gs) := by
  funext i
  idx_vars i
  by_cases h : (i0 : ℕ) = 3
  · obtain rfl : i0 = 3 := Fin.ext h
    refine Eq.trans ?_ (ref_g gs i1 i2)
    pointwise [val_main_v32, val_main_v33, val_main_v34]
  · have h1 : (i0 : ℕ) < 3 := by omega
    refine Eq.trans ?_ (if_neg h).symm
    pointwise [val_main_v32, val_main_v33, val_main_v34]
    simp [h1]

theorem refAll_d : val_main_v37 (F := Ideal) w gs a b o = layers o (gd w gs a b) := by
  funext i
  idx_vars i
  by_cases h : (i0 : ℕ) = 3
  · obtain rfl : i0 = 3 := Fin.ext h
    refine Eq.trans ?_ (ref_d w gs a b i1 i2)
    pointwise [val_main_v35, val_main_v36, val_main_v37]
  · have h1 : (i0 : ℕ) < 3 := by omega
    refine Eq.trans ?_ (if_neg h).symm
    pointwise [val_main_v35, val_main_v36, val_main_v37]
    simp [h1]

theorem refAll_m : val_main_v40 (F := Ideal) gs a o = layers o (gm gs a) := by
  funext i
  idx_vars i
  by_cases h : (i0 : ℕ) = 3
  · obtain rfl : i0 = 3 := Fin.ext h
    refine Eq.trans ?_ (ref_m gs a i1 i2)
    pointwise [val_main_v38, val_main_v39, val_main_v40]
  · have h1 : (i0 : ℕ) < 3 := by omega
    refine Eq.trans ?_ (if_neg h).symm
    pointwise [val_main_v38, val_main_v39, val_main_v40]
    simp [h1]

theorem refAll_v : val_main_v43 (F := Ideal) gs b o = layers o (gv gs b) := by
  funext i
  idx_vars i
  by_cases h : (i0 : ℕ) = 3
  · obtain rfl : i0 = 3 := Fin.ext h
    refine Eq.trans ?_ (ref_v gs b i1 i2)
    pointwise [val_main_v41, val_main_v42, val_main_v43]
  · have h1 : (i0 : ℕ) < 3 := by omega
    refine Eq.trans ?_ (if_neg h).symm
    pointwise [val_main_v41, val_main_v42, val_main_v43]
    simp [h1]

end

/-- The claim: both programs end with the same gradient, step and moments of all layers, whatever the arguments hold. -/
theorem algebraic : Cert.algebraic_AdamUIdeal_AdamURefIdeal (hAdamUIdeal := Cert.AdamUIdeal.Gen.facts) (hAdamURefIdeal := Cert.AdamURefIdeal.Gen.facts) := by
  intro m g m' g' _ hagree
  refine ⟨fun c => layers (m ((c : Thread nD τ).loc main_arg4)) (grad (m ((c : Thread nD τ).loc main_arg1))),
    fun c => layers (m ((c : Thread nD τ).loc main_arg5)) (gd (m ((c : Thread nD τ).loc main_arg0)) (m ((c : Thread nD τ).loc main_arg1)) (m ((c : Thread nD τ).loc main_arg2)) (m ((c : Thread nD τ).loc main_arg3))),
    fun c => layers (m ((c : Thread nD τ).loc main_arg6)) (gm (m ((c : Thread nD τ).loc main_arg1)) (m ((c : Thread nD τ).loc main_arg2))),
    fun c => layers (m ((c : Thread nD τ).loc main_arg7)) (gv (m ((c : Thread nD τ).loc main_arg1)) (m ((c : Thread nD τ).loc main_arg3))), ?_, ?_⟩
  · refine (θ_run defs _ _).mono (fun r h c => ?_) (run_blocks (F := Ideal) m g)
    exact ⟨(h c).1.trans (final_g m c), (h c).2.1.trans (final_d m c), (h c).2.2.1.trans (final_m m c), (h c).2.2.2.1.trans (final_v m c), (h c).2.2.2.2⟩
  · refine (θ_run Cert.AdamURefIdeal.defs _ _).mono (fun r h c => ?_) (Cert.AdamURefIdeal.Value.run (F := Ideal) m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [h1, h4]
      exact (Cert.AdamURefIdeal.Read.val_main_v34_eq _ _).trans (refAll_g _ _)
    · rw [h0, h1, h2, h3, h5]
      exact (Cert.AdamURefIdeal.Read.val_main_v37_eq _ _ _ _ _).trans (refAll_d _ _ _ _ _)
    · rw [h1, h2, h6]
      exact (Cert.AdamURefIdeal.Read.val_main_v40_eq _ _ _).trans (refAll_m _ _ _)
    · rw [h1, h3, h7]
      exact (Cert.AdamURefIdeal.Read.val_main_v43_eq _ _ _).trans (refAll_v _ _ _)

end Cert.AdamUProof
end
-- ==== Proof.AdamDValue.lean ====
/- The AdamW step of the last layer of a weight: AdamD. -/
module

public import proofs.«01_k».proof.Defs
public import proofs.«01_k».proof.Proof.Gen.AdamDIdeal.Value
public import proofs.«01_k».proof.Proof.Gen.AdamDRefIdeal.Run
public import proofs.«01_k».proof.Proof.Gen.AdamDRefIdeal.Read
public import proofs.«01_k».proof.Proof.AdamSpec
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.AdamDProof

open Cert.AdamDIdeal Cert.AdamDIdeal.Gen Cert.AdamDIdeal.Value
open Cert.AdamProof

/-- The gradient of the layer: the sum of the four stacked gradients. -/
def grad (gs : S4x1024x2048.Idx → EReal) (r : Fin 1024) (l : Fin 2048) : EReal := ∑ p : Fin 4, gs (ix3 p r l)
/-- The new first moment of the layer. -/
def gm (gs : S4x1024x2048.Idx → EReal) (m : S4x1024x2048.Idx → EReal) (r : Fin 1024) (l : Fin 2048) : EReal := newM (m (ix3 3 r l)) (grad gs r l)
/-- The new second moment of the layer. -/
def gv (gs : S4x1024x2048.Idx → EReal) (v : S4x1024x2048.Idx → EReal) (r : Fin 1024) (l : Fin 2048) : EReal := newV (v (ix3 3 r l)) (grad gs r l)
/-- The step of the layer's weights. -/
def gd (w : S4x1024x2048.Idx → EReal) (gs : S4x1024x2048.Idx → EReal) (m v : S4x1024x2048.Idx → EReal) (r : Fin 1024) (l : Fin 2048) : EReal :=
  step (w (ix3 3 r l)) (gm gs m r l) (gv gs v r l)
/-- All layers: the earlier ones as they were, and the last one new. -/
def layers (old : S4x1024x2048.Idx → EReal) (new : Fin 1024 → Fin 2048 → EReal) (i : S4x1024x2048.Idx) : EReal :=
  if (i 0 : ℕ) = 3 then new (i 1) (i 2) else old i

/-- The sum of a block's four planes. -/
theorem pay4_apply (x0 x1 x2 x3 : Vec Ideal S1x64x2048 .bf16) (r : Fin 64) (l : Fin 2048) :
    (k0_pay4 x0 x1 x2 x3 (ix2 r l) : EReal) = x0 (ix3 0 r l) + x1 (ix3 0 r l) + x2 (ix3 0 r l) + x3 (ix3 0 r l) := by
  pointwise [k0_pay4]

theorem pay7_apply (x0 x1 x2 x3 : Vec Ideal S1x64x2048 .bf16) (u : Fin 1) (r : Fin 64) (l : Fin 2048) :
    (k0_pay7 x0 x1 x2 x3 (ix3 u r l) : EReal) = x0 (ix3 0 r l) + x1 (ix3 0 r l) + x2 (ix3 0 r l) + x3 (ix3 0 r l) := by
  rw [← pay4_apply]
  pointwise [k0_pay7]

theorem pay5_apply (x0 x1 x2 x3 : Vec Ideal S1x64x2048 .bf16) (a : Vec Ideal S1x64x2048 .f32) (r : Fin 64) (l : Fin 2048) :
    (k0_pay5 x0 x1 x2 x3 a (ix2 r l) : EReal) = newM (a (ix3 0 r l)) (x0 (ix3 0 r l) + x1 (ix3 0 r l) + x2 (ix3 0 r l) + x3 (ix3 0 r l)) := by
  rw [← pay4_apply]
  unfold newM
  pointwise [k0_pay5]

theorem pay6_apply (x0 x1 x2 x3 : Vec Ideal S1x64x2048 .bf16) (a : Vec Ideal S1x64x2048 .f32) (r : Fin 64) (l : Fin 2048) :
    (k0_pay6 x0 x1 x2 x3 a (ix2 r l) : EReal) = newV (a (ix3 0 r l)) (x0 (ix3 0 r l) + x1 (ix3 0 r l) + x2 (ix3 0 r l) + x3 (ix3 0 r l)) := by
  rw [← pay4_apply]
  unfold newV
  pointwise [k0_pay6]

theorem pay1_apply (a : Vec Ideal S64x2048 .f32) (u : Fin 1) (r : Fin 64) (l : Fin 2048) :
    (k0_pay1 (F := Ideal) a (ix3 u r l) : EReal) = a (ix2 r l) := by
  pointwise [k0_pay1]

theorem pay2_apply (a : Vec Ideal S64x2048 .f32) (u : Fin 1) (r : Fin 64) (l : Fin 2048) :
    (k0_pay2 (F := Ideal) a (ix3 u r l) : EReal) = a (ix2 r l) := by
  pointwise [k0_pay2]

theorem pay3_apply (a b : Vec Ideal S64x2048 .f32) (w : Vec Ideal S1x64x2048 .f32) (u : Fin 1) (r : Fin 64) (l : Fin 2048) :
    (k0_pay3 a b w (ix3 u r l) : EReal) = step (w (ix3 0 r l)) (a (ix2 r l)) (b (ix2 r l)) := by
  unfold step
  pointwise [k0_pay3]

theorem idx_facts : ∀ t : Fin grid0.N, win0_0.index t = ![3, t.val, 0] ∧ win0_1.index t = ![0, t.val, 0] ∧ win0_2.index t = ![3, t.val, 0] ∧ win0_3.index t = ![3, t.val, 0]
    ∧ win0_4.index t = ![3, t.val, 0] ∧ win0_5.index t = ![3, t.val, 0] ∧ win0_6.index t = ![3, t.val, 0] ∧ win0_7.index t = ![3, t.val, 0] := by decide +kernel

variable (m : (ℓ : Loc nD τ sig) → Buf (Elt Ideal) ℓ)

theorem entry_o0 (c : Dev nD) : V m c main_v0_0 = (m ((c : Thread nD τ).loc main_arg4)) := by
  show StableHlo.after hostOps0 _ _ = _
  after_results
  rfl

theorem entry_o1 (c : Dev nD) : V m c main_v0_1 = (m ((c : Thread nD τ).loc main_arg5)) := by
  show StableHlo.after hostOps0 _ _ = _
  after_results
  rfl

theorem entry_o2 (c : Dev nD) : V m c main_v0_2 = (m ((c : Thread nD τ).loc main_arg6)) := by
  show StableHlo.after hostOps0 _ _ = _
  after_results
  rfl

theorem entry_o3 (c : Dev nD) : V m c main_v0_3 = (m ((c : Thread nD τ).loc main_arg7)) := by
  show StableHlo.after hostOps0 _ _ = _
  after_results
  rfl

theorem final_g (c : Dev nD) : (dats m 0 c).arrAt 4 cfg0.N = layers (m ((c : Thread nD τ).loc main_arg4)) (grad (m ((c : Thread nD τ).loc main_arg1))) := by
  have h := (dats m 0 c).arrAt_eq_of_coversWhere 4 (P := fun i => (i (0 : Fin 3) : ℕ) = 3) (fun i : S4x1024x2048.Idx => (grad (m ((c : Thread nD τ).loc main_arg1))) (i 1) (i 2)) (fun β => β (0 : Fin 3) = 3) (by decide +kernel)
    (fun t hf y => ?_) (fun j => by blk_simp [Pipeline.Window.cell_apply]; rw [Nat.div_one])
  · rw [h]
    funext i
    unfold layers
    refine if_congr Iff.rfl rfl ?_
    exact congrFun (entry_o0 m c) i
  have ⟨e0, e1, e2, e3, e4, e5, e6, e7⟩ := idx_facts t
  blk_simp
  rw [after0_4]
  unfold outsAt0
  frame_out
  idx_vars y
  rw [pay7_apply]
  unfold grad
  rw [Fin.sum_univ_four]
  blk_point [iblk, V, e1, e4]

theorem final_m (c : Dev nD) : (dats m 0 c).arrAt 6 cfg0.N = layers (m ((c : Thread nD τ).loc main_arg6)) (gm (m ((c : Thread nD τ).loc main_arg1)) (m ((c : Thread nD τ).loc main_arg2))) := by
  have h := (dats m 0 c).arrAt_eq_of_coversWhere 6 (P := fun i => (i (0 : Fin 3) : ℕ) = 3) (fun i : S4x1024x2048.Idx => (gm (m ((c : Thread nD τ).loc main_arg1)) (m ((c : Thread nD τ).loc main_arg2))) (i 1) (i 2)) (fun β => β (0 : Fin 3) = 3) (by decide +kernel)
    (fun t hf y => ?_) (fun j => by blk_simp [Pipeline.Window.cell_apply]; rw [Nat.div_one])
  · rw [h]
    funext i
    unfold layers
    refine if_congr Iff.rfl rfl ?_
    exact congrFun (entry_o2 m c) i
  have ⟨e0, e1, e2, e3, e4, e5, e6, e7⟩ := idx_facts t
  blk_simp
  rw [after0_6]
  unfold outsAt0
  frame_out
  idx_vars y
  rw [pay1_apply, pay5_apply]
  unfold gm grad
  rw [Fin.sum_univ_four]
  blk_point [iblk, V, e1, e2, e6]

theorem final_v (c : Dev nD) : (dats m 0 c).arrAt 7 cfg0.N = layers (m ((c : Thread nD τ).loc main_arg7)) (gv (m ((c : Thread nD τ).loc main_arg1)) (m ((c : Thread nD τ).loc main_arg3))) := by
  have h := (dats m 0 c).arrAt_eq_of_coversWhere 7 (P := fun i => (i (0 : Fin 3) : ℕ) = 3) (fun i : S4x1024x2048.Idx => (gv (m ((c : Thread nD τ).loc main_arg1)) (m ((c : Thread nD τ).loc main_arg3))) (i 1) (i 2)) (fun β => β (0 : Fin 3) = 3) (by decide +kernel)
    (fun t hf y => ?_) (fun j => by blk_simp [Pipeline.Window.cell_apply]; rw [Nat.div_one])
  · rw [h]
    funext i
    unfold layers
    refine if_congr Iff.rfl rfl ?_
    exact congrFun (entry_o3 m c) i
  have ⟨e0, e1, e2, e3, e4, e5, e6, e7⟩ := idx_facts t
  blk_simp
  rw [after0_7]
  unfold outsAt0
  frame_out
  idx_vars y
  rw [pay2_apply, pay6_apply]
  unfold gv grad
  rw [Fin.sum_univ_four]
  blk_point [iblk, V, e1, e3, e7]

theorem final_d (c : Dev nD) : (dats m 0 c).arrAt 5 cfg0.N = layers (m ((c : Thread nD τ).loc main_arg5)) (gd (m ((c : Thread nD τ).loc main_arg0)) (m ((c : Thread nD τ).loc main_arg1)) (m ((c : Thread nD τ).loc main_arg2)) (m ((c : Thread nD τ).loc main_arg3))) := by
  have h := (dats m 0 c).arrAt_eq_of_coversWhere 5 (P := fun i => (i (0 : Fin 3) : ℕ) = 3) (fun i : S4x1024x2048.Idx => (gd (m ((c : Thread nD τ).loc main_arg0)) (m ((c : Thread nD τ).loc main_arg1)) (m ((c : Thread nD τ).loc main_arg2)) (m ((c : Thread nD τ).loc main_arg3))) (i 1) (i 2)) (fun β => β (0 : Fin 3) = 3) (by decide +kernel)
    (fun t hf y => ?_) (fun j => by blk_simp [Pipeline.Window.cell_apply]; rw [Nat.div_one])
  · rw [h]
    funext i
    unfold layers
    refine if_congr Iff.rfl rfl ?_
    exact congrFun (entry_o1 m c) i
  have ⟨e0, e1, e2, e3, e4, e5, e6, e7⟩ := idx_facts t
  blk_simp
  rw [after0_5]
  unfold outsAt0
  frame_out
  idx_vars y
  rw [pay3_apply, pay5_apply, pay6_apply]
  unfold gd gm gv grad
  rw [Fin.sum_univ_four]
  blk_point [iblk, V, e0, e1, e2, e3, e5]

section
open Cert.AdamDRefIdeal.Read
variable (w : (⟨Cert.AdamDRefIdeal.S4x1024x2048, .f32⟩ : BufTy).Contents (Elt Ideal)) (gs : (⟨Cert.AdamDRefIdeal.S4x1024x2048, .bf16⟩ : BufTy).Contents (Elt Ideal)) (a b o : (⟨Cert.AdamDRefIdeal.S4x1024x2048, .f32⟩ : BufTy).Contents (Elt Ideal))

theorem ref_g (r : Fin 1024) (l : Fin 2048) : val_main_v1 (F := Ideal) gs (ix2 r l) = grad gs r l := by
  unfold grad
  pointwise [val_main_v0, val_main_cst, val_main_v1]

theorem ref_m (r : Fin 1024) (l : Fin 2048) : val_main_v12 (F := Ideal) gs a (ix2 r l) = gm gs a r l := by
  unfold gm newM
  rw [← ref_g]
  pointwise [val_main_v4, val_main_v5, val_main_cst_0, val_main_v8, val_main_v9, val_main_cst_1, val_main_v10, val_main_v11, val_main_v12]

theorem ref_v (r : Fin 1024) (l : Fin 2048) : val_main_v18 (F := Ideal) gs b (ix2 r l) = gv gs b r l := by
  unfold gv newV
  rw [← ref_g]
  pointwise [val_main_v6, val_main_v7, val_main_cst_2, val_main_v13, val_main_v14, val_main_v15, val_main_cst_3, val_main_v16, val_main_v17, val_main_v18]

theorem ref_d (r : Fin 1024) (l : Fin 2048) : val_main_v31 (F := Ideal) w gs a b (ix2 r l) = gd w gs a b r l := by
  unfold gd step
  rw [← ref_m, ← ref_v]
  pointwise [val_main_v2, val_main_v3, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31]

theorem refAll_g : val_main_v34 (F := Ideal) gs o = layers o (grad gs) := by
  funext i
  idx_vars i
  by_cases h : (i0 : ℕ) = 3
  · obtain rfl : i0 = 3 := Fin.ext h
    refine Eq.trans ?_ (ref_g gs i1 i2)
    pointwise [val_main_v32, val_main_v33, val_main_v34]
  · have h1 : (i0 : ℕ) < 3 := by omega
    refine Eq.trans ?_ (if_neg h).symm
    pointwise [val_main_v32, val_main_v33, val_main_v34]
    simp [h1]

theorem refAll_d : val_main_v37 (F := Ideal) w gs a b o = layers o (gd w gs a b) := by
  funext i
  idx_vars i
  by_cases h : (i0 : ℕ) = 3
  · obtain rfl : i0 = 3 := Fin.ext h
    refine Eq.trans ?_ (ref_d w gs a b i1 i2)
    pointwise [val_main_v35, val_main_v36, val_main_v37]
  · have h1 : (i0 : ℕ) < 3 := by omega
    refine Eq.trans ?_ (if_neg h).symm
    pointwise [val_main_v35, val_main_v36, val_main_v37]
    simp [h1]

theorem refAll_m : val_main_v40 (F := Ideal) gs a o = layers o (gm gs a) := by
  funext i
  idx_vars i
  by_cases h : (i0 : ℕ) = 3
  · obtain rfl : i0 = 3 := Fin.ext h
    refine Eq.trans ?_ (ref_m gs a i1 i2)
    pointwise [val_main_v38, val_main_v39, val_main_v40]
  · have h1 : (i0 : ℕ) < 3 := by omega
    refine Eq.trans ?_ (if_neg h).symm
    pointwise [val_main_v38, val_main_v39, val_main_v40]
    simp [h1]

theorem refAll_v : val_main_v43 (F := Ideal) gs b o = layers o (gv gs b) := by
  funext i
  idx_vars i
  by_cases h : (i0 : ℕ) = 3
  · obtain rfl : i0 = 3 := Fin.ext h
    refine Eq.trans ?_ (ref_v gs b i1 i2)
    pointwise [val_main_v41, val_main_v42, val_main_v43]
  · have h1 : (i0 : ℕ) < 3 := by omega
    refine Eq.trans ?_ (if_neg h).symm
    pointwise [val_main_v41, val_main_v42, val_main_v43]
    simp [h1]

end

/-- The claim: both programs end with the same gradient, step and moments of all layers, whatever the arguments hold. -/
theorem algebraic : Cert.algebraic_AdamDIdeal_AdamDRefIdeal (hAdamDIdeal := Cert.AdamDIdeal.Gen.facts) (hAdamDRefIdeal := Cert.AdamDRefIdeal.Gen.facts) := by
  intro m g m' g' _ hagree
  refine ⟨fun c => layers (m ((c : Thread nD τ).loc main_arg4)) (grad (m ((c : Thread nD τ).loc main_arg1))),
    fun c => layers (m ((c : Thread nD τ).loc main_arg5)) (gd (m ((c : Thread nD τ).loc main_arg0)) (m ((c : Thread nD τ).loc main_arg1)) (m ((c : Thread nD τ).loc main_arg2)) (m ((c : Thread nD τ).loc main_arg3))),
    fun c => layers (m ((c : Thread nD τ).loc main_arg6)) (gm (m ((c : Thread nD τ).loc main_arg1)) (m ((c : Thread nD τ).loc main_arg2))),
    fun c => layers (m ((c : Thread nD τ).loc main_arg7)) (gv (m ((c : Thread nD τ).loc main_arg1)) (m ((c : Thread nD τ).loc main_arg3))), ?_, ?_⟩
  · refine (θ_run defs _ _).mono (fun r h c => ?_) (run_blocks (F := Ideal) m g)
    exact ⟨(h c).1.trans (final_g m c), (h c).2.1.trans (final_d m c), (h c).2.2.1.trans (final_m m c), (h c).2.2.2.1.trans (final_v m c), (h c).2.2.2.2⟩
  · refine (θ_run Cert.AdamDRefIdeal.defs _ _).mono (fun r h c => ?_) (Cert.AdamDRefIdeal.Value.run (F := Ideal) m' g')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [h1, h4]
      exact (Cert.AdamDRefIdeal.Read.val_main_v34_eq _ _).trans (refAll_g _ _)
    · rw [h0, h1, h2, h3, h5]
      exact (Cert.AdamDRefIdeal.Read.val_main_v37_eq _ _ _ _ _).trans (refAll_d _ _ _ _ _)
    · rw [h1, h2, h6]
      exact (Cert.AdamDRefIdeal.Read.val_main_v40_eq _ _ _).trans (refAll_m _ _ _)
    · rw [h1, h3, h7]
      exact (Cert.AdamDRefIdeal.Read.val_main_v43_eq _ _ _).trans (refAll_v _ _ _)

end Cert.AdamDProof
end
-- ==== Proof.DilFrame.lean ====
/- The frame of the dilated attention's gradient, idealized: what each grid point leaves in the output blocks, the
   pipeline's proof data, the body's obligation and the run. -/
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 20 tile its block (8 stores of `S128x128`, checked by the kernel's evaluation: Lib/Ring.lean `Piece.tiledL`, linear in the pieces, through a loop's `@[irreducible]` trip theorem too), so they cover it. -/
theorem cover0_A_20 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) (y : S128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).1 S128x128.size (by sl_kernel_rfl) y

/-- What case A leaves in output 20's staging buffer: its pieces read back over junk. -/
def out0_A_20 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) : Vec F S128x1024 .f32 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).1)

/-- Case A's pieces for output 21 tile its block (8 stores of `S128x128`, checked by the kernel's evaluation: Lib/Ring.lean `Piece.tiledL`, linear in the pieces, through a loop's `@[irreducible]` trip theorem too), so they cover it. -/
theorem cover0_A_21 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) (y : S128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).2.1 S128x128.size (by sl_kernel_rfl) y

/-- What case A leaves in output 21's staging buffer: its pieces read back over junk. -/
def out0_A_21 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) : Vec F S128x1024 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).2.1)

/-- Case A's pieces for output 22 tile its block (8 stores of `S128x128`, checked by the kernel's evaluation: Lib/Ring.lean `Piece.tiledL`, linear in the pieces, through a loop's `@[irreducible]` trip theorem too), so they cover it. -/
theorem cover0_A_22 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) (y : S128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).2.2.1 S128x128.size (by sl_kernel_rfl) y

/-- What case A leaves in output 22's staging buffer: its pieces read back over junk. -/
def out0_A_22 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) : Vec F S128x1024 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).2.2.1)

/-- Case A's pieces for output 23 are of SEVERAL sizes (9 stores of `S1x128x256`, `S8x128x256`): cut into blocks of `![1, 128, 256]` they tile its block (checked by the kernel's evaluation: Lib/Ring.lean `Piece.tiledBy`), so they cover it. -/
theorem cover0_A_23 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) (y : S8x128x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).2.2.2.1 ![1, 128, 256] (by sl_kernel_rfl) y

/-- What case A leaves in output 23's staging buffer: its pieces read back over junk. -/
def out0_A_23 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) : Vec F S8x128x256 .f32 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19).2.2.2.1)

/-- Case B's pieces for output 20 tile its block (8 stores of `S128x128`, checked by the kernel's evaluation: Lib/Ring.lean `Piece.tiledL`, linear in the pieces, through a loop's `@[irreducible]` trip theorem too), so they cover it. -/
theorem cover0_B_20 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : ¬cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) (xo23 : Vec F S8x128x256 .f32) (y : S128x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xo23).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xo23).1 S128x128.size (by sl_kernel_rfl) y

/-- What case B leaves in output 20's staging buffer: its pieces read back over junk. -/
def out0_B_20 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : ¬cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) (xo23 : Vec F S8x128x256 .f32) : Vec F S128x1024 .f32 :=
  VO0_20.read (Elt F) (VO0_20.writes (Elt F) VO0_20.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xo23).1)

/-- Case B's pieces for output 21 tile its block (8 stores of `S128x128`, checked by the kernel's evaluation: Lib/Ring.lean `Piece.tiledL`, linear in the pieces, through a loop's `@[irreducible]` trip theorem too), so they cover it. -/
theorem cover0_B_21 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : ¬cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) (xo23 : Vec F S8x128x256 .f32) (y : S128x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xo23).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xo23).2.1 S128x128.size (by sl_kernel_rfl) y

/-- What case B leaves in output 21's staging buffer: its pieces read back over junk. -/
def out0_B_21 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : ¬cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) (xo23 : Vec F S8x128x256 .f32) : Vec F S128x1024 .f32 :=
  VO0_21.read (Elt F) (VO0_21.writes (Elt F) VO0_21.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xo23).2.1)

/-- Case B's pieces for output 22 tile its block (8 stores of `S128x128`, checked by the kernel's evaluation: Lib/Ring.lean `Piece.tiledL`, linear in the pieces, through a loop's `@[irreducible]` trip theorem too), so they cover it. -/
theorem cover0_B_22 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : ¬cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) (xo23 : Vec F S8x128x256 .f32) (y : S128x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xo23).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xo23).2.2.1 S128x128.size (by sl_kernel_rfl) y

/-- What case B leaves in output 22's staging buffer: its pieces read back over junk. -/
def out0_B_22 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : ¬cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) (xo23 : Vec F S8x128x256 .f32) : Vec F S128x1024 .f32 :=
  VO0_22.read (Elt F) (VO0_22.writes (Elt F) VO0_22.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xo23).2.2.1)

/-- Case B's pieces for output 23 tile its block (8 stores of `S1x128x256`, checked by the kernel's evaluation: Lib/Ring.lean `Piece.tiledL`, linear in the pieces, through a loop's `@[irreducible]` trip theorem too), so they cover it. -/
theorem cover0_B_23 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : ¬cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) (xo23 : Vec F S8x128x256 .f32) (y : S8x128x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xo23).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xo23).2.2.2.1 S1x128x256.size (by sl_kernel_rfl) y

/-- What case B leaves in output 23's staging buffer: its pieces read back over junk. -/
def out0_B_23 (c : Dev nD) (i : grid0.Coords) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S128x1024 .f32) (harg19 : arg19.IsWhole) (arg20 : Memref sig .tc .vmem S8x128x256 .f32) (harg20 : arg20.IsWhole) (arg21 : Memref sig .tc .vmem S8x256x128 .f32) (harg21 : arg21.IsWhole) (arg22 : Memref sig .tc .vmem S128x1024 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S8x128x256 .f32) (harg25 : arg25.IsWhole) (hc0 : ¬cond0_0 i)
    (x0 : Vec F S128x1024 .bf16) (x1 : Vec F S128x1024 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S128x1024 .bf16) (x9 : Vec F S128x1024 .bf16) (x10 : Vec F S128x1024 .bf16) (x11 : Vec F S128x1024 .bf16) (x12 : Vec F S128x1024 .f32) (x13 : Vec F S128x1024 .f32) (x14 : Vec F S128x1024 .f32) (x15 : Vec F S128x1024 .f32) (x16 : Vec F S128x1024 .f32) (x17 : Vec F S128x1024 .f32) (x18 : Vec F S8x128x256 .f32) (x19 : Vec F S8x256x128 .f32) (xo23 : Vec F S8x128x256 .f32) : Vec F S8x128x256 .f32 :=
  VO0_23.read (Elt F) (VO0_23.writes (Elt F) VO0_23.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 x15 x16 x17 x18 x19 xo23).2.2.2.1)

/-! ## What the outputs hold after each point -/

/-- What a point of the first case leaves in the outputs. -/
def caseA (c : Dev nD) (t : Fin cfg0.N) (h0 : t.val % 64 = 0) : Vec F S128x1024 .f32 × Vec F S128x1024 .f32 × Vec F S128x1024 .f32 × Vec F S8x128x256 .f32 :=
  (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t))

/-- What a point of the other case leaves in the outputs, over what the point before left. -/
def caseB (c : Dev nD) (t : Fin cfg0.N) (h0 : ¬t.val % 64 = 0) (xo : Vec F S128x1024 .f32 × Vec F S128x1024 .f32 × Vec F S128x1024 .f32 × Vec F S8x128x256 .f32) : Vec F S128x1024 .f32 × Vec F S128x1024 .f32 × Vec F S128x1024 .f32 × Vec F S8x128x256 .f32 :=
  (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) xo.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) xo.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) xo.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) xo.2.2.2)

/-- What the outputs' staging buffers hold after the body at position `n`, in window order. -/
def outsAt0 (c : Dev nD) : (n : ℕ) → n < cfg0.N → Vec F S128x1024 .f32 × Vec F S128x1024 .f32 × Vec F S128x1024 .f32 × Vec F S8x128x256 .f32
  | 0, hn => caseA m c ⟨0, hn⟩ (Nat.zero_mod _)
  | n + 1, hn =>
    if h0 : (n + 1) % 64 = 0 then caseA m c ⟨n + 1, hn⟩ h0
    else caseB m c ⟨n + 1, hn⟩ h0 (outsAt0 c n (Nat.lt_of_succ_lt hn))

theorem outsAt0_eqA (c : Dev nD) (t : Fin cfg0.N) (h0 : t.val % 64 = 0) : outsAt0 m c t.val t.isLt = caseA m c t h0 := by
  obtain ⟨n, hn⟩ := t
  cases n with
  | zero => rfl
  | succ n => exact dif_pos h0

theorem outsAt0_eqB (c : Dev nD) (t : Fin cfg0.N) (h0 : ¬t.val % 64 = 0) :
    outsAt0 m c t.val t.isLt = caseB m c t h0 (outsAt0 m c (t.val - 1) (Nat.lt_of_le_of_lt (Nat.sub_le _ _) t.isLt)) := by
  obtain ⟨n, hn⟩ := t
  cases n with
  | zero => exact absurd (Nat.zero_mod _) h0
  | succ n => exact dif_neg h0

/-- A point of the first case: that case's contents. -/
theorem outsAt0_A (c : Dev nD) (t : Fin cfg0.N) (h0 : t.val % 64 = 0) :
    outsAt0 m c t.val t.isLt = (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) :=
  outsAt0_eqA m c t h0

/-- A point of the other case: that case's contents, over what the point before left. -/
theorem outsAt0_B (c : Dev nD) (t : Fin cfg0.N) (h0 : ¬t.val % 64 = 0) :
    outsAt0 m c t.val t.isLt = (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2) :=
  outsAt0_eqB m c t h0

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t.val t.isLt).1
    | ⟨21, _⟩ => (outsAt0 m c t.val t.isLt).2.1
    | ⟨22, _⟩ => (outsAt0 m c t.val t.isLt).2.2.1
    | ⟨23, _⟩ => (outsAt0 m c t.val t.isLt).2.2.2
    | ⟨_ + 24, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = (outsAt0 m c t.val t.isLt).1 := by dsimp only [dats]
theorem after0_21 (c : Dev nD) (t : Fin cfg0.N) : (dats m 0 c).after 21 t = (outsAt0 m c t.val t.isLt).2.1 := by dsimp only [dats]
theorem after0_22 (c : Dev nD) (t : Fin cfg0.N) : (dats m 0 c).after 22 t = (outsAt0 m c t.val t.isLt).2.2.1 := by dsimp only [dats]
theorem after0_23 (c : Dev nD) (t : Fin cfg0.N) : (dats m 0 c).after 23 t = (outsAt0 m c t.val t.isLt).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
/-- At a point of case B output 23's current staging buffer holds what the body left at the point before: the point is
    not the first, the buffer was not written back between (`flush0_23`), the window is live and uncut (Lib/Pipeline/Frame.lean
    `Dat.before_out_kept`). -/
theorem before0_23_B (c : Dev nD) (t : Fin cfg0.N) (h0 : ¬t.val % 64 = 0) (d) :
    (dats m 0 c).before 23 t d = (outsAt0 m c (t.val - 1) (Nat.lt_of_le_of_lt (Nat.sub_le _ _) t.isLt)).2.2.2 := by
  have hN : t.val < 64 := lt_of_lt_of_eq t.isLt (show cfg0.N = 64 from N_0)
  rw [Dat.before_out_kept _ 23 rfl t (by omega) (Bool.eq_false_iff.mpr fun h => by have := (flush0_23 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 4800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  have hN : t.val < 64 := lt_of_lt_of_eq t.isLt (show cfg0.N = 64 from N_0)
  by_cases h0 : t.val % 64 = 0
  · rw [outsAt0_A m c t h0]
    unfold out0_A_20 out0_A_21 out0_A_22 out0_A_23; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexists _; iexact H22
    isplitl [H23]; · iexists _; iexact H23
    iintro ⟨H0, H1, H2, H3, H4, H5, H6, H7, H8, H9, H10, H11, H12, H13, H14, H15, H16, H17, H18, H19, ⟨%e20, H20⟩, ⟨%e21, H21⟩, ⟨%e22, H22⟩, ⟨%e23, H23⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]
    · unfold owns; iexists _; isplitr
      swap; · iexact H20
      ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H21]
    · unfold owns; iexists _; isplitr
      swap; · iexact H21
      ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H22]
    · unfold owns; iexists _; isplitr
      swap; · iexact H22
      ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_23_B m c t h0]
    unfold out0_B_20 out0_B_21 out0_B_22 out0_B_23; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexists _; iexact H22
    isplitl [H23]; · iexact H23
    iintro ⟨H0, H1, H2, H3, H4, H5, H6, H7, H8, H9, H10, H11, H12, H13, H14, H15, H16, H17, H18, H19, ⟨%e20, H20⟩, ⟨%e21, H21⟩, ⟨%e22, H22⟩, ⟨%e23, H23⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]
    · unfold owns; iexists _; isplitr
      swap; · iexact H20
      ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H21]
    · unfold owns; iexists _; isplitr
      swap; · iexact H21
      ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H22]
    · unfold owns; iexists _; isplitr
      swap; · iexact H22
      ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H23
    ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.DilSpec.lean ====
/- The gradient of one dilated-attention branch as sums over all positions, and the laws of sums, words and bits by which a
   computation over windows of 256 positions is read as such a sum. -/
module

public import Idealize.ShloMosaic.Lib.Pipeline.ValueKit
public import Idealize.ShloMosaic.Lib.Pointwise
public import Idealize.ShloMosaic.Lib.Tactic

@[expose] public section

set_option maxRecDepth 16384

noncomputable section

open Idealize.ShloMosaic

namespace Cert.DilProof

/-! ## The gradient -/

/-- 1 / √128, as the programs spell it. -/
def scale : EReal := Ideal.ofBits .f32 0x3DB504F3#32

/-- The bucket of a distance, a word: the T5 rule, with the logarithm of the far distances. -/
def bucket (x : BitVec 32) : BitVec 32 :=
  IntOp.addi (Scalar.select (IntOp.cmpi .sgt x 0#32) 16#32 0#32)
    (Scalar.select (IntOp.cmpi .slt (IntOp.absi x) 8#32) (IntOp.absi x)
      (IntOp.minsi (IntOp.addi 8#32 (FloatOps.fptosi (F := Ideal) (φ := .f32) 32
        (Ideal.div (Ideal.log (Ideal.div (FloatOps.sitofp (F := Ideal) .f32 (IntOp.maxsi (IntOp.absi x) 1#32)) (Ideal.ofBits .f32 0x41000000#32))) (Ideal.ofBits .f32 0x409B43D5#32)
          * Ideal.ofBits .f32 0x41000000#32))) 15#32))

/-- That bucket as the row of a table of 32 rows. -/
def row (x : BitVec 32) : Fin 32 :=
  ⟨min (Scalar.select (IntOp.cmpi .slt (bucket x) 0#32) (IntOp.addi (bucket x) 32#32) (bucket x)).toInt.toNat 31, by omega⟩

section
variable (a0 : (⟨2, ![8192, 4096]⟩ : Shape).Idx → EReal) (a1 : (⟨2, ![8192, 2048]⟩ : Shape).Idx → EReal)
  (a2 : (⟨2, ![8192, 1024]⟩ : Shape).Idx → EReal) (a3 : (⟨2, ![8192, 8]⟩ : Shape).Idx → EReal) (a4 : (⟨2, ![32, 8]⟩ : Shape).Idx → EReal)

/-- Head `h`'s query at position `s`. -/
def qAt (h : Fin 8) (s : Fin 8192) (l : Fin 128) : EReal := a0 (ix2 s ⟨h.val * 128 + l.val, by omega⟩)
/-- Head `h`'s key at position `t`. -/
def kAt (h : Fin 8) (t : Fin 8192) (l : Fin 128) : EReal := a0 (ix2 t ⟨1024 + (h.val * 128 + l.val), by omega⟩)
/-- Head `h`'s value at position `t`. -/
def vAt (h : Fin 8) (t : Fin 8192) (l : Fin 128) : EReal := a0 (ix2 t ⟨2048 + (h.val * 128 + l.val), by omega⟩)
/-- The gradient of head `h`'s output at position `s`. -/
def gAt (h : Fin 8) (s : Fin 8192) (l : Fin 128) : EReal := a1 (ix2 s ⟨h.val * 128 + l.val, by omega⟩)
/-- The output times its gradient, summed over the head's columns. -/
def delta (h : Fin 8) (s : Fin 8192) : EReal := ∑ l : Fin 128, gAt a1 h s l * a2 (ix2 s ⟨h.val * 128 + l.val, by omega⟩)

/-- The attention weight of query `s` on key `t`. -/
def wt (h : Fin 8) (s t : Fin 8192) : EReal :=
  Ideal.exp ((∑ l : Fin 128, qAt a0 h s l * kAt a0 h t l) * scale + a4 (ix2 (row (BitVec.ofInt 32 ((t.val : ℤ) - s.val))) h) - a3 (ix2 s h))

/-- The gradient of the score of query `s` on key `t`. -/
def dsc (h : Fin 8) (s t : Fin 8192) : EReal :=
  wt a0 a3 a4 h s t * ((∑ l : Fin 128, gAt a1 h s l * vAt a0 h t l) - delta a1 a2 h s)

/-- Query `s` sees key `t`. -/
def near (s t : ℕ) : Prop := t ≤ s + 64 ∧ s ≤ t + 64
instance (s t : ℕ) : Decidable (near s t) := by unfold near; infer_instance

/-- The gradient of the queries. -/
def dq (s : Fin 8192) (h : Fin 8) (l : Fin 128) : EReal :=
  (∑ t : Fin 8192, if near s.val t.val then dsc a0 a1 a2 a3 a4 h s t * kAt a0 h t l else 0) * scale
/-- The gradient of the keys. -/
def dk (t : Fin 8192) (h : Fin 8) (l : Fin 128) : EReal :=
  (∑ s : Fin 8192, if near s.val t.val then dsc a0 a1 a2 a3 a4 h s t * qAt a0 h s l else 0) * scale
/-- The gradient of the values. -/
def dv (t : Fin 8192) (h : Fin 8) (l : Fin 128) : EReal :=
  ∑ s : Fin 8192, if near s.val t.val then wt a0 a3 a4 h s t * gAt a1 h s l else 0

/-- Key `j` of the window of block `n` is a position that query `i` of the block sees. -/
def ok (n i j : ℕ) : Prop := (64 ≤ n * 128 + j ∧ n * 128 + j < 8256) ∧ (i ≤ j ∧ j ≤ i + 128)
instance (n i j : ℕ) : Decidable (ok n i j) := by unfold ok; infer_instance

/-- The gradient of the bias of query `i` of a block and key `j` of its window, summed over the blocks. -/
def db (h : Fin 8) (i : Fin 128) (j : Fin 256) : EReal :=
  ∑ n : Fin 64, if hv : ok n.val i.val j.val then
    dsc a0 a1 a2 a3 a4 h ⟨n.val * 128 + i.val, by omega⟩ ⟨n.val * 128 + j.val - 64, by have := hv.1; omega⟩ else 0

end

/-! ## Sums -/

/-- A sum over the positions of block `n`'s window that position `i` of the block sees is one over all positions that it sees. -/
theorem window_sum (f : Fin 8192 → EReal) (n : Fin 64) (i : Fin 128) :
    (∑ w : Fin 256, if hv : ok n.val i.val w.val then f ⟨n.val * 128 + w.val - 64, by have := hv.1; omega⟩ else 0)
      = ∑ s : Fin 8192, if near s.val (n.val * 128 + i.val) then f s else 0 := by
  let F : ℕ → EReal := fun x => if h : x < 8192 then f ⟨x, h⟩ else 0
  have hF : ∀ s : Fin 8192, f s = F s.val := fun s => by simp only [F, s.isLt, dite_true]
  have hl : ∀ w : Fin 256, (if hv : ok n.val i.val w.val then f ⟨n.val * 128 + w.val - 64, by have := hv.1; omega⟩ else 0)
      = if ok n.val i.val w.val then F (n.val * 128 + w.val - 64) else 0 := fun w => by
    split
    · exact hF _
    · rfl
  rw [Finset.sum_congr rfl fun w _ => hl w]
  simp only [hF]
  rw [← Finset.sum_filter, ← Finset.sum_filter]
  refine Finset.sum_bij' (fun w hw => ⟨n.val * 128 + w.val - 64, by have := (Finset.mem_filter.1 hw).2.1; omega⟩)
    (fun s hs => ⟨s.val + 64 - n.val * 128, by have := (Finset.mem_filter.1 hs).2; unfold near at this; omega⟩) ?_ ?_ ?_ ?_ ?_
  · intro w hw
    have := (Finset.mem_filter.1 hw).2
    refine Finset.mem_filter.2 ⟨Finset.mem_univ _, ?_⟩
    unfold ok at this; unfold near; dsimp only; omega
  · intro s hs
    have := (Finset.mem_filter.1 hs).2
    refine Finset.mem_filter.2 ⟨Finset.mem_univ _, ?_⟩
    unfold near at this; unfold ok; dsimp only; omega
  · intro w hw
    have := (Finset.mem_filter.1 hw).2
    unfold ok at this
    exact Fin.ext (by dsimp only; omega)
  · intro s hs
    have := (Finset.mem_filter.1 hs).2
    unfold near at this
    exact Fin.ext (by dsimp only; omega)
  · intro w hw; rfl

/-- The windows' contributions to one position `t`, each window's summed over its block's queries, are the sum over all
    queries that see `t`. -/
theorem scatter_sum (f : Fin 8192 → Fin 8192 → EReal) (t : Fin 8192) :
    (∑ n : Fin 64, ∑ w : Fin 256, if n.val * 128 + w.val = t.val + 64 then
        ∑ i : Fin 128, if hv : ok n.val i.val w.val then f ⟨n.val * 128 + i.val, by omega⟩ ⟨n.val * 128 + w.val - 64, by have := hv.1; omega⟩ else 0
      else 0)
      = ∑ s : Fin 8192, if near s.val t.val then f s t else 0 := by
  have h1 : ∀ n : Fin 64, (∑ w : Fin 256, if n.val * 128 + w.val = t.val + 64 then
        ∑ i : Fin 128, if hv : ok n.val i.val w.val then f ⟨n.val * 128 + i.val, by omega⟩ ⟨n.val * 128 + w.val - 64, by have := hv.1; omega⟩ else 0
      else 0) = ∑ i : Fin 128, if near (n.val * 128 + i.val) t.val then f ⟨n.val * 128 + i.val, by omega⟩ t else 0 := by
    intro n
    by_cases hn : n.val * 128 ≤ t.val + 64 ∧ t.val + 64 < n.val * 128 + 256
    · have hw : t.val + 64 - n.val * 128 < 256 := by omega
      rw [Finset.sum_eq_single_of_mem (⟨t.val + 64 - n.val * 128, hw⟩ : Fin 256) (Finset.mem_univ _)
        (fun w _ hne => if_neg fun e => hne (Fin.ext (by dsimp only; omega))), if_pos (by dsimp only; omega)]
      refine Finset.sum_congr rfl fun i _ => ?_
      by_cases hv : ok n.val i.val (t.val + 64 - n.val * 128)
      · rw [dif_pos hv, if_pos (by unfold ok at hv; unfold near; omega)]
        congr 1
        exact Fin.ext (by dsimp only; omega)
      · rw [dif_neg hv, if_neg (by unfold ok at hv; unfold near; omega)]
    · rw [Finset.sum_eq_zero fun w _ => if_neg (by omega), Finset.sum_eq_zero fun i _ => if_neg (by unfold near; omega)]
  rw [Finset.sum_congr rfl fun n _ => h1 n]
  exact Fin.sum_mul_add_congr fun n i hl => rfl

theorem scale_eq : scale = ((11863283 * (2 ^ 27)⁻¹ : ℝ) : EReal) := by
  unfold scale Ideal.ofBits Ideal.ieee
  simp (config := { decide := true })

theorem scale_nonneg : 0 ≤ scale := by
  rw [scale_eq]
  exact EReal.coe_nonneg.2 (by positivity)

theorem scale_ne_top : scale ≠ ⊤ := by
  rw [scale_eq]
  exact EReal.coe_ne_top _

/-- The scale comes out of a sum. -/
theorem sum_scale {ι : Type} (s : Finset ι) (f : ι → EReal) : (∑ i ∈ s, f i) * scale = ∑ i ∈ s, f i * scale := by
  classical
  induction s using Finset.induction_on with
  | empty => simp
  | insert a s ha ih => rw [Finset.sum_insert ha, Finset.sum_insert ha, EReal.right_distrib_of_nonneg_of_ne_top scale_nonneg scale_ne_top, ih]

end Cert.DilProof
end
-- ==== Proof.DilPay.lean ====
/- What the kernel's body computes of one head at one grid point, element by element, over windows left as they are. -/
module

public import proofs.«01_k».proof.Proof.DilSpec
public import proofs.«01_k».proof.Proof.DilFrame

@[expose] public section

set_option maxRecDepth 16384

noncomputable section

open Idealize.ShloMosaic Idealize.ShloMosaic.TcCoe

namespace Cert.DilProof

open Cert.KernelIdeal Cert.KernelIdeal.Gen

section
variable (M : IVec S128x256 1) (A : Vec Ideal S64x128 .bf16) (B : Vec Ideal S128x128 .bf16) (C : Vec Ideal S64x128 .bf16)
  (q : Vec Ideal S128x128 .bf16) (b : Vec Ideal S1x128x256 .f32) (l : Vec Ideal S128x128 .f32)

theorem pay6_of (i : Fin 128) (w : Fin 256) (hM : M (ix2 i w) = 1#1) (s : EReal) (hl : ∀ x, l (ix2 i x) = s) :
    (k0_pay6 (F := Ideal) M A B C q b l l (ix2 i w) : EReal)
      = Ideal.exp ((∑ x : Fin 128, q (ix2 i x) * k0_pay5 A B C (ix2 w x)) * scale + b (ix3 (0 : Fin 1) i w) - s) := by
  pointwise [k0_pay6]
  simp only [hM, hl, Scalar.select, dite_eq_ite, ite_self]
  rfl

theorem pay6_not (i : Fin 128) (w : Fin 256) (hM : ¬M (ix2 i w) = 1#1) : (k0_pay6 (F := Ideal) M A B C q b l l (ix2 i w) : EReal) = 0 := by
  pointwise [k0_pay6]
  exact if_neg hM

theorem pay7_at (i : Fin 128) (w : Fin 256) :
    (k0_pay7 (F := Ideal) A B C q (ix2 i w) : EReal) = ∑ x : Fin 128, q (ix2 i x) * k0_pay5 A B C (ix2 w x) := by
  have e : k0_pay7 (F := Ideal) A B C q = matmul dot_S128x128_S256x128_S128x256_1_1_0_0_n_n none q (k0_pay5 A B C) (constant S128x256 .f32 0x00000000#32) := rfl
  rw [e]
  pointwise

theorem pay9_of (X Y : FVec Ideal S128x256 .f32) (i : Fin 128) (w : Fin 256) (s : EReal) (hl : ∀ x, l (ix2 i x) = s) :
    (k0_pay9 (F := Ideal) X Y (k0_pay8 l) l (ix2 i w) : EReal) = X (ix2 i w) * (Y (ix2 i w) - s) := by
  pointwise [k0_pay9, k0_pay8]
  simp only [hl, dite_eq_ite, ite_self]

theorem pay10_at (K : FVec Ideal S256x128 .bf16) (X Y : FVec Ideal S128x256 .f32) (i : Fin 128) (x : Fin 128) :
    (k0_pay10 (F := Ideal) K X Y (k0_pay8 l) l (ix2 i x) : EReal) = (∑ w : Fin 256, k0_pay9 (F := Ideal) X Y (k0_pay8 l) l (ix2 i w) * K (ix2 w x)) * scale := by
  pointwise [k0_pay10]
  rfl

theorem pay11_at (D : Vec Ideal S1x128x256 .f32) (X Y : FVec Ideal S128x256 .f32) (z : Fin 1) (i : Fin 128) (w : Fin 256) :
    (k0_pay11 (F := Ideal) X Y (k0_pay8 l) l D (ix3 z i w) : EReal) = D (ix3 (0 : Fin 1) i w) + k0_pay9 (F := Ideal) X Y (k0_pay8 l) l (ix2 i w) := by
  pointwise [k0_pay11]
end

section
variable (M : IVec S256x128 1) (A : Vec Ideal S64x128 .bf16) (B : Vec Ideal S128x128 .bf16) (C : Vec Ideal S64x128 .bf16)
  (k : Vec Ideal S128x128 .bf16) (b : Vec Ideal S1x256x128 .f32) (la : Vec Ideal S64x128 .f32) (lb : Vec Ideal S128x128 .f32) (lc : Vec Ideal S64x128 .f32)

theorem pay14_at (w : Fin 256) (j : Fin 128) : (k0_pay14 (F := Ideal) A B C k (ix2 w j) : EReal) = (∑ x : Fin 128, k0_pay5 A B C (ix2 w x) * k (ix2 j x)) * scale := by
  have e : k0_pay12 (F := Ideal) A B C = k0_pay5 A B C := rfl
  pointwise [k0_pay14]
  rfl

/-- A row's value in a window of three blocks whose every column holds it. -/
def col (la : Vec Ideal S64x128 .f32) (lb : Vec Ideal S128x128 .f32) (lc : Vec Ideal S64x128 .f32) (w : Fin 256) (j : Fin 128) : EReal :=
  if h : w.val < 64 then la (ix2 ⟨w.val, h⟩ j) else if h : w.val - 64 < 128 then lb (ix2 ⟨w.val - 64, h⟩ j) else lc (ix2 ⟨w.val - 64 - 128, by omega⟩ j)

theorem pay15_of (X : FVec Ideal S256x128 .f32) (w : Fin 256) (j : Fin 128) (hM : M (ix2 w j) = 1#1) :
    (k0_pay15 (F := Ideal) M X b la lb lc (ix2 w j) : EReal) = Ideal.exp (X (ix2 w j) + b (ix3 (0 : Fin 1) w j) - col la lb lc w j) := by
  pointwise [k0_pay15]
  simp only [hM, Scalar.select]
  rfl

theorem pay15_not (X : FVec Ideal S256x128 .f32) (w : Fin 256) (j : Fin 128) (hM : ¬M (ix2 w j) = 1#1) :
    (k0_pay15 (F := Ideal) M X b la lb lc (ix2 w j) : EReal) = 0 := by
  pointwise [k0_pay15]
  exact if_neg hM

theorem pay16_at (O : FVec Ideal S256x128 .bf16) (X : FVec Ideal S256x128 .f32) (j x : Fin 128) :
    (k0_pay16 (F := Ideal) M O X b la lb lc (ix2 j x) : EReal) = ∑ w : Fin 256, k0_pay15 (F := Ideal) M X b la lb lc (ix2 w j) * O (ix2 w x) := by
  pointwise [k0_pay16]

/-- The gradient of the scores over a window of queries. -/
def ds2 (M : IVec S256x128 1) (O : FVec Ideal S256x128 .bf16) (X : FVec Ideal S256x128 .f32) (b : Vec Ideal S1x256x128 .f32)
    (la : Vec Ideal S64x128 .f32) (lb : Vec Ideal S128x128 .f32) (lc : Vec Ideal S64x128 .f32) (v : Vec Ideal S128x128 .bf16)
    (da : Vec Ideal S64x128 .f32) (db : Vec Ideal S128x128 .f32) (dc : Vec Ideal S64x128 .f32) : FVec Ideal S256x128 .f32 :=
  mulf (k0_pay15 (F := Ideal) M X b la lb lc) (subf (matmul (φ₂ := .f32) dot_S256x128_S128x128_S256x128_1_1_0_0_n_n none O v (constant S256x128 .f32 0x00000000#32))
    (concatenate S256x128 0 [⟨S64x128, shapeCast S64x128 da shapeCasts_S64x128_S64x128⟩,
      ⟨S128x128, shapeCast S128x128 db shapeCasts_S128x128_S128x128⟩, ⟨S64x128, shapeCast S64x128 dc shapeCasts_S64x128_S64x128⟩] concatenates_S64x128_S128x128_S64x128_S256x128_d0))

theorem ds2_at (O : FVec Ideal S256x128 .bf16) (X : FVec Ideal S256x128 .f32) (v : Vec Ideal S128x128 .bf16)
    (da : Vec Ideal S64x128 .f32) (db : Vec Ideal S128x128 .f32) (dc : Vec Ideal S64x128 .f32) (w : Fin 256) (j : Fin 128) :
    (ds2 M O X b la lb lc v da db dc (ix2 w j) : EReal)
      = k0_pay15 (F := Ideal) M X b la lb lc (ix2 w j) * ((∑ x : Fin 128, O (ix2 w x) * v (ix2 j x)) - col da db dc w j) := by
  pointwise [ds2]
  rfl

theorem pay17_at (Q O : FVec Ideal S256x128 .bf16) (X : FVec Ideal S256x128 .f32) (v : Vec Ideal S128x128 .bf16)
    (da : Vec Ideal S64x128 .f32) (db : Vec Ideal S128x128 .f32) (dc : Vec Ideal S64x128 .f32) (j x : Fin 128) :
    (k0_pay17 (F := Ideal) M Q O X b la lb lc v da db dc (ix2 j x) : EReal) = (∑ w : Fin 256, ds2 M O X b la lb lc v da db dc (ix2 w j) * Q (ix2 w x)) * scale := by
  have e : k0_pay17 (F := Ideal) M Q O X b la lb lc v da db dc
      = mulf (matmul dot_S256x128_S256x128_S128x128_0_0_1_1_n_n none (truncf .bf16 (ds2 M O X b la lb lc v da db dc) bitsLt_bf16_f32) Q (constant S128x128 .f32 0x00000000#32))
        (broadcast S128x128 (Scalar.ofBits .f32 0x3DB504F3#32)) := by
    rfl
  rw [e]
  pointwise
  rfl
end

end Cert.DilProof
end
-- ==== Proof.DilWords.lean ====
/- The words and bits of the windows: distances, the band, the ends of the sequence. -/
module

public import Idealize.ShloMosaic.Lib.Pointwise
public import Idealize.ShloMosaic.Lib.Tactic

@[expose] public section

noncomputable section

open Idealize.ShloMosaic

namespace Cert.DilProof

/-! ## Words -/

/-- The distance of key `j` of a window from query `i` of its block. -/
theorem off1 (i j : ℕ) : IntOp.subi (IntOp.subi (BitVec.ofNat 32 j) 64#32) (BitVec.ofNat 32 i) = BitVec.ofInt 32 ((j : ℤ) - 64 - i) := by
  show BitVec.ofNat 32 j - 64#32 - BitVec.ofNat 32 i = _
  simp only [sub_eq_add_neg, BitVec.ofInt_add, BitVec.ofInt_neg, BitVec.ofInt_natCast, BitVec.sub_eq_add_neg]
  rfl

/-- The distance of key `c` of a block from query `w` of its window. -/
theorem off2 (c w : ℕ) : IntOp.subi (IntOp.addi (BitVec.ofNat 32 c) 64#32) (BitVec.ofNat 32 w) = BitVec.ofInt 32 ((c : ℤ) + 64 - w) := by
  show BitVec.ofNat 32 c + 64#32 - BitVec.ofNat 32 w = _
  simp only [sub_eq_add_neg, BitVec.ofInt_add, BitVec.ofInt_neg, BitVec.ofInt_natCast, BitVec.sub_eq_add_neg]
  rfl

/-- The band's bit. -/
theorem band1 : ∀ (i : Fin 128) (j : Fin 256), (IntOp.cmpi .sle (IntOp.absi (IntOp.subi (IntOp.subi (BitVec.ofNat 32 j.val) 64#32) (BitVec.ofNat 32 i.val))) 64#32 = 1#1)
    ↔ (i.val ≤ j.val ∧ j.val ≤ i.val + 128) := by decide +kernel

theorem band2 : ∀ (c : Fin 128) (w : Fin 256), (IntOp.cmpi .sle (IntOp.absi (IntOp.subi (IntOp.addi (BitVec.ofNat 32 c.val) 64#32) (BitVec.ofNat 32 w.val))) 64#32 = 1#1)
    ↔ (c.val ≤ w.val ∧ w.val ≤ c.val + 128) := by decide +kernel

/-- The window's position is one of the sequence's, both bits. -/
theorem inside : ∀ (n : Fin 64) (j : Fin 256),
    (IntOp.cmpi .sge (IntOp.subi (IntOp.addi (IntOp.muli (BitVec.ofNat 32 n.val) 128#32) (BitVec.ofNat 32 j.val)) 64#32) 0#32 = 1#1 ↔ 64 ≤ n.val * 128 + j.val)
    ∧ (IntOp.cmpi .slt (IntOp.subi (IntOp.addi (IntOp.muli (BitVec.ofNat 32 n.val) 128#32) (BitVec.ofNat 32 j.val)) 64#32) 8192#32 = 1#1 ↔ n.val * 128 + j.val < 8256) := by
  decide +kernel

theorem inside2 : ∀ (n : Fin 64) (j : Fin 256),
    (IntOp.cmpi .sge (IntOp.addi (IntOp.subi (IntOp.muli (BitVec.ofNat 32 n.val) 128#32) 64#32) (BitVec.ofNat 32 j.val)) 0#32 = 1#1 ↔ 64 ≤ n.val * 128 + j.val)
    ∧ (IntOp.cmpi .slt (IntOp.addi (IntOp.subi (IntOp.muli (BitVec.ofNat 32 n.val) 128#32) 64#32) (BitVec.ofNat 32 j.val)) 8192#32 = 1#1 ↔ n.val * 128 + j.val < 8256) := by
  decide +kernel

theorem andi_eq_one (a b : BitVec 1) : IntOp.andi a b = 1#1 ↔ a = 1#1 ∧ b = 1#1 := by
  revert a b; decide

end Cert.DilProof
end
-- ==== Proof.DilHost.lean ====
/- What the arrays that the host lines prepare for the gradient kernel hold, element by element: the row sums, their products with
   the output's gradient, and the two layouts of the bias. -/
module

public import proofs.«01_k».proof.Proof.DilSpec
public import proofs.«01_k».proof.Proof.DilWords
public import proofs.«01_k».proof.Proof.DilFrame
public import Idealize.ShloMosaic.Lib.StableHlo.ReadAt

@[expose] public section

set_option maxRecDepth 16384

noncomputable section

open Idealize.ShloMosaic Idealize.ShloMosaic.TcCoe

namespace Cert.DilProof

open Cert.KernelIdeal Cert.KernelIdeal.Gen

/-- A row of the bias table, gathered for query `i` of a block and key `j` of its window. -/
theorem gather1 (x : S32x8.Idx → EReal) (idx : IVec S128x256x1 32) (i : Fin 128) (j : Fin 256) (h : Fin 8) :
    Host.gather gather_S32x8_S128x256x1_S128x256x8_2_0_n_n_0_2_18 x idx (ix3 i j h) = x (ix2 ⟨min (idx (ix3 i j (0 : Fin 1))).toInt.toNat 31, by omega⟩ h) := by
  have hs : ∀ c, gather_S32x8_S128x256x1_S128x256x8_2_0_n_n_0_2_18.siIdx (ix3 i j h) c = ix3 i j (0 : Fin 1) := fun c => by
    have hc : c = ⟨0, by decide⟩ := Fin.ext (by have := c.isLt; change c.val < 1 at this; show c.val = 0; omega)
    subst hc
    funext b
    match b with
    | ⟨0, _⟩ => rfl
    | ⟨1, _⟩ => rfl
    | ⟨2, _⟩ => rfl
  refine congrArg x (funext fun a => Fin.ext ?_)
  match a with
  | ⟨0, _⟩ =>
    show min (idx (gather_S32x8_S128x256x1_S128x256x8_2_0_n_n_0_2_18.siIdx (ix3 i j h) _)).toInt.toNat 31 + 0 + 0 = _
    rw [hs]; rfl
  | ⟨1, _⟩ =>
    show 0 + 0 + h.val = h.val
    omega

/-- A row of the bias table, gathered for query `i` of a window and key `j` of its block. -/
theorem gather2 (x : S32x8.Idx → EReal) (idx : IVec S256x128x1 32) (i : Fin 256) (j : Fin 128) (h : Fin 8) :
    Host.gather gather_S32x8_S256x128x1_S256x128x8_2_0_n_n_0_2_18 x idx (ix3 i j h) = x (ix2 ⟨min (idx (ix3 i j (0 : Fin 1))).toInt.toNat 31, by omega⟩ h) := by
  have hs : ∀ c, gather_S32x8_S256x128x1_S256x128x8_2_0_n_n_0_2_18.siIdx (ix3 i j h) c = ix3 i j (0 : Fin 1) := fun c => by
    have hc : c = ⟨0, by decide⟩ := Fin.ext (by have := c.isLt; change c.val < 1 at this; show c.val = 0; omega)
    subst hc
    funext b
    match b with
    | ⟨0, _⟩ => rfl
    | ⟨1, _⟩ => rfl
    | ⟨2, _⟩ => rfl
  refine congrArg x (funext fun a => Fin.ext ?_)
  match a with
  | ⟨0, _⟩ =>
    show min (idx (gather_S32x8_S256x128x1_S256x128x8_2_0_n_n_0_2_18.siIdx (ix3 i j h) _)).toInt.toNat 31 + 0 + 0 = _
    rw [hs]; rfl
  | ⟨1, _⟩ =>
    show 0 + 0 + h.val = h.val
    omega

variable (m : (ℓ : Loc nD τ sig) → Buf (Elt Ideal) ℓ) (c : Dev nD)

/-- The launch's arrays. -/
abbrev a0 : S8192x4096.Idx → EReal := m (c, Proc.tc.devRef main_arg0)
abbrev a1 : S8192x2048.Idx → EReal := m (c, Proc.tc.devRef main_arg1)
abbrev a2 : S8192x1024.Idx → EReal := m (c, Proc.tc.devRef main_arg2)
abbrev a3 : S8192x8.Idx → EReal := m (c, Proc.tc.devRef main_arg3)
abbrev a4 : S32x8.Idx → EReal := m (c, Proc.tc.devRef main_arg4)

/-- The row sums, repeated along a head's columns. -/
theorem lse_at (s : Fin 8192) (h : Fin 8) (l : Fin 128) :
    (V m c main_v93 : S8192x1024.Idx → EReal) (ix2 s ⟨h.val * 128 + l.val, by omega⟩) = a3 m c (ix2 s h) := by
  unfold V
  after_reads_at

/-- The output times its gradient, summed over a head's columns and repeated along them. -/
theorem delta_at (s : Fin 8192) (h : Fin 8) (l : Fin 128) :
    (V m c main_v90 : S8192x1024.Idx → EReal) (ix2 s ⟨h.val * 128 + l.val, by omega⟩) = delta (a1 m c) (a2 m c) h s := by
  unfold V
  after_reads_at
  rfl

/-- The bias of query `i` of a block and key `j` of its window. -/
theorem bias1_at (h : Fin 8) (i : Fin 128) (j : Fin 256) :
    (V m c main_v49 : S8x128x256.Idx → EReal) (ix3 h i j) = a4 m c (ix2 (row (BitVec.ofInt 32 ((j.val : ℤ) - 64 - i.val))) h) := by
  unfold V
  after_reads_at
  rw [gather1]
  simp only [id]
  pointwise
  simp only [off1]
  rfl

/-- The bias of query `w` of a window and key `j` of its block. -/
theorem bias2_at (h : Fin 8) (w : Fin 256) (j : Fin 128) :
    (V m c main_v81 : S8x256x128.Idx → EReal) (ix3 h w j) = a4 m c (ix2 (row (BitVec.ofInt 32 ((j.val : ℤ) + 64 - w.val))) h) := by
  unfold V
  after_reads_at
  rw [gather2]
  simp only [id]
  pointwise
  simp only [off2]
  rfl

end Cert.DilProof
end
-- ==== Proof.DilBlocks.lean ====
/- What a grid point's windows hold of the launch's arrays, the three blocks round a point read as one window of 256 positions,
   and the bits of the two masks. -/
module

public import proofs.«01_k».proof.Proof.DilHost
public import Idealize.ShloMosaic.Lib.Pipeline.ReadBack

@[expose] public section

set_option maxRecDepth 16384

noncomputable section

open Idealize.ShloMosaic Idealize.ShloMosaic.TcCoe

namespace Cert.DilProof

open Cert.KernelIdeal Cert.KernelIdeal.Gen

/-! ## The masks -/

theorem coord : ∀ t : Fin grid0.N, ((grid0.coords t) 1).val = t.val := by decide +kernel

theorem point_lt (t : Fin grid0.N) : t.val < 64 := lt_of_lt_of_eq t.isLt (show grid0.N = 64 from N_0)

/-- The mask over a window of keys. -/
theorem mask1 (t : Fin grid0.N) (i : Fin 128) (j : Fin 256) : k0_pay3 (grid0.coords t) (ix2 i j) = 1#1 ↔ ok t.val i.val j.val := by
  have h := inside ⟨t.val, point_lt t⟩ j
  pointwise [k0_pay3]
  simp only [coord, andi_eq_one, Scalar.muli, band1 i j]
  rw [h.1, h.2]
  unfold ok
  tauto

/-- The mask over a window of queries. -/
theorem mask2 (t : Fin grid0.N) (w : Fin 256) (j : Fin 128) : k0_pay4 (grid0.coords t) (ix2 w j) = 1#1 ↔ ok t.val j.val w.val := by
  have h := inside2 ⟨t.val, point_lt t⟩ w
  pointwise [k0_pay4]
  simp only [coord, andi_eq_one, Scalar.muli, Scalar.subi, band2 j w]
  rw [h.1, h.2]
  unfold ok
  tauto

/-! ## Loads and windows -/

/-- A load of 128 columns from column `o` on, at an element. -/
theorem ld_at {e : EltTy} (X : S128x1024.Idx → Elt Ideal e) (r0 o k : ℕ) (inb) (r : Fin k) (l : Fin 128) (hr : r0 + r.val < 128) (ho : o + l.val < 1024) :
    View.ld X (Rect.unit ![r0, o] ![k, 128] inb) (ix2 r l) = X (ix2 ⟨r0 + r.val, hr⟩ ⟨o + l.val, ho⟩) :=
  View.ld_unit_apply_of X _ _ _ _ _ fun a => match a with
    | ⟨0, _⟩ => rfl
    | ⟨1, _⟩ => rfl

/-- Three blocks' rows as one window of 256. -/
theorem cat_at (A : Vec Ideal S64x128 .bf16) (B : Vec Ideal S128x128 .bf16) (C : Vec Ideal S64x128 .bf16) (w : Fin 256) (l : Fin 128) (r : EReal)
    (ha : ∀ h : w.val < 64, A (ix2 ⟨w.val, h⟩ l) = r) (hb : ∀ (h0 : 64 ≤ w.val) (h : w.val < 192), B (ix2 ⟨w.val - 64, by omega⟩ l) = r)
    (hc : ∀ (h0 : 192 ≤ w.val), C (ix2 ⟨w.val - 192, by omega⟩ l) = r) : k0_pay5 (F := Ideal) A B C (ix2 w l) = r := by
  pointwise [k0_pay5]
  split
  · exact ha _
  · split
    · exact hb (by omega) (by omega)
    · rename_i h1 h2
      have := hc (by omega)
      rw [← this]
      congr 2

variable (m : (ℓ : Loc nD τ sig) → Buf (Elt Ideal) ℓ) (c : Dev nD)

theorem idx_facts : ∀ t : Fin grid0.N, win0_0.index t = ![t.val - 1, 0] ∧ win0_1.index t = ![t.val, 0] ∧ win0_2.index t = ![min (t.val + 1) 63, 0]
    ∧ win0_3.index t = ![t.val - 1, 1] ∧ win0_4.index t = ![t.val, 1] ∧ win0_5.index t = ![min (t.val + 1) 63, 1]
    ∧ win0_6.index t = ![t.val - 1, 2] ∧ win0_7.index t = ![t.val, 2] ∧ win0_8.index t = ![min (t.val + 1) 63, 2]
    ∧ win0_9.index t = ![t.val - 1, 0] ∧ win0_10.index t = ![t.val, 0] ∧ win0_11.index t = ![min (t.val + 1) 63, 0]
    ∧ win0_12.index t = ![t.val - 1, 0] ∧ win0_13.index t = ![t.val, 0] ∧ win0_14.index t = ![min (t.val + 1) 63, 0]
    ∧ win0_15.index t = ![t.val - 1, 0] ∧ win0_16.index t = ![t.val, 0] ∧ win0_17.index t = ![min (t.val + 1) 63, 0]
    ∧ win0_18.index t = ![0, 0, 0] ∧ win0_19.index t = ![0, 0, 0] ∧ win0_20.index t = ![t.val, 0] ∧ win0_21.index t = ![t.val, 0]
    ∧ win0_22.index t = ![t.val, 0] ∧ win0_23.index t = ![0, 0, 0] := by decide +kernel

theorem iblk0 (t : Fin grid0.N) (r : Fin 128) (x : Fin 1024) : (iblk m c 0 t : S128x1024.Idx → EReal) (ix2 r x)
    = a0 m c (ix2 ⟨(t.val - 1) * 128 + r.val, by have := point_lt t; omega⟩ ⟨x.val, by omega⟩) := by
  obtain ⟨e0, e1, e2, e3, e4, e5, e6, e7, e8, e9, e10, e11, e12, e13, e14, e15, e16, e17, e18, e19, -⟩ := idx_facts t
  blk_point [iblk, V_main_arg0, e0]
theorem iblk1 (t : Fin grid0.N) (r : Fin 128) (x : Fin 1024) : (iblk m c 1 t : S128x1024.Idx → EReal) (ix2 r x)
    = a0 m c (ix2 ⟨t.val * 128 + r.val, by have := point_lt t; omega⟩ ⟨x.val, by omega⟩) := by
  obtain ⟨e0, e1, e2, e3, e4, e5, e6, e7, e8, e9, e10, e11, e12, e13, e14, e15, e16, e17, e18, e19, -⟩ := idx_facts t
  blk_point [iblk, V_main_arg0, e1]
theorem iblk2 (t : Fin grid0.N) (r : Fin 128) (x : Fin 1024) : (iblk m c 2 t : S128x1024.Idx → EReal) (ix2 r x)
    = a0 m c (ix2 ⟨min (t.val + 1) 63 * 128 + r.val, by have := point_lt t; omega⟩ ⟨x.val, by omega⟩) := by
  obtain ⟨e0, e1, e2, e3, e4, e5, e6, e7, e8, e9, e10, e11, e12, e13, e14, e15, e16, e17, e18, e19, -⟩ := idx_facts t
  blk_point [iblk, V_main_arg0, e2]
theorem iblk3 (t : Fin grid0.N) (r : Fin 128) (x : Fin 1024) : (iblk m c 3 t : S128x1024.Idx → EReal) (ix2 r x)
    = a0 m c (ix2 ⟨(t.val - 1) * 128 + r.val, by have := point_lt t; omega⟩ ⟨1024 + x.val, by omega⟩) := by
  obtain ⟨e0, e1, e2, e3, e4, e5, e6, e7, e8, e9, e10, e11, e12, e13, e14, e15, e16, e17, e18, e19, -⟩ := idx_facts t
  blk_point [iblk, V_main_arg0, e3]
theorem iblk4 (t : Fin grid0.N) (r : Fin 128) (x : Fin 1024) : (iblk m c 4 t : S128x1024.Idx → EReal) (ix2 r x)
    = a0 m c (ix2 ⟨t.val * 128 + r.val, by have := point_lt t; omega⟩ ⟨1024 + x.val, by omega⟩) := by
  obtain ⟨e0, e1, e2, e3, e4, e5, e6, e7, e8, e9, e10, e11, e12, e13, e14, e15, e16, e17, e18, e19, -⟩ := idx_facts t
  blk_point [iblk, V_main_arg0, e4]
theorem iblk5 (t : Fin grid0.N) (r : Fin 128) (x : Fin 1024) : (iblk m c 5 t : S128x1024.Idx → EReal) (ix2 r x)
    = a0 m c (ix2 ⟨min (t.val + 1) 63 * 128 + r.val, by have := point_lt t; omega⟩ ⟨1024 + x.val, by omega⟩) := by
  obtain ⟨e0, e1, e2, e3, e4, e5, e6, e7, e8, e9, e10, e11, e12, e13, e14, e15, e16, e17, e18, e19, -⟩ := idx_facts t
  blk_point [iblk, V_main_arg0, e5]
theorem iblk6 (t : Fin grid0.N) (r : Fin 128) (x : Fin 1024) : (iblk m c 6 t : S128x1024.Idx → EReal) (ix2 r x)
    = a0 m c (ix2 ⟨(t.val - 1) * 128 + r.val, by have := point_lt t; omega⟩ ⟨2048 + x.val, by omega⟩) := by
  obtain ⟨e0, e1, e2, e3, e4, e5, e6, e7, e8, e9, e10, e11, e12, e13, e14, e15, e16, e17, e18, e19, -⟩ := idx_facts t
  blk_point [iblk, V_main_arg0, e6]
theorem iblk7 (t : Fin grid0.N) (r : Fin 128) (x : Fin 1024) : (iblk m c 7 t : S128x1024.Idx → EReal) (ix2 r x)
    = a0 m c (ix2 ⟨t.val * 128 + r.val, by have := point_lt t; omega⟩ ⟨2048 + x.val, by omega⟩) := by
  obtain ⟨e0, e1, e2, e3, e4, e5, e6, e7, e8, e9, e10, e11, e12, e13, e14, e15, e16, e17, e18, e19, -⟩ := idx_facts t
  blk_point [iblk, V_main_arg0, e7]
theorem iblk8 (t : Fin grid0.N) (r : Fin 128) (x : Fin 1024) : (iblk m c 8 t : S128x1024.Idx → EReal) (ix2 r x)
    = a0 m c (ix2 ⟨min (t.val + 1) 63 * 128 + r.val, by have := point_lt t; omega⟩ ⟨2048 + x.val, by omega⟩) := by
  obtain ⟨e0, e1, e2, e3, e4, e5, e6, e7, e8, e9, e10, e11, e12, e13, e14, e15, e16, e17, e18, e19, -⟩ := idx_facts t
  blk_point [iblk, V_main_arg0, e8]
theorem iblk9 (t : Fin grid0.N) (r : Fin 128) (x : Fin 1024) : (iblk m c 9 t : S128x1024.Idx → EReal) (ix2 r x)
    = a1 m c (ix2 ⟨(t.val - 1) * 128 + r.val, by have := point_lt t; omega⟩ ⟨x.val, by omega⟩) := by
  obtain ⟨e0, e1, e2, e3, e4, e5, e6, e7, e8, e9, e10, e11, e12, e13, e14, e15, e16, e17, e18, e19, -⟩ := idx_facts t
  blk_point [iblk, V_main_arg1, e9]
theorem iblk10 (t : Fin grid0.N) (r : Fin 128) (x : Fin 1024) : (iblk m c 10 t : S128x1024.Idx → EReal) (ix2 r x)
    = a1 m c (ix2 ⟨t.val * 128 + r.val, by have := point_lt t; omega⟩ ⟨x.val, by omega⟩) := by
  obtain ⟨e0, e1, e2, e3, e4, e5, e6, e7, e8, e9, e10, e11, e12, e13, e14, e15, e16, e17, e18, e19, -⟩ := idx_facts t
  blk_point [iblk, V_main_arg1, e10]
theorem iblk11 (t : Fin grid0.N) (r : Fin 128) (x : Fin 1024) : (iblk m c 11 t : S128x1024.Idx → EReal) (ix2 r x)
    = a1 m c (ix2 ⟨min (t.val + 1) 63 * 128 + r.val, by have := point_lt t; omega⟩ ⟨x.val, by omega⟩) := by
  obtain ⟨e0, e1, e2, e3, e4, e5, e6, e7, e8, e9, e10, e11, e12, e13, e14, e15, e16, e17, e18, e19, -⟩ := idx_facts t
  blk_point [iblk, V_main_arg1, e11]
theorem read12 (t : Fin grid0.N) (X : Buf (Elt Ideal) (c.tc.loc main_v93 : Loc nD τ sig)) (i : S128x1024.Idx) :
    (((cfg0.win 12).blk t).view.read (Elt Ideal) X : S128x1024.Idx → EReal) i = (X : S8192x1024.Idx → EReal) ((win0_12.blk t).view.emb i) := rfl
theorem emb12 (X : S8192x1024.Idx → EReal) (t : Fin grid0.N) (r : Fin 128) (x : Fin 1024) :
    X ((win0_12.blk t).view.emb (ix2 r x : S128x1024.Idx)) = X (ix2 ⟨(t.val - 1) * 128 + r.val, by have := point_lt t; omega⟩ x) := by
  obtain ⟨e0, e1, e2, e3, e4, e5, e6, e7, e8, e9, e10, e11, e12, e13, e14, e15, e16, e17, e18, e19, -⟩ := idx_facts t
  blk_point [e12]
theorem iblk12 (t : Fin grid0.N) (r : Fin 128) (x : Fin 1024) : (iblk m c 12 t : S128x1024.Idx → EReal) (ix2 r x)
    = (V m c main_v93 : S8192x1024.Idx → EReal) (ix2 ⟨(t.val - 1) * 128 + r.val, by have := point_lt t; omega⟩ x) :=
  (read12 c t (V m c (Pipeline.arrRef spec0 12)) (ix2 r x)).trans (emb12 (V m c main_v93) t r x)
theorem read13 (t : Fin grid0.N) (X : Buf (Elt Ideal) (c.tc.loc main_v93 : Loc nD τ sig)) (i : S128x1024.Idx) :
    (((cfg0.win 13).blk t).view.read (Elt Ideal) X : S128x1024.Idx → EReal) i = (X : S8192x1024.Idx → EReal) ((win0_13.blk t).view.emb i) := rfl
theorem emb13 (X : S8192x1024.Idx → EReal) (t : Fin grid0.N) (r : Fin 128) (x : Fin 1024) :
    X ((win0_13.blk t).view.emb (ix2 r x : S128x1024.Idx)) = X (ix2 ⟨t.val * 128 + r.val, by have := point_lt t; omega⟩ x) := by
  obtain ⟨e0, e1, e2, e3, e4, e5, e6, e7, e8, e9, e10, e11, e12, e13, e14, e15, e16, e17, e18, e19, -⟩ := idx_facts t
  blk_point [e13]
theorem iblk13 (t : Fin grid0.N) (r : Fin 128) (x : Fin 1024) : (iblk m c 13 t : S128x1024.Idx → EReal) (ix2 r x)
    = (V m c main_v93 : S8192x1024.Idx → EReal) (ix2 ⟨t.val * 128 + r.val, by have := point_lt t; omega⟩ x) :=
  (read13 c t (V m c (Pipeline.arrRef spec0 13)) (ix2 r x)).trans (emb13 (V m c main_v93) t r x)
theorem read14 (t : Fin grid0.N) (X : Buf (Elt Ideal) (c.tc.loc main_v93 : Loc nD τ sig)) (i : S128x1024.Idx) :
    (((cfg0.win 14).blk t).view.read (Elt Ideal) X : S128x1024.Idx → EReal) i = (X : S8192x1024.Idx → EReal) ((win0_14.blk t).view.emb i) := rfl
theorem emb14 (X : S8192x1024.Idx → EReal) (t : Fin grid0.N) (r : Fin 128) (x : Fin 1024) :
    X ((win0_14.blk t).view.emb (ix2 r x : S128x1024.Idx)) = X (ix2 ⟨min (t.val + 1) 63 * 128 + r.val, by have := point_lt t; omega⟩ x) := by
  obtain ⟨e0, e1, e2, e3, e4, e5, e6, e7, e8, e9, e10, e11, e12, e13, e14, e15, e16, e17, e18, e19, -⟩ := idx_facts t
  blk_point [e14]
theorem iblk14 (t : Fin grid0.N) (r : Fin 128) (x : Fin 1024) : (iblk m c 14 t : S128x1024.Idx → EReal) (ix2 r x)
    = (V m c main_v93 : S8192x1024.Idx → EReal) (ix2 ⟨min (t.val + 1) 63 * 128 + r.val, by have := point_lt t; omega⟩ x) :=
  (read14 c t (V m c (Pipeline.arrRef spec0 14)) (ix2 r x)).trans (emb14 (V m c main_v93) t r x)
theorem read15 (t : Fin grid0.N) (X : Buf (Elt Ideal) (c.tc.loc main_v90 : Loc nD τ sig)) (i : S128x1024.Idx) :
    (((cfg0.win 15).blk t).view.read (Elt Ideal) X : S128x1024.Idx → EReal) i = (X : S8192x1024.Idx → EReal) ((win0_15.blk t).view.emb i) := rfl
theorem emb15 (X : S8192x1024.Idx → EReal) (t : Fin grid0.N) (r : Fin 128) (x : Fin 1024) :
    X ((win0_15.blk t).view.emb (ix2 r x : S128x1024.Idx)) = X (ix2 ⟨(t.val - 1) * 128 + r.val, by have := point_lt t; omega⟩ x) := by
  obtain ⟨e0, e1, e2, e3, e4, e5, e6, e7, e8, e9, e10, e11, e12, e13, e14, e15, e16, e17, e18, e19, -⟩ := idx_facts t
  blk_point [e15]
theorem iblk15 (t : Fin grid0.N) (r : Fin 128) (x : Fin 1024) : (iblk m c 15 t : S128x1024.Idx → EReal) (ix2 r x)
    = (V m c main_v90 : S8192x1024.Idx → EReal) (ix2 ⟨(t.val - 1) * 128 + r.val, by have := point_lt t; omega⟩ x) :=
  (read15 c t (V m c (Pipeline.arrRef spec0 15)) (ix2 r x)).trans (emb15 (V m c main_v90) t r x)
theorem read16 (t : Fin grid0.N) (X : Buf (Elt Ideal) (c.tc.loc main_v90 : Loc nD τ sig)) (i : S128x1024.Idx) :
    (((cfg0.win 16).blk t).view.read (Elt Ideal) X : S128x1024.Idx → EReal) i = (X : S8192x1024.Idx → EReal) ((win0_16.blk t).view.emb i) := rfl
theorem emb16 (X : S8192x1024.Idx → EReal) (t : Fin grid0.N) (r : Fin 128) (x : Fin 1024) :
    X ((win0_16.blk t).view.emb (ix2 r x : S128x1024.Idx)) = X (ix2 ⟨t.val * 128 + r.val, by have := point_lt t; omega⟩ x) := by
  obtain ⟨e0, e1, e2, e3, e4, e5, e6, e7, e8, e9, e10, e11, e12, e13, e14, e15, e16, e17, e18, e19, -⟩ := idx_facts t
  blk_point [e16]
theorem iblk16 (t : Fin grid0.N) (r : Fin 128) (x : Fin 1024) : (iblk m c 16 t : S128x1024.Idx → EReal) (ix2 r x)
    = (V m c main_v90 : S8192x1024.Idx → EReal) (ix2 ⟨t.val * 128 + r.val, by have := point_lt t; omega⟩ x) :=
  (read16 c t (V m c (Pipeline.arrRef spec0 16)) (ix2 r x)).trans (emb16 (V m c main_v90) t r x)
theorem read17 (t : Fin grid0.N) (X : Buf (Elt Ideal) (c.tc.loc main_v90 : Loc nD τ sig)) (i : S128x1024.Idx) :
    (((cfg0.win 17).blk t).view.read (Elt Ideal) X : S128x1024.Idx → EReal) i = (X : S8192x1024.Idx → EReal) ((win0_17.blk t).view.emb i) := rfl
theorem emb17 (X : S8192x1024.Idx → EReal) (t : Fin grid0.N) (r : Fin 128) (x : Fin 1024) :
    X ((win0_17.blk t).view.emb (ix2 r x : S128x1024.Idx)) = X (ix2 ⟨min (t.val + 1) 63 * 128 + r.val, by have := point_lt t; omega⟩ x) := by
  obtain ⟨e0, e1, e2, e3, e4, e5, e6, e7, e8, e9, e10, e11, e12, e13, e14, e15, e16, e17, e18, e19, -⟩ := idx_facts t
  blk_point [e17]
theorem iblk17 (t : Fin grid0.N) (r : Fin 128) (x : Fin 1024) : (iblk m c 17 t : S128x1024.Idx → EReal) (ix2 r x)
    = (V m c main_v90 : S8192x1024.Idx → EReal) (ix2 ⟨min (t.val + 1) 63 * 128 + r.val, by have := point_lt t; omega⟩ x) :=
  (read17 c t (V m c (Pipeline.arrRef spec0 17)) (ix2 r x)).trans (emb17 (V m c main_v90) t r x)
theorem read18 (t : Fin grid0.N) (X : Buf (Elt Ideal) (c.tc.loc main_v49 : Loc nD τ sig)) (i : S8x128x256.Idx) :
    (((cfg0.win 18).blk t).view.read (Elt Ideal) X : S8x128x256.Idx → EReal) i = (X : S8x128x256.Idx → EReal) ((win0_18.blk t).view.emb i) := rfl
theorem emb18 (X : S8x128x256.Idx → EReal) (t : Fin grid0.N) (h : Fin 8) (i : Fin 128) (j : Fin 256) :
    X ((win0_18.blk t).view.emb (ix3 h i j : S8x128x256.Idx)) = X (ix3 h i j) := by
  obtain ⟨e0, e1, e2, e3, e4, e5, e6, e7, e8, e9, e10, e11, e12, e13, e14, e15, e16, e17, e18, e19, -⟩ := idx_facts t
  blk_point [e18]
theorem iblk18 (t : Fin grid0.N) (h : Fin 8) (i : Fin 128) (j : Fin 256) : (iblk m c 18 t : S8x128x256.Idx → EReal) (ix3 h i j)
    = (V m c main_v49 : S8x128x256.Idx → EReal) (ix3 h i j) :=
  (read18 c t (V m c (Pipeline.arrRef spec0 18)) (ix3 h i j)).trans (emb18 (V m c main_v49) t h i j)
theorem read19 (t : Fin grid0.N) (X : Buf (Elt Ideal) (c.tc.loc main_v81 : Loc nD τ sig)) (i : S8x256x128.Idx) :
    (((cfg0.win 19).blk t).view.read (Elt Ideal) X : S8x256x128.Idx → EReal) i = (X : S8x256x128.Idx → EReal) ((win0_19.blk t).view.emb i) := rfl
theorem emb19 (X : S8x256x128.Idx → EReal) (t : Fin grid0.N) (h : Fin 8) (i : Fin 256) (j : Fin 128) :
    X ((win0_19.blk t).view.emb (ix3 h i j : S8x256x128.Idx)) = X (ix3 h i j) := by
  obtain ⟨e0, e1, e2, e3, e4, e5, e6, e7, e8, e9, e10, e11, e12, e13, e14, e15, e16, e17, e18, e19, -⟩ := idx_facts t
  blk_point [e19]
theorem iblk19 (t : Fin grid0.N) (h : Fin 8) (i : Fin 256) (j : Fin 128) : (iblk m c 19 t : S8x256x128.Idx → EReal) (ix3 h i j)
    = (V m c main_v81 : S8x256x128.Idx → EReal) (ix3 h i j) :=
  (read19 c t (V m c (Pipeline.arrRef spec0 19)) (ix3 h i j)).trans (emb19 (V m c main_v81) t h i j)

end Cert.DilProof
end
-- ==== Proof.DilHeads.lean ====
/- One head at one grid point: the body's four results of the head are the gradient's values. -/
module

public import proofs.«01_k».proof.Proof.DilPay
public import proofs.«01_k».proof.Proof.DilBlocks

@[expose] public section

set_option maxRecDepth 16384

noncomputable section

open Idealize.ShloMosaic Idealize.ShloMosaic.TcCoe

namespace Cert.DilProof

open Cert.KernelIdeal Cert.KernelIdeal.Gen

theorem near_comm (s t : ℕ) : near s t ↔ near t s := by unfold near; omega

/-- A head's plane of a table of three axes. -/
theorem ld3_at {n0 n1 n2 k1 k2 : ℕ} (X : (⟨3, ![n0, n1, n2]⟩ : Shape).Idx → Elt Ideal .f32) (g : ℕ) (inb) (r : Fin k1) (l : Fin k2) (hg : g < n0) (h1 : k1 ≤ n1) (h2 : k2 ≤ n2) :
    (View.ld X (Rect.unit ![g, 0, 0] ![1, k1, k2] inb) (ix3 (0 : Fin 1) r l) : EReal) = X (ix3 ⟨g, hg⟩ ⟨r.val, by omega⟩ ⟨l.val, by omega⟩) := by
  unfold View.ld
  congr 1
  funext a
  match a with
  | 0 => exact Fin.ext (by show g + 1 * 0 = g; omega)
  | 1 => exact Fin.ext (by show 0 + 1 * r.val = r.val; omega)
  | 2 => exact Fin.ext (by show 0 + 1 * l.val = l.val; omega)

/-- A column of a window of 256 positions, cut from the blocks before, at and after block `n` of an array. -/
theorem win_at (A B C : S128x1024.Idx → Elt Ideal .bf16) (G : Fin 8192 → Fin 1024 → EReal) (n : ℕ) (hn : n < 64)
    (hA : ∀ r x, A (ix2 r x) = G ⟨(n - 1) * 128 + r.val, by omega⟩ x) (hB : ∀ r x, B (ix2 r x) = G ⟨n * 128 + r.val, by omega⟩ x)
    (hC : ∀ r x, C (ix2 r x) = G ⟨min (n + 1) 63 * 128 + r.val, by omega⟩ x) (o : ℕ) (ia) (ib) (ic) (w : Fin 256) (l : Fin 128)
    (hw : 64 ≤ n * 128 + w.val ∧ n * 128 + w.val < 8256) (ho : o + l.val < 1024) :
    k0_pay5 (F := Ideal) (View.ld A (Rect.unit ![64, o] ![64, 128] ia)) (View.ld B (Rect.unit ![0, o] ![128, 128] ib)) (View.ld C (Rect.unit ![0, o] ![64, 128] ic)) (ix2 w l)
      = G ⟨n * 128 + w.val - 64, by omega⟩ ⟨o + l.val, ho⟩ := by
  refine cat_at _ _ _ w l _ (fun h => ?_) (fun h0 h => ?_) (fun h0 => ?_)
  · rw [ld_at A 64 o 64 ia ⟨w.val, h⟩ l (by dsimp only; omega) ho, hA]
    congr 1; exact Fin.ext (by dsimp only; omega)
  · rw [ld_at B 0 o 128 ib ⟨w.val - 64, by omega⟩ l (by dsimp only; omega) ho, hB]
    congr 1; exact Fin.ext (by dsimp only; omega)
  · rw [ld_at C 0 o 64 ic ⟨w.val - 192, by omega⟩ l (by dsimp only; omega) ho, hC]
    congr 1; exact Fin.ext (by dsimp only; omega)

/-- A row's value, read through a window of 256 positions in the same way. -/
theorem col_at (A B C : S128x1024.Idx → Elt Ideal .f32) (G : Fin 8192 → Fin 1024 → EReal) (n : ℕ) (hn : n < 64)
    (hA : ∀ r x, A (ix2 r x) = G ⟨(n - 1) * 128 + r.val, by omega⟩ x) (hB : ∀ r x, B (ix2 r x) = G ⟨n * 128 + r.val, by omega⟩ x)
    (hC : ∀ r x, C (ix2 r x) = G ⟨min (n + 1) 63 * 128 + r.val, by omega⟩ x) (o : ℕ) (ia) (ib) (ic) (w : Fin 256) (l : Fin 128)
    (hw : 64 ≤ n * 128 + w.val ∧ n * 128 + w.val < 8256) (ho : o + l.val < 1024) :
    col (View.ld A (Rect.unit ![64, o] ![64, 128] ia)) (View.ld B (Rect.unit ![0, o] ![128, 128] ib)) (View.ld C (Rect.unit ![0, o] ![64, 128] ic)) w l
      = G ⟨n * 128 + w.val - 64, by omega⟩ ⟨o + l.val, ho⟩ := by
  unfold col
  split
  · rename_i h
    rw [ld_at A 64 o 64 ia ⟨w.val, h⟩ l (by dsimp only; omega) ho, hA]
    congr 1; exact Fin.ext (by dsimp only; omega)
  · split
    · rename_i h0 h
      rw [ld_at B 0 o 128 ib ⟨w.val - 64, by omega⟩ l (by dsimp only; omega) ho, hB]
      congr 1; exact Fin.ext (by dsimp only; omega)
    · rw [ld_at C 0 o 64 ic ⟨w.val - 64 - 128, by omega⟩ l (by dsimp only; omega) ho, hC]
      congr 1; exact Fin.ext (by dsimp only; omega)

/-- The position of row `i` of the point's block. -/
abbrev pos (t : Fin grid0.N) (i : Fin 128) : Fin 8192 := ⟨t.val * 128 + i.val, by have := point_lt t; omega⟩
/-- The position of row `w` of the point's window. -/
abbrev wpos (t : Fin grid0.N) (w : Fin 256) (hw : 64 ≤ t.val * 128 + w.val ∧ t.val * 128 + w.val < 8256) : Fin 8192 :=
  ⟨t.val * 128 + w.val - 64, by omega⟩

variable (m : (ℓ : Loc nD τ sig) → Buf (Elt Ideal) ℓ) (c : Dev nD) (t : Fin grid0.N) (h : Fin 8) (o : ℕ) (ho : o = h.val * 128)
  (ia) (ib) (ic)

include ho

theorem kwin (w : Fin 256) (l : Fin 128) (hw : 64 ≤ t.val * 128 + w.val ∧ t.val * 128 + w.val < 8256) :
    k0_pay5 (F := Ideal) (View.ld (iblk m c 3 t) (Rect.unit ![64, o] ![64, 128] ia)) (View.ld (iblk m c 4 t) (Rect.unit ![0, o] ![128, 128] ib))
      (View.ld (iblk m c 5 t) (Rect.unit ![0, o] ![64, 128] ic)) (ix2 w l) = kAt (a0 m c) h (wpos t w hw) l := by
  subst ho
  exact win_at (iblk m c 3 t) (iblk m c 4 t) (iblk m c 5 t) (fun s x => a0 m c (ix2 s ⟨1024 + x.val, by omega⟩)) t.val (point_lt t)
    (iblk3 m c t) (iblk4 m c t) (iblk5 m c t) _ ia ib ic w l hw (by omega)

theorem vwin (w : Fin 256) (l : Fin 128) (hw : 64 ≤ t.val * 128 + w.val ∧ t.val * 128 + w.val < 8256) :
    k0_pay5 (F := Ideal) (View.ld (iblk m c 6 t) (Rect.unit ![64, o] ![64, 128] ia)) (View.ld (iblk m c 7 t) (Rect.unit ![0, o] ![128, 128] ib))
      (View.ld (iblk m c 8 t) (Rect.unit ![0, o] ![64, 128] ic)) (ix2 w l) = vAt (a0 m c) h (wpos t w hw) l := by
  subst ho
  exact win_at (iblk m c 6 t) (iblk m c 7 t) (iblk m c 8 t) (fun s x => a0 m c (ix2 s ⟨2048 + x.val, by omega⟩)) t.val (point_lt t)
    (iblk6 m c t) (iblk7 m c t) (iblk8 m c t) _ ia ib ic w l hw (by omega)

theorem qwin (w : Fin 256) (l : Fin 128) (hw : 64 ≤ t.val * 128 + w.val ∧ t.val * 128 + w.val < 8256) :
    k0_pay5 (F := Ideal) (View.ld (iblk m c 0 t) (Rect.unit ![64, o] ![64, 128] ia)) (View.ld (iblk m c 1 t) (Rect.unit ![0, o] ![128, 128] ib))
      (View.ld (iblk m c 2 t) (Rect.unit ![0, o] ![64, 128] ic)) (ix2 w l) = qAt (a0 m c) h (wpos t w hw) l := by
  subst ho
  exact win_at (iblk m c 0 t) (iblk m c 1 t) (iblk m c 2 t) (fun s x => a0 m c (ix2 s ⟨x.val, by omega⟩)) t.val (point_lt t)
    (iblk0 m c t) (iblk1 m c t) (iblk2 m c t) _ ia ib ic w l hw (by omega)

theorem gwin (w : Fin 256) (l : Fin 128) (hw : 64 ≤ t.val * 128 + w.val ∧ t.val * 128 + w.val < 8256) :
    k0_pay5 (F := Ideal) (View.ld (iblk m c 9 t) (Rect.unit ![64, o] ![64, 128] ia)) (View.ld (iblk m c 10 t) (Rect.unit ![0, o] ![128, 128] ib))
      (View.ld (iblk m c 11 t) (Rect.unit ![0, o] ![64, 128] ic)) (ix2 w l) = gAt (a1 m c) h (wpos t w hw) l := by
  subst ho
  exact win_at (iblk m c 9 t) (iblk m c 10 t) (iblk m c 11 t) (fun s x => a1 m c (ix2 s ⟨x.val, by omega⟩)) t.val (point_lt t)
    (iblk9 m c t) (iblk10 m c t) (iblk11 m c t) _ ia ib ic w l hw (by omega)

theorem lwin (w : Fin 256) (l : Fin 128) (hw : 64 ≤ t.val * 128 + w.val ∧ t.val * 128 + w.val < 8256) :
    col (View.ld (iblk m c 12 t) (Rect.unit ![64, o] ![64, 128] ia)) (View.ld (iblk m c 13 t) (Rect.unit ![0, o] ![128, 128] ib))
      (View.ld (iblk m c 14 t) (Rect.unit ![0, o] ![64, 128] ic)) w l = a3 m c (ix2 (wpos t w hw) h) := by
  subst ho
  exact (col_at (iblk m c 12 t) (iblk m c 13 t) (iblk m c 14 t) (fun s x => (V m c main_v93 : S8192x1024.Idx → EReal) (ix2 s x)) t.val (point_lt t)
    (iblk12 m c t) (iblk13 m c t) (iblk14 m c t) _ ia ib ic w l hw (by omega)).trans (lse_at m c _ h l)

theorem dwin (w : Fin 256) (l : Fin 128) (hw : 64 ≤ t.val * 128 + w.val ∧ t.val * 128 + w.val < 8256) :
    col (View.ld (iblk m c 15 t) (Rect.unit ![64, o] ![64, 128] ia)) (View.ld (iblk m c 16 t) (Rect.unit ![0, o] ![128, 128] ib))
      (View.ld (iblk m c 17 t) (Rect.unit ![0, o] ![64, 128] ic)) w l = delta (a1 m c) (a2 m c) h (wpos t w hw) := by
  subst ho
  exact (col_at (iblk m c 15 t) (iblk m c 16 t) (iblk m c 17 t) (fun s x => (V m c main_v90 : S8192x1024.Idx → EReal) (ix2 s x)) t.val (point_lt t)
    (iblk15 m c t) (iblk16 m c t) (iblk17 m c t) _ ia ib ic w l hw (by omega)).trans (delta_at m c _ h l)

theorem qrow (i l : Fin 128) : (View.ld (iblk m c 1 t) (Rect.unit ![0, o] ![128, 128] ib) (ix2 i l) : EReal) = qAt (a0 m c) h (pos t i) l := by
  subst ho
  rw [ld_at (iblk m c 1 t) 0 _ 128 ib i l (by omega) (by omega)]
  exact (iblk1 m c t _ _).trans (by unfold qAt pos; congr 2; exact Fin.ext (by dsimp only; omega))

theorem krow (i l : Fin 128) : (View.ld (iblk m c 4 t) (Rect.unit ![0, o] ![128, 128] ib) (ix2 i l) : EReal) = kAt (a0 m c) h (pos t i) l := by
  subst ho
  rw [ld_at (iblk m c 4 t) 0 _ 128 ib i l (by omega) (by omega)]
  exact (iblk4 m c t _ _).trans (by unfold kAt pos; congr 2; exact Fin.ext (by dsimp only; omega))

theorem vrow (i l : Fin 128) : (View.ld (iblk m c 7 t) (Rect.unit ![0, o] ![128, 128] ib) (ix2 i l) : EReal) = vAt (a0 m c) h (pos t i) l := by
  subst ho
  rw [ld_at (iblk m c 7 t) 0 _ 128 ib i l (by omega) (by omega)]
  exact (iblk7 m c t _ _).trans (by unfold vAt pos; congr 2; exact Fin.ext (by dsimp only; omega))

theorem grow (i l : Fin 128) : (View.ld (iblk m c 10 t) (Rect.unit ![0, o] ![128, 128] ib) (ix2 i l) : EReal) = gAt (a1 m c) h (pos t i) l := by
  subst ho
  rw [ld_at (iblk m c 10 t) 0 _ 128 ib i l (by omega) (by omega)]
  exact (iblk10 m c t _ _).trans (by unfold gAt pos; congr 2; exact Fin.ext (by dsimp only; omega))

theorem lrow (i l : Fin 128) : (View.ld (iblk m c 13 t) (Rect.unit ![0, o] ![128, 128] ib) (ix2 i l) : EReal) = a3 m c (ix2 (pos t i) h) := by
  subst ho
  rw [ld_at (iblk m c 13 t) 0 _ 128 ib i l (by omega) (by omega)]
  refine (iblk13 m c t _ _).trans (Eq.trans ?_ (lse_at m c (pos t i) h l))
  congr 2; exact Fin.ext (by dsimp only; omega)

theorem drow (i l : Fin 128) : (View.ld (iblk m c 16 t) (Rect.unit ![0, o] ![128, 128] ib) (ix2 i l) : EReal) = delta (a1 m c) (a2 m c) h (pos t i) := by
  subst ho
  rw [ld_at (iblk m c 16 t) 0 _ 128 ib i l (by omega) (by omega)]
  refine (iblk16 m c t _ _).trans (Eq.trans ?_ (delta_at m c (pos t i) h l))
  congr 2; exact Fin.ext (by dsimp only; omega)

variable (g : ℕ) (hg : g = h.val) (ig) (ja) (jb) (jc)
omit ho
include hg

theorem bias1w (i : Fin 128) (w : Fin 256) :
    (View.ld (iblk m c 18 t) (Rect.unit ![g, 0, 0] ![1, 128, 256] ig) (ix3 (0 : Fin 1) i w) : EReal)
      = a4 m c (ix2 (row (BitVec.ofInt 32 ((w.val : ℤ) - 64 - i.val))) h) := by
  subst hg
  rw [ld3_at (iblk m c 18 t) h.val ig i w h.isLt le_rfl le_rfl]
  exact (iblk18 m c t h i w).trans (bias1_at m c h i w)

theorem bias2w (w : Fin 256) (j : Fin 128) :
    (View.ld (iblk m c 19 t) (Rect.unit ![g, 0, 0] ![1, 256, 128] ig) (ix3 (0 : Fin 1) w j) : EReal)
      = a4 m c (ix2 (row (BitVec.ofInt 32 ((j.val : ℤ) + 64 - w.val))) h) := by
  subst hg
  rw [ld3_at (iblk m c 19 t) h.val ig w j h.isLt le_rfl le_rfl]
  exact (iblk19 m c t h w j).trans (bias2_at m c h w j)

include ho

/-- The first half's score gradient. -/
theorem ds1_at (i : Fin 128) (w : Fin 256) :
    (k0_pay9 (F := Ideal)
      (k0_pay6 (k0_pay3 (grid0.coords t)) (View.ld (iblk m c 3 t) (Rect.unit ![64, o] ![64, 128] ia)) (View.ld (iblk m c 4 t) (Rect.unit ![0, o] ![128, 128] ib))
        (View.ld (iblk m c 5 t) (Rect.unit ![0, o] ![64, 128] ic)) (View.ld (iblk m c 1 t) (Rect.unit ![0, o] ![128, 128] ib))
        (View.ld (iblk m c 18 t) (Rect.unit ![g, 0, 0] ![1, 128, 256] ig)) (View.ld (iblk m c 13 t) (Rect.unit ![0, o] ![128, 128] ib)) (View.ld (iblk m c 13 t) (Rect.unit ![0, o] ![128, 128] ib)))
      (k0_pay7 (View.ld (iblk m c 6 t) (Rect.unit ![64, o] ![64, 128] ia)) (View.ld (iblk m c 7 t) (Rect.unit ![0, o] ![128, 128] ib))
        (View.ld (iblk m c 8 t) (Rect.unit ![0, o] ![64, 128] ic)) (View.ld (iblk m c 10 t) (Rect.unit ![0, o] ![128, 128] ib)))
      (k0_pay8 (View.ld (iblk m c 16 t) (Rect.unit ![0, o] ![128, 128] ib))) (View.ld (iblk m c 16 t) (Rect.unit ![0, o] ![128, 128] ib)) (ix2 i w) : EReal)
      = if hv : ok t.val i.val w.val then dsc (a0 m c) (a1 m c) (a2 m c) (a3 m c) (a4 m c) h (pos t i) (wpos t w hv.1) else 0 := by
  rw [pay9_of _ _ _ i w _ (fun x => drow m c t h o ho ib i x), pay7_at]
  split
  · rename_i hv
    rw [pay6_of _ _ _ _ _ _ _ i w ((mask1 t i w).2 hv) _ (fun x => lrow m c t h o ho ib i x), bias1w m c t h g hg ig i w]
    unfold dsc wt
    simp only [qrow m c t h o ho ib, kwin m c t h o ho ia ib ic w _ hv.1, vwin m c t h o ho ia ib ic w _ hv.1, grow m c t h o ho ib]
    have e : ((w.val : ℤ) - 64 - i.val) = (((wpos t w hv.1).val : ℤ) - (pos t i).val) := by
      have := hv.1; dsimp only [wpos, pos]; omega
    rw [e]
  · rename_i hv
    rw [pay6_not _ _ _ _ _ _ _ i w (fun hm => hv ((mask1 t i w).1 hm)), zero_mul]

/-- Rows of the gradient of the queries. -/
theorem dq_head (i x : Fin 128) :
    (k0_pay10 (F := Ideal)
      (k0_pay5 (View.ld (iblk m c 3 t) (Rect.unit ![64, o] ![64, 128] ia)) (View.ld (iblk m c 4 t) (Rect.unit ![0, o] ![128, 128] ib)) (View.ld (iblk m c 5 t) (Rect.unit ![0, o] ![64, 128] ic)))
      (k0_pay6 (k0_pay3 (grid0.coords t)) (View.ld (iblk m c 3 t) (Rect.unit ![64, o] ![64, 128] ia)) (View.ld (iblk m c 4 t) (Rect.unit ![0, o] ![128, 128] ib))
        (View.ld (iblk m c 5 t) (Rect.unit ![0, o] ![64, 128] ic)) (View.ld (iblk m c 1 t) (Rect.unit ![0, o] ![128, 128] ib))
        (View.ld (iblk m c 18 t) (Rect.unit ![g, 0, 0] ![1, 128, 256] ig)) (View.ld (iblk m c 13 t) (Rect.unit ![0, o] ![128, 128] ib)) (View.ld (iblk m c 13 t) (Rect.unit ![0, o] ![128, 128] ib)))
      (k0_pay7 (View.ld (iblk m c 6 t) (Rect.unit ![64, o] ![64, 128] ia)) (View.ld (iblk m c 7 t) (Rect.unit ![0, o] ![128, 128] ib))
        (View.ld (iblk m c 8 t) (Rect.unit ![0, o] ![64, 128] ic)) (View.ld (iblk m c 10 t) (Rect.unit ![0, o] ![128, 128] ib)))
      (k0_pay8 (View.ld (iblk m c 16 t) (Rect.unit ![0, o] ![128, 128] ib))) (View.ld (iblk m c 16 t) (Rect.unit ![0, o] ![128, 128] ib)) (ix2 i x) : EReal)
      = dq (a0 m c) (a1 m c) (a2 m c) (a3 m c) (a4 m c) (pos t i) h x := by
  rw [pay10_at, dq]
  congr 1
  refine Eq.trans (Finset.sum_congr rfl fun w _ => ?_) ((window_sum (fun s => dsc (a0 m c) (a1 m c) (a2 m c) (a3 m c) (a4 m c) h (pos t i) s * kAt (a0 m c) h s x)
    ⟨t.val, point_lt t⟩ i).trans (Finset.sum_congr rfl fun s _ => if_congr (near_comm _ _) rfl rfl))
  rw [ds1_at m c t h o ho ia ib ic g hg ig i w]
  split
  · rename_i hv
    rw [kwin m c t h o ho ia ib ic w x hv.1]
  · rw [zero_mul]

/-- The second half's weights. -/
theorem p2_at (w : Fin 256) (j : Fin 128) :
    (k0_pay15 (F := Ideal) (k0_pay4 (grid0.coords t))
      (k0_pay14 (View.ld (iblk m c 0 t) (Rect.unit ![64, o] ![64, 128] ia)) (View.ld (iblk m c 1 t) (Rect.unit ![0, o] ![128, 128] ib)) (View.ld (iblk m c 2 t) (Rect.unit ![0, o] ![64, 128] ic))
        (View.ld (iblk m c 4 t) (Rect.unit ![0, o] ![128, 128] ib)))
      (View.ld (iblk m c 19 t) (Rect.unit ![g, 0, 0] ![1, 256, 128] ig))
      (View.ld (iblk m c 12 t) (Rect.unit ![64, o] ![64, 128] ia)) (View.ld (iblk m c 13 t) (Rect.unit ![0, o] ![128, 128] ib)) (View.ld (iblk m c 14 t) (Rect.unit ![0, o] ![64, 128] ic))
      (ix2 w j) : EReal)
      = if hv : ok t.val j.val w.val then wt (a0 m c) (a3 m c) (a4 m c) h (wpos t w hv.1) (pos t j) else 0 := by
  split
  · rename_i hv
    rw [pay15_of _ _ _ _ _ _ w j ((mask2 t w j).2 hv), pay14_at, lwin m c t h o ho ia ib ic w j hv.1, bias2w m c t h g hg ig w j]
    unfold wt
    simp only [qwin m c t h o ho ia ib ic w _ hv.1, krow m c t h o ho ib]
    have e : ((j.val : ℤ) + 64 - w.val) = (((pos t j).val : ℤ) - (wpos t w hv.1).val) := by
      have := hv.1; dsimp only [wpos, pos]; omega
    rw [e]
  · rename_i hv
    rw [pay15_not _ _ _ _ _ _ w j (fun hm => hv ((mask2 t w j).1 hm))]

/-- Rows of the gradient of the values. -/
theorem dv_head (j x : Fin 128) :
    (k0_pay16 (F := Ideal) (k0_pay4 (grid0.coords t))
      (k0_pay5 (View.ld (iblk m c 9 t) (Rect.unit ![64, o] ![64, 128] ia)) (View.ld (iblk m c 10 t) (Rect.unit ![0, o] ![128, 128] ib)) (View.ld (iblk m c 11 t) (Rect.unit ![0, o] ![64, 128] ic)))
      (k0_pay14 (View.ld (iblk m c 0 t) (Rect.unit ![64, o] ![64, 128] ia)) (View.ld (iblk m c 1 t) (Rect.unit ![0, o] ![128, 128] ib)) (View.ld (iblk m c 2 t) (Rect.unit ![0, o] ![64, 128] ic))
        (View.ld (iblk m c 4 t) (Rect.unit ![0, o] ![128, 128] ib)))
      (View.ld (iblk m c 19 t) (Rect.unit ![g, 0, 0] ![1, 256, 128] ig))
      (View.ld (iblk m c 12 t) (Rect.unit ![64, o] ![64, 128] ia)) (View.ld (iblk m c 13 t) (Rect.unit ![0, o] ![128, 128] ib)) (View.ld (iblk m c 14 t) (Rect.unit ![0, o] ![64, 128] ic))
      (ix2 j x) : EReal)
      = dv (a0 m c) (a1 m c) (a3 m c) (a4 m c) (pos t j) h x := by
  rw [pay16_at, dv]
  refine Eq.trans (Finset.sum_congr rfl fun w _ => ?_) (window_sum (fun s => wt (a0 m c) (a3 m c) (a4 m c) h s (pos t j) * gAt (a1 m c) h s x)
    ⟨t.val, point_lt t⟩ j)
  rw [p2_at m c t h o ho ia ib ic g hg ig w j]
  split
  · rename_i hv
    rw [gwin m c t h o ho ia ib ic w x hv.1]
  · rw [zero_mul]

/-- Rows of the gradient of the keys. -/
theorem dk_head (j x : Fin 128) :
    (k0_pay17 (F := Ideal) (k0_pay4 (grid0.coords t))
      (k0_pay5 (View.ld (iblk m c 0 t) (Rect.unit ![64, o] ![64, 128] ia)) (View.ld (iblk m c 1 t) (Rect.unit ![0, o] ![128, 128] ib)) (View.ld (iblk m c 2 t) (Rect.unit ![0, o] ![64, 128] ic)))
      (k0_pay5 (View.ld (iblk m c 9 t) (Rect.unit ![64, o] ![64, 128] ia)) (View.ld (iblk m c 10 t) (Rect.unit ![0, o] ![128, 128] ib)) (View.ld (iblk m c 11 t) (Rect.unit ![0, o] ![64, 128] ic)))
      (k0_pay14 (View.ld (iblk m c 0 t) (Rect.unit ![64, o] ![64, 128] ia)) (View.ld (iblk m c 1 t) (Rect.unit ![0, o] ![128, 128] ib)) (View.ld (iblk m c 2 t) (Rect.unit ![0, o] ![64, 128] ic))
        (View.ld (iblk m c 4 t) (Rect.unit ![0, o] ![128, 128] ib)))
      (View.ld (iblk m c 19 t) (Rect.unit ![g, 0, 0] ![1, 256, 128] ig))
      (View.ld (iblk m c 12 t) (Rect.unit ![64, o] ![64, 128] ia)) (View.ld (iblk m c 13 t) (Rect.unit ![0, o] ![128, 128] ib)) (View.ld (iblk m c 14 t) (Rect.unit ![0, o] ![64, 128] ic))
      (View.ld (iblk m c 7 t) (Rect.unit ![0, o] ![128, 128] ib))
      (View.ld (iblk m c 15 t) (Rect.unit ![64, o] ![64, 128] ia)) (View.ld (iblk m c 16 t) (Rect.unit ![0, o] ![128, 128] ib)) (View.ld (iblk m c 17 t) (Rect.unit ![0, o] ![64, 128] ic))
      (ix2 j x) : EReal)
      = dk (a0 m c) (a1 m c) (a2 m c) (a3 m c) (a4 m c) (pos t j) h x := by
  rw [pay17_at, dk]
  congr 1
  refine Eq.trans (Finset.sum_congr rfl fun w _ => ?_) (window_sum (fun s => dsc (a0 m c) (a1 m c) (a2 m c) (a3 m c) (a4 m c) h s (pos t j) * qAt (a0 m c) h s x)
    ⟨t.val, point_lt t⟩ j)
  rw [ds2_at, p2_at m c t h o ho ia ib ic g hg ig w j]
  split
  · rename_i hv
    rw [qwin m c t h o ho ia ib ic w x hv.1, dwin m c t h o ho ia ib ic w j hv.1]
    simp only [gwin m c t h o ho ia ib ic w _ hv.1, vrow m c t h o ho ib]
    rfl
  · rw [zero_mul, zero_mul]

end Cert.DilProof
end
-- ==== Proof.DilArrays.lean ====
/- The three row gradients as whole arrays: each block of rows is written head by head. -/
module

public import proofs.«01_k».proof.Proof.DilHeads
public import Idealize.ShloMosaic.Lib.Pipeline.ReadBack

@[expose] public section

set_option maxRecDepth 16384
set_option maxHeartbeats 4000000

noncomputable section

open Idealize.ShloMosaic Idealize.ShloMosaic.TcCoe

namespace Cert.DilProof

open Cert.KernelIdeal Cert.KernelIdeal.Gen

variable (m : (ℓ : Loc nD τ sig) → Buf (Elt Ideal) ℓ) (c : Dev nD)

/-- A per-head gradient laid out as rows of all heads' columns. -/
def lay (f : Fin 8192 → Fin 8 → Fin 128 → EReal) : S8192x1024.Idx → EReal := fun j =>
  f (j 0) ⟨(j 1).val / 128, by have h : (j 1).val < 1024 := (j 1).isLt; omega⟩ ⟨(j 1).val % 128, by omega⟩

theorem lay_at (f : Fin 8192 → Fin 8 → Fin 128 → EReal) (j : S8192x1024.Idx) (t : Fin grid0.N) (h : Fin 8) (i x : Fin 128)
    (h0 : (j 0).val = t.val * 128 + i.val) (h1 : (j 1).val = h.val * 128 + x.val) : f (pos t i) h x = lay f j := by
  unfold lay
  refine congr (congr (congrArg f ?_) ?_) ?_
  · exact Fin.ext h0.symm
  · exact Fin.ext (by dsimp only; omega)
  · exact Fin.ext (by dsimp only; omega)

theorem idx2 (y : S128x128.Idx) : y = ix2 (y 0) (y 1) := by funext a; match a with | 0 => rfl | 1 => rfl

theorem emb20 (f : Fin 8192 → Fin 8 → Fin 128 → EReal) (t : Fin cfg0.grid.N) (y : ((cfg0.win 20).xblock (cfg0.grid.coords t)).Idx) (h : Fin 8) (z : S128x128.Idx)
    (h0 : (y 0).val = (z 0).val) (h1 : (y 1).val = h.val * 128 + (z 1).val) :
    f (pos t (z 0)) h (z 1) = lay f (((View.whole main_v94_0).slice (win0_20.rect t)).emb y) := by
  refine lay_at f _ t h (z 0) (z 1) ?_ ?_
  · blk_simp [idx_facts t]
    omega
  · blk_simp [idx_facts t]
    omega

/-- The gradient of the queries. -/
theorem arr20 : (dats m 0 c).arrAt 20 cfg0.grid.N = lay (dq (a0 m c) (a1 m c) (a2 m c) (a3 m c) (a4 m c)) := by
  refine (dats m 0 c).arrAt_eq_of_covers 20 _ (by decide +kernel) fun t hf y => ?_
  blk_simp
  rw [after0_20]
  by_cases ht : t.val % 64 = 0
  · rw [outsAt0_A m c t ht]
    frame_out
    canon_tiles y h
    case piece0 =>
      rw [idx2 y]
      exact (dq_head m c t 7 896 rfl _ _ _ 7 rfl _ (y 0) (y 1)).trans (emb20 _ t _ 7 y (by omega) (by omega))
    case piece1 =>
      rw [idx2 y]
      exact (dq_head m c t 6 768 rfl _ _ _ 6 rfl _ (y 0) (y 1)).trans (emb20 _ t _ 6 y (by omega) (by omega))
    case piece2 =>
      rw [idx2 y]
      exact (dq_head m c t 5 640 rfl _ _ _ 5 rfl _ (y 0) (y 1)).trans (emb20 _ t _ 5 y (by omega) (by omega))
    case piece3 =>
      rw [idx2 y]
      exact (dq_head m c t 4 512 rfl _ _ _ 4 rfl _ (y 0) (y 1)).trans (emb20 _ t _ 4 y (by omega) (by omega))
    case piece4 =>
      rw [idx2 y]
      exact (dq_head m c t 3 384 rfl _ _ _ 3 rfl _ (y 0) (y 1)).trans (emb20 _ t _ 3 y (by omega) (by omega))
    case piece5 =>
      rw [idx2 y]
      exact (dq_head m c t 2 256 rfl _ _ _ 2 rfl _ (y 0) (y 1)).trans (emb20 _ t _ 2 y (by omega) (by omega))
    case piece6 =>
      rw [idx2 y]
      exact (dq_head m c t 1 128 rfl _ _ _ 1 rfl _ (y 0) (y 1)).trans (emb20 _ t _ 1 y (by omega) (by omega))
    case piece7 =>
      rw [idx2 y]
      exact (dq_head m c t 0 0 rfl _ _ _ 0 rfl _ (y 0) (y 1)).trans (emb20 _ t _ 0 y (by omega) (by omega))
  · rw [outsAt0_B m c t ht]
    frame_out
    canon_tiles y h
    case piece0 =>
      rw [idx2 y]
      exact (dq_head m c t 7 896 rfl _ _ _ 7 rfl _ (y 0) (y 1)).trans (emb20 _ t _ 7 y (by omega) (by omega))
    case piece1 =>
      rw [idx2 y]
      exact (dq_head m c t 6 768 rfl _ _ _ 6 rfl _ (y 0) (y 1)).trans (emb20 _ t _ 6 y (by omega) (by omega))
    case piece2 =>
      rw [idx2 y]
      exact (dq_head m c t 5 640 rfl _ _ _ 5 rfl _ (y 0) (y 1)).trans (emb20 _ t _ 5 y (by omega) (by omega))
    case piece3 =>
      rw [idx2 y]
      exact (dq_head m c t 4 512 rfl _ _ _ 4 rfl _ (y 0) (y 1)).trans (emb20 _ t _ 4 y (by omega) (by omega))
    case piece4 =>
      rw [idx2 y]
      exact (dq_head m c t 3 384 rfl _ _ _ 3 rfl _ (y 0) (y 1)).trans (emb20 _ t _ 3 y (by omega) (by omega))
    case piece5 =>
      rw [idx2 y]
      exact (dq_head m c t 2 256 rfl _ _ _ 2 rfl _ (y 0) (y 1)).trans (emb20 _ t _ 2 y (by omega) (by omega))
    case piece6 =>
      rw [idx2 y]
      exact (dq_head m c t 1 128 rfl _ _ _ 1 rfl _ (y 0) (y 1)).trans (emb20 _ t _ 1 y (by omega) (by omega))
    case piece7 =>
      rw [idx2 y]
      exact (dq_head m c t 0 0 rfl _ _ _ 0 rfl _ (y 0) (y 1)).trans (emb20 _ t _ 0 y (by omega) (by omega))

theorem emb21 (f : Fin 8192 → Fin 8 → Fin 128 → EReal) (t : Fin cfg0.grid.N) (y : ((cfg0.win 21).xblock (cfg0.grid.coords t)).Idx) (h : Fin 8) (z : S128x128.Idx)
    (h0 : (y 0).val = (z 0).val) (h1 : (y 1).val = h.val * 128 + (z 1).val) :
    f (pos t (z 0)) h (z 1) = lay f (((View.whole main_v94_1).slice (win0_21.rect t)).emb y) := by
  refine lay_at f _ t h (z 0) (z 1) ?_ ?_
  · blk_simp [idx_facts t]
    omega
  · blk_simp [idx_facts t]
    omega

/-- The gradient of the keys. -/
theorem arr21 : (dats m 0 c).arrAt 21 cfg0.grid.N = lay (dk (a0 m c) (a1 m c) (a2 m c) (a3 m c) (a4 m c)) := by
  refine (dats m 0 c).arrAt_eq_of_covers 21 _ (by decide +kernel) fun t hf y => ?_
  blk_simp
  rw [after0_21]
  by_cases ht : t.val % 64 = 0
  · rw [outsAt0_A m c t ht]
    frame_out
    canon_tiles y h
    case piece0 =>
      rw [idx2 y]
      exact (dk_head m c t 7 896 rfl _ _ _ 7 rfl _ (y 0) (y 1)).trans (emb21 _ t _ 7 y (by omega) (by omega))
    case piece1 =>
      rw [idx2 y]
      exact (dk_head m c t 6 768 rfl _ _ _ 6 rfl _ (y 0) (y 1)).trans (emb21 _ t _ 6 y (by omega) (by omega))
    case piece2 =>
      rw [idx2 y]
      exact (dk_head m c t 5 640 rfl _ _ _ 5 rfl _ (y 0) (y 1)).trans (emb21 _ t _ 5 y (by omega) (by omega))
    case piece3 =>
      rw [idx2 y]
      exact (dk_head m c t 4 512 rfl _ _ _ 4 rfl _ (y 0) (y 1)).trans (emb21 _ t _ 4 y (by omega) (by omega))
    case piece4 =>
      rw [idx2 y]
      exact (dk_head m c t 3 384 rfl _ _ _ 3 rfl _ (y 0) (y 1)).trans (emb21 _ t _ 3 y (by omega) (by omega))
    case piece5 =>
      rw [idx2 y]
      exact (dk_head m c t 2 256 rfl _ _ _ 2 rfl _ (y 0) (y 1)).trans (emb21 _ t _ 2 y (by omega) (by omega))
    case piece6 =>
      rw [idx2 y]
      exact (dk_head m c t 1 128 rfl _ _ _ 1 rfl _ (y 0) (y 1)).trans (emb21 _ t _ 1 y (by omega) (by omega))
    case piece7 =>
      rw [idx2 y]
      exact (dk_head m c t 0 0 rfl _ _ _ 0 rfl _ (y 0) (y 1)).trans (emb21 _ t _ 0 y (by omega) (by omega))
  · rw [outsAt0_B m c t ht]
    frame_out
    canon_tiles y h
    case piece0 =>
      rw [idx2 y]
      exact (dk_head m c t 7 896 rfl _ _ _ 7 rfl _ (y 0) (y 1)).trans (emb21 _ t _ 7 y (by omega) (by omega))
    case piece1 =>
      rw [idx2 y]
      exact (dk_head m c t 6 768 rfl _ _ _ 6 rfl _ (y 0) (y 1)).trans (emb21 _ t _ 6 y (by omega) (by omega))
    case piece2 =>
      rw [idx2 y]
      exact (dk_head m c t 5 640 rfl _ _ _ 5 rfl _ (y 0) (y 1)).trans (emb21 _ t _ 5 y (by omega) (by omega))
    case piece3 =>
      rw [idx2 y]
      exact (dk_head m c t 4 512 rfl _ _ _ 4 rfl _ (y 0) (y 1)).trans (emb21 _ t _ 4 y (by omega) (by omega))
    case piece4 =>
      rw [idx2 y]
      exact (dk_head m c t 3 384 rfl _ _ _ 3 rfl _ (y 0) (y 1)).trans (emb21 _ t _ 3 y (by omega) (by omega))
    case piece5 =>
      rw [idx2 y]
      exact (dk_head m c t 2 256 rfl _ _ _ 2 rfl _ (y 0) (y 1)).trans (emb21 _ t _ 2 y (by omega) (by omega))
    case piece6 =>
      rw [idx2 y]
      exact (dk_head m c t 1 128 rfl _ _ _ 1 rfl _ (y 0) (y 1)).trans (emb21 _ t _ 1 y (by omega) (by omega))
    case piece7 =>
      rw [idx2 y]
      exact (dk_head m c t 0 0 rfl _ _ _ 0 rfl _ (y 0) (y 1)).trans (emb21 _ t _ 0 y (by omega) (by omega))

theorem emb22 (f : Fin 8192 → Fin 8 → Fin 128 → EReal) (t : Fin cfg0.grid.N) (y : ((cfg0.win 22).xblock (cfg0.grid.coords t)).Idx) (h : Fin 8) (z : S128x128.Idx)
    (h0 : (y 0).val = (z 0).val) (h1 : (y 1).val = h.val * 128 + (z 1).val) :
    f (pos t (z 0)) h (z 1) = lay f (((View.whole main_v94_2).slice (win0_22.rect t)).emb y) := by
  refine lay_at f _ t h (z 0) (z 1) ?_ ?_
  · blk_simp [idx_facts t]
    omega
  · blk_simp [idx_facts t]
    omega

/-- The gradient of the values. -/
theorem arr22 : (dats m 0 c).arrAt 22 cfg0.grid.N = lay (dv (a0 m c) (a1 m c) (a3 m c) (a4 m c)) := by
  refine (dats m 0 c).arrAt_eq_of_covers 22 _ (by decide +kernel) fun t hf y => ?_
  blk_simp
  rw [after0_22]
  by_cases ht : t.val % 64 = 0
  · rw [outsAt0_A m c t ht]
    frame_out
    canon_tiles y h
    case piece0 =>
      rw [idx2 y]
      exact (dv_head m c t 7 896 rfl _ _ _ 7 rfl _ (y 0) (y 1)).trans (emb22 _ t _ 7 y (by omega) (by omega))
    case piece1 =>
      rw [idx2 y]
      exact (dv_head m c t 6 768 rfl _ _ _ 6 rfl _ (y 0) (y 1)).trans (emb22 _ t _ 6 y (by omega) (by omega))
    case piece2 =>
      rw [idx2 y]
      exact (dv_head m c t 5 640 rfl _ _ _ 5 rfl _ (y 0) (y 1)).trans (emb22 _ t _ 5 y (by omega) (by omega))
    case piece3 =>
      rw [idx2 y]
      exact (dv_head m c t 4 512 rfl _ _ _ 4 rfl _ (y 0) (y 1)).trans (emb22 _ t _ 4 y (by omega) (by omega))
    case piece4 =>
      rw [idx2 y]
      exact (dv_head m c t 3 384 rfl _ _ _ 3 rfl _ (y 0) (y 1)).trans (emb22 _ t _ 3 y (by omega) (by omega))
    case piece5 =>
      rw [idx2 y]
      exact (dv_head m c t 2 256 rfl _ _ _ 2 rfl _ (y 0) (y 1)).trans (emb22 _ t _ 2 y (by omega) (by omega))
    case piece6 =>
      rw [idx2 y]
      exact (dv_head m c t 1 128 rfl _ _ _ 1 rfl _ (y 0) (y 1)).trans (emb22 _ t _ 1 y (by omega) (by omega))
    case piece7 =>
      rw [idx2 y]
      exact (dv_head m c t 0 0 rfl _ _ _ 0 rfl _ (y 0) (y 1)).trans (emb22 _ t _ 0 y (by omega) (by omega))
  · rw [outsAt0_B m c t ht]
    frame_out
    canon_tiles y h
    case piece0 =>
      rw [idx2 y]
      exact (dv_head m c t 7 896 rfl _ _ _ 7 rfl _ (y 0) (y 1)).trans (emb22 _ t _ 7 y (by omega) (by omega))
    case piece1 =>
      rw [idx2 y]
      exact (dv_head m c t 6 768 rfl _ _ _ 6 rfl _ (y 0) (y 1)).trans (emb22 _ t _ 6 y (by omega) (by omega))
    case piece2 =>
      rw [idx2 y]
      exact (dv_head m c t 5 640 rfl _ _ _ 5 rfl _ (y 0) (y 1)).trans (emb22 _ t _ 5 y (by omega) (by omega))
    case piece3 =>
      rw [idx2 y]
      exact (dv_head m c t 4 512 rfl _ _ _ 4 rfl _ (y 0) (y 1)).trans (emb22 _ t _ 4 y (by omega) (by omega))
    case piece4 =>
      rw [idx2 y]
      exact (dv_head m c t 3 384 rfl _ _ _ 3 rfl _ (y 0) (y 1)).trans (emb22 _ t _ 3 y (by omega) (by omega))
    case piece5 =>
      rw [idx2 y]
      exact (dv_head m c t 2 256 rfl _ _ _ 2 rfl _ (y 0) (y 1)).trans (emb22 _ t _ 2 y (by omega) (by omega))
    case piece6 =>
      rw [idx2 y]
      exact (dv_head m c t 1 128 rfl _ _ _ 1 rfl _ (y 0) (y 1)).trans (emb22 _ t _ 1 y (by omega) (by omega))
    case piece7 =>
      rw [idx2 y]
      exact (dv_head m c t 0 0 rfl _ _ _ 0 rfl _ (y 0) (y 1)).trans (emb22 _ t _ 0 y (by omega) (by omega))

end Cert.DilProof
end
-- ==== Proof.DilDb.lean ====
/- The gradient of the bias, as a whole array: the points' score gradients, added up. -/
module

public import proofs.«01_k».proof.Proof.DilHeads
public import Idealize.ShloMosaic.Lib.Pipeline.ReadBack
public import Idealize.ShloMosaic.Lib.Ring

@[expose] public section

set_option maxRecDepth 16384
set_option maxHeartbeats 4000000

noncomputable section

open Idealize.ShloMosaic Idealize.ShloMosaic.TcCoe

namespace Cert.DilProof

open Cert.KernelIdeal Cert.KernelIdeal.Gen

variable (m : (ℓ : Loc nD τ sig) → Buf (Elt Ideal) ℓ) (c : Dev nD)

/-- What a grid point adds to the bias gradient. -/
def dbTerm (t : Fin grid0.N) (y : S8x128x256.Idx) : EReal :=
  if hv : ok t.val (y 1).val (y 2).val then dsc (a0 m c) (a1 m c) (a2 m c) (a3 m c) (a4 m c) (y 0) (pos t (y 1)) (wpos t (y 2) hv.1) else 0

/-- A head's plane after a point: what it was before and the point's term. -/
theorem db_head (t : Fin grid0.N) (h : Fin 8) (o : ℕ) (ho : o = h.val * 128) (ia) (ib) (ic) (g : ℕ) (hg : g = h.val) (ig) (D : Vec Ideal S1x128x256 .f32)
    (z : S1x128x256.Idx) (y : S8x128x256.Idx) (e0 : (y 0).val = h.val) (e1 : (y 1).val = (z 1).val) (e2 : (y 2).val = (z 2).val)
    (d : EReal) (hD : D (ix3 (0 : Fin 1) (z 1) (z 2)) = d) :
    (k0_pay11 (F := Ideal)
      (k0_pay6 (k0_pay3 (grid0.coords t)) (View.ld (iblk m c 3 t) (Rect.unit ![64, o] ![64, 128] ia)) (View.ld (iblk m c 4 t) (Rect.unit ![0, o] ![128, 128] ib))
        (View.ld (iblk m c 5 t) (Rect.unit ![0, o] ![64, 128] ic)) (View.ld (iblk m c 1 t) (Rect.unit ![0, o] ![128, 128] ib))
        (View.ld (iblk m c 18 t) (Rect.unit ![g, 0, 0] ![1, 128, 256] ig)) (View.ld (iblk m c 13 t) (Rect.unit ![0, o] ![128, 128] ib)) (View.ld (iblk m c 13 t) (Rect.unit ![0, o] ![128, 128] ib)))
      (k0_pay7 (View.ld (iblk m c 6 t) (Rect.unit ![64, o] ![64, 128] ia)) (View.ld (iblk m c 7 t) (Rect.unit ![0, o] ![128, 128] ib))
        (View.ld (iblk m c 8 t) (Rect.unit ![0, o] ![64, 128] ic)) (View.ld (iblk m c 10 t) (Rect.unit ![0, o] ![128, 128] ib)))
      (k0_pay8 (View.ld (iblk m c 16 t) (Rect.unit ![0, o] ![128, 128] ib))) (View.ld (iblk m c 16 t) (Rect.unit ![0, o] ![128, 128] ib)) D z : EReal) = d + dbTerm m c t y := by
  obtain ⟨z0, i, w, rfl⟩ : ∃ (z0 : Fin 1) (i : Fin 128) (w : Fin 256), z = ix3 z0 i w :=
    ⟨z 0, z 1, z 2, by funext a; match a with | 0 => rfl | 1 => rfl | 2 => rfl⟩
  obtain rfl : y = ix3 h i w := by funext a; match a with | 0 => exact Fin.ext e0 | 1 => exact Fin.ext e1 | 2 => exact Fin.ext e2
  change (D (ix3 (0 : Fin 1) i w) : EReal) = d at hD
  rw [pay11_at, ds1_at m c t h o ho ia ib ic g hg ig i w, hD]
  rfl

theorem plane_ld (X : S8x128x256.Idx → Elt Ideal .f32) (g : ℕ) (inb) (hg : g < 8) (z : S1x128x256.Idx) (y : S8x128x256.Idx)
    (e0 : (y 0).val = g) (e1 : (y 1).val = (z 1).val) (e2 : (y 2).val = (z 2).val) :
    (View.ld X (Rect.unit (s := S8x128x256) ![g, 0, 0] ![1, 128, 256] inb) (ix3 (0 : Fin 1) (z 1) (z 2)) : EReal) = X y := by
  refine (ld3_at X g inb (z 1) (z 2) hg le_rfl le_rfl).trans (congrArg X ?_)
  funext a
  match a with
  | 0 => exact Fin.ext e0.symm
  | 1 => exact Fin.ext e1.symm
  | 2 => exact Fin.ext e2.symm

section
variable (v : View sig .tc .vmem S8x128x256 .f32)

theorem read_zero (g : ℕ) (inb) (inb') :
    v.readCov (Val := Elt Ideal) [⟨Rect.unit ![0, 0, 0] ![8, 128, 256] inb, k0_pay2 (F := Ideal)⟩] (Rect.unit (s := S8x128x256) ![g, 0, 0] ![1, 128, 256] inb').toLoadRect
      = fun _ => (0 : EReal) := by
  rw [View.readCov_eq_canon']
  funext z
  refine (congrFun (View.canon_cons_unit_lit (Val := Elt Ideal) (S := S8x128x256) (e := .f32) inb (k0_pay2 (F := Ideal)) [] (by decide)) _).trans ?_
  unfold k0_pay2
  generalize (Rect.unit (s := S8x128x256) ![g, 0, 0] ![1, 128, 256] inb').toLoadRect.idx z = q
  pointwise

theorem read_skip (k g : ℕ) (hk : k ≠ g) (inb) (w) (L : List (View.Piece (Elt Ideal) S8x128x256 .f32)) (inb') :
    v.readCov (Val := Elt Ideal) (⟨Rect.unit (s := S8x128x256) ![k, 0, 0] ![1, 128, 256] inb, w⟩ :: L) (Rect.unit (s := S8x128x256) ![g, 0, 0] ![1, 128, 256] inb').toLoadRect
      = v.readCov (Val := Elt Ideal) L (Rect.unit (s := S8x128x256) ![g, 0, 0] ![1, 128, 256] inb').toLoadRect := by
  rw [View.readCov_eq_canon', View.readCov_eq_canon']
  funext z
  refine View.canon_cons_of_not_mem _ L fun hm => ?_
  have h0 := (Rect.mem_set_unit (inb := inb).1 hm) (0 : Fin 3)
  have hz : (z 0).val < 1 := (z 0).isLt
  have e : ((((Rect.unit (s := S8x128x256) ![g, 0, 0] ![1, 128, 256] inb').toLoadRect.idx z) 0 : Fin 8) : ℕ) = g + 1 * (z 0).val := rfl
  have h1 : k ≤ g + 1 * (z 0).val := e ▸ h0.1
  have h2 : g + 1 * (z 0).val < k + 1 := e ▸ h0.2
  omega
end

theorem stepB (t : Fin cfg0.grid.N) (ht : ¬t.val % 64 = 0) (y : S8x128x256.Idx) : ((outsAt0 m c t.val t.isLt).2.2.2 y : EReal)
    = (outsAt0 m c (t.val - 1) (Nat.lt_of_le_of_lt (Nat.sub_le _ _) t.isLt)).2.2.2 y + dbTerm m c t y := by
  rw [outsAt0_B m c t ht]
  frame_out
  canon_tiles y h
  case piece0 =>
    refine db_head m c t 7 896 rfl _ _ _ 7 rfl _ _ y _ (by omega) (by omega) (by omega) _ ?_
    exact plane_ld _ 7 _ (by decide) _ _ (by omega) (by omega) (by omega)
  case piece1 =>
    refine db_head m c t 6 768 rfl _ _ _ 6 rfl _ _ y _ (by omega) (by omega) (by omega) _ ?_
    exact plane_ld _ 6 _ (by decide) _ _ (by omega) (by omega) (by omega)
  case piece2 =>
    refine db_head m c t 5 640 rfl _ _ _ 5 rfl _ _ y _ (by omega) (by omega) (by omega) _ ?_
    exact plane_ld _ 5 _ (by decide) _ _ (by omega) (by omega) (by omega)
  case piece3 =>
    refine db_head m c t 4 512 rfl _ _ _ 4 rfl _ _ y _ (by omega) (by omega) (by omega) _ ?_
    exact plane_ld _ 4 _ (by decide) _ _ (by omega) (by omega) (by omega)
  case piece4 =>
    refine db_head m c t 3 384 rfl _ _ _ 3 rfl _ _ y _ (by omega) (by omega) (by omega) _ ?_
    exact plane_ld _ 3 _ (by decide) _ _ (by omega) (by omega) (by omega)
  case piece5 =>
    refine db_head m c t 2 256 rfl _ _ _ 2 rfl _ _ y _ (by omega) (by omega) (by omega) _ ?_
    exact plane_ld _ 2 _ (by decide) _ _ (by omega) (by omega) (by omega)
  case piece6 =>
    refine db_head m c t 1 128 rfl _ _ _ 1 rfl _ _ y _ (by omega) (by omega) (by omega) _ ?_
    exact plane_ld _ 1 _ (by decide) _ _ (by omega) (by omega) (by omega)
  case piece7 =>
    refine db_head m c t 0 0 rfl _ _ _ 0 rfl _ _ y _ (by omega) (by omega) (by omega) _ ?_
    exact plane_ld _ 0 _ (by decide) _ _ (by omega) (by omega) (by omega)

theorem stepA (t : Fin cfg0.grid.N) (ht : t.val % 64 = 0) (y : S8x128x256.Idx) : ((outsAt0 m c t.val t.isLt).2.2.2 y : EReal) = 0 + dbTerm m c t y := by
  rw [outsAt0_A m c t ht]
  frame_out
  simp (discharger := decide) only [read_skip, read_zero]
  refine View.canon_append_of_piecesOf (Val := Elt Ideal) (s := S8x128x256) (e := .f32) (fun y => 0 + dbTerm m c t y) [_] [_, _, _, _, _, _, _, _] ⟨?_, ?_, ?_, ?_, ?_, ?_, ?_, ?_, trivial⟩ y ?_
  · intro z
    have hz : (z 0).val < 1 := (z 0).isLt
    refine db_head m c t 7 896 rfl _ _ _ 7 rfl _ _ z _ (by show 7 + 1 * (z 0).val = 7; omega) (by show 0 + 1 * (z 1).val = (z 1).val; omega)
      (by show 0 + 1 * (z 2).val = (z 2).val; omega) 0 ?_
    rfl
  · intro z
    have hz : (z 0).val < 1 := (z 0).isLt
    refine db_head m c t 6 768 rfl _ _ _ 6 rfl _ _ z _ (by show 6 + 1 * (z 0).val = 6; omega) (by show 0 + 1 * (z 1).val = (z 1).val; omega)
      (by show 0 + 1 * (z 2).val = (z 2).val; omega) 0 ?_
    rfl
  · intro z
    have hz : (z 0).val < 1 := (z 0).isLt
    refine db_head m c t 5 640 rfl _ _ _ 5 rfl _ _ z _ (by show 5 + 1 * (z 0).val = 5; omega) (by show 0 + 1 * (z 1).val = (z 1).val; omega)
      (by show 0 + 1 * (z 2).val = (z 2).val; omega) 0 ?_
    rfl
  · intro z
    have hz : (z 0).val < 1 := (z 0).isLt
    refine db_head m c t 4 512 rfl _ _ _ 4 rfl _ _ z _ (by show 4 + 1 * (z 0).val = 4; omega) (by show 0 + 1 * (z 1).val = (z 1).val; omega)
      (by show 0 + 1 * (z 2).val = (z 2).val; omega) 0 ?_
    rfl
  · intro z
    have hz : (z 0).val < 1 := (z 0).isLt
    refine db_head m c t 3 384 rfl _ _ _ 3 rfl _ _ z _ (by show 3 + 1 * (z 0).val = 3; omega) (by show 0 + 1 * (z 1).val = (z 1).val; omega)
      (by show 0 + 1 * (z 2).val = (z 2).val; omega) 0 ?_
    rfl
  · intro z
    have hz : (z 0).val < 1 := (z 0).isLt
    refine db_head m c t 2 256 rfl _ _ _ 2 rfl _ _ z _ (by show 2 + 1 * (z 0).val = 2; omega) (by show 0 + 1 * (z 1).val = (z 1).val; omega)
      (by show 0 + 1 * (z 2).val = (z 2).val; omega) 0 ?_
    rfl
  · intro z
    have hz : (z 0).val < 1 := (z 0).isLt
    refine db_head m c t 1 128 rfl _ _ _ 1 rfl _ _ z _ (by show 1 + 1 * (z 0).val = 1; omega) (by show 0 + 1 * (z 1).val = (z 1).val; omega)
      (by show 0 + 1 * (z 2).val = (z 2).val; omega) 0 ?_
    rfl
  · intro z
    have hz : (z 0).val < 1 := (z 0).isLt
    refine db_head m c t 0 0 rfl _ _ _ 0 rfl _ _ z _ (by show 0 + 1 * (z 0).val = 0; omega) (by show 0 + 1 * (z 1).val = (z 1).val; omega)
      (by show 0 + 1 * (z 2).val = (z 2).val; omega) 0 ?_
    rfl
  · exact View.cover_of_tiledL _ ![1, 128, 256] (by sl_kernel_rfl) y

/-- After the grid's last point: the points' terms, added up. -/
theorem db_sum (t : Fin cfg0.N) (ht : t.val + 1 = cfg0.N) (j : S8x128x256.Idx) : ((outsAt0 m c t.val t.isLt).2.2.2 j : EReal) = 0 + ∑ p : Fin cfg0.N, dbTerm m c p j :=
  Pipeline.eq_sum_fin_of_reset_step_apply_last (fun n h => ((outsAt0 m c n h).2.2.2 : S8x128x256.Idx → EReal)) 64 (fun _ => (0 : EReal)) (fun t y => dbTerm m c t y)
    (fun t h y => stepA m c t h y) (fun t h y => stepB m c t h y) (by decide) t ht j

/-- The launch's last point. -/
def lastPt : Fin cfg0.N := ⟨63, by decide⟩
theorem lastPt_eq : (lastPt : Fin cfg0.N).val + 1 = cfg0.N := by decide
theorem lastPt_whole : (cfg0.win 23).WholeAt lastPt := by decide +kernel

/-- The gradient of the bias. -/
theorem arr23 : (dats m 0 c).arrAt 23 cfg0.grid.N
    = (fun y : S8x128x256.Idx => db (a0 m c) (a1 m c) (a2 m c) (a3 m c) (a4 m c) (y 0) (y 1) (y 2)) := by
  refine (dats m 0 c).arrAt_eq_of_after_last 23 lastPt lastPt_whole _ fun j => ?_
  rw [after0_23]
  blk_simp
  refine (db_sum m c lastPt lastPt_eq (fun a => ⟨(j a).val, (j a).isLt⟩)).trans ?_
  rw [zero_add]
  rfl

end Cert.DilProof
end
-- ==== Proof.DilRefWords.lean ====
/- The word that names a window element's row, decided over all windows. -/
module

public import proofs.«01_k».proof.Proof.DilWords

@[expose] public section

set_option maxRecDepth 16384

namespace Cert.DilProof

open Idealize.ShloMosaic

/-- The row of element `w` of window `n`, never negative. -/
theorem row_word : ∀ (n : Fin 64) (w : Fin 256),
    (Scalar.select (IntOp.cmpi .slt (IntOp.addi (IntOp.muli (BitVec.ofNat 32 n.val) 128#32) (BitVec.ofNat 32 w.val)) 0#32)
      (IntOp.addi (IntOp.addi (IntOp.muli (BitVec.ofNat 32 n.val) 128#32) (BitVec.ofNat 32 w.val)) 8320#32)
      (IntOp.addi (IntOp.muli (BitVec.ofNat 32 n.val) 128#32) (BitVec.ofNat 32 w.val))).toInt = (n.val * 128 + w.val : ℕ) := by
  decide +kernel

end Cert.DilProof
-- ==== Proof.DilRef.lean ====
/- The reference's gradients of one dilated-attention branch, read at an element. -/
module

public import proofs.«01_k».proof.Defs
public import proofs.«01_k».proof.Proof.DilSpec
public import proofs.«01_k».proof.Proof.DilRefWords
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise
public import Idealize.ShloMosaic.Lib.Tactic
public import Idealize.ShloMosaic.Lib.Routing.OpsPair

@[expose] public section

set_option maxRecDepth 16384

noncomputable section

open Idealize.ShloMosaic Idealize.ShloMosaic.TcCoe Idealize.SL.Sem

namespace Cert.DilProof.Ref

open Cert.ReferenceIdeal Cert.ReferenceIdeal.Read

variable (x0 : S8192x4096.Idx → EReal) (x1 : S8192x2048.Idx → EReal) (x2 : S8192x1024.Idx → EReal) (x3 : S8192x8.Idx → EReal) (x4 : S32x8.Idx → EReal)

theorem q_at (h : Fin 8) (s : Fin 8192) (l : Fin 128) : (val_main_v3 (F := Ideal) x0 (ix3 h s l) : EReal) = qAt x0 h s l := by
  have hh : h.val < 8 := h.isLt
  have hs : s.val < 8192 := s.isLt
  have hl : l.val < 128 := l.isLt
  rw [val_main_v3_apply, val_main_v2_apply, val_main_v1_apply, val_main_v0_apply]
  refine congrArg x0 (funext fun a => Fin.ext ?_)
  match a with
  | ⟨0, _⟩ => dsimp only [ix3, ix2]; omega
  | ⟨1, _⟩ => dsimp only [ix3, ix2]; omega

theorem k_at (h : Fin 8) (s : Fin 8192) (l : Fin 128) : (val_main_v7 (F := Ideal) x0 (ix3 h s l) : EReal) = kAt x0 h s l := by
  have hh : h.val < 8 := h.isLt
  have hs : s.val < 8192 := s.isLt
  have hl : l.val < 128 := l.isLt
  rw [val_main_v7_apply, val_main_v6_apply, val_main_v5_apply, val_main_v4_apply]
  refine congrArg x0 (funext fun a => Fin.ext ?_)
  match a with
  | ⟨0, _⟩ => dsimp only [ix3, ix2]; omega
  | ⟨1, _⟩ => dsimp only [ix3, ix2]; omega

theorem v_at (h : Fin 8) (s : Fin 8192) (l : Fin 128) : (val_main_v11 (F := Ideal) x0 (ix3 h s l) : EReal) = vAt x0 h s l := by
  have hh : h.val < 8 := h.isLt
  have hs : s.val < 8192 := s.isLt
  have hl : l.val < 128 := l.isLt
  rw [val_main_v11_apply, val_main_v10_apply, val_main_v9_apply, val_main_v8_apply]
  refine congrArg x0 (funext fun a => Fin.ext ?_)
  match a with
  | ⟨0, _⟩ => dsimp only [ix3, ix2]; omega
  | ⟨1, _⟩ => dsimp only [ix3, ix2]; omega

theorem g_at (h : Fin 8) (s : Fin 8192) (l : Fin 128) : (val_main_v57 (F := Ideal) x1 (ix3 h s l) : EReal) = gAt x1 h s l := by
  have hh : h.val < 8 := h.isLt
  have hs : s.val < 8192 := s.isLt
  have hl : l.val < 128 := l.isLt
  rw [val_main_v57_apply, val_main_v56_apply, val_main_v55_apply, val_main_v54_apply]
  refine congrArg x1 (funext fun a => Fin.ext ?_)
  match a with
  | ⟨0, _⟩ => dsimp only [ix3, ix2]; omega
  | ⟨1, _⟩ => dsimp only [ix3, ix2]; omega

theorem o_at (h : Fin 8) (s : Fin 8192) (l : Fin 128) : (val_main_v60 (F := Ideal) x2 (ix3 h s l) : EReal) = x2 (ix2 s ⟨h.val * 128 + l.val, by omega⟩) := by
  have hh : h.val < 8 := h.isLt
  have hs : s.val < 8192 := s.isLt
  have hl : l.val < 128 := l.isLt
  rw [val_main_v60_apply, val_main_v59_apply, val_main_v58_apply]
  refine congrArg x2 (funext fun a => Fin.ext ?_)
  match a with
  | ⟨0, _⟩ => dsimp only [ix3, ix2]; omega
  | ⟨1, _⟩ => dsimp only [ix3, ix2]; omega

theorem idx3 {a b c : ℕ} (f : (⟨3, ![a, b, c]⟩ : Shape).Idx) (i : Fin a) (j : Fin b) (k : Fin c) (h0 : (f 0).val = i.val) (h1 : (f 1).val = j.val) (h2 : (f 2).val = k.val) :
    f = ix3 i j k := by
  funext x
  match x with
  | ⟨0, _⟩ => exact Fin.ext h0
  | ⟨1, _⟩ => exact Fin.ext h1
  | ⟨2, _⟩ => exact Fin.ext h2

theorem idx4 {a b c d : ℕ} (f : (⟨4, ![a, b, c, d]⟩ : Shape).Idx) (i : Fin a) (j : Fin b) (k : Fin c) (l : Fin d) (h0 : (f 0).val = i.val) (h1 : (f 1).val = j.val)
    (h2 : (f 2).val = k.val) (h3 : (f 3).val = l.val) : f = ix4 i j k l := by
  funext x
  match x with
  | ⟨0, _⟩ => exact Fin.ext h0
  | ⟨1, _⟩ => exact Fin.ext h1
  | ⟨2, _⟩ => exact Fin.ext h2
  | ⟨3, _⟩ => exact Fin.ext h3

theorem delta_at (h : Fin 8) (s : Fin 8192) : (val_main_v62 (F := Ideal) x1 x2 (ix2 h s) : EReal) = delta x1 x2 h s := by
  rw [val_main_v62_apply]
  refine (congrArg₂ (· + ·) (show _ = (0 : EReal) from ?_) (Finset.sum_congr rfl fun k _ => ?_)).trans (zero_add _)
  · rw [val_main_cst_11_apply]
    exact Ideal.ofBits_zero .f32
  · rw [idx3 (idx_main_v62 (ix2 h s) k) h s k rfl rfl rfl, val_main_v61_apply]
    exact congrArg₂ (· * ·) (g_at x1 h s k) (o_at x2 h s k)

theorem lse_at (h : Fin 8) (s : Fin 8192) : (val_main_v53 (F := Ideal) x3 (ix2 h s) : EReal) = x3 (ix2 s h) := by
  rw [val_main_v53_apply]
  refine congrArg x3 (funext fun a => Fin.ext ?_)
  match a with
  | ⟨0, _⟩ => rfl
  | ⟨1, _⟩ => rfl

/-- The row of a window's element, a word. -/
theorem pos_word (n : Fin 64) (w : Fin 256) (z : Fin 1) : (val_main_v93 (F := Ideal) (ix3 n w z)).toInt = (n.val * 128 + w.val : ℕ) := by
  simp only [val_main_v93_apply, val_main_v92_apply, val_main_v91_apply, val_main_v90_apply, val_main_v89_apply, val_main_v88_apply, val_main_v74_apply, val_main_v73_apply, val_main_v72_apply, val_main_v71_apply, val_main_v70_apply, val_main_v69_apply, val_main_v68_apply, val_main_v67_apply, val_main_v66_apply, val_main_c_13_apply, val_main_c_20_apply, val_main_c_21_apply]
  exact row_word n w

theorem pos_word' (n : Fin 64) (w : Fin 256) (z : Fin 1) : (val_main_v83 (F := Ideal) (ix3 n w z)).toInt = (n.val * 128 + w.val : ℕ) := by
  simp only [val_main_v83_apply, val_main_v82_apply, val_main_v81_apply, val_main_v80_apply, val_main_v79_apply, val_main_v78_apply, val_main_v74_apply, val_main_v73_apply, val_main_v72_apply, val_main_v71_apply, val_main_v70_apply, val_main_v69_apply, val_main_v68_apply, val_main_v67_apply, val_main_v66_apply, val_main_c_13_apply, val_main_c_16_apply, val_main_c_17_apply]
  exact row_word n w

/-- The rows of a window, gathered. -/
theorem rows_at (x : S8x8320x128.Idx → EReal) (idx : IVec S64x256x1 32) (h : Fin 8) (n : Fin 64) (w : Fin 256) (l : Fin 128)
    (hi : (idx (ix3 n w (0 : Fin 1))).toInt = (n.val * 128 + w.val : ℕ)) :
    Host.gather gather_S8x8320x128_S64x256x1_S8x64x256x128_03_1_n_n_1_2_81128 x idx (ix4 h n w l) = x (ix3 h ⟨n.val * 128 + w.val, by omega⟩ l) := by
  have hs : ∀ c, gather_S8x8320x128_S64x256x1_S8x64x256x128_03_1_n_n_1_2_81128.siIdx (ix4 h n w l) c = ix3 n w (0 : Fin 1) := fun c => by
    have hc : c = ⟨0, by decide⟩ := Fin.ext (by have := c.isLt; change c.val < 1 at this; show c.val = 0; omega)
    subst hc
    funext b
    match b with
    | ⟨0, _⟩ => rfl
    | ⟨1, _⟩ => rfl
    | ⟨2, _⟩ => rfl
  refine congrArg x (funext fun a => Fin.ext ?_)
  match a with
  | ⟨0, _⟩ =>
    show 0 + 0 + h.val = h.val
    omega
  | ⟨1, _⟩ =>
    show min (idx (gather_S8x8320x128_S64x256x1_S8x64x256x128_03_1_n_n_1_2_81128.siIdx (ix4 h n w l) _)).toInt.toNat 8319 + 0 + 0 = _
    rw [hs, hi]
    show min (n.val * 128 + w.val) 8319 + 0 + 0 = n.val * 128 + w.val
    omega
  | ⟨2, _⟩ =>
    show 0 + 0 + l.val = l.val
    omega

/-- A row of the padded keys inside the sequence. -/
theorem kpad_at (h : Fin 8) (p : Fin 8320) (l : Fin 128) (hp : 64 ≤ p.val ∧ p.val < 8256) :
    (val_main_v75 (F := Ideal) x0 (ix3 h p l) : EReal) = kAt x0 h ⟨p.val - 64, by omega⟩ l := by
  unfold val_main_v75
  generalize hX : val_main_v7 (F := Ideal) x0 = X
  pointwise
  rw [dif_neg (by omega), dif_pos (by omega), ← hX]
  exact k_at x0 h _ l

theorem vpad_at (h : Fin 8) (p : Fin 8320) (l : Fin 128) (hp : 64 ≤ p.val ∧ p.val < 8256) :
    (val_main_v85 (F := Ideal) x0 (ix3 h p l) : EReal) = vAt x0 h ⟨p.val - 64, by omega⟩ l := by
  unfold val_main_v85
  generalize hX : val_main_v11 (F := Ideal) x0 = X
  pointwise
  rw [dif_neg (by omega), dif_pos (by omega), ← hX]
  exact v_at x0 h _ l

/-- A row of a window of keys. -/
theorem kwin_at (h : Fin 8) (n : Fin 64) (w : Fin 256) (l : Fin 128) (hw : 64 ≤ n.val * 128 + w.val ∧ n.val * 128 + w.val < 8256) :
    (val_main_v84 (F := Ideal) x0 (ix4 h n w l) : EReal) = kAt x0 h ⟨n.val * 128 + w.val - 64, by omega⟩ l := by
  unfold val_main_v84
  rw [rows_at _ _ h n w l (pos_word' n w 0)]
  exact kpad_at x0 h ⟨n.val * 128 + w.val, by omega⟩ l hw

/-- A row of a window of values. -/
theorem vwin_at (h : Fin 8) (n : Fin 64) (w : Fin 256) (l : Fin 128) (hw : 64 ≤ n.val * 128 + w.val ∧ n.val * 128 + w.val < 8256) :
    (val_main_v94 (F := Ideal) x0 (ix4 h n w l) : EReal) = vAt x0 h ⟨n.val * 128 + w.val - 64, by omega⟩ l := by
  unfold val_main_v94
  rw [rows_at _ _ h n w l (pos_word n w 0)]
  exact vpad_at x0 h ⟨n.val * 128 + w.val, by omega⟩ l hw

/-- A row of the bias table, gathered. -/
theorem gatherT (x : S32x8.Idx → EReal) (idx : IVec S128x256x1 32) (i : Fin 128) (j : Fin 256) (h : Fin 8) :
    Host.gather gather_S32x8_S128x256x1_S128x256x8_2_0_n_n_0_2_18 x idx (ix3 i j h) = x (ix2 ⟨min (idx (ix3 i j (0 : Fin 1))).toInt.toNat 31, by omega⟩ h) := by
  have hs : ∀ c, gather_S32x8_S128x256x1_S128x256x8_2_0_n_n_0_2_18.siIdx (ix3 i j h) c = ix3 i j (0 : Fin 1) := fun c => by
    have hc : c = ⟨0, by decide⟩ := Fin.ext (by have := c.isLt; change c.val < 1 at this; show c.val = 0; omega)
    subst hc
    funext b
    match b with
    | ⟨0, _⟩ => rfl
    | ⟨1, _⟩ => rfl
    | ⟨2, _⟩ => rfl
  refine congrArg x (funext fun a => Fin.ext ?_)
  match a with
  | ⟨0, _⟩ =>
    show min (idx (gather_S32x8_S128x256x1_S128x256x8_2_0_n_n_0_2_18.siIdx (ix3 i j h) _)).toInt.toNat 31 + 0 + 0 = _
    rw [hs]; rfl
  | ⟨1, _⟩ =>
    show 0 + 0 + h.val = h.val
    omega

/-- The bias of query `i` of a block and key `j` of its window. -/
theorem bias_at (h : Fin 8) (i : Fin 128) (j : Fin 256) :
    (val_main_v52 (F := Ideal) x4 (ix3 h i j) : EReal) = x4 (ix2 (row (BitVec.ofInt 32 ((j.val : ℤ) - 64 - i.val))) h) := by
  rw [val_main_v52_apply, idx3 (idx_main_v52 (ix3 h i j)) i j h rfl rfl rfl]
  unfold val_main_v51
  rw [gatherT]
  refine congrArg (fun r => x4 (ix2 r h)) (Fin.ext ?_)
  rw [← off1]
  simp only [val_main_v12_apply, val_main_v13_apply, val_main_c_apply, val_main_v14_apply, val_main_v15_apply, val_main_v16_apply, val_main_v17_apply, val_main_v18_apply, val_main_v19_apply, val_main_v20_apply, val_main_v21_apply, val_main_c_0_apply, val_main_v22_apply, val_main_v23_apply, val_main_v24_apply, val_main_cst_apply, val_main_v25_apply, val_main_v26_apply, val_main_v27_apply, val_main_cst_1_apply, val_main_v28_apply, val_main_v29_apply, val_main_cst_2_apply, val_main_v30_apply, val_main_v31_apply, val_main_v32_apply, val_main_c_3_apply, val_main_v33_apply, val_main_v34_apply, val_main_c_4_apply, val_main_v35_apply, val_main_v36_apply, val_main_c_5_apply, val_main_v37_apply, val_main_v38_apply, val_main_c_6_apply, val_main_c_7_apply, val_main_call0_v0_apply, val_main_call0_v1_apply, val_main_v39_apply, val_main_c_8_apply, val_main_v40_apply, val_main_v41_apply, val_main_v42_apply, val_main_v43_apply, val_main_v44_apply, val_main_c_9_apply, val_main_v45_apply, val_main_v46_apply, val_main_c_10_apply, val_main_v47_apply, val_main_v48_apply, val_main_v49_apply, val_main_v50_apply]
  rfl

/-- The mask of a window. -/
theorem valid_at (h : Fin 8) (n : Fin 64) (i : Fin 128) (w : Fin 256) : val_main_v125_1 (F := Ideal) (ix4 h n i w) = 1#1 ↔ ok n.val i.val w.val := by
  simp only [val_main_v66_apply, val_main_v67_apply, val_main_c_13_apply, val_main_v68_apply, val_main_v69_apply, val_main_v70_apply, val_main_v71_apply, val_main_v72_apply, val_main_v73_apply, val_main_v74_apply, val_main_v95_apply, val_main_v96_apply, val_main_c_22_apply, val_main_v97_apply, val_main_v98_apply, val_main_v99_apply, val_main_v100_apply, val_main_v101_apply, val_main_v102_apply, val_main_v103_apply, val_main_c_23_apply, val_main_v104_apply, val_main_v105_apply, val_main_v106_apply, val_main_c_24_apply, val_main_v107_apply, val_main_v108_apply, val_main_v109_apply, val_main_c_25_apply, val_main_v110_apply, val_main_v111_apply, val_main_c_26_apply, val_main_v112_apply, val_main_v113_apply, val_main_v114_apply, val_main_v115_apply, val_main_v116_apply, val_main_v117_apply, val_main_v118_apply, val_main_v125_1_apply]
  rw [andi_eq_one, andi_eq_one]
  unfold ok
  have h1 := band1 i w
  have h2 := inside n w
  exact ⟨fun ⟨a, b, c⟩ => ⟨⟨h2.1.1 b, h2.2.1 c⟩, h1.1 a⟩, fun ⟨⟨b, c⟩, a⟩ => ⟨h1.2 a, h2.1.2 b, h2.2.2 c⟩⟩

theorem valid_not (h : Fin 8) (n : Fin 64) (i : Fin 128) (w : Fin 256) (hv : ¬ ok n.val i.val w.val) : ¬ val_main_v125_1 (F := Ideal) (ix4 h n i w) = (1 : BitVec 1) :=
  fun e => hv ((valid_at h n i w).1 e)

theorem zero_word : (FloatOps.ofBits .f32 0x00000000#32 : Ideal .f32) = (0 : EReal) := Ideal.ofBits_zero .f32

/-- Query `i` of block `n`. -/
theorem qblk_at (h : Fin 8) (n : Fin 64) (i l : Fin 128) : (val_main_v64 (F := Ideal) x0 (ix4 h n i l) : EReal) = qAt x0 h ⟨n.val * 128 + i.val, by omega⟩ l := by
  have hh : h.val < 8 := h.isLt
  have hn : n.val < 64 := n.isLt
  have hi : i.val < 128 := i.isLt
  have hl : l.val < 128 := l.isLt
  rw [val_main_v64_apply, idx3 (idx_main_v64 (ix4 h n i l)) h ⟨n.val * 128 + i.val, by omega⟩ l (by dsimp only [ix4]; omega) (by dsimp only [ix4]; omega) (by dsimp only [ix4]; omega)]
  exact q_at x0 h _ l

theorem gblk_at (h : Fin 8) (n : Fin 64) (i l : Fin 128) : (val_main_v135 (F := Ideal) x1 (ix4 h n i l) : EReal) = gAt x1 h ⟨n.val * 128 + i.val, by omega⟩ l := by
  have hh : h.val < 8 := h.isLt
  have hn : n.val < 64 := n.isLt
  have hi : i.val < 128 := i.isLt
  have hl : l.val < 128 := l.isLt
  rw [val_main_v135_apply, idx3 (idx_main_v135 (ix4 h n i l)) h ⟨n.val * 128 + i.val, by omega⟩ l (by dsimp only [ix4]; omega) (by dsimp only [ix4]; omega) (by dsimp only [ix4]; omega)]
  exact g_at x1 h _ l

/-- The row's log-sum, spread over its window. -/
theorem lseblk_at (h : Fin 8) (n : Fin 64) (i : Fin 128) (w : Fin 256) : (val_main_v128 (F := Ideal) x3 (ix4 h n i w) : EReal) = x3 (ix2 ⟨n.val * 128 + i.val, by omega⟩ h) := by
  have hh : h.val < 8 := h.isLt
  have hn : n.val < 64 := n.isLt
  have hi : i.val < 128 := i.isLt
  rw [val_main_v128_apply, val_main_v127_apply, val_main_v126_apply]
  refine Eq.trans (congrArg _ (funext fun a => ?_)) (lse_at x3 h ⟨n.val * 128 + i.val, by omega⟩)
  match a with
  | ⟨0, _⟩ => exact Fin.ext (by dsimp only [ix4, ix2]; omega)
  | ⟨1, _⟩ => exact Fin.ext (by dsimp only [ix4, ix2]; omega)

theorem deltablk_at (h : Fin 8) (n : Fin 64) (i : Fin 128) (w : Fin 256) : (val_main_v140 (F := Ideal) x1 x2 (ix4 h n i w) : EReal) = -delta x1 x2 h ⟨n.val * 128 + i.val, by omega⟩ := by
  have hh : h.val < 8 := h.isLt
  have hn : n.val < 64 := n.isLt
  have hi : i.val < 128 := i.isLt
  rw [val_main_v140_apply, val_main_v136_apply, val_main_v63_apply]
  refine congrArg (fun x : EReal => -x) (Eq.trans (congrArg _ (funext fun a => ?_)) (delta_at x1 x2 h ⟨n.val * 128 + i.val, by omega⟩))
  match a with
  | ⟨0, _⟩ => exact Fin.ext (by dsimp only [ix4, ix2]; omega)
  | ⟨1, _⟩ => exact Fin.ext (by dsimp only [ix4, ix2]; omega)

/-- The attention weights. -/
theorem p_at (h : Fin 8) (n : Fin 64) (i : Fin 128) (w : Fin 256) :
    (val_main_v130 (F := Ideal) x0 x3 x4 (ix4 h n i w) : EReal)
      = if hv : ok n.val i.val w.val then wt x0 x3 x4 h ⟨n.val * 128 + i.val, by omega⟩ ⟨n.val * 128 + w.val - 64, by have := hv.1; omega⟩ else 0 := by
  rw [val_main_v130_apply, val_main_v129_apply, val_main_v125_0_apply, lseblk_at]
  split
  · rename_i hv
    rw [(valid_at h n i w).2 hv]
    unfold wt
    refine congrArg Ideal.exp (congrArg (fun x : EReal => x - x3 (ix2 ⟨n.val * 128 + i.val, by omega⟩ h)) ?_)
    show (val_main_v124 (F := Ideal) x0 x4 (ix4 h n i w) : EReal) = _
    rw [val_main_v124_apply, val_main_v121_apply, val_main_v119_apply, val_main_v120_apply, val_main_v123_apply, val_main_v122_apply]
    refine congrArg₂ (fun x y : EReal => x + y) (congrArg₂ (fun x y : EReal => x * y) (Finset.sum_congr rfl fun k _ => ?_) ?_) ?_
    · rw [idx4 (lidx_main_v119 (ix4 h n i w) k) h n i k rfl rfl rfl rfl, idx4 (ridx_main_v119 (ix4 h n i w) k) h n w k rfl rfl rfl rfl, qblk_at, kwin_at x0 h n w k hv.1]
    · rfl
    · refine Eq.trans (congrArg _ (idx3 _ h i w rfl rfl rfl)) ((bias_at x4 h i w).trans ?_)
      have e : ((w.val : ℤ) - 64 - i.val) = (((n.val * 128 + w.val - 64 : ℕ) : ℤ) - (n.val * 128 + i.val : ℕ)) := by
        have := hv.1; omega
      rw [e]
  · rename_i hv
    rw [Scalar.select, if_neg (valid_not h n i w hv), val_main_call2_v2_apply, val_main_call2_v0_apply, val_main_cst_28_apply]
    have e : (FloatOps.ofBits .f32 0xFF800000#32 : Ideal .f32) = (⊥ : EReal) := by
      show Ideal.ofBits .f32 0xFF800000#32 = ⊥
      simp [Ideal.ofBits, Ideal.ieee]
    rw [e]
    show Ideal.exp ((⊥ : EReal) - x3 (ix2 ⟨n.val * 128 + i.val, by omega⟩ h)) = 0
    rw [EReal.bot_sub, Ideal.exp_bot]

/-- The gradient of the scores. -/
theorem ds_at (h : Fin 8) (n : Fin 64) (i : Fin 128) (w : Fin 256) :
    (val_main_v143 (F := Ideal) x0 x1 x2 x3 x4 (ix4 h n i w) : EReal)
      = if hv : ok n.val i.val w.val then dsc x0 x1 x2 x3 x4 h ⟨n.val * 128 + i.val, by omega⟩ ⟨n.val * 128 + w.val - 64, by have := hv.1; omega⟩ else 0 := by
  rw [val_main_v143_apply]
  split
  · rename_i hv
    rw [(valid_at h n i w).2 hv]
    show (val_main_v142 (F := Ideal) x0 x1 x2 x3 x4 (ix4 h n i w) : EReal) = _
    rw [val_main_v142_apply, val_main_v141_apply, val_main_v139_apply, deltablk_at, p_at, dif_pos hv]
    unfold dsc
    refine (mul_comm (_ : EReal) _).trans (congrArg (fun x : EReal => wt x0 x3 x4 h ⟨n.val * 128 + i.val, _⟩ ⟨n.val * 128 + w.val - 64, _⟩ * x) ?_)
    refine congrArg (fun x : EReal => x + -delta x1 x2 h ⟨n.val * 128 + i.val, by omega⟩) (Finset.sum_congr rfl fun k _ => ?_)
    rw [idx4 (lidx_main_v139 (ix4 h n i w) k) h n i k rfl rfl rfl rfl, idx4 (ridx_main_v139 (ix4 h n i w) k) h n w k rfl rfl rfl rfl, gblk_at, vwin_at x0 h n w k hv.1]
  · rename_i hv
    rw [Scalar.select, if_neg (valid_not h n i w hv), val_main_call3_v0_apply]
    exact zero_word

/-- The bias gradient. -/
theorem db_at (h : Fin 8) (i : Fin 128) (w : Fin 256) :
    (val_main_v146 (F := Ideal) x0 x1 x2 x3 x4 (ix3 h i w) : EReal) = db x0 x1 x2 x3 x4 h i w := by
  have hh : h.val < 8 := h.isLt
  have hi : i.val < 128 := i.isLt
  have hw : w.val < 256 := w.isLt
  rw [val_main_v146_apply, Fin.sum_univ_one, val_main_v145_apply,
    idx3 (idx_main_v145 (idx_main_v146 (ix3 h i w) 0)) h i w (by dsimp only [ix3, ix4]; omega) (by dsimp only [ix3, ix4]; omega) (by dsimp only [ix3, ix4]; omega),
    val_main_v144_apply]
  refine ((congrArg₂ (fun x y : EReal => x + (y + ∑ n : Fin 64, val_main_v143 (F := Ideal) x0 x1 x2 x3 x4 (idx_main_v144 (ix3 h i w) n))) zero_word zero_word).trans ?_).trans
    (Finset.sum_congr (f := fun n : Fin 64 => (val_main_v143 (F := Ideal) x0 x1 x2 x3 x4 (idx_main_v144 (ix3 h i w) n) : EReal)) rfl fun n _ => ?_)
  · rw [zero_add, zero_add]
  · rw [idx4 (idx_main_v144 (ix3 h i w) n) h n i w rfl rfl rfl rfl]
    exact ds_at x0 x1 x2 x3 x4 h n i w

theorem dss_at (h : Fin 8) (n : Fin 64) (i : Fin 128) (w : Fin 256) :
    (val_main_v148 (F := Ideal) x0 x1 x2 x3 x4 (ix4 h n i w) : EReal)
      = (if hv : ok n.val i.val w.val then dsc x0 x1 x2 x3 x4 h ⟨n.val * 128 + i.val, by omega⟩ ⟨n.val * 128 + w.val - 64, by have := hv.1; omega⟩ else 0) * scale := by
  rw [val_main_v148_apply, ds_at, val_main_v147_apply]
  rfl

/-- The query gradient of block `n`. -/
theorem dqblk_at (h : Fin 8) (n : Fin 64) (i l : Fin 128) :
    (val_main_v150 (F := Ideal) x0 x1 x2 x3 x4 (ix4 h n i l) : EReal) = dq x0 x1 x2 x3 x4 ⟨n.val * 128 + i.val, by omega⟩ h l := by
  rw [val_main_v150_apply]
  unfold dq
  have e := window_sum (fun t => dsc x0 x1 x2 x3 x4 h ⟨n.val * 128 + i.val, by omega⟩ t * kAt x0 h t l) n i
  rw [Finset.sum_congr rfl fun t _ => if_congr (show near (n.val * 128 + i.val) t.val ↔ near t.val (n.val * 128 + i.val) by unfold near; omega) rfl rfl, ← e, sum_scale]
  refine Finset.sum_congr rfl fun w _ => ?_
  rw [idx4 (lidx_main_v150 (ix4 h n i l) w) h n i w rfl rfl rfl rfl, idx4 (ridx_main_v150 (ix4 h n i l) w) h n w l rfl rfl rfl rfl, dss_at]
  split
  · rename_i hv
    rw [kwin_at x0 h n w l hv.1]
    exact mul_right_comm (G := EReal) _ _ _
  · rw [zero_mul, zero_mul]

/-- Adding rows into a padded table: a row is the sum of the updates that name it. -/
theorem scatter_at (z : S8x8320x128.Idx → EReal) (idx : IVec S64x256x1 32) (u : S8x64x256x128.Idx → EReal) (hz : ∀ i, z i = 0)
    (hidx : ∀ n w, (idx (ix3 n w (0 : Fin 1))).toInt = (n.val * 128 + w.val : ℕ)) (h : Fin 8) (p : Fin 8320) (l : Fin 128) :
    (Host.scatterAdd (F := Ideal) (φ := .f32) scatter_S8x8320x128_S64x256x1_S8x64x256x128_03_1_1_2 z idx u (ix3 h p l) : EReal)
      = ∑ n : Fin 64, ∑ w : Fin 256, if n.val * 128 + w.val = p.val then u (ix4 h n w l) else 0 := by
  have hs : ∀ (a : Fin 8) (n : Fin 64) (w : Fin 256) (b : Fin 128) c, scatter_S8x8320x128_S64x256x1_S8x64x256x128_03_1_1_2.siIdx (ix4 a n w b) c = ix3 n w (0 : Fin 1) := fun a n w b c => by
    have hc : c = ⟨0, by decide⟩ := Fin.ext (by have := c.isLt; change c.val < 1 at this; show c.val = 0; omega)
    subst hc
    funext b
    match b with
    | ⟨0, _⟩ => rfl
    | ⟨1, _⟩ => rfl
    | ⟨2, _⟩ => rfl
  have hk : ∀ (a : Fin 8) (n : Fin 64) (w : Fin 256) (b : Fin 128),
      scatter_S8x8320x128_S64x256x1_S8x64x256x128_03_1_1_2.resultIdx? (ix4 a n w b) idx = some (ix3 h p l) ↔ a = h ∧ n.val * 128 + w.val = p.val ∧ b = l := fun a n w b => by
    rw [Routing.resultIdx?_eq_some]
    have w0 : scatter_S8x8320x128_S64x256x1_S8x64x256x128_03_1_1_2.start (ix4 a n w b) idx 0 + ((scatter_S8x8320x128_S64x256x1_S8x64x256x128_03_1_1_2.window (ix4 a n w b) 0 : ℕ) : Int) = (a.val : Int) := by
      show (0 : Int) + (a.val : Int) = _
      omega
    have w1 : scatter_S8x8320x128_S64x256x1_S8x64x256x128_03_1_1_2.start (ix4 a n w b) idx 1 + ((scatter_S8x8320x128_S64x256x1_S8x64x256x128_03_1_1_2.window (ix4 a n w b) 1 : ℕ) : Int) = ((n.val * 128 + w.val : ℕ) : Int) := by
      show (idx (scatter_S8x8320x128_S64x256x1_S8x64x256x128_03_1_1_2.siIdx (ix4 a n w b) _)).toInt + (0 : Int) = _
      rw [hs, hidx]
      omega
    have w2 : scatter_S8x8320x128_S64x256x1_S8x64x256x128_03_1_1_2.start (ix4 a n w b) idx 2 + ((scatter_S8x8320x128_S64x256x1_S8x64x256x128_03_1_1_2.window (ix4 a n w b) 2 : ℕ) : Int) = (b.val : Int) := by
      show (0 : Int) + (b.val : Int) = _
      omega
    constructor
    · intro q
      have q0 := w0.symm.trans (q 0)
      have q1 := w1.symm.trans (q 1)
      have q2 := w2.symm.trans (q 2)
      exact ⟨Fin.ext (Int.ofNat.inj q0), Int.ofNat.inj q1, Fin.ext (Int.ofNat.inj q2)⟩
    · rintro ⟨rfl, e, rfl⟩ c
      match c with
      | ⟨0, _⟩ => exact w0
      | ⟨1, _⟩ => exact w1.trans (congrArg Int.ofNat e)
      | ⟨2, _⟩ => exact w2
  refine (congrArg (fun x : EReal => x + _) (hz _)).trans ((zero_add _).trans ?_)
  rw [Finset.sum_filter, sum_idx4]
  simp only [hk]
  rw [Finset.sum_eq_single h (fun a _ ha => Finset.sum_eq_zero fun n _ => Finset.sum_eq_zero fun w _ => Finset.sum_eq_zero fun b _ => if_neg fun q => ha q.1) (fun q => absurd (Finset.mem_univ h) q)]
  refine Finset.sum_congr rfl fun n _ => Finset.sum_congr rfl fun w _ => ?_
  rw [Finset.sum_eq_single l (fun b _ hb => if_neg fun q => hb q.2.2) (fun q => absurd (Finset.mem_univ l) q)]
  exact if_congr ⟨fun q => q.2.1, fun q => ⟨rfl, q, rfl⟩⟩ rfl rfl

/-- The value gradient, one window's share. -/
theorem dvwin_at (h : Fin 8) (n : Fin 64) (w : Fin 256) (l : Fin 128) :
    (val_main_v138 (F := Ideal) x0 x1 x3 x4 (ix4 h n w l) : EReal)
      = ∑ i : Fin 128, if hv : ok n.val i.val w.val then wt x0 x3 x4 h ⟨n.val * 128 + i.val, by omega⟩ ⟨n.val * 128 + w.val - 64, by have := hv.1; omega⟩ * gAt x1 h ⟨n.val * 128 + i.val, by omega⟩ l else 0 := by
  rw [val_main_v138_apply, idx4 (idx_main_v138 (ix4 h n w l)) h n l w rfl rfl rfl rfl, val_main_v137_apply]
  refine Finset.sum_congr rfl fun i _ => ?_
  rw [idx4 (lidx_main_v137 (ix4 h n l w) i) h n i l rfl rfl rfl rfl, idx4 (ridx_main_v137 (ix4 h n l w) i) h n i w rfl rfl rfl rfl, gblk_at, p_at]
  split
  · exact mul_comm (G := EReal) _ _
  · exact mul_zero _

/-- The key gradient, one window's share. -/
theorem dkwin_at (h : Fin 8) (n : Fin 64) (w : Fin 256) (l : Fin 128) :
    (val_main_v149 (F := Ideal) x0 x1 x2 x3 x4 (ix4 h n w l) : EReal)
      = ∑ i : Fin 128, if hv : ok n.val i.val w.val then dsc x0 x1 x2 x3 x4 h ⟨n.val * 128 + i.val, by omega⟩ ⟨n.val * 128 + w.val - 64, by have := hv.1; omega⟩ * qAt x0 h ⟨n.val * 128 + i.val, by omega⟩ l * scale else 0 := by
  rw [val_main_v149_apply]
  refine Finset.sum_congr rfl fun i _ => ?_
  rw [idx4 (lidx_main_v149 (ix4 h n w l) i) h n i w rfl rfl rfl rfl, idx4 (ridx_main_v149 (ix4 h n w l) i) h n i l rfl rfl rfl rfl, qblk_at, dss_at]
  split
  · exact mul_right_comm (G := EReal) _ _ _
  · rw [zero_mul, zero_mul]

theorem dvrow_at (h : Fin 8) (t : Fin 8192) (l : Fin 128) : (val_main_v154 (F := Ideal) x0 x1 x3 x4 (ix3 h t l) : EReal) = dv x0 x1 x3 x4 t h l := by
  rw [val_main_v154_apply, idx3 (idx_main_v154 (ix3 h t l)) h ⟨t.val + 64, by omega⟩ l rfl (Nat.add_comm _ _) rfl]
  refine (scatter_at _ _ _ (fun i => zero_word) (fun n w => pos_word n w 0) h _ l).trans ?_
  refine (Finset.sum_congr rfl fun n _ => Finset.sum_congr rfl fun w _ => if_congr Iff.rfl (dvwin_at x0 x1 x3 x4 h n w l) rfl).trans ?_
  exact scatter_sum (fun s t => wt x0 x3 x4 h s t * gAt x1 h s l) t

theorem dkrow_at (h : Fin 8) (t : Fin 8192) (l : Fin 128) : (val_main_v159 (F := Ideal) x0 x1 x2 x3 x4 (ix3 h t l) : EReal) = dk x0 x1 x2 x3 x4 t h l := by
  rw [val_main_v159_apply, idx3 (idx_main_v159 (ix3 h t l)) h ⟨t.val + 64, by omega⟩ l rfl (Nat.add_comm _ _) rfl]
  refine (scatter_at _ _ _ (fun i => zero_word) (fun n w => pos_word' n w 0) h _ l).trans ?_
  refine (Finset.sum_congr rfl fun n _ => Finset.sum_congr rfl fun w _ => if_congr Iff.rfl (dkwin_at x0 x1 x2 x3 x4 h n w l) rfl).trans ?_
  refine (scatter_sum (fun s t => dsc x0 x1 x2 x3 x4 h s t * qAt x0 h s l * scale) t).trans ?_
  unfold dk
  rw [sum_scale]
  refine Finset.sum_congr rfl fun s _ => ?_
  split
  · rfl
  · rw [zero_mul]

/-- The four results. -/
theorem dq_eq : (val_main_v163 (F := Ideal) x0 x1 x2 x3 x4 : S8192x1024.Idx → EReal) = fun j => dq x0 x1 x2 x3 x4 (j 0) ⟨(j 1).val / 128, by have : (j 1).val < 1024 := (j 1).isLt; omega⟩ ⟨(j 1).val % 128, by omega⟩ := by
  funext j
  have h0 : (j 0).val < 8192 := (j 0).isLt
  have h1 : (j 1).val < 1024 := (j 1).isLt
  rw [val_main_v163_apply, idx3 (idx_main_v163 j) (j 0) ⟨(j 1).val / 128, by omega⟩ ⟨(j 1).val % 128, by omega⟩ (by dsimp only; omega) (by dsimp only; omega) (by dsimp only; omega),
    val_main_v162_apply, idx3 (idx_main_v162 (ix3 (j 0) ⟨(j 1).val / 128, _⟩ ⟨(j 1).val % 128, _⟩)) ⟨(j 1).val / 128, by omega⟩ (j 0) ⟨(j 1).val % 128, by omega⟩ rfl rfl rfl,
    val_main_v161_apply,
    idx4 (idx_main_v161 (ix3 ⟨(j 1).val / 128, _⟩ (j 0) ⟨(j 1).val % 128, _⟩)) ⟨(j 1).val / 128, by omega⟩ ⟨(j 0).val / 128, by omega⟩ ⟨(j 0).val % 128, by omega⟩ ⟨(j 1).val % 128, by omega⟩
      (by dsimp only [ix3]; omega) (by dsimp only [ix3]; omega) (by dsimp only [ix3]; omega) (by dsimp only [ix3]; omega), dqblk_at]
  exact congrArg (fun s => dq x0 x1 x2 x3 x4 s _ _) (Fin.ext (by show (j 0).val / 128 * 128 + (j 0).val % 128 = (j 0).val; omega))

theorem dk_eq : (val_main_v165 (F := Ideal) x0 x1 x2 x3 x4 : S8192x1024.Idx → EReal) = fun j => dk x0 x1 x2 x3 x4 (j 0) ⟨(j 1).val / 128, by have : (j 1).val < 1024 := (j 1).isLt; omega⟩ ⟨(j 1).val % 128, by omega⟩ := by
  funext j
  have h0 : (j 0).val < 8192 := (j 0).isLt
  have h1 : (j 1).val < 1024 := (j 1).isLt
  rw [val_main_v165_apply, val_main_v164_apply,
    idx3 (idx_main_v164 (idx_main_v165 j)) ⟨(j 1).val / 128, by omega⟩ (j 0) ⟨(j 1).val % 128, by omega⟩ (by dsimp only; omega) (by dsimp only; omega) (by dsimp only; omega)]
  exact dkrow_at x0 x1 x2 x3 x4 _ _ _

theorem dv_eq : (val_main_v167 (F := Ideal) x0 x1 x3 x4 : S8192x1024.Idx → EReal) = fun j => dv x0 x1 x3 x4 (j 0) ⟨(j 1).val / 128, by have : (j 1).val < 1024 := (j 1).isLt; omega⟩ ⟨(j 1).val % 128, by omega⟩ := by
  funext j
  have h0 : (j 0).val < 8192 := (j 0).isLt
  have h1 : (j 1).val < 1024 := (j 1).isLt
  rw [val_main_v167_apply, val_main_v166_apply,
    idx3 (idx_main_v166 (idx_main_v167 j)) ⟨(j 1).val / 128, by omega⟩ (j 0) ⟨(j 1).val % 128, by omega⟩ (by dsimp only; omega) (by dsimp only; omega) (by dsimp only; omega)]
  exact dvrow_at x0 x1 x3 x4 _ _ _

theorem db_eq : (val_main_v146 (F := Ideal) x0 x1 x2 x3 x4 : S8x128x256.Idx → EReal) = fun y => db x0 x1 x2 x3 x4 (y 0) (y 1) (y 2) := by
  funext y
  rw [idx3 y (y 0) (y 1) (y 2) rfl rfl rfl]
  exact db_at x0 x1 x2 x3 x4 (y 0) (y 1) (y 2)

end Cert.DilProof.Ref
end
-- ==== Proof.DilValue.lean ====
/- The kernel and the reference of the dilated attention's gradient end with the same four arrays. -/
module

public import proofs.«01_k».proof.Proof.DilArrays
public import proofs.«01_k».proof.Proof.DilDb
public import proofs.«01_k».proof.Proof.DilRef

@[expose] public section

set_option maxRecDepth 16384
set_option maxHeartbeats 4000000

noncomputable section

open Idealize.ShloMosaic Idealize.ShloMosaic.TcCoe Idealize.SL.Sem

namespace Cert.DilProof

open Cert.KernelIdeal Cert.KernelIdeal.Gen

variable (m : (ℓ : Loc nD τ sig) → Buf (Elt Ideal) ℓ) (g : Dev nD → PrngReg)

/-- The kernel's run: the gradients of the queries, keys, values and bias, the arguments unchanged. -/
theorem kernel_run : θ_run defs (onTc (τ := τ) (main (F := Ideal))) ⟨m, fun _ => 0, g⟩ fun r => ∀ c : Dev nD,
    r.2.mem ((c : Thread nD τ).loc main_v94_0) = lay (dq (a0 m c) (a1 m c) (a2 m c) (a3 m c) (a4 m c))
    ∧ r.2.mem ((c : Thread nD τ).loc main_v94_1) = lay (dk (a0 m c) (a1 m c) (a2 m c) (a3 m c) (a4 m c))
    ∧ r.2.mem ((c : Thread nD τ).loc main_v94_2) = lay (dv (a0 m c) (a1 m c) (a3 m c) (a4 m c))
    ∧ r.2.mem ((c : Thread nD τ).loc main_v94_3) = (fun y : S8x128x256.Idx => db (a0 m c) (a1 m c) (a2 m c) (a3 m c) (a4 m c) (y 0) (y 1) (y 2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨((h c).1 20).trans (arr20 m c), ((h c).1 21).trans (arr21 m c),
      ((h c).1 22).trans (arr22 m c), ((h c).1 23).trans (arr23 m c),
      ((h c).1 8).trans (((dats m 0 c).arrAt_in 8 rfl _).trans ((A_eq m c 8).trans (V_main_arg0 m c))),
      ((h c).1 11).trans (((dats m 0 c).arrAt_in 11 rfl _).trans ((A_eq m c 11).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m g)

/-- The claim: both programs end with the same four gradients, whatever the arguments hold. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => lay (dq (a0 m c) (a1 m c) (a2 m c) (a3 m c) (a4 m c)), fun c => lay (dk (a0 m c) (a1 m c) (a2 m c) (a3 m c) (a4 m c)),
    fun c => lay (dv (a0 m c) (a1 m c) (a3 m c) (a4 m c)), fun c => (fun y : S8x128x256.Idx => db (a0 m c) (a1 m c) (a2 m c) (a3 m c) (a4 m c) (y 0) (y 1) (y 2)),
    kernel_run m g, ?_⟩
  refine (θ_run Cert.ReferenceIdeal.defs _ _).mono (fun r h c => ?_) (Cert.ReferenceIdeal.Value.run (F := Ideal) m' g')
  obtain ⟨e0, e1, e2, e3, e4⟩ := hagree c
  have f0 : StableHlo.launchContents m' c (Proc.devRef .tc Cert.ReferenceIdeal.main_arg0) = a0 m c := e0
  have f1 : StableHlo.launchContents m' c (Proc.devRef .tc Cert.ReferenceIdeal.main_arg1) = a1 m c := e1
  have f2 : StableHlo.launchContents m' c (Proc.devRef .tc Cert.ReferenceIdeal.main_arg2) = a2 m c := e2
  have f3 : StableHlo.launchContents m' c (Proc.devRef .tc Cert.ReferenceIdeal.main_arg3) = a3 m c := e3
  have f4 : StableHlo.launchContents m' c (Proc.devRef .tc Cert.ReferenceIdeal.main_arg4) = a4 m c := e4
  refine ⟨(h c).1.trans ?_, (h c).2.1.trans ?_, (h c).2.2.1.trans ?_, (h c).2.2.2.1.trans ?_, (h c).2.2.2.2⟩
  · refine (Cert.ReferenceIdeal.Read.val_main_v163_eq _).trans ?_
    rw [f0, f1, f2, f3, f4]
    exact Ref.dq_eq _ _ _ _ _
  · refine (Cert.ReferenceIdeal.Read.val_main_v165_eq _).trans ?_
    rw [f0, f1, f2, f3, f4]
    exact Ref.dk_eq _ _ _ _ _
  · refine (Cert.ReferenceIdeal.Read.val_main_v167_eq _).trans ?_
    rw [f0, f1, f3, f4]
    exact Ref.dv_eq _ _ _ _
  · refine (Cert.ReferenceIdeal.Read.val_main_v146_eq _).trans ?_
    rw [f0, f1, f2, f3, f4]
    exact Ref.db_eq _ _ _ _ _

end Cert.DilProof
end
-- ==== Proof.lean ====
/- The claims about the gradient of the dilated attention, the products of the training step and the optimiser. -/
module

public import proofs.«01_k».proof.Defs
public import proofs.«01_k».proof.Proof.DhValue
public import proofs.«01_k».proof.Proof.W2Value
public import proofs.«01_k».proof.Proof.W1Value
public import proofs.«01_k».proof.Proof.OutValue
public import proofs.«01_k».proof.Proof.Gen.Out.Frame
public import proofs.«01_k».proof.Proof.OutBValue
public import proofs.«01_k».proof.Proof.Gen.OutB.Frame
public import proofs.«01_k».proof.Proof.OutGValue
public import proofs.«01_k».proof.Proof.Gen.OutG.Frame
public import proofs.«01_k».proof.Proof.DownValue
public import proofs.«01_k».proof.Proof.Gen.Down.Frame
public import proofs.«01_k».proof.Proof.UpValue
public import proofs.«01_k».proof.Proof.Gen.Up.Frame
public import proofs.«01_k».proof.Proof.InValue
public import proofs.«01_k».proof.Proof.Gen.In.Frame
public import proofs.«01_k».proof.Proof.QkvValue
public import proofs.«01_k».proof.Proof.Gen.Qkv.Frame
public import proofs.«01_k».proof.Proof.UpBValue
public import proofs.«01_k».proof.Proof.Gen.UpB.Frame
public import proofs.«01_k».proof.Proof.InBValue
public import proofs.«01_k».proof.Proof.Gen.InB.Frame
public import proofs.«01_k».proof.Proof.QkvBValue
public import proofs.«01_k».proof.Proof.Gen.QkvB.Frame
public import proofs.«01_k».proof.Proof.InGValue
public import proofs.«01_k».proof.Proof.Gen.InG.Frame
public import proofs.«01_k».proof.Proof.QkvGValue
public import proofs.«01_k».proof.Proof.Gen.QkvG.Frame
public import proofs.«01_k».proof.Proof.GluValue
public import proofs.«01_k».proof.Proof.Gen.Glu.Frame
public import proofs.«01_k».proof.Proof.GluZValue
public import proofs.«01_k».proof.Proof.Gen.GluZ.Frame
public import proofs.«01_k».proof.Proof.GluGValue
public import proofs.«01_k».proof.Proof.Gen.GluG.Frame
public import proofs.«01_k».proof.Proof.AdamSValue
public import proofs.«01_k».proof.Proof.Gen.AdamS.Frame
public import proofs.«01_k».proof.Proof.AdamOValue
public import proofs.«01_k».proof.Proof.Gen.AdamO.Frame
public import proofs.«01_k».proof.Proof.AdamIValue
public import proofs.«01_k».proof.Proof.Gen.AdamI.Frame
public import proofs.«01_k».proof.Proof.AdamQValue
public import proofs.«01_k».proof.Proof.Gen.AdamQ.Frame
public import proofs.«01_k».proof.Proof.AdamGValue
public import proofs.«01_k».proof.Proof.Gen.AdamG.Frame
public import proofs.«01_k».proof.Proof.AdamUValue
public import proofs.«01_k».proof.Proof.Gen.AdamU.Frame
public import proofs.«01_k».proof.Proof.AdamDValue
public import proofs.«01_k».proof.Proof.Gen.AdamD.Frame
public import proofs.«01_k».proof.Proof.DilFrame
public import proofs.«01_k».proof.Proof.DilValue
public import proofs.«01_k».proof.Proof.DilFrameBits
public import proofs.«01_k».proof.Proof.Gen.Dh.Frame
public import proofs.«01_k».proof.Proof.Gen.W2.Frame
public import proofs.«01_k».proof.Proof.Gen.W1.Frame
public import proofs.«01_k».proof.Proof.Gen.ReferenceIdeal.Run

@[expose] public section

noncomputable section

namespace Cert.Proof

open Idealize.ShloMosaic Idealize.SL.Sem

/-- Every claim of the statement: the frames of the kernels and of the references, the idealizations, and the values. -/
theorem claim : Cert.Claim :=
  ⟨Cert.Kernel.Gen.facts, Cert.KernelIdeal.Gen.facts, Cert.ReferenceIdeal.Gen.facts,
    Cert.Dh.Gen.facts, Cert.DhIdeal.Gen.facts, Cert.DhRefIdeal.Gen.facts,
    Cert.W2.Gen.facts, Cert.W2Ideal.Gen.facts, Cert.W2RefIdeal.Gen.facts,
    Cert.W1.Gen.facts, Cert.W1Ideal.Gen.facts, Cert.W1RefIdeal.Gen.facts,
    Cert.Out.Gen.facts, Cert.OutIdeal.Gen.facts, Cert.OutRefIdeal.Gen.facts,
    Cert.OutB.Gen.facts, Cert.OutBIdeal.Gen.facts, Cert.OutBRefIdeal.Gen.facts,
    Cert.OutG.Gen.facts, Cert.OutGIdeal.Gen.facts, Cert.OutGRefIdeal.Gen.facts,
    Cert.Down.Gen.facts, Cert.DownIdeal.Gen.facts, Cert.DownRefIdeal.Gen.facts,
    Cert.Up.Gen.facts, Cert.UpIdeal.Gen.facts, Cert.UpRefIdeal.Gen.facts,
    Cert.In.Gen.facts, Cert.InIdeal.Gen.facts, Cert.InRefIdeal.Gen.facts,
    Cert.Qkv.Gen.facts, Cert.QkvIdeal.Gen.facts, Cert.QkvRefIdeal.Gen.facts,
    Cert.UpB.Gen.facts, Cert.UpBIdeal.Gen.facts, Cert.UpBRefIdeal.Gen.facts,
    Cert.InB.Gen.facts, Cert.InBIdeal.Gen.facts, Cert.InBRefIdeal.Gen.facts,
    Cert.QkvB.Gen.facts, Cert.QkvBIdeal.Gen.facts, Cert.QkvBRefIdeal.Gen.facts,
    Cert.InG.Gen.facts, Cert.InGIdeal.Gen.facts, Cert.InGRefIdeal.Gen.facts,
    Cert.QkvG.Gen.facts, Cert.QkvGIdeal.Gen.facts, Cert.QkvGRefIdeal.Gen.facts,
    Cert.Glu.Gen.facts, Cert.GluIdeal.Gen.facts, Cert.GluRefIdeal.Gen.facts,
    Cert.GluZ.Gen.facts, Cert.GluZIdeal.Gen.facts, Cert.GluZRefIdeal.Gen.facts,
    Cert.GluG.Gen.facts, Cert.GluGIdeal.Gen.facts, Cert.GluGRefIdeal.Gen.facts,
    Cert.AdamS.Gen.facts, Cert.AdamSIdeal.Gen.facts, Cert.AdamSRefIdeal.Gen.facts,
    Cert.AdamO.Gen.facts, Cert.AdamOIdeal.Gen.facts, Cert.AdamORefIdeal.Gen.facts,
    Cert.AdamI.Gen.facts, Cert.AdamIIdeal.Gen.facts, Cert.AdamIRefIdeal.Gen.facts,
    Cert.AdamQ.Gen.facts, Cert.AdamQIdeal.Gen.facts, Cert.AdamQRefIdeal.Gen.facts,
    Cert.AdamG.Gen.facts, Cert.AdamGIdeal.Gen.facts, Cert.AdamGRefIdeal.Gen.facts,
    Cert.AdamU.Gen.facts, Cert.AdamUIdeal.Gen.facts, Cert.AdamURefIdeal.Gen.facts,
    Cert.AdamD.Gen.facts, Cert.AdamDIdeal.Gen.facts, Cert.AdamDRefIdeal.Gen.facts,
    fun m ρ _ => Cert.Kernel.Gen.frame m ρ,
    fun m ρ _ => Cert.KernelIdeal.Gen.frame m ρ,
    fun m ρ _ => (θ_run Cert.ReferenceIdeal.defs _ _).mono (fun r h => ⟨fun c => (h c).2.2.2.2, sem_eq_zero_of_no_sems (by decide) r.2⟩)
      (Cert.ReferenceIdeal.Value.run m ρ),
    fun m ρ _ => Cert.Dh.Gen.frame m ρ,
    fun m ρ _ => Cert.DhIdeal.Gen.frame m ρ,
    fun m ρ _ => (θ_run Cert.DhRefIdeal.defs _ _).mono (fun r h => ⟨fun c => (h c).2, sem_eq_zero_of_no_sems (by decide) r.2⟩)
      (Cert.DhRefIdeal.Value.run m ρ),
    fun m ρ _ => Cert.W2.Gen.frame m ρ,
    fun m ρ _ => Cert.W2Ideal.Gen.frame m ρ,
    fun m ρ _ => (θ_run Cert.W2RefIdeal.defs _ _).mono (fun r h => ⟨fun c => (h c).2, sem_eq_zero_of_no_sems (by decide) r.2⟩)
      (Cert.W2RefIdeal.Value.run m ρ),
    fun m ρ _ => Cert.W1.Gen.frame m ρ,
    fun m ρ _ => Cert.W1Ideal.Gen.frame m ρ,
    fun m ρ _ => (θ_run Cert.W1RefIdeal.defs _ _).mono (fun r h => ⟨fun c => (h c).2, sem_eq_zero_of_no_sems (by decide) r.2⟩)
      (Cert.W1RefIdeal.Value.run m ρ),
    fun m ρ _ => Cert.Out.Gen.frame m ρ,
    fun m ρ _ => Cert.OutIdeal.Gen.frame m ρ,
    fun m ρ _ => (θ_run Cert.OutRefIdeal.defs _ _).mono (fun r h => ⟨fun c => (h c).2, sem_eq_zero_of_no_sems (by decide) r.2⟩)
      (Cert.OutRefIdeal.Value.run m ρ),
    fun m ρ _ => Cert.OutB.Gen.frame m ρ,
    fun m ρ _ => Cert.OutBIdeal.Gen.frame m ρ,
    fun m ρ _ => (θ_run Cert.OutBRefIdeal.defs _ _).mono (fun r h => ⟨fun c => (h c).2, sem_eq_zero_of_no_sems (by decide) r.2⟩)
      (Cert.OutBRefIdeal.Value.run m ρ),
    fun m ρ _ => Cert.OutG.Gen.frame m ρ,
    fun m ρ _ => Cert.OutGIdeal.Gen.frame m ρ,
    fun m ρ _ => (θ_run Cert.OutGRefIdeal.defs _ _).mono (fun r h => ⟨fun c => (h c).2, sem_eq_zero_of_no_sems (by decide) r.2⟩)
      (Cert.OutGRefIdeal.Value.run m ρ),
    fun m ρ _ => Cert.Down.Gen.frame m ρ,
    fun m ρ _ => Cert.DownIdeal.Gen.frame m ρ,
    fun m ρ _ => (θ_run Cert.DownRefIdeal.defs _ _).mono (fun r h => ⟨fun c => (h c).2, sem_eq_zero_of_no_sems (by decide) r.2⟩)
      (Cert.DownRefIdeal.Value.run m ρ),
    fun m ρ _ => Cert.Up.Gen.frame m ρ,
    fun m ρ _ => Cert.UpIdeal.Gen.frame m ρ,
    fun m ρ _ => (θ_run Cert.UpRefIdeal.defs _ _).mono (fun r h => ⟨fun c => (h c).2, sem_eq_zero_of_no_sems (by decide) r.2⟩)
      (Cert.UpRefIdeal.Value.run m ρ),
    fun m ρ _ => Cert.In.Gen.frame m ρ,
    fun m ρ _ => Cert.InIdeal.Gen.frame m ρ,
    fun m ρ _ => (θ_run Cert.InRefIdeal.defs _ _).mono (fun r h => ⟨fun c => (h c).2, sem_eq_zero_of_no_sems (by decide) r.2⟩)
      (Cert.InRefIdeal.Value.run m ρ),
    fun m ρ _ => Cert.Qkv.Gen.frame m ρ,
    fun m ρ _ => Cert.QkvIdeal.Gen.frame m ρ,
    fun m ρ _ => (θ_run Cert.QkvRefIdeal.defs _ _).mono (fun r h => ⟨fun c => (h c).2, sem_eq_zero_of_no_sems (by decide) r.2⟩)
      (Cert.QkvRefIdeal.Value.run m ρ),
    fun m ρ _ => Cert.UpB.Gen.frame m ρ,
    fun m ρ _ => Cert.UpBIdeal.Gen.frame m ρ,
    fun m ρ _ => (θ_run Cert.UpBRefIdeal.defs _ _).mono (fun r h => ⟨fun c => (h c).2, sem_eq_zero_of_no_sems (by decide) r.2⟩)
      (Cert.UpBRefIdeal.Value.run m ρ),
    fun m ρ _ => Cert.InB.Gen.frame m ρ,
    fun m ρ _ => Cert.InBIdeal.Gen.frame m ρ,
    fun m ρ _ => (θ_run Cert.InBRefIdeal.defs _ _).mono (fun r h => ⟨fun c => (h c).2, sem_eq_zero_of_no_sems (by decide) r.2⟩)
      (Cert.InBRefIdeal.Value.run m ρ),
    fun m ρ _ => Cert.QkvB.Gen.frame m ρ,
    fun m ρ _ => Cert.QkvBIdeal.Gen.frame m ρ,
    fun m ρ _ => (θ_run Cert.QkvBRefIdeal.defs _ _).mono (fun r h => ⟨fun c => (h c).2, sem_eq_zero_of_no_sems (by decide) r.2⟩)
      (Cert.QkvBRefIdeal.Value.run m ρ),
    fun m ρ _ => Cert.InG.Gen.frame m ρ,
    fun m ρ _ => Cert.InGIdeal.Gen.frame m ρ,
    fun m ρ _ => (θ_run Cert.InGRefIdeal.defs _ _).mono (fun r h => ⟨fun c => (h c).2, sem_eq_zero_of_no_sems (by decide) r.2⟩)
      (Cert.InGRefIdeal.Value.run m ρ),
    fun m ρ _ => Cert.QkvG.Gen.frame m ρ,
    fun m ρ _ => Cert.QkvGIdeal.Gen.frame m ρ,
    fun m ρ _ => (θ_run Cert.QkvGRefIdeal.defs _ _).mono (fun r h => ⟨fun c => (h c).2, sem_eq_zero_of_no_sems (by decide) r.2⟩)
      (Cert.QkvGRefIdeal.Value.run m ρ),
    fun m ρ _ => Cert.Glu.Gen.frame m ρ,
    fun m ρ _ => Cert.GluIdeal.Gen.frame m ρ,
    fun m ρ _ => (θ_run Cert.GluRefIdeal.defs _ _).mono (fun r h => ⟨fun c => (h c).2, sem_eq_zero_of_no_sems (by decide) r.2⟩)
      (Cert.GluRefIdeal.Value.run m ρ),
    fun m ρ _ => Cert.GluZ.Gen.frame m ρ,
    fun m ρ _ => Cert.GluZIdeal.Gen.frame m ρ,
    fun m ρ _ => (θ_run Cert.GluZRefIdeal.defs _ _).mono (fun r h => ⟨fun c => (h c).2.2, sem_eq_zero_of_no_sems (by decide) r.2⟩)
      (Cert.GluZRefIdeal.Value.run m ρ),
    fun m ρ _ => Cert.GluG.Gen.frame m ρ,
    fun m ρ _ => Cert.GluGIdeal.Gen.frame m ρ,
    fun m ρ _ => (θ_run Cert.GluGRefIdeal.defs _ _).mono (fun r h => ⟨fun c => (h c).2, sem_eq_zero_of_no_sems (by decide) r.2⟩)
      (Cert.GluGRefIdeal.Value.run m ρ),
    fun m ρ _ => Cert.AdamS.Gen.frame m ρ,
    fun m ρ _ => Cert.AdamSIdeal.Gen.frame m ρ,
    fun m ρ _ => (θ_run Cert.AdamSRefIdeal.defs _ _).mono (fun r h => ⟨fun c => (h c).2.2.2.2, sem_eq_zero_of_no_sems (by decide) r.2⟩)
      (Cert.AdamSRefIdeal.Value.run m ρ),
    fun m ρ _ => Cert.AdamO.Gen.frame m ρ,
    fun m ρ _ => Cert.AdamOIdeal.Gen.frame m ρ,
    fun m ρ _ => (θ_run Cert.AdamORefIdeal.defs _ _).mono (fun r h => ⟨fun c => (h c).2.2.2.2, sem_eq_zero_of_no_sems (by decide) r.2⟩)
      (Cert.AdamORefIdeal.Value.run m ρ),
    fun m ρ _ => Cert.AdamI.Gen.frame m ρ,
    fun m ρ _ => Cert.AdamIIdeal.Gen.frame m ρ,
    fun m ρ _ => (θ_run Cert.AdamIRefIdeal.defs _ _).mono (fun r h => ⟨fun c => (h c).2.2.2.2, sem_eq_zero_of_no_sems (by decide) r.2⟩)
      (Cert.AdamIRefIdeal.Value.run m ρ),
    fun m ρ _ => Cert.AdamQ.Gen.frame m ρ,
    fun m ρ _ => Cert.AdamQIdeal.Gen.frame m ρ,
    fun m ρ _ => (θ_run Cert.AdamQRefIdeal.defs _ _).mono (fun r h => ⟨fun c => (h c).2.2.2.2, sem_eq_zero_of_no_sems (by decide) r.2⟩)
      (Cert.AdamQRefIdeal.Value.run m ρ),
    fun m ρ _ => Cert.AdamG.Gen.frame m ρ,
    fun m ρ _ => Cert.AdamGIdeal.Gen.frame m ρ,
    fun m ρ _ => (θ_run Cert.AdamGRefIdeal.defs _ _).mono (fun r h => ⟨fun c => (h c).2.2.2.2, sem_eq_zero_of_no_sems (by decide) r.2⟩)
      (Cert.AdamGRefIdeal.Value.run m ρ),
    fun m ρ _ => Cert.AdamU.Gen.frame m ρ,
    fun m ρ _ => Cert.AdamUIdeal.Gen.frame m ρ,
    fun m ρ _ => (θ_run Cert.AdamURefIdeal.defs _ _).mono (fun r h => ⟨fun c => (h c).2.2.2.2, sem_eq_zero_of_no_sems (by decide) r.2⟩)
      (Cert.AdamURefIdeal.Value.run m ρ),
    fun m ρ _ => Cert.AdamD.Gen.frame m ρ,
    fun m ρ _ => Cert.AdamDIdeal.Gen.frame m ρ,
    fun m ρ _ => (θ_run Cert.AdamDRefIdeal.defs _ _).mono (fun r h => ⟨fun c => (h c).2.2.2.2, sem_eq_zero_of_no_sems (by decide) r.2⟩)
      (Cert.AdamDRefIdeal.Value.run m ρ),
    trivial, Cert.DilProof.algebraic,
    trivial, Cert.DhProof.algebraic,
    trivial, Cert.W2Proof.algebraic,
    trivial, Cert.W1Proof.algebraic,
    trivial, Cert.OutProof.algebraic,
    trivial, Cert.OutBProof.algebraic,
    trivial, Cert.OutGProof.algebraic,
    trivial, Cert.DownProof.algebraic,
    trivial, Cert.UpProof.algebraic,
    trivial, Cert.InProof.algebraic,
    trivial, Cert.QkvProof.algebraic,
    trivial, Cert.UpBProof.algebraic,
    trivial, Cert.InBProof.algebraic,
    trivial, Cert.QkvBProof.algebraic,
    trivial, Cert.InGProof.algebraic,
    trivial, Cert.QkvGProof.algebraic,
    trivial, Cert.GluProof.algebraic,
    trivial, Cert.GluZProof.algebraic,
    trivial, Cert.GluGProof.algebraic,
    trivial, Cert.AdamSProof.algebraic,
    trivial, Cert.AdamOProof.algebraic,
    trivial, Cert.AdamIProof.algebraic,
    trivial, Cert.AdamQProof.algebraic,
    trivial, Cert.AdamGProof.algebraic,
    trivial, Cert.AdamUProof.algebraic,
    trivial, Cert.AdamDProof.algebraic⟩

end Cert.Proof

end
